-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_meaningful [hPre_meaningful : Cert.Pre_meaningful.Facts] (m : (ℓ : Loc Cert.KernelIdeal.nD Cert.KernelIdeal.τ Cert.KernelIdeal.sig) → Buf (Elt Ideal) ℓ) : Prop :=
  ∀ c : Dev Cert.KernelIdeal.nD,
    (Cert.Pre_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_meaningful [hPre_meaningful : Cert.Pre_meaningful.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_meaningful.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_meaningful.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_Bonus (m : (ℓ : Loc Cert.Bonus.nD Cert.Bonus.τ Cert.Bonus.sig) → Buf (Elt Bits) ℓ) : Prop :=
  True

def Pre_BonusIdeal (m : (ℓ : Loc Cert.BonusIdeal.nD Cert.BonusIdeal.τ Cert.BonusIdeal.sig) → Buf (Elt Ideal) ℓ) : Prop :=
  True

def Pre_BonusIdeal_positive [hPre_positive : Cert.Pre_positive.Facts] (m : (ℓ : Loc Cert.BonusIdeal.nD Cert.BonusIdeal.τ Cert.BonusIdeal.sig) → Buf (Elt Ideal) ℓ) : Prop :=
  ∀ c : Dev Cert.BonusIdeal.nD,
    (Cert.Pre_positive.fn (F := Ideal) (m ((c.tc : Thread Cert.BonusIdeal.nD Cert.BonusIdeal.τ).loc Cert.BonusIdeal.main_arg0)) (m ((c.tc : Thread Cert.BonusIdeal.nD Cert.BonusIdeal.τ).loc Cert.BonusIdeal.main_arg1)) (m ((c.tc : Thread Cert.BonusIdeal.nD Cert.BonusIdeal.τ).loc Cert.BonusIdeal.main_arg2))).1 = (fun _ => 1#1)
    ∧ (Cert.Pre_positive.fn (F := Ideal) (m ((c.tc : Thread Cert.BonusIdeal.nD Cert.BonusIdeal.τ).loc Cert.BonusIdeal.main_arg0)) (m ((c.tc : Thread Cert.BonusIdeal.nD Cert.BonusIdeal.τ).loc Cert.BonusIdeal.main_arg1)) (m ((c.tc : Thread Cert.BonusIdeal.nD Cert.BonusIdeal.τ).loc Cert.BonusIdeal.main_arg2))).2.1 = (fun _ => 1#1)
    ∧ (Cert.Pre_positive.fn (F := Ideal) (m ((c.tc : Thread Cert.BonusIdeal.nD Cert.BonusIdeal.τ).loc Cert.BonusIdeal.main_arg0)) (m ((c.tc : Thread Cert.BonusIdeal.nD Cert.BonusIdeal.τ).loc Cert.BonusIdeal.main_arg1)) (m ((c.tc : Thread Cert.BonusIdeal.nD Cert.BonusIdeal.τ).loc Cert.BonusIdeal.main_arg2))).2.2 = (fun _ => 1#1)

def Pre_BonusReferenceIdeal (m : (ℓ : Loc Cert.BonusReferenceIdeal.nD Cert.BonusReferenceIdeal.τ Cert.BonusReferenceIdeal.sig) → Buf (Elt Ideal) ℓ) : Prop :=
  True

def Pre_BonusReferenceIdeal_positive [hPre_positive : Cert.Pre_positive.Facts] (m : (ℓ : Loc Cert.BonusReferenceIdeal.nD Cert.BonusReferenceIdeal.τ Cert.BonusReferenceIdeal.sig) → Buf (Elt Ideal) ℓ) : Prop :=
  ∀ c : Dev Cert.BonusReferenceIdeal.nD,
    (Cert.Pre_positive.fn (F := Ideal) (m ((c.tc : Thread Cert.BonusReferenceIdeal.nD Cert.BonusReferenceIdeal.τ).loc Cert.BonusReferenceIdeal.main_arg0)) (m ((c.tc : Thread Cert.BonusReferenceIdeal.nD Cert.BonusReferenceIdeal.τ).loc Cert.BonusReferenceIdeal.main_arg1)) (m ((c.tc : Thread Cert.BonusReferenceIdeal.nD Cert.BonusReferenceIdeal.τ).loc Cert.BonusReferenceIdeal.main_arg2))).1 = (fun _ => 1#1)
    ∧ (Cert.Pre_positive.fn (F := Ideal) (m ((c.tc : Thread Cert.BonusReferenceIdeal.nD Cert.BonusReferenceIdeal.τ).loc Cert.BonusReferenceIdeal.main_arg0)) (m ((c.tc : Thread Cert.BonusReferenceIdeal.nD Cert.BonusReferenceIdeal.τ).loc Cert.BonusReferenceIdeal.main_arg1)) (m ((c.tc : Thread Cert.BonusReferenceIdeal.nD Cert.BonusReferenceIdeal.τ).loc Cert.BonusReferenceIdeal.main_arg2))).2.1 = (fun _ => 1#1)
    ∧ (Cert.Pre_positive.fn (F := Ideal) (m ((c.tc : Thread Cert.BonusReferenceIdeal.nD Cert.BonusReferenceIdeal.τ).loc Cert.BonusReferenceIdeal.main_arg0)) (m ((c.tc : Thread Cert.BonusReferenceIdeal.nD Cert.BonusReferenceIdeal.τ).loc Cert.BonusReferenceIdeal.main_arg1)) (m ((c.tc : Thread Cert.BonusReferenceIdeal.nD Cert.BonusReferenceIdeal.τ).loc Cert.BonusReferenceIdeal.main_arg2))).2.2 = (fun _ => 1#1)

def Pre_Resid [hPre_drafted : Cert.Pre_drafted.Facts] (m : (ℓ : Loc Cert.Resid.nD Cert.Resid.τ Cert.Resid.sig) → Buf (Elt Bits) ℓ) : Prop :=
  ∀ c : Dev Cert.Resid.nD,
    (Cert.Pre_drafted.fn (F := Bits) (m ((c.tc : Thread Cert.Resid.nD Cert.Resid.τ).loc Cert.Resid.main_arg0)) (m ((c.tc : Thread Cert.Resid.nD Cert.Resid.τ).loc Cert.Resid.main_arg1)) (m ((c.tc : Thread Cert.Resid.nD Cert.Resid.τ).loc Cert.Resid.main_arg2)) (m ((c.tc : Thread Cert.Resid.nD Cert.Resid.τ).loc Cert.Resid.main_arg3)) (m ((c.tc : Thread Cert.Resid.nD Cert.Resid.τ).loc Cert.Resid.main_arg4)) (m ((c.tc : Thread Cert.Resid.nD Cert.Resid.τ).loc Cert.Resid.main_arg5)) (m ((c.tc : Thread Cert.Resid.nD Cert.Resid.τ).loc Cert.Resid.main_arg6))).1 = (fun _ => 1#1)
    ∧ (Cert.Pre_drafted.fn (F := Bits) (m ((c.tc : Thread Cert.Resid.nD Cert.Resid.τ).loc Cert.Resid.main_arg0)) (m ((c.tc : Thread Cert.Resid.nD Cert.Resid.τ).loc Cert.Resid.main_arg1)) (m ((c.tc : Thread Cert.Resid.nD Cert.Resid.τ).loc Cert.Resid.main_arg2)) (m ((c.tc : Thread Cert.Resid.nD Cert.Resid.τ).loc Cert.Resid.main_arg3)) (m ((c.tc : Thread Cert.Resid.nD Cert.Resid.τ).loc Cert.Resid.main_arg4)) (m ((c.tc : Thread Cert.Resid.nD Cert.Resid.τ).loc Cert.Resid.main_arg5)) (m ((c.tc : Thread Cert.Resid.nD Cert.Resid.τ).loc Cert.Resid.main_arg6))).2 = (fun _ => 1#1)

def Pre_ResidIdeal [hPre_drafted : Cert.Pre_drafted.Facts] (m : (ℓ : Loc Cert.ResidIdeal.nD Cert.ResidIdeal.τ Cert.ResidIdeal.sig) → Buf (Elt Ideal) ℓ) : Prop :=
  ∀ c : Dev Cert.ResidIdeal.nD,
    (Cert.Pre_drafted.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).1 = (fun _ => 1#1)
    ∧ (Cert.Pre_drafted.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2 = (fun _ => 1#1)

def Pre_ResidIdeal_residual [hPre_residual : Cert.Pre_residual.Facts] (m : (ℓ : Loc Cert.ResidIdeal.nD Cert.ResidIdeal.τ Cert.ResidIdeal.sig) → Buf (Elt Ideal) ℓ) : Prop :=
  ∀ c : Dev Cert.ResidIdeal.nD,
    (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).1 = (fun _ => 1#1)
    ∧ (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2.1 = (fun _ => 1#1)
    ∧ (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2.2.1 = (fun _ => 1#1)
    ∧ (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2.2.2.1 = (fun _ => 1#1)
    ∧ (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2.2.2.2.1 = (fun _ => 1#1)
    ∧ (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2.2.2.2.2.1 = (fun _ => 1#1)
    ∧ (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2.2.2.2.2.2.1 = (fun _ => 1#1)
    ∧ (Cert.Pre_residual.fn (F := Ideal) (m ((c.tc : Thread Cert.ResidIdeal.nD Cert.ResidIdeal.τ).loc Cert.ResidIdeal.main_arg0)) (m ((c.tc : Thread Cert.ResidIdeal.nD Cert.ResidIdeal.τ).loc Cert.ResidIdeal.main_arg1)) (m ((c.tc : Thread Cert.ResidIdeal.nD Cert.ResidIdeal.τ).loc Cert.ResidIdeal.main_arg2)) (m ((c.tc : Thread Cert.ResidIdeal.nD Cert.ResidIdeal.τ).loc Cert.ResidIdeal.main_arg3)) (m ((c.tc : Thread Cert.ResidIdeal.nD Cert.ResidIdeal.τ).loc Cert.ResidIdeal.main_arg4)) (m ((c.tc : Thread Cert.ResidIdeal.nD Cert.ResidIdeal.τ).loc Cert.ResidIdeal.main_arg5)) (m ((c.tc : Thread Cert.ResidIdeal.nD Cert.ResidIdeal.τ).loc Cert.ResidIdeal.main_arg6))).2.2.2.2.2.2.2 = (fun _ => 1#1)

def Pre_ResidReferenceIdeal (m : (ℓ : Loc Cert.ResidReferenceIdeal.nD Cert.ResidReferenceIdeal.τ Cert.ResidReferenceIdeal.sig) → Buf (Elt Ideal) ℓ) : Prop :=
  True

def Pre_ResidReferenceIdeal_residual [hPre_residual : Cert.Pre_residual.Facts] (m : (ℓ : Loc Cert.ResidReferenceIdeal.nD Cert.ResidReferenceIdeal.τ Cert.ResidReferenceIdeal.sig) → Buf (Elt Ideal) ℓ) : Prop :=
  ∀ c : Dev Cert.ResidReferenceIdeal.nD,
    (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).1 = (fun _ => 1#1)
    ∧ (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).2.1 = (fun _ => 1#1)
    ∧ (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).2.2.1 = (fun _ => 1#1)
    ∧ (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).2.2.2.1 = (fun _ => 1#1)
    ∧ (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).2.2.2.2.1 = (fun _ => 1#1)
    ∧ (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).2.2.2.2.2.1 = (fun _ => 1#1)
    ∧ (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).2.2.2.2.2.2.1 = (fun _ => 1#1)
    ∧ (Cert.Pre_residual.fn (F := Ideal) (m ((c.tc : Thread Cert.ResidReferenceIdeal.nD Cert.ResidReferenceIdeal.τ).loc Cert.ResidReferenceIdeal.main_arg0)) (m ((c.tc : Thread Cert.ResidReferenceIdeal.nD Cert.ResidReferenceIdeal.τ).loc Cert.ResidReferenceIdeal.main_arg1)) (m ((c.tc : Thread Cert.ResidReferenceIdeal.nD Cert.ResidReferenceIdeal.τ).loc Cert.ResidReferenceIdeal.main_arg2)) (m ((c.tc : Thread Cert.ResidReferenceIdeal.nD Cert.ResidReferenceIdeal.τ).loc Cert.ResidReferenceIdeal.main_arg3)) (m ((c.tc : Thread Cert.ResidReferenceIdeal.nD Cert.ResidReferenceIdeal.τ).loc Cert.ResidReferenceIdeal.main_arg4)) (m ((c.tc : Thread Cert.ResidReferenceIdeal.nD Cert.ResidReferenceIdeal.τ).loc Cert.ResidReferenceIdeal.main_arg5)) (m ((c.tc : Thread Cert.ResidReferenceIdeal.nD Cert.ResidReferenceIdeal.τ).loc Cert.ResidReferenceIdeal.main_arg6))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_meaningful [hKernelIdeal : Cert.KernelIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_meaningful m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_meaningful [hReferenceIdeal : Cert.ReferenceIdeal.Facts] [hPre_meaningful : Cert.Pre_meaningful.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_meaningful m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Bonus [hBonus : Cert.Bonus.Facts] : Prop :=
  ∀ (m : (ℓ : Loc Cert.Bonus.nD Cert.Bonus.τ Cert.Bonus.sig) → Buf (Elt Bits) ℓ) (g : Dev Cert.Bonus.nD → PrngReg), Pre_Bonus m →
    θ_run (Cert.Bonus.defs (F := Bits)) (onTc (τ := Cert.Bonus.τ) (Cert.Bonus.main (F := Bits))) ⟨m, fun _ => 0, g⟩ (fun r => (∀ c : Dev Cert.Bonus.nD,
      r.2.mem ((c.tc : Thread Cert.Bonus.nD Cert.Bonus.τ).loc Cert.Bonus.main_arg0) = m ((c.tc : Thread Cert.Bonus.nD Cert.Bonus.τ).loc Cert.Bonus.main_arg0)
      ∧ r.2.mem ((c.tc : Thread Cert.Bonus.nD Cert.Bonus.τ).loc Cert.Bonus.main_arg1) = m ((c.tc : Thread Cert.Bonus.nD Cert.Bonus.τ).loc Cert.Bonus.main_arg1)
      ∧ r.2.mem ((c.tc : Thread Cert.Bonus.nD Cert.Bonus.τ).loc Cert.Bonus.main_arg2) = m ((c.tc : Thread Cert.Bonus.nD Cert.Bonus.τ).loc Cert.Bonus.main_arg2))
      ∧ r.2.sem = fun _ => 0)

def quiescent_BonusIdeal [hBonusIdeal : Cert.BonusIdeal.Facts] : Prop :=
  ∀ (m : (ℓ : Loc Cert.BonusIdeal.nD Cert.BonusIdeal.τ Cert.BonusIdeal.sig) → Buf (Elt Ideal) ℓ) (g : Dev Cert.BonusIdeal.nD → PrngReg), Pre_BonusIdeal m →
    θ_run (Cert.BonusIdeal.defs (F := Ideal)) (onTc (τ := Cert.BonusIdeal.τ) (Cert.BonusIdeal.main (F := Ideal))) ⟨m, fun _ => 0, g⟩ (fun r => (∀ c : Dev Cert.BonusIdeal.nD,
      r.2.mem ((c.tc : Thread Cert.BonusIdeal.nD Cert.BonusIdeal.τ).loc Cert.BonusIdeal.main_arg0) = m ((c.tc : Thread Cert.BonusIdeal.nD Cert.BonusIdeal.τ).loc Cert.BonusIdeal.main_arg0)
      ∧ r.2.mem ((c.tc : Thread Cert.BonusIdeal.nD Cert.BonusIdeal.τ).loc Cert.BonusIdeal.main_arg1) = m ((c.tc : Thread Cert.BonusIdeal.nD Cert.BonusIdeal.τ).loc Cert.BonusIdeal.main_arg1)
      ∧ r.2.mem ((c.tc : Thread Cert.BonusIdeal.nD Cert.BonusIdeal.τ).loc Cert.BonusIdeal.main_arg2) = m ((c.tc : Thread Cert.BonusIdeal.nD Cert.BonusIdeal.τ).loc Cert.BonusIdeal.main_arg2))
      ∧ r.2.sem = fun _ => 0)

def quiescent_BonusIdeal_pre_positive [hBonusIdeal : Cert.BonusIdeal.Facts] [hPre_positive : Cert.Pre_positive.Facts] : Prop :=
  ∀ (m : (ℓ : Loc Cert.BonusIdeal.nD Cert.BonusIdeal.τ Cert.BonusIdeal.sig) → Buf (Elt Ideal) ℓ) (g : Dev Cert.BonusIdeal.nD → PrngReg), Pre_BonusIdeal_positive m →
    θ_run (Cert.BonusIdeal.defs (F := Ideal)) (onTc (τ := Cert.BonusIdeal.τ) (Cert.BonusIdeal.main (F := Ideal))) ⟨m, fun _ => 0, g⟩ (fun r => (∀ c : Dev Cert.BonusIdeal.nD,
      r.2.mem ((c.tc : Thread Cert.BonusIdeal.nD Cert.BonusIdeal.τ).loc Cert.BonusIdeal.main_arg0) = m ((c.tc : Thread Cert.BonusIdeal.nD Cert.BonusIdeal.τ).loc Cert.BonusIdeal.main_arg0)
      ∧ r.2.mem ((c.tc : Thread Cert.BonusIdeal.nD Cert.BonusIdeal.τ).loc Cert.BonusIdeal.main_arg1) = m ((c.tc : Thread Cert.BonusIdeal.nD Cert.BonusIdeal.τ).loc Cert.BonusIdeal.main_arg1)
      ∧ r.2.mem ((c.tc : Thread Cert.BonusIdeal.nD Cert.BonusIdeal.τ).loc Cert.BonusIdeal.main_arg2) = m ((c.tc : Thread Cert.BonusIdeal.nD Cert.BonusIdeal.τ).loc Cert.BonusIdeal.main_arg2))
      ∧ r.2.sem = fun _ => 0)

def quiescent_BonusReferenceIdeal [hBonusReferenceIdeal : Cert.BonusReferenceIdeal.Facts] : Prop :=
  ∀ (m : (ℓ : Loc Cert.BonusReferenceIdeal.nD Cert.BonusReferenceIdeal.τ Cert.BonusReferenceIdeal.sig) → Buf (Elt Ideal) ℓ) (g : Dev Cert.BonusReferenceIdeal.nD → PrngReg), Pre_BonusReferenceIdeal m →
    θ_run (Cert.BonusReferenceIdeal.defs (F := Ideal)) (onTc (τ := Cert.BonusReferenceIdeal.τ) (Cert.BonusReferenceIdeal.main (F := Ideal))) ⟨m, fun _ => 0, g⟩ (fun r => (∀ c : Dev Cert.BonusReferenceIdeal.nD,
      r.2.mem ((c.tc : Thread Cert.BonusReferenceIdeal.nD Cert.BonusReferenceIdeal.τ).loc Cert.BonusReferenceIdeal.main_arg0) = m ((c.tc : Thread Cert.BonusReferenceIdeal.nD Cert.BonusReferenceIdeal.τ).loc Cert.BonusReferenceIdeal.main_arg0)
      ∧ r.2.mem ((c.tc : Thread Cert.BonusReferenceIdeal.nD Cert.BonusReferenceIdeal.τ).loc Cert.BonusReferenceIdeal.main_arg1) = m ((c.tc : Thread Cert.BonusReferenceIdeal.nD Cert.BonusReferenceIdeal.τ).loc Cert.BonusReferenceIdeal.main_arg1)
      ∧ r.2.mem ((c.tc : Thread Cert.BonusReferenceIdeal.nD Cert.BonusReferenceIdeal.τ).loc Cert.BonusReferenceIdeal.main_arg2) = m ((c.tc : Thread Cert.BonusReferenceIdeal.nD Cert.BonusReferenceIdeal.τ).loc Cert.BonusReferenceIdeal.main_arg2))
      ∧ r.2.sem = fun _ => 0)

def quiescent_BonusReferenceIdeal_pre_positive [hBonusReferenceIdeal : Cert.BonusReferenceIdeal.Facts] [hPre_positive : Cert.Pre_positive.Facts] : Prop :=
  ∀ (m : (ℓ : Loc Cert.BonusReferenceIdeal.nD Cert.BonusReferenceIdeal.τ Cert.BonusReferenceIdeal.sig) → Buf (Elt Ideal) ℓ) (g : Dev Cert.BonusReferenceIdeal.nD → PrngReg), Pre_BonusReferenceIdeal_positive m →
    θ_run (Cert.BonusReferenceIdeal.defs (F := Ideal)) (onTc (τ := Cert.BonusReferenceIdeal.τ) (Cert.BonusReferenceIdeal.main (F := Ideal))) ⟨m, fun _ => 0, g⟩ (fun r => (∀ c : Dev Cert.BonusReferenceIdeal.nD,
      r.2.mem ((c.tc : Thread Cert.BonusReferenceIdeal.nD Cert.BonusReferenceIdeal.τ).loc Cert.BonusReferenceIdeal.main_arg0) = m ((c.tc : Thread Cert.BonusReferenceIdeal.nD Cert.BonusReferenceIdeal.τ).loc Cert.BonusReferenceIdeal.main_arg0)
      ∧ r.2.mem ((c.tc : Thread Cert.BonusReferenceIdeal.nD Cert.BonusReferenceIdeal.τ).loc Cert.BonusReferenceIdeal.main_arg1) = m ((c.tc : Thread Cert.BonusReferenceIdeal.nD Cert.BonusReferenceIdeal.τ).loc Cert.BonusReferenceIdeal.main_arg1)
      ∧ r.2.mem ((c.tc : Thread Cert.BonusReferenceIdeal.nD Cert.BonusReferenceIdeal.τ).loc Cert.BonusReferenceIdeal.main_arg2) = m ((c.tc : Thread Cert.BonusReferenceIdeal.nD Cert.BonusReferenceIdeal.τ).loc Cert.BonusReferenceIdeal.main_arg2))
      ∧ r.2.sem = fun _ => 0)

def quiescent_Resid [hResid : Cert.Resid.Facts] [hPre_drafted : Cert.Pre_drafted.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4)
      ∧ r.2.mem ((c.tc : Thread Cert.Resid.nD Cert.Resid.τ).loc Cert.Resid.main_arg5) = m ((c.tc : Thread Cert.Resid.nD Cert.Resid.τ).loc Cert.Resid.main_arg5)
      ∧ r.2.mem ((c.tc : Thread Cert.Resid.nD Cert.Resid.τ).loc Cert.Resid.main_arg6) = m ((c.tc : Thread Cert.Resid.nD Cert.Resid.τ).loc Cert.Resid.main_arg6))
      ∧ r.2.sem = fun _ => 0)

def quiescent_ResidIdeal [hResidIdeal : Cert.ResidIdeal.Facts] [hPre_drafted : Cert.Pre_drafted.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
      ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5)
      ∧ r.2.mem ((c.tc : Thread Cert.ResidIdeal.nD Cert.ResidIdeal.τ).loc Cert.ResidIdeal.main_arg6) = m ((c.tc : Thread Cert.ResidIdeal.nD Cert.ResidIdeal.τ).loc Cert.ResidIdeal.main_arg6))
      ∧ r.2.sem = fun _ => 0)

def quiescent_ResidIdeal_pre_residual [hResidIdeal : Cert.ResidIdeal.Facts] [hPre_residual : Cert.Pre_residual.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal_residual m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
      ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5)
      ∧ r.2.mem ((c.tc : Thread Cert.ResidIdeal.nD Cert.ResidIdeal.τ).loc Cert.ResidIdeal.main_arg6) = m ((c.tc : Thread Cert.ResidIdeal.nD Cert.ResidIdeal.τ).loc Cert.ResidIdeal.main_arg6))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2)
      ∧ r.2.mem ((c.tc : Thread Cert.ResidReferenceIdeal.nD Cert.ResidReferenceIdeal.τ).loc Cert.ResidReferenceIdeal.main_arg3) = m ((c.tc : Thread Cert.ResidReferenceIdeal.nD Cert.ResidReferenceIdeal.τ).loc Cert.ResidReferenceIdeal.main_arg3)
      ∧ r.2.mem ((c.tc : Thread Cert.ResidReferenceIdeal.nD Cert.ResidReferenceIdeal.τ).loc Cert.ResidReferenceIdeal.main_arg4) = m ((c.tc : Thread Cert.ResidReferenceIdeal.nD Cert.ResidReferenceIdeal.τ).loc Cert.ResidReferenceIdeal.main_arg4)
      ∧ r.2.mem ((c.tc : Thread Cert.ResidReferenceIdeal.nD Cert.ResidReferenceIdeal.τ).loc Cert.ResidReferenceIdeal.main_arg5) = m ((c.tc : Thread Cert.ResidReferenceIdeal.nD Cert.ResidReferenceIdeal.τ).loc Cert.ResidReferenceIdeal.main_arg5)
      ∧ r.2.mem ((c.tc : Thread Cert.ResidReferenceIdeal.nD Cert.ResidReferenceIdeal.τ).loc Cert.ResidReferenceIdeal.main_arg6) = m ((c.tc : Thread Cert.ResidReferenceIdeal.nD Cert.ResidReferenceIdeal.τ).loc Cert.ResidReferenceIdeal.main_arg6))
      ∧ r.2.sem = fun _ => 0)

def quiescent_ResidReferenceIdeal_pre_residual [hResidReferenceIdeal : Cert.ResidReferenceIdeal.Facts] [hPre_residual : Cert.Pre_residual.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal_residual m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2)
      ∧ r.2.mem ((c.tc : Thread Cert.ResidReferenceIdeal.nD Cert.ResidReferenceIdeal.τ).loc Cert.ResidReferenceIdeal.main_arg3) = m ((c.tc : Thread Cert.ResidReferenceIdeal.nD Cert.ResidReferenceIdeal.τ).loc Cert.ResidReferenceIdeal.main_arg3)
      ∧ r.2.mem ((c.tc : Thread Cert.ResidReferenceIdeal.nD Cert.ResidReferenceIdeal.τ).loc Cert.ResidReferenceIdeal.main_arg4) = m ((c.tc : Thread Cert.ResidReferenceIdeal.nD Cert.ResidReferenceIdeal.τ).loc Cert.ResidReferenceIdeal.main_arg4)
      ∧ r.2.mem ((c.tc : Thread Cert.ResidReferenceIdeal.nD Cert.ResidReferenceIdeal.τ).loc Cert.ResidReferenceIdeal.main_arg5) = m ((c.tc : Thread Cert.ResidReferenceIdeal.nD Cert.ResidReferenceIdeal.τ).loc Cert.ResidReferenceIdeal.main_arg5)
      ∧ r.2.mem ((c.tc : Thread Cert.ResidReferenceIdeal.nD Cert.ResidReferenceIdeal.τ).loc Cert.ResidReferenceIdeal.main_arg6) = m ((c.tc : Thread Cert.ResidReferenceIdeal.nD Cert.ResidReferenceIdeal.τ).loc Cert.ResidReferenceIdeal.main_arg6))
      ∧ r.2.sem = fun _ => 0)

def preserves_Kernel_KernelIdeal : Prop :=
  True

def algebraic_KernelIdeal_ReferenceIdeal_pre_meaningful [hKernelIdeal : Cert.KernelIdeal.Facts] [hReferenceIdeal : Cert.ReferenceIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_meaningful m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v49_2) = v1 c
          ∧ r.2.mem ((c.tc : Thread Cert.ReferenceIdeal.nD Cert.ReferenceIdeal.τ).loc Cert.ReferenceIdeal.main_v49_3) = v2 c
          ∧ r.2.mem ((c.tc : Thread Cert.ReferenceIdeal.nD Cert.ReferenceIdeal.τ).loc Cert.ReferenceIdeal.main_v49_4) = v3 c
          ∧ r.2.mem ((c.tc : Thread Cert.ReferenceIdeal.nD Cert.ReferenceIdeal.τ).loc Cert.ReferenceIdeal.main_v49_5) = v4 c
          ∧ r.2.mem ((c.tc : Thread Cert.ReferenceIdeal.nD Cert.ReferenceIdeal.τ).loc Cert.ReferenceIdeal.main_v49_6) = v5 c
          ∧ r.2.mem ((c.tc : Thread Cert.ReferenceIdeal.nD Cert.ReferenceIdeal.τ).loc Cert.ReferenceIdeal.main_v49_0) = v6 c
          ∧ r.2.mem ((c.tc : Thread Cert.ReferenceIdeal.nD Cert.ReferenceIdeal.τ).loc Cert.ReferenceIdeal.main_v49_1) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Bonus_BonusIdeal : Prop :=
  True

def algebraic_BonusIdeal_BonusReferenceIdeal_pre_positive [hBonusIdeal : Cert.BonusIdeal.Facts] [hBonusReferenceIdeal : Cert.BonusReferenceIdeal.Facts] [hPre_positive : Cert.Pre_positive.Facts] : Prop :=
  ∀ (m : (ℓ : Loc Cert.BonusIdeal.nD Cert.BonusIdeal.τ Cert.BonusIdeal.sig) → Buf (Elt Ideal) ℓ) (g : Dev Cert.BonusIdeal.nD → PrngReg)
    (m' : (ℓ : Loc Cert.BonusReferenceIdeal.nD Cert.BonusReferenceIdeal.τ Cert.BonusReferenceIdeal.sig) → Buf (Elt Ideal) ℓ) (g' : Dev Cert.BonusReferenceIdeal.nD → PrngReg), Pre_BonusIdeal_positive m →
    (∀ c : Dev Cert.BonusIdeal.nD,
      m' ((c.tc : Thread Cert.BonusReferenceIdeal.nD Cert.BonusReferenceIdeal.τ).loc Cert.BonusReferenceIdeal.main_arg0) = m ((c.tc : Thread Cert.BonusIdeal.nD Cert.BonusIdeal.τ).loc Cert.BonusIdeal.main_arg0)
      ∧ m' ((c.tc : Thread Cert.BonusReferenceIdeal.nD Cert.BonusReferenceIdeal.τ).loc Cert.BonusReferenceIdeal.main_arg1) = m ((c.tc : Thread Cert.BonusIdeal.nD Cert.BonusIdeal.τ).loc Cert.BonusIdeal.main_arg1)
      ∧ m' ((c.tc : Thread Cert.BonusReferenceIdeal.nD Cert.BonusReferenceIdeal.τ).loc Cert.BonusReferenceIdeal.main_arg2) = m ((c.tc : Thread Cert.BonusIdeal.nD Cert.BonusIdeal.τ).loc Cert.BonusIdeal.main_arg2)) →
    ∃ (v0 : (c : Dev Cert.BonusIdeal.nD) → Buf (Elt Ideal) ((c.tc : Thread Cert.BonusIdeal.nD Cert.BonusIdeal.τ).loc Cert.BonusIdeal.main_v0)),
      θ_run (Cert.BonusIdeal.defs (F := Ideal)) (onTc (τ := Cert.BonusIdeal.τ) (Cert.BonusIdeal.main (F := Ideal))) ⟨m, fun _ => 0, g⟩ (fun r => ∀ c : Dev Cert.BonusIdeal.nD,
          r.2.mem ((c.tc : Thread Cert.BonusIdeal.nD Cert.BonusIdeal.τ).loc Cert.BonusIdeal.main_v0) = v0 c
          ∧ r.2.mem ((c.tc : Thread Cert.BonusIdeal.nD Cert.BonusIdeal.τ).loc Cert.BonusIdeal.main_arg0) = m ((c.tc : Thread Cert.BonusIdeal.nD Cert.BonusIdeal.τ).loc Cert.BonusIdeal.main_arg0)
          ∧ r.2.mem ((c.tc : Thread Cert.BonusIdeal.nD Cert.BonusIdeal.τ).loc Cert.BonusIdeal.main_arg1) = m ((c.tc : Thread Cert.BonusIdeal.nD Cert.BonusIdeal.τ).loc Cert.BonusIdeal.main_arg1)
          ∧ r.2.mem ((c.tc : Thread Cert.BonusIdeal.nD Cert.BonusIdeal.τ).loc Cert.BonusIdeal.main_arg2) = m ((c.tc : Thread Cert.BonusIdeal.nD Cert.BonusIdeal.τ).loc Cert.BonusIdeal.main_arg2))
      ∧ θ_run (Cert.BonusReferenceIdeal.defs (F := Ideal)) (onTc (τ := Cert.BonusReferenceIdeal.τ) (Cert.BonusReferenceIdeal.main (F := Ideal))) ⟨m', fun _ => 0, g'⟩ (fun r => ∀ c : Dev Cert.BonusReferenceIdeal.nD,
          r.2.mem ((c.tc : Thread Cert.BonusReferenceIdeal.nD Cert.BonusReferenceIdeal.τ).loc Cert.BonusReferenceIdeal.main_v3) = v0 c
          ∧ r.2.mem ((c.tc : Thread Cert.BonusReferenceIdeal.nD Cert.BonusReferenceIdeal.τ).loc Cert.BonusReferenceIdeal.main_arg0) = m' ((c.tc : Thread Cert.BonusReferenceIdeal.nD Cert.BonusReferenceIdeal.τ).loc Cert.BonusReferenceIdeal.main_arg0)
          ∧ r.2.mem ((c.tc : Thread Cert.BonusReferenceIdeal.nD Cert.BonusReferenceIdeal.τ).loc Cert.BonusReferenceIdeal.main_arg1) = m' ((c.tc : Thread Cert.BonusReferenceIdeal.nD Cert.BonusReferenceIdeal.τ).loc Cert.BonusReferenceIdeal.main_arg1)
          ∧ r.2.mem ((c.tc : Thread Cert.BonusReferenceIdeal.nD Cert.BonusReferenceIdeal.τ).loc Cert.BonusReferenceIdeal.main_arg2) = m' ((c.tc : Thread Cert.BonusReferenceIdeal.nD Cert.BonusReferenceIdeal.τ).loc Cert.BonusReferenceIdeal.main_arg2))

def preserves_Resid_ResidIdeal : Prop :=
  True

def algebraic_ResidIdeal_ResidReferenceIdeal_pre_residual [hResidIdeal : Cert.ResidIdeal.Facts] [hResidReferenceIdeal : Cert.ResidReferenceIdeal.Facts] [hPre_residual : Cert.Pre_residual.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidIdeal_residual m →
    (∀ c : Dev Cert.ResidIdeal.nD,
      m' ((c.tc : Thread Cert.ResidReferenceIdeal.nD Cert.ResidReferenceIdeal.τ).loc Cert.ResidReferenceIdeal.main_arg0) = m ((c.tc : Thread Cert.ResidIdeal.nD Cert.ResidIdeal.τ).loc Cert.ResidIdeal.main_arg0)
      ∧ m' ((c.tc : Thread Cert.ResidReferenceIdeal.nD Cert.ResidReferenceIdeal.τ).loc Cert.ResidReferenceIdeal.main_arg1) = m ((c.tc : Thread Cert.ResidIdeal.nD Cert.ResidIdeal.τ).loc Cert.ResidIdeal.main_arg1)
      ∧ m' ((c.tc : Thread Cert.ResidReferenceIdeal.nD Cert.ResidReferenceIdeal.τ).loc Cert.ResidReferenceIdeal.main_arg2) = m ((c.tc : Thread Cert.ResidIdeal.nD Cert.ResidIdeal.τ).loc Cert.ResidIdeal.main_arg2)
      ∧ m' ((c.tc : Thread Cert.ResidReferenceIdeal.nD Cert.ResidReferenceIdeal.τ).loc Cert.ResidReferenceIdeal.main_arg3) = m ((c.tc : Thread Cert.ResidIdeal.nD Cert.ResidIdeal.τ).loc Cert.ResidIdeal.main_arg3)
      ∧ m' ((c.tc : Thread Cert.ResidReferenceIdeal.nD Cert.ResidReferenceIdeal.τ).loc Cert.ResidReferenceIdeal.main_arg4) = m ((c.tc : Thread Cert.ResidIdeal.nD Cert.ResidIdeal.τ).loc Cert.ResidIdeal.main_arg4)
      ∧ m' ((c.tc : Thread Cert.ResidReferenceIdeal.nD Cert.ResidReferenceIdeal.τ).loc Cert.ResidReferenceIdeal.main_arg5) = m ((c.tc : Thread Cert.ResidIdeal.nD Cert.ResidIdeal.τ).loc Cert.ResidIdeal.main_arg5)
      ∧ m' ((c.tc : Thread Cert.ResidReferenceIdeal.nD Cert.ResidReferenceIdeal.τ).loc Cert.ResidReferenceIdeal.main_arg6) = m ((c.tc : Thread Cert.ResidIdeal.nD Cert.ResidIdeal.τ).loc Cert.ResidIdeal.main_arg6)) →
    ∃ (v0 : (c : Dev Cert.ResidIdeal.nD) → Buf (Elt Ideal) ((c.tc : Thread Cert.ResidIdeal.nD Cert.ResidIdeal.τ).loc Cert.ResidIdeal.main_v0_1)) (v1 : (c : Dev Cert.ResidIdeal.nD) → Buf (Elt Ideal) ((c.tc : Thread Cert.ResidIdeal.nD Cert.ResidIdeal.τ).loc Cert.ResidIdeal.main_v0_2)) (v2 : (c : Dev Cert.ResidIdeal.nD) → Buf (Elt Ideal) ((c.tc : Thread Cert.ResidIdeal.nD Cert.ResidIdeal.τ).loc Cert.ResidIdeal.main_v0_3)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0_1) = v0 c
          ∧ r.2.mem ((c.tc : Thread Cert.ResidIdeal.nD Cert.ResidIdeal.τ).loc Cert.ResidIdeal.main_v0_2) = v1 c
          ∧ r.2.mem ((c.tc : Thread Cert.ResidIdeal.nD Cert.ResidIdeal.τ).loc Cert.ResidIdeal.main_v0_3) = v2 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4)
          ∧ r.2.mem ((c.tc : Thread Cert.ResidIdeal.nD Cert.ResidIdeal.τ).loc Cert.ResidIdeal.main_arg5) = m ((c.tc : Thread Cert.ResidIdeal.nD Cert.ResidIdeal.τ).loc Cert.ResidIdeal.main_arg5)
          ∧ r.2.mem ((c.tc : Thread Cert.ResidIdeal.nD Cert.ResidIdeal.τ).loc Cert.ResidIdeal.main_arg6) = m ((c.tc : Thread Cert.ResidIdeal.nD Cert.ResidIdeal.τ).loc Cert.ResidIdeal.main_arg6))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v3_0) = v0 c
          ∧ r.2.mem ((c.tc : Thread Cert.ResidReferenceIdeal.nD Cert.ResidReferenceIdeal.τ).loc Cert.ResidReferenceIdeal.main_v7) = v1 c
          ∧ r.2.mem ((c.tc : Thread Cert.ResidReferenceIdeal.nD Cert.ResidReferenceIdeal.τ).loc Cert.ResidReferenceIdeal.main_v8) = v2 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2)
          ∧ r.2.mem ((c.tc : Thread Cert.ResidReferenceIdeal.nD Cert.ResidReferenceIdeal.τ).loc Cert.ResidReferenceIdeal.main_arg3) = m' ((c.tc : Thread Cert.ResidReferenceIdeal.nD Cert.ResidReferenceIdeal.τ).loc Cert.ResidReferenceIdeal.main_arg3)
          ∧ r.2.mem ((c.tc : Thread Cert.ResidReferenceIdeal.nD Cert.ResidReferenceIdeal.τ).loc Cert.ResidReferenceIdeal.main_arg4) = m' ((c.tc : Thread Cert.ResidReferenceIdeal.nD Cert.ResidReferenceIdeal.τ).loc Cert.ResidReferenceIdeal.main_arg4)
          ∧ r.2.mem ((c.tc : Thread Cert.ResidReferenceIdeal.nD Cert.ResidReferenceIdeal.τ).loc Cert.ResidReferenceIdeal.main_arg5) = m' ((c.tc : Thread Cert.ResidReferenceIdeal.nD Cert.ResidReferenceIdeal.τ).loc Cert.ResidReferenceIdeal.main_arg5)
          ∧ r.2.mem ((c.tc : Thread Cert.ResidReferenceIdeal.nD Cert.ResidReferenceIdeal.τ).loc Cert.ResidReferenceIdeal.main_arg6) = m' ((c.tc : Thread Cert.ResidReferenceIdeal.nD Cert.ResidReferenceIdeal.τ).loc Cert.ResidReferenceIdeal.main_arg6))

def Claim : Prop :=
  ∃ (hKernel : Cert.Kernel.Facts) (hKernelIdeal : Cert.KernelIdeal.Facts) (hReferenceIdeal : Cert.ReferenceIdeal.Facts) (hBonus : Cert.Bonus.Facts) (hBonusIdeal : Cert.BonusIdeal.Facts) (hBonusReferenceIdeal : Cert.BonusReferenceIdeal.Facts) (hResid : Cert.Resid.Facts) (hResidIdeal : Cert.ResidIdeal.Facts) (hResidReferenceIdeal : Cert.ResidReferenceIdeal.Facts) (hPre_meaningful : Cert.Pre_meaningful.Facts) (hPre_positive : Cert.Pre_positive.Facts) (hPre_drafted : Cert.Pre_drafted.Facts) (hPre_residual : Cert.Pre_residual.Facts),
    quiescent_Kernel (hKernel := hKernel)
    ∧ quiescent_KernelIdeal (hKernelIdeal := hKernelIdeal)
    ∧ quiescent_KernelIdeal_pre_meaningful (hKernelIdeal := hKernelIdeal) (hPre_meaningful := hPre_meaningful)
    ∧ quiescent_ReferenceIdeal (hReferenceIdeal := hReferenceIdeal)
    ∧ quiescent_ReferenceIdeal_pre_meaningful (hReferenceIdeal := hReferenceIdeal) (hPre_meaningful := hPre_meaningful)
    ∧ quiescent_Bonus (hBonus := hBonus)
    ∧ quiescent_BonusIdeal (hBonusIdeal := hBonusIdeal)
    ∧ quiescent_BonusIdeal_pre_positive (hBonusIdeal := hBonusIdeal) (hPre_positive := hPre_positive)
    ∧ quiescent_BonusReferenceIdeal (hBonusReferenceIdeal := hBonusReferenceIdeal)
    ∧ quiescent_BonusReferenceIdeal_pre_positive (hBonusReferenceIdeal := hBonusReferenceIdeal) (hPre_positive := hPre_positive)
    ∧ quiescent_Resid (hResid := hResid) (hPre_drafted := hPre_drafted)
    ∧ quiescent_ResidIdeal (hResidIdeal := hResidIdeal) (hPre_drafted := hPre_drafted)
    ∧ quiescent_ResidIdeal_pre_residual (hResidIdeal := hResidIdeal) (hPre_residual := hPre_residual)
    ∧ quiescent_ResidReferenceIdeal (hResidReferenceIdeal := hResidReferenceIdeal)
    ∧ quiescent_ResidReferenceIdeal_pre_residual (hResidReferenceIdeal := hResidReferenceIdeal) (hPre_residual := hPre_residual)
    ∧ preserves_Kernel_KernelIdeal
    ∧ algebraic_KernelIdeal_ReferenceIdeal_pre_meaningful (hKernelIdeal := hKernelIdeal) (hReferenceIdeal := hReferenceIdeal) (hPre_meaningful := hPre_meaningful)
    ∧ preserves_Bonus_BonusIdeal
    ∧ algebraic_BonusIdeal_BonusReferenceIdeal_pre_positive (hBonusIdeal := hBonusIdeal) (hBonusReferenceIdeal := hBonusReferenceIdeal) (hPre_positive := hPre_positive)
    ∧ preserves_Resid_ResidIdeal
    ∧ algebraic_ResidIdeal_ResidReferenceIdeal_pre_residual (hResidIdeal := hResidIdeal) (hResidReferenceIdeal := hResidReferenceIdeal) (hPre_residual := hPre_residual)
-- ==== Pre_drafted.lean ====
abbrev S72x4 : Shape := ⟨2, ![72, 4]⟩
abbrev S360x49152 : Shape := ⟨2, ![360, 49152]⟩
abbrev S288x49152 : Shape := ⟨2, ![288, 49152]⟩
abbrev S360x128 : Shape := ⟨2, ![360, 128]⟩
abbrev S288x128 : Shape := ⟨2, ![288, 128]⟩
abbrev S_ : Shape := ⟨0, ![]⟩

class Facts : Prop where
  bcast_S_S72x4 : S_.BroadcastsInDim S72x4 (![] : Fin 0 → Fin S72x4.rank)

variable [Facts]

def fn {F : FTy → Type} [FloatOps F] (main_arg0 : IVec S72x4 32) (main_arg1 : FVec F S360x49152 .f32) (main_arg2 : FVec F S288x49152 .f32) (main_arg3 : FVec F S360x128 .f32) (main_arg4 : FVec F S360x128 .f32) (main_arg5 : FVec F S288x128 .f32) (main_arg6 : FVec F S288x128 .f32) : IVec S72x4 1 × IVec S72x4 1 :=
  let main_c : IVec S_ 32 := constantI S_ 32 0#32
  let main_v0 : IVec S72x4 32 := broadcastInDim S72x4 ![] bcast_S_S72x4 main_c
  let main_v1 : IVec S72x4 1 := cmpi .sge main_arg0 main_v0
  let main_c_0 : IVec S_ 32 := constantI S_ 32 49152#32
  let main_v2 : IVec S72x4 32 := broadcastInDim S72x4 ![] bcast_S_S72x4 main_c_0
  let main_v3 : IVec S72x4 1 := cmpi .slt main_arg0 main_v2
  (main_v1, main_v3)
-- ==== Pre_meaningful.lean ====
abbrev S72x5x6144 : Shape := ⟨3, ![72, 5, 6144]⟩
abbrev S3072x49152 : Shape := ⟨2, ![3072, 49152]⟩
abbrev S48x49152 : Shape := ⟨2, ![48, 49152]⟩
abbrev S72x4x1536 : Shape := ⟨3, ![72, 4, 1536]⟩
abbrev S1536x49152 : Shape := ⟨2, ![1536, 49152]⟩
abbrev S49152 : Shape := ⟨1, ![49152]⟩
abbrev S72x4 : Shape := ⟨2, ![72, 4]⟩
abbrev S72 : Shape := ⟨1, ![72]⟩
abbrev S72x49152 : Shape := ⟨2, ![72, 49152]⟩
abbrev S_ : Shape := ⟨0, ![]⟩

class Facts : Prop where
  bitsLt_bf16_f32 : FTy.bits .bf16 < FTy.bits .f32
  reducesTo_S72x4x1536_S72x4_d2 : S72x4x1536.ReducesTo [2] S72x4
  h_S_ : 0 < S_.numel
  bcast_S_S72 : S_.BroadcastsInDim S72 (![] : Fin 0 → Fin S72.rank)
  bcast_S_S72x4 : S_.BroadcastsInDim S72x4 (![] : Fin 0 → Fin S72x4.rank)

variable [Facts]

def fn {F : FTy → Type} [FloatOps F] (main_arg0 : FVec F S72x5x6144 .bf16) (main_arg1 : IVec S3072x49152 8) (main_arg2 : FVec F S48x49152 .f32) (main_arg3 : FVec F S72x4x1536 .bf16) (main_arg4 : FVec F S1536x49152 .fp8e4m3) (main_arg5 : FVec F S49152 .f32) (main_arg6 : IVec S72x4 32) (main_arg7 : FVec F S72x4 .f32) (main_arg8 : FVec F S72 .f32) (main_arg9 : IVec S72x49152 1) : IVec S72 1 × IVec S72x4 1 :=
  let main_v0 : FVec F S72x4x1536 .f32 := (extf .f32 · bitsLt_bf16_f32) main_arg3
  let main_v1 : FVec F S72x4x1536 .f32 := Host.absf main_v0
  let main_cst : FVec F S_ .f32 := constant S_ .f32 0xFF800000#32
  let main_v2 : FVec F S72x4 .f32 := (fun x v => Host.reduce FloatOps.maximumf x v reducesTo_S72x4x1536_S72x4_d2 h_S_) main_v1 main_cst
  let main_cst_0 : FVec F S_ .f32 := constant S_ .f32 0x00000000#32
  let main_v3 : FVec F S72 .f32 := broadcastInDim S72 ![] bcast_S_S72 main_cst_0
  let main_v4 : IVec S72 1 := cmpf .une main_arg8 main_v3
  let main_cst_1 : FVec F S_ .f32 := constant S_ .f32 0x00000000#32
  let main_v5 : FVec F S72x4 .f32 := broadcastInDim S72x4 ![] bcast_S_S72x4 main_cst_1
  let main_v6 : IVec S72x4 1 := cmpf .oeq main_v2 main_v5
  let main_cst_2 : FVec F S_ .f32 := constant S_ .f32 0x04600000#32
  let main_v7 : FVec F S72x4 .f32 := broadcastInDim S72x4 ![] bcast_S_S72x4 main_cst_2
  let main_v8 : IVec S72x4 1 := cmpf .oge main_v2 main_v7
  let main_cst_3 : FVec F S_ .f32 := constant S_ .f32 0x7F000000#32
  let main_v9 : FVec F S72x4 .f32 := broadcastInDim S72x4 ![] bcast_S_S72x4 main_cst_3
  let main_v10 : IVec S72x4 1 := cmpf .olt main_v2 main_v9
  let main_v11 : IVec S72x4 1 := andi main_v8 main_v10
  let main_v12 : IVec S72x4 1 := ori main_v6 main_v11
  (main_v4, main_v12)
-- ==== Pre_positive.lean ====
abbrev S360x49152 : Shape := ⟨2, ![360, 49152]⟩
abbrev S360x128 : Shape := ⟨2, ![360, 128]⟩
abbrev S72x128 : Shape := ⟨2, ![72, 128]⟩
abbrev S_ : Shape := ⟨0, ![]⟩
abbrev S72 : Shape := ⟨1, ![72]⟩
abbrev S72x1 : Shape := ⟨2, ![72, 1]⟩

class Facts : Prop where
  slices_S360x128_S72x128_288_0 : S360x128.Slices ![288, 0] S72x128
  reducesTo_S72x128_S72_d1 : S72x128.ReducesTo [1] S72
  h_S_ : 0 < S_.numel
  bcast_S72_S72x1_0 : S72.BroadcastsInDim S72x1 (![0] : Fin 1 → Fin S72x1.rank)
  bcast_S_S72 : S_.BroadcastsInDim S72 (![] : Fin 0 → Fin S72.rank)
  bcast_S72x1_S72x128_0_1 : S72x1.BroadcastsInDim S72x128 (![0, 1] : Fin 2 → Fin S72x128.rank)
  bcast_S_S72x128 : S_.BroadcastsInDim S72x128 (![] : Fin 0 → Fin S72x128.rank)
  bcast_S_S72x1 : S_.BroadcastsInDim S72x1 (![] : Fin 0 → Fin S72x1.rank)
  shapeCasts_S72x1_S72 : S72x1.ShapeCasts S72

variable [Facts]

def fn_where {F : FTy → Type} [FloatOps F] (arg0 : IVec S72x128 1) (arg1 : FVec F S72x128 .f32) (arg2 : FVec F S_ .f32) : FVec F S72x128 .f32 :=
  let v0 : FVec F S_ .f32 := id arg2
  let v1 : FVec F S72x128 .f32 := broadcastInDim S72x128 ![] bcast_S_S72x128 v0
  let v2 : FVec F S72x128 .f32 := select arg0 arg1 v1
  v2

def fn {F : FTy → Type} [FloatOps F] (main_arg0 : FVec F S360x49152 .f32) (main_arg1 : FVec F S360x128 .f32) (main_arg2 : FVec F S360x128 .f32) : IVec S72 1 × IVec S72 1 × IVec S72 1 :=
  let main_v0 : FVec F S72x128 .f32 := (extractStridedSlice S72x128 ![288, 0] · slices_S360x128_S72x128_288_0) main_arg1
  let main_v1 : FVec F S72x128 .f32 := (extractStridedSlice S72x128 ![288, 0] · slices_S360x128_S72x128_288_0) main_arg2
  let main_cst : FVec F S_ .f32 := constant S_ .f32 0xFF800000#32
  let main_v2 : FVec F S72 .f32 := (fun x v => Host.reduce FloatOps.maximumf x v reducesTo_S72x128_S72_d1 h_S_) main_v0 main_cst
  let main_v3 : FVec F S72x1 .f32 := broadcastInDim S72x1 ![0] bcast_S72_S72x1_0 main_v2
  let main_cst_0 : FVec F S_ .f32 := constant S_ .f32 0x7F800000#32
  let main_v4 : FVec F S72 .f32 := (fun x v => Host.reduce FloatOps.minimumf x v reducesTo_S72x128_S72_d1 h_S_) main_v1 main_cst_0
  let main_cst_1 : FVec F S_ .f32 := constant S_ .f32 0x00000000#32
  let main_v5 : FVec F S72 .f32 := broadcastInDim S72 ![] bcast_S_S72 main_cst_1
  let main_v6 : IVec S72 1 := cmpf .oge main_v4 main_v5
  let main_v7 : FVec F S72x128 .f32 := broadcastInDim S72x128 ![0, 1] bcast_S72x1_S72x128_0_1 main_v3
  let main_v8 : IVec S72x128 1 := cmpf .oeq main_v0 main_v7
  let main_cst_2 : FVec F S_ .f32 := constant S_ .f32 0x00000000#32
  let main_v9 : FVec F S72x128 .f32 := fn_where (F := F) main_v8 main_v1 main_cst_2
  let main_cst_3 : FVec F S_ .f32 := constant S_ .f32 0xFF800000#32
  let main_v10 : FVec F S72 .f32 := (fun x v => Host.reduce FloatOps.maximumf x v reducesTo_S72x128_S72_d1 h_S_) main_v9 main_cst_3
  let main_cst_4 : FVec F S_ .f32 := constant S_ .f32 0x00000000#32
  let main_v11 : FVec F S72 .f32 := broadcastInDim S72 ![] bcast_S_S72 main_cst_4
  let main_v12 : IVec S72 1 := cmpf .ogt main_v10 main_v11
  let main_v13 : FVec F S72x1 .f32 := Host.absf main_v3
  let main_cst_5 : FVec F S_ .f32 := constant S_ .f32 0x7F800000#32
  let main_v14 : FVec F S72x1 .f32 := broadcastInDim S72x1 ![] bcast_S_S72x1 main_cst_5
  let main_v15 : IVec S72x1 1 := cmpf .olt main_v13 main_v14
  let main_v16 : IVec S72 1 := shapeCast S72 main_v15 shapeCasts_S72x1_S72
  (main_v6, main_v12, main_v16)
-- ==== Pre_residual.lean ====
abbrev S72x4 : Shape := ⟨2, ![72, 4]⟩
abbrev S360x49152 : Shape := ⟨2, ![360, 49152]⟩
abbrev S288x49152 : Shape := ⟨2, ![288, 49152]⟩
abbrev S360x128 : Shape := ⟨2, ![360, 128]⟩
abbrev S288x128 : Shape := ⟨2, ![288, 128]⟩
abbrev S_ : Shape := ⟨0, ![]⟩
abbrev S288 : Shape := ⟨1, ![288]⟩
abbrev S288x1 : Shape := ⟨2, ![288, 1]⟩

class Facts : Prop where
  slices_S360x128_S288x128_0_0 : S360x128.Slices ![0, 0] S288x128
  reducesTo_S288x128_S288_d1 : S288x128.ReducesTo [1] S288
  h_S_ : 0 < S_.numel
  bcast_S288_S288x1_0 : S288.BroadcastsInDim S288x1 (![0] : Fin 1 → Fin S288x1.rank)
  bcast_S_S72x4 : S_.BroadcastsInDim S72x4 (![] : Fin 0 → Fin S72x4.rank)
  bcast_S_S288 : S_.BroadcastsInDim S288 (![] : Fin 0 → Fin S288.rank)
  bcast_S288x1_S288x128_0_1 : S288x1.BroadcastsInDim S288x128 (![0, 1] : Fin 2 → Fin S288x128.rank)
  bcast_S_S288x128 : S_.BroadcastsInDim S288x128 (![] : Fin 0 → Fin S288x128.rank)
  bcast_S_S288x1 : S_.BroadcastsInDim S288x1 (![] : Fin 0 → Fin S288x1.rank)
  shapeCasts_S288x1_S288 : S288x1.ShapeCasts S288

variable [Facts]

def fn_where {F : FTy → Type} [FloatOps F] (arg0 : IVec S288x128 1) (arg1 : FVec F S288x128 .f32) (arg2 : FVec F S_ .f32) : FVec F S288x128 .f32 :=
  let v0 : FVec F S_ .f32 := id arg2
  let v1 : FVec F S288x128 .f32 := broadcastInDim S288x128 ![] bcast_S_S288x128 v0
  let v2 : FVec F S288x128 .f32 := select arg0 arg1 v1
  v2

def fn_where_0 {F : FTy → Type} [FloatOps F] (arg0 : IVec S288x128 1) (arg1 : FVec F S288x128 .f32) (arg2 : FVec F S_ .f32) : FVec F S288x128 .f32 :=
  let v0 : FVec F S_ .f32 := id arg2
  let v1 : FVec F S288x128 .f32 := broadcastInDim S288x128 ![] bcast_S_S288x128 v0
  let v2 : FVec F S288x128 .f32 := select arg0 arg1 v1
  v2

def fn_part2 {F : FTy → Type} [FloatOps F] (main_v7 : IVec S72x4 1) (main_v9 : IVec S72x4 1) (main_v12 : IVec S288 1) (main_v18 : IVec S288 1) (main_v22 : IVec S288 1) (main_v25 : IVec S288 1) (main_v31 : IVec S288 1) (main_v32 : FVec F S288x1 .f32) : IVec S72x4 1 × IVec S72x4 1 × IVec S288 1 × IVec S288 1 × IVec S288 1 × IVec S288 1 × IVec S288 1 × IVec S288 1 :=
  let main_cst_13 : FVec F S_ .f32 := constant S_ .f32 0x7F800000#32
  let main_v33 : FVec F S288x1 .f32 := broadcastInDim S288x1 ![] bcast_S_S288x1 main_cst_13
  let main_v34 : IVec S288x1 1 := cmpf .olt main_v32 main_v33
  let main_v35 : IVec S288 1 := shapeCast S288 main_v34 shapeCasts_S288x1_S288
  (main_v7, main_v9, main_v12, main_v18, main_v22, main_v25, main_v31, main_v35)

def fn_part1 {F : FTy → Type} [FloatOps F] (main_arg5 : FVec F S288x128 .f32) (main_arg6 : FVec F S288x128 .f32) (main_v3 : FVec F S288x1 .f32) (main_v5 : FVec F S288x1 .f32) (main_v7 : IVec S72x4 1) (main_v9 : IVec S72x4 1) (main_v12 : IVec S288 1) (main_v15 : FVec F S288x128 .f32) (main_cst_5 : FVec F S_ .f32) : IVec S72x4 1 × IVec S72x4 1 × IVec S288 1 × IVec S288 1 × IVec S288 1 × IVec S288 1 × IVec S288 1 × IVec S288 1 :=
  let main_v16 : FVec F S288 .f32 := (fun x v => Host.reduce FloatOps.maximumf x v reducesTo_S288x128_S288_d1 h_S_) main_v15 main_cst_5
  let main_cst_6 : FVec F S_ .f32 := constant S_ .f32 0x00000000#32
  let main_v17 : FVec F S288 .f32 := broadcastInDim S288 ![] bcast_S_S288 main_cst_6
  let main_v18 : IVec S288 1 := cmpf .ogt main_v16 main_v17
  let main_v19 : FVec F S288x1 .f32 := Host.absf main_v3
  let main_cst_7 : FVec F S_ .f32 := constant S_ .f32 0x7F800000#32
  let main_v20 : FVec F S288x1 .f32 := broadcastInDim S288x1 ![] bcast_S_S288x1 main_cst_7
  let main_v21 : IVec S288x1 1 := cmpf .olt main_v19 main_v20
  let main_v22 : IVec S288 1 := shapeCast S288 main_v21 shapeCasts_S288x1_S288
  let main_cst_8 : FVec F S_ .f32 := constant S_ .f32 0x7F800000#32
  let main_v23 : FVec F S288 .f32 := (fun x v => Host.reduce FloatOps.minimumf x v reducesTo_S288x128_S288_d1 h_S_) main_arg6 main_cst_8
  let main_cst_9 : FVec F S_ .f32 := constant S_ .f32 0x00000000#32
  let main_v24 : FVec F S288 .f32 := broadcastInDim S288 ![] bcast_S_S288 main_cst_9
  let main_v25 : IVec S288 1 := cmpf .oge main_v23 main_v24
  let main_v26 : FVec F S288x128 .f32 := broadcastInDim S288x128 ![0, 1] bcast_S288x1_S288x128_0_1 main_v5
  let main_v27 : IVec S288x128 1 := cmpf .oeq main_arg5 main_v26
  let main_cst_10 : FVec F S_ .f32 := constant S_ .f32 0x00000000#32
  let main_v28 : FVec F S288x128 .f32 := fn_where_0 (F := F) main_v27 main_arg6 main_cst_10
  let main_cst_11 : FVec F S_ .f32 := constant S_ .f32 0xFF800000#32
  let main_v29 : FVec F S288 .f32 := (fun x v => Host.reduce FloatOps.maximumf x v reducesTo_S288x128_S288_d1 h_S_) main_v28 main_cst_11
  let main_cst_12 : FVec F S_ .f32 := constant S_ .f32 0x00000000#32
  let main_v30 : FVec F S288 .f32 := broadcastInDim S288 ![] bcast_S_S288 main_cst_12
  let main_v31 : IVec S288 1 := cmpf .ogt main_v29 main_v30
  let main_v32 : FVec F S288x1 .f32 := Host.absf main_v5
  fn_part2 (F := F) main_v7 main_v9 main_v12 main_v18 main_v22 main_v25 main_v31 main_v32

def fn {F : FTy → Type} [FloatOps F] (main_arg0 : IVec S72x4 32) (main_arg1 : FVec F S360x49152 .f32) (main_arg2 : FVec F S288x49152 .f32) (main_arg3 : FVec F S360x128 .f32) (main_arg4 : FVec F S360x128 .f32) (main_arg5 : FVec F S288x128 .f32) (main_arg6 : FVec F S288x128 .f32) : IVec S72x4 1 × IVec S72x4 1 × IVec S288 1 × IVec S288 1 × IVec S288 1 × IVec S288 1 × IVec S288 1 × IVec S288 1 :=
  let main_v0 : FVec F S288x128 .f32 := (extractStridedSlice S288x128 ![0, 0] · slices_S360x128_S288x128_0_0) main_arg3
  let main_v1 : FVec F S288x128 .f32 := (extractStridedSlice S288x128 ![0, 0] · slices_S360x128_S288x128_0_0) main_arg4
  let main_cst : FVec F S_ .f32 := constant S_ .f32 0xFF800000#32
  let main_v2 : FVec F S288 .f32 := (fun x v => Host.reduce FloatOps.maximumf x v reducesTo_S288x128_S288_d1 h_S_) main_v0 main_cst
  let main_v3 : FVec F S288x1 .f32 := broadcastInDim S288x1 ![0] bcast_S288_S288x1_0 main_v2
  let main_cst_0 : FVec F S_ .f32 := constant S_ .f32 0xFF800000#32
  let main_v4 : FVec F S288 .f32 := (fun x v => Host.reduce FloatOps.maximumf x v reducesTo_S288x128_S288_d1 h_S_) main_arg5 main_cst_0
  let main_v5 : FVec F S288x1 .f32 := broadcastInDim S288x1 ![0] bcast_S288_S288x1_0 main_v4
  let main_c : IVec S_ 32 := constantI S_ 32 0#32
  let main_v6 : IVec S72x4 32 := broadcastInDim S72x4 ![] bcast_S_S72x4 main_c
  let main_v7 : IVec S72x4 1 := cmpi .sge main_arg0 main_v6
  let main_c_1 : IVec S_ 32 := constantI S_ 32 49152#32
  let main_v8 : IVec S72x4 32 := broadcastInDim S72x4 ![] bcast_S_S72x4 main_c_1
  let main_v9 : IVec S72x4 1 := cmpi .slt main_arg0 main_v8
  let main_cst_2 : FVec F S_ .f32 := constant S_ .f32 0x7F800000#32
  let main_v10 : FVec F S288 .f32 := (fun x v => Host.reduce FloatOps.minimumf x v reducesTo_S288x128_S288_d1 h_S_) main_v1 main_cst_2
  let main_cst_3 : FVec F S_ .f32 := constant S_ .f32 0x00000000#32
  let main_v11 : FVec F S288 .f32 := broadcastInDim S288 ![] bcast_S_S288 main_cst_3
  let main_v12 : IVec S288 1 := cmpf .oge main_v10 main_v11
  let main_v13 : FVec F S288x128 .f32 := broadcastInDim S288x128 ![0, 1] bcast_S288x1_S288x128_0_1 main_v3
  let main_v14 : IVec S288x128 1 := cmpf .oeq main_v0 main_v13
  let main_cst_4 : FVec F S_ .f32 := constant S_ .f32 0x00000000#32
  let main_v15 : FVec F S288x128 .f32 := fn_where (F := F) main_v14 main_v1 main_cst_4
  let main_cst_5 : FVec F S_ .f32 := constant S_ .f32 0xFF800000#32
  fn_part1 (F := F) main_arg5 main_arg6 main_v3 main_v5 main_v7 main_v9 main_v12 main_v15 main_cst_5
-- ==== Kernel.lean ====
abbrev S72x5x6144 : Shape := ⟨3, ![72, 5, 6144]⟩
abbrev S3072x49152 : Shape := ⟨2, ![3072, 49152]⟩
abbrev S48x49152 : Shape := ⟨2, ![48, 49152]⟩
abbrev S72x4x1536 : Shape := ⟨3, ![72, 4, 1536]⟩
abbrev S1536x49152 : Shape := ⟨2, ![1536, 49152]⟩
abbrev S49152 : Shape := ⟨1, ![49152]⟩
abbrev S72x4 : Shape := ⟨2, ![72, 4]⟩
abbrev S72 : Shape := ⟨1, ![72]⟩
abbrev S72x49152 : Shape := ⟨2, ![72, 49152]⟩
abbrev S1x49152 : Shape := ⟨2, ![1, 49152]⟩
abbrev S360x49152 : Shape := ⟨2, ![360, 49152]⟩
abbrev S288x49152 : Shape := ⟨2, ![288, 49152]⟩
abbrev S360x128 : Shape := ⟨2, ![360, 128]⟩
abbrev S288x128 : Shape := ⟨2, ![288, 128]⟩
abbrev S288x1536 : Shape := ⟨2, ![288, 1536]⟩
abbrev S288x1 : Shape := ⟨2, ![288, 1]⟩
abbrev S3072x512 : Shape := ⟨2, ![3072, 512]⟩
abbrev S48x512 : Shape := ⟨2, ![48, 512]⟩
abbrev S1536x512 : Shape := ⟨2, ![1536, 512]⟩
abbrev S1x512 : Shape := ⟨2, ![1, 512]⟩
abbrev S72x512 : Shape := ⟨2, ![72, 512]⟩
abbrev S360x512 : Shape := ⟨2, ![360, 512]⟩
abbrev S288x512 : Shape := ⟨2, ![288, 512]⟩
abbrev S360x6144 : Shape := ⟨2, ![360, 6144]⟩
abbrev S72x4x1 : Shape := ⟨3, ![72, 4, 1]⟩
abbrev S1x1x256 : Shape := ⟨3, ![1, 1, 256]⟩
abbrev S72x4x256 : Shape := ⟨3, ![72, 4, 256]⟩
abbrev S72x4x6144 : Shape := ⟨3, ![72, 4, 6144]⟩
abbrev S288x6144 : Shape := ⟨2, ![288, 6144]⟩
abbrev S72x1x6144 : Shape := ⟨3, ![72, 1, 6144]⟩
abbrev S72x6144 : Shape := ⟨2, ![72, 6144]⟩
abbrev S4x128 : Shape := ⟨2, ![4, 128]⟩
abbrev S1 : Shape := ⟨1, ![1]⟩
abbrev S1x128 : Shape := ⟨2, ![1, 128]⟩
abbrev S3072x1x512 : Shape := ⟨3, ![3072, 1, 512]⟩
abbrev S3072x2x512 : Shape := ⟨3, ![3072, 2, 512]⟩
abbrev S6144x512 : Shape := ⟨2, ![6144, 512]⟩
abbrev S48x128x512 : Shape := ⟨3, ![48, 128, 512]⟩
abbrev S48x1x512 : Shape := ⟨3, ![48, 1, 512]⟩
abbrev S72x1x512 : Shape := ⟨3, ![72, 1, 512]⟩
abbrev S72x4x512 : Shape := ⟨3, ![72, 4, 512]⟩

abbrev nBuf : Space → Nat
  | .hbm => 20
  | .vmem => 25
  | .smem => 1
  | _ => 0

abbrev bufTy : (tb : Table) → Fin (tcTables nBuf tb) → BufTy
  | .hbm, ⟨0, _⟩ => ⟨S72x5x6144, .bf16⟩
  | .hbm, ⟨1, _⟩ => ⟨S3072x49152, .i8⟩
  | .hbm, ⟨2, _⟩ => ⟨S48x49152, .f32⟩
  | .hbm, ⟨3, _⟩ => ⟨S72x4x1536, .bf16⟩
  | .hbm, ⟨4, _⟩ => ⟨S1536x49152, .fp8e4m3⟩
  | .hbm, ⟨5, _⟩ => ⟨S49152, .f32⟩
  | .hbm, ⟨6, _⟩ => ⟨S72x4, .i32⟩
  | .hbm, ⟨7, _⟩ => ⟨S72x4, .f32⟩
  | .hbm, ⟨8, _⟩ => ⟨S72, .f32⟩
  | .hbm, ⟨9, _⟩ => ⟨S72x49152, .i1⟩
  | .hbm, ⟨10, _⟩ => ⟨S1x49152, .f32⟩
  | .hbm, ⟨11, _⟩ => ⟨S72x49152, .i8⟩
  | .hbm, ⟨12, _⟩ => ⟨S360x49152, .f32⟩
  | .hbm, ⟨13, _⟩ => ⟨S288x49152, .f32⟩
  | .hbm, ⟨14, _⟩ => ⟨S360x128, .f32⟩
  | .hbm, ⟨15, _⟩ => ⟨S360x128, .f32⟩
  | .hbm, ⟨16, _⟩ => ⟨S288x128, .f32⟩
  | .hbm, ⟨17, _⟩ => ⟨S288x128, .f32⟩
  | .hbm, ⟨18, _⟩ => ⟨S288x1536, .fp8e4m3⟩
  | .hbm, ⟨19, _⟩ => ⟨S288x1, .f32⟩
  | .local _ .vmem, ⟨0, _⟩ => ⟨S72x5x6144, .bf16⟩
  | .local _ .vmem, ⟨1, _⟩ => ⟨S3072x512, .i8⟩
  | .local _ .vmem, ⟨2, _⟩ => ⟨S3072x512, .i8⟩
  | .local _ .vmem, ⟨3, _⟩ => ⟨S48x512, .f32⟩
  | .local _ .vmem, ⟨4, _⟩ => ⟨S48x512, .f32⟩
  | .local _ .vmem, ⟨5, _⟩ => ⟨S72x4x1536, .bf16⟩
  | .local _ .vmem, ⟨6, _⟩ => ⟨S1536x512, .fp8e4m3⟩
  | .local _ .vmem, ⟨7, _⟩ => ⟨S1536x512, .fp8e4m3⟩
  | .local _ .vmem, ⟨8, _⟩ => ⟨S1x512, .f32⟩
  | .local _ .vmem, ⟨9, _⟩ => ⟨S1x512, .f32⟩
  | .local _ .vmem, ⟨10, _⟩ => ⟨S72x512, .i8⟩
  | .local _ .vmem, ⟨11, _⟩ => ⟨S72x512, .i8⟩
  | .local _ .vmem, ⟨12, _⟩ => ⟨S360x512, .f32⟩
  | .local _ .vmem, ⟨13, _⟩ => ⟨S360x512, .f32⟩
  | .local _ .vmem, ⟨14, _⟩ => ⟨S288x512, .f32⟩
  | .local _ .vmem, ⟨15, _⟩ => ⟨S288x512, .f32⟩
  | .local _ .vmem, ⟨16, _⟩ => ⟨S360x128, .f32⟩
  | .local _ .vmem, ⟨17, _⟩ => ⟨S360x128, .f32⟩
  | .local _ .vmem, ⟨18, _⟩ => ⟨S288x128, .f32⟩
  | .local _ .vmem, ⟨19, _⟩ => ⟨S288x128, .f32⟩
  | .local _ .vmem, ⟨20, _⟩ => ⟨S288x1536, .fp8e4m3⟩
  | .local _ .vmem, ⟨21, _⟩ => ⟨S288x1, .f32⟩
  | .local _ .vmem, ⟨22, _⟩ => ⟨S360x6144, .bf16⟩
  | .local _ .vmem, ⟨23, _⟩ => ⟨S360x128, .f32⟩
  | .local _ .vmem, ⟨24, _⟩ => ⟨S288x128, .f32⟩
  | .local _ .smem, ⟨0, _⟩ => ⟨S72, .f32⟩
  | _, _ => ⟨S72x5x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S72x5x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S72x4x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S72x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S360x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S288x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S360x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S360x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S288x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S288x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S288x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S288x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S72x5x6144 : Shape := ⟨3, ![72, 5, 6144]⟩
abbrev S3072x49152 : Shape := ⟨2, ![3072, 49152]⟩
abbrev S48x49152 : Shape := ⟨2, ![48, 49152]⟩
abbrev S72x4x1536 : Shape := ⟨3, ![72, 4, 1536]⟩
abbrev S1536x49152 : Shape := ⟨2, ![1536, 49152]⟩
abbrev S49152 : Shape := ⟨1, ![49152]⟩
abbrev S72x4 : Shape := ⟨2, ![72, 4]⟩
abbrev S72 : Shape := ⟨1, ![72]⟩
abbrev S72x49152 : Shape := ⟨2, ![72, 49152]⟩
abbrev S48x1x49152 : Shape := ⟨3, ![48, 1, 49152]⟩
abbrev S_ : Shape := ⟨0, ![]⟩
abbrev S48x64x49152 : Shape := ⟨3, ![48, 64, 49152]⟩
abbrev S72x5x3072 : Shape := ⟨3, ![72, 5, 3072]⟩
abbrev S72x5x48x64 : Shape := ⟨4, ![72, 5, 48, 64]⟩
abbrev S72x5x49152 : Shape := ⟨3, ![72, 5, 49152]⟩
abbrev S72x1x1 : Shape := ⟨3, ![72, 1, 1]⟩
abbrev S72x1x49152 : Shape := ⟨3, ![72, 1, 49152]⟩
abbrev S72x4x49152 : Shape := ⟨3, ![72, 4, 49152]⟩
abbrev S288x49152 : Shape := ⟨2, ![288, 49152]⟩
abbrev S360x49152 : Shape := ⟨2, ![360, 49152]⟩
abbrev S1x49152 : Shape := ⟨2, ![1, 49152]⟩
abbrev S288x1536 : Shape := ⟨2, ![288, 1536]⟩
abbrev S288x1 : Shape := ⟨2, ![288, 1]⟩
abbrev S360x128 : Shape := ⟨2, ![360, 128]⟩
abbrev S288x128 : Shape := ⟨2, ![288, 128]⟩
abbrev S72x4x1 : Shape := ⟨3, ![72, 4, 1]⟩
abbrev S1x1x277 : Shape := ⟨3, ![1, 1, 277]⟩
abbrev S72x4x277 : Shape := ⟨3, ![72, 4, 277]⟩
abbrev S1x1x49152 : Shape := ⟨3, ![1, 1, 49152]⟩
abbrev S360x384x128 : Shape := ⟨3, ![360, 384, 128]⟩
abbrev S360x1x128 : Shape := ⟨3, ![360, 1, 128]⟩
abbrev S288x384x128 : Shape := ⟨3, ![288, 384, 128]⟩
abbrev S288x1x128 : Shape := ⟨3, ![288, 1, 128]⟩

abbrev nBuf : Space → Nat
  | .hbm => 77
  | .vmem => 13
  | .smem => 0
  | _ => 0

abbrev bufTy : (tb : Table) → Fin (tcTables nBuf tb) → BufTy
  | .hbm, ⟨0, _⟩ => ⟨S72x5x6144, .bf16⟩
  | .hbm, ⟨1, _⟩ => ⟨S3072x49152, .i8⟩
  | .hbm, ⟨2, _⟩ => ⟨S48x49152, .f32⟩
  | .hbm, ⟨3, _⟩ => ⟨S72x4x1536, .bf16⟩
  | .hbm, ⟨4, _⟩ => ⟨S1536x49152, .fp8e4m3⟩
  | .hbm, ⟨5, _⟩ => ⟨S49152, .f32⟩
  | .hbm, ⟨6, _⟩ => ⟨S72x4, .i32⟩
  | .hbm, ⟨7, _⟩ => ⟨S72x4, .f32⟩
  | .hbm, ⟨8, _⟩ => ⟨S72, .f32⟩
  | .hbm, ⟨9, _⟩ => ⟨S72x49152, .i1⟩
  | .hbm, ⟨10, _⟩ => ⟨S3072x49152, .i32⟩
  | .hbm, ⟨11, _⟩ => ⟨S48x49152, .bf16⟩
  | .hbm, ⟨12, _⟩ => ⟨S48x1x49152, .bf16⟩
  | .hbm, ⟨13, _⟩ => ⟨S_, .i32⟩
  | .hbm, ⟨14, _⟩ => ⟨S3072x49152, .i32⟩
  | .hbm, ⟨15, _⟩ => ⟨S3072x49152, .i32⟩
  | .hbm, ⟨16, _⟩ => ⟨S_, .i32⟩
  | .hbm, ⟨17, _⟩ => ⟨S3072x49152, .i32⟩
  | .hbm, ⟨18, _⟩ => ⟨S3072x49152, .i1⟩
  | .hbm, ⟨19, _⟩ => ⟨S3072x49152, .i32⟩
  | .hbm, ⟨20, _⟩ => ⟨S_, .i32⟩
  | .hbm, ⟨21, _⟩ => ⟨S3072x49152, .i32⟩
  | .hbm, ⟨22, _⟩ => ⟨S3072x49152, .i32⟩
  | .hbm, ⟨23, _⟩ => ⟨S3072x49152, .i32⟩
  | .hbm, ⟨24, _⟩ => ⟨S3072x49152, .bf16⟩
  | .hbm, ⟨25, _⟩ => ⟨S48x64x49152, .bf16⟩
  | .hbm, ⟨26, _⟩ => ⟨S48x64x49152, .bf16⟩
  | .hbm, ⟨27, _⟩ => ⟨S48x64x49152, .bf16⟩
  | .hbm, ⟨28, _⟩ => ⟨S_, .i32⟩
  | .hbm, ⟨29, _⟩ => ⟨S3072x49152, .i32⟩
  | .hbm, ⟨30, _⟩ => ⟨S3072x49152, .i32⟩
  | .hbm, ⟨31, _⟩ => ⟨S_, .i32⟩
  | .hbm, ⟨32, _⟩ => ⟨S3072x49152, .i32⟩
  | .hbm, ⟨33, _⟩ => ⟨S3072x49152, .i1⟩
  | .hbm, ⟨34, _⟩ => ⟨S3072x49152, .i32⟩
  | .hbm, ⟨35, _⟩ => ⟨S_, .i32⟩
  | .hbm, ⟨36, _⟩ => ⟨S3072x49152, .i32⟩
  | .hbm, ⟨37, _⟩ => ⟨S3072x49152, .i32⟩
  | .hbm, ⟨38, _⟩ => ⟨S3072x49152, .i32⟩
  | .hbm, ⟨39, _⟩ => ⟨S3072x49152, .bf16⟩
  | .hbm, ⟨40, _⟩ => ⟨S48x64x49152, .bf16⟩
  | .hbm, ⟨41, _⟩ => ⟨S48x64x49152, .bf16⟩
  | .hbm, ⟨42, _⟩ => ⟨S48x64x49152, .bf16⟩
  | .hbm, ⟨43, _⟩ => ⟨S72x5x3072, .bf16⟩
  | .hbm, ⟨44, _⟩ => ⟨S72x5x48x64, .bf16⟩
  | .hbm, ⟨45, _⟩ => ⟨S72x5x3072, .bf16⟩
  | .hbm, ⟨46, _⟩ => ⟨S72x5x48x64, .bf16⟩
  | .hbm, ⟨47, _⟩ => ⟨S72x5x49152, .f32⟩
  | .hbm, ⟨48, _⟩ => ⟨S72x5x49152, .f32⟩
  | .hbm, ⟨49, _⟩ => ⟨S72x5x49152, .f32⟩
  | .hbm, ⟨50, _⟩ => ⟨S72x1x1, .f32⟩
  | .hbm, ⟨51, _⟩ => ⟨S72x1x49152, .i1⟩
  | .hbm, ⟨52, _⟩ => ⟨S72x5x49152, .f32⟩
  | .hbm, ⟨53, _⟩ => ⟨S72x5x49152, .f32⟩
  | .hbm, ⟨54, _⟩ => ⟨S_, .f32⟩
  | .hbm, ⟨55, _⟩ => ⟨S72x5x49152, .f32⟩
  | .hbm, ⟨56, _⟩ => ⟨S72x5x49152, .f32⟩
  | .hbm, ⟨57, _⟩ => ⟨S_, .f32⟩
  | .hbm, ⟨58, _⟩ => ⟨S_, .f32⟩
  | .hbm, ⟨59, _⟩ => ⟨S72x5x49152, .i1⟩
  | .hbm, ⟨60, _⟩ => ⟨S72x5x49152, .f32⟩
  | .hbm, ⟨61, _⟩ => ⟨S72x5x49152, .f32⟩
  | .hbm, ⟨62, _⟩ => ⟨S72x4x49152, .f32⟩
  | .hbm, ⟨63, _⟩ => ⟨S288x49152, .f32⟩
  | .hbm, ⟨64, _⟩ => ⟨S72x1x49152, .f32⟩
  | .hbm, ⟨65, _⟩ => ⟨S72x49152, .f32⟩
  | .hbm, ⟨66, _⟩ => ⟨S360x49152, .f32⟩
  | .hbm, ⟨67, _⟩ => ⟨S1x49152, .f32⟩
  | .hbm, ⟨68, _⟩ => ⟨S72x1x1, .f32⟩
  | .hbm, ⟨69, _⟩ => ⟨S72x49152, .i8⟩
  | .hbm, ⟨70, _⟩ => ⟨S288x1536, .fp8e4m3⟩
  | .hbm, ⟨71, _⟩ => ⟨S288x1, .f32⟩
  | .hbm, ⟨72, _⟩ => ⟨S288x49152, .f32⟩
  | .hbm, ⟨73, _⟩ => ⟨S360x128, .f32⟩
  | .hbm, ⟨74, _⟩ => ⟨S360x128, .f32⟩
  | .hbm, ⟨75, _⟩ => ⟨S288x128, .f32⟩
  | .hbm, ⟨76, _⟩ => ⟨S288x128, .f32⟩
  | .local _ .vmem, ⟨0, _⟩ => ⟨S72x4x1536, .bf16⟩
  | .local _ .vmem, ⟨1, _⟩ => ⟨S1536x49152, .fp8e4m3⟩
  | .local _ .vmem, ⟨2, _⟩ => ⟨S1x49152, .f32⟩
  | .local _ .vmem, ⟨3, _⟩ => ⟨S72x1x1, .f32⟩
  | .local _ .vmem, ⟨4, _⟩ => ⟨S72x49152, .i8⟩
  | .local _ .vmem, ⟨5, _⟩ => ⟨S360x49152, .f32⟩
  | .local _ .vmem, ⟨6, _⟩ => ⟨S288x1536, .fp8e4m3⟩
  | .local _ .vmem, ⟨7, _⟩ => ⟨S288x1, .f32⟩
  | .local _ .vmem, ⟨8, _⟩ => ⟨S288x49152, .f32⟩
  | .local _ .vmem, ⟨9, _⟩ => ⟨S360x128, .f32⟩
  | .local _ .vmem, ⟨10, _⟩ => ⟨S360x128, .f32⟩
  | .local _ .vmem, ⟨11, _⟩ => ⟨S288x128, .f32⟩
  | .local _ .vmem, ⟨12, _⟩ => ⟨S288x128, .f32⟩
  | _, _ => ⟨S72x5x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_v49_2 : Ref sig .tc := ⟨.hbm, 72, rfl⟩
abbrev main_v49_3 : Ref sig .tc := ⟨.hbm, 73, rfl⟩
abbrev main_v49_4 : Ref sig .tc := ⟨.hbm, 74, rfl⟩
abbrev main_v49_5 : Ref sig .tc := ⟨.hbm, 75, rfl⟩
abbrev main_v49_6 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S72x4x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x49152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x49152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x49152 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S360x49152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S288x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S288x49152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S360x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S360x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S288x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S288x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Bonus.lean ====
abbrev S360x49152 : Shape := ⟨2, ![360, 49152]⟩
abbrev S360x128 : Shape := ⟨2, ![360, 128]⟩
abbrev S72x49152 : Shape := ⟨2, ![72, 49152]⟩
abbrev S8x49152 : Shape := ⟨2, ![8, 49152]⟩
abbrev S8x128 : Shape := ⟨2, ![8, 128]⟩
abbrev S8 : Shape := ⟨1, ![8]⟩
abbrev S8x1 : Shape := ⟨2, ![8, 1]⟩

abbrev nBuf : Space → Nat
  | .hbm => 4
  | .vmem => 8
  | .smem => 0
  | _ => 0

abbrev bufTy : (tb : Table) → Fin (tcTables nBuf tb) → BufTy
  | .hbm, ⟨0, _⟩ => ⟨S360x49152, .f32⟩
  | .hbm, ⟨1, _⟩ => ⟨S360x128, .f32⟩
  | .hbm, ⟨2, _⟩ => ⟨S360x128, .f32⟩
  | .hbm, ⟨3, _⟩ => ⟨S72x49152, .bf16⟩
  | .local _ .vmem, ⟨0, _⟩ => ⟨S8x49152, .f32⟩
  | .local _ .vmem, ⟨1, _⟩ => ⟨S8x49152, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x49152, .bf16⟩
  | .local _ .vmem, ⟨7, _⟩ => ⟨S8x49152, .bf16⟩
  | _, _ => ⟨S360x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x49152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x49152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BonusReferenceIdeal.lean ====
abbrev S360x49152 : Shape := ⟨2, ![360, 49152]⟩
abbrev S360x128 : Shape := ⟨2, ![360, 128]⟩
abbrev S72x49152 : Shape := ⟨2, ![72, 49152]⟩
abbrev S72x128 : Shape := ⟨2, ![72, 128]⟩
abbrev S72 : Shape := ⟨1, ![72]⟩
abbrev S72x1 : Shape := ⟨2, ![72, 1]⟩

abbrev nBuf : Space → Nat
  | .hbm => 7
  | .vmem => 4
  | .smem => 0
  | _ => 0

abbrev bufTy : (tb : Table) → Fin (tcTables nBuf tb) → BufTy
  | .hbm, ⟨0, _⟩ => ⟨S360x49152, .f32⟩
  | .hbm, ⟨1, _⟩ => ⟨S360x128, .f32⟩
  | .hbm, ⟨2, _⟩ => ⟨S360x128, .f32⟩
  | .hbm, ⟨3, _⟩ => ⟨S72x49152, .f32⟩
  | .hbm, ⟨4, _⟩ => ⟨S72x128, .f32⟩
  | .hbm, ⟨5, _⟩ => ⟨S72x128, .f32⟩
  | .hbm, ⟨6, _⟩ => ⟨S72x49152, .bf16⟩
  | .local _ .vmem, ⟨0, _⟩ => ⟨S72x49152, .f32⟩
  | .local _ .vmem, ⟨1, _⟩ => ⟨S72x128, .f32⟩
  | .local _ .vmem, ⟨2, _⟩ => ⟨S72x128, .f32⟩
  | .local _ .vmem, ⟨3, _⟩ => ⟨S72x49152, .bf16⟩
  | _, _ => ⟨S360x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S72x49152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x49152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Resid.lean ====
abbrev S72x4 : Shape := ⟨2, ![72, 4]⟩
abbrev S360x49152 : Shape := ⟨2, ![360, 49152]⟩
abbrev S288x49152 : Shape := ⟨2, ![288, 49152]⟩
abbrev S360x128 : Shape := ⟨2, ![360, 128]⟩
abbrev S288x128 : Shape := ⟨2, ![288, 128]⟩
abbrev S72x4x49152 : Shape := ⟨3, ![72, 4, 49152]⟩
abbrev S8x49152 : Shape := ⟨2, ![8, 49152]⟩
abbrev S8x128 : Shape := ⟨2, ![8, 128]⟩
abbrev S2x4x49152 : Shape := ⟨3, ![2, 4, 49152]⟩
abbrev S8 : Shape := ⟨1, ![8]⟩
abbrev S8x1 : Shape := ⟨2, ![8, 1]⟩
abbrev S8x2048 : Shape := ⟨2, ![8, 2048]⟩
abbrev S2x4x2048 : Shape := ⟨3, ![2, 4, 2048]⟩
abbrev S1x1 : Shape := ⟨2, ![1, 1]⟩

abbrev nBuf : Space → Nat
  | .hbm => 10
  | .vmem => 21
  | .smem => 1
  | _ => 0

abbrev bufTy : (tb : Table) → Fin (tcTables nBuf tb) → BufTy
  | .hbm, ⟨0, _⟩ => ⟨S360x49152, .f32⟩
  | .hbm, ⟨1, _⟩ => ⟨S288x49152, .f32⟩
  | .hbm, ⟨2, _⟩ => ⟨S360x128, .f32⟩
  | .hbm, ⟨3, _⟩ => ⟨S360x128, .f32⟩
  | .hbm, ⟨4, _⟩ => ⟨S288x128, .f32⟩
  | .hbm, ⟨5, _⟩ => ⟨S288x128, .f32⟩
  | .hbm, ⟨6, _⟩ => ⟨S72x4x49152, .bf16⟩
  | .hbm, ⟨7, _⟩ => ⟨S288x128, .f32⟩
  | .hbm, ⟨8, _⟩ => ⟨S288x128, .f32⟩
  | .hbm, ⟨9, _⟩ => ⟨S288x128, .f32⟩
  | .local _ .vmem, ⟨0, _⟩ => ⟨S8x49152, .f32⟩
  | .local _ .vmem, ⟨1, _⟩ => ⟨S8x49152, .f32⟩
  | .local _ .vmem, ⟨2, _⟩ => ⟨S8x49152, .f32⟩
  | .local _ .vmem, ⟨3, _⟩ => ⟨S8x49152, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S2x4x49152, .bf16⟩
  | .local _ .vmem, ⟨13, _⟩ => ⟨S2x4x49152, .bf16⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x49152, .f32⟩
  | .local _ .smem, ⟨0, _⟩ => ⟨S72x4, .i32⟩
  | _, _ => ⟨S360x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c24_i32 : BitVec 32 := 24#32
  let v25 : BitVec 32 := Scalar.addi c0_i32 c24_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c2048_i32 : BitVec 32 := 2048#32
  let v207 : BitVec 32 := Scalar.muli arg13 c2048_i32
  v207
def k0_off1 (k0_t1 : Fin k0_t1_loop.trips) : Fin 2 → Nat :=
  let c0_92 : Index := 0#32
  let c0_i32 : BitVec 32 := 0#32
  let c1_i32 : BitVec 32 := 1#32
  let arg13 : BitVec 32 := Scf.iv c0_i32 c1_i32 k0_t1
  let c2048_i32 : BitVec 32 := 2048#32
  let v207 : BitVec 32 := Scalar.muli arg13 c2048_i32
  let v208 : BitVec 32 := v207
  let v209 : Index := Scalar.indexCast v208
  ![0, v209.toNat]
@[reducible] def k0_t2_loop : Scf.Loop 32 :=
  let c0_i32_18 : BitVec 32 := 0#32
  let c24_i32_19 : BitVec 32 := 24#32
  let v34 : BitVec 32 := Scalar.addi c0_i32_18 c24_i32_19
  let c1_i32_20 : BitVec 32 := 1#32
  ⟨c0_i32_18, v34, c1_i32_20⟩
def k0_mult2 (k0_t2 : Fin k0_t2_loop.trips) : BitVec 32 :=
  let c0_i32_18 : BitVec 32 := 0#32
  let c1_i32_20 : BitVec 32 := 1#32
  let arg13 : BitVec 32 := Scf.iv c0_i32_18 c1_i32_20 k0_t2
  let c2048_i32 : BitVec 32 := 2048#32
  let v207 : BitVec 32 := Scalar.muli arg13 c2048_i32
  v207
def k0_off2 (k0_t2 : Fin k0_t2_loop.trips) : Fin 2 → Nat :=
  let c0_92 : Index := 0#32
  let c0_i32_18 : BitVec 32 := 0#32
  let c1_i32_20 : BitVec 32 := 1#32
  let arg13 : BitVec 32 := Scf.iv c0_i32_18 c1_i32_20 k0_t2
  let c2048_i32 : BitVec 32 := 2048#32
  let v207 : BitVec 32 := Scalar.muli arg13 c2048_i32
  let v208 : BitVec 32 := v207
  let v209 : Index := Scalar.indexCast v208
  ![0, v209.toNat]
def k0_off3 (k0_t2 : Fin k0_t2_loop.trips) : Fin 3 → Nat :=
  let c0_93 : Index := 0#32
  let c0_94 : Index := 0#32
  let c0_i32_18 : BitVec 32 := 0#32
  let c1_i32_20 : BitVec 32 := 1#32
  let arg13 : BitVec 32 := Scf.iv c0_i32_18 c1_i32_20 k0_t2
  let c2048_i32 : BitVec 32 := 2048#32
  let v207 : BitVec 32 := Scalar.muli arg13 c2048_i32
  let v208 : BitVec 32 := v207
  let v215 : Index := Scalar.indexCast v208
  ![0, 0, v215.toNat]
def k0_off4 (i : grid0.Coords) : Fin 2 → Nat :=
  let c2_i32 : BitVec 32 := 2#32
  let arg0 : BitVec 32 := BitVec.ofNat 32 (i 0).val
  let v39 : BitVec 32 := Scalar.muli c2_i32 arg0
  let c0_i32_24 : BitVec 32 := 0#32
  let v40 : BitVec 32 := Scalar.addi v39 c0_i32_24
  let v41 : Index := Scalar.indexCast v40
  let c0_25 : Index := 0#32
  ![v41.toNat, 0]
def k0_mult3 (v42 : BitVec 32) : BitVec 32 :=
  let c7_i32 : BitVec 32 := 7#32
  let v43 : BitVec 32 := Scalar.shrsi v42 c7_i32
  let c7_i32_26 : BitVec 32 := 7#32
  let v44 : BitVec 32 := Scalar.shli v43 c7_i32_26
  v44

def k0_off5 (v42 : BitVec 32) : Fin 2 → Nat :=
  let c0_28 : Index := 0#32
  let c7_i32 : BitVec 32 := 7#32
  let v43 : BitVec 32 := Scalar.shrsi v42 c7_i32
  let c7_i32_26 : BitVec 32 := 7#32
  let v44 : BitVec 32 := Scalar.shli v43 c7_i32_26
  let v45 : BitVec 32 := v44
  let v52 : Index := Scalar.indexCast v45
  ![0, v52.toNat]

def k0_chk1 (v42 : BitVec 32) : Prop :=
  (128 ∣ (k0_mult3 v42).toNat) ∧
  (∀ a, (k0_off5 v42) a + S8x128.size a ≤ S8x49152.size a)
theorem k0_mult3_dvd : ∀ (v42 : BitVec 32) (k0_hw1 : k0_chk1 v42), 128 ∣ (k0_mult3 v42).toNat := fun v42 k0_hw1 => k0_hw1.1
theorem k0_off5_inb : ∀ (v42 : BitVec 32) (k0_hw1 : k0_chk1 v42), ∀ a, (k0_off5 v42) a + S8x128.size a ≤ S8x49152.size a := fun v42 k0_hw1 => k0_hw1.2

def k0_off6 (i : grid0.Coords) : Fin 2 → Nat :=
  let c2_i32_30 : BitVec 32 := 2#32
  let arg0 : BitVec 32 := BitVec.ofNat 32 (i 0).val
  let v58 : BitVec 32 := Scalar.muli c2_i32_30 arg0
  let c0_i32_31 : BitVec 32 := 0#32
  let v59 : BitVec 32 := Scalar.addi v58 c0_i32_31
  let v60 : Index := Scalar.indexCast v59
  let c1 : Index := 1#32
  ![v60.toNat, 1]
def k0_mult4 (v61 : BitVec 32) : BitVec 32 :=
  let c7_i32_32 : BitVec 32 := 7#32
  let v62 : BitVec 32 := Scalar.shrsi v61 c7_i32_32
  let c7_i32_33 : BitVec 32 := 7#32
  let v63 : BitVec 32 := Scalar.shli v62 c7_i32_33
  v63

def k0_off7 (v61 : BitVec 32) : Fin 2 → Nat :=
  let c0_36 : Index := 0#32
  let c7_i32_32 : BitVec 32 := 7#32
  let v62 : BitVec 32 := Scalar.shrsi v61 c7_i32_32
  let c7_i32_33 : BitVec 32 := 7#32
  let v63 : BitVec 32 := Scalar.shli v62 c7_i32_33
  let v64 : BitVec 32 := v63
  let v71 : Index := Scalar.indexCast v64
  ![0, v71.toNat]

def k0_chk2 (v61 : BitVec 32) : Prop :=
  (128 ∣ (k0_mult4 v61).toNat) ∧
  (∀ a, (k0_off7 v61) a + S8x128.size a ≤ S8x49152.size a)
theorem k0_mult4_dvd : ∀ (v61 : BitVec 32) (k0_hw2 : k0_chk2 v61), 128 ∣ (k0_mult4 v61).toNat := fun v61 k0_hw2 => k0_hw2.1
theorem k0_off7_inb : ∀ (v61 : BitVec 32) (k0_hw2 : k0_chk2 v61), ∀ a, (k0_off7 v61) a + S8x128.size a ≤ S8x49152.size a := fun v61 k0_hw2 => k0_hw2.2

def k0_off8 (i : grid0.Coords) : Fin 2 → Nat :=
  let c2_i32_38 : BitVec 32 := 2#32
  let arg0 : BitVec 32 := BitVec.ofNat 32 (i 0).val
  let v77 : BitVec 32 := Scalar.muli c2_i32_38 arg0
  let c0_i32_39 : BitVec 32 := 0#32
  let v78 : BitVec 32 := Scalar.addi v77 c0_i32_39
  let v79 : Index := Scalar.indexCast v78
  let c2 : Index := 2#32
  ![v79.toNat, 2]
def k0_mult5 (v80 : BitVec 32) : BitVec 32 :=
  let c7_i32_40 : BitVec 32 := 7#32
  let v81 : BitVec 32 := Scalar.shrsi v80 c7_i32_40
  let c7_i32_41 : BitVec 32 := 7#32
  let v82 : BitVec 32 := Scalar.shli v81 c7_i32_41
  v82

def k0_off9 (v80 : BitVec 32) : Fin 2 → Nat :=
  let c0_44 : Index := 0#32
  let c7_i32_40 : BitVec 32 := 7#32
  let v81 : BitVec 32 := Scalar.shrsi v80 c7_i32_40
  let c7_i32_41 : BitVec 32 := 7#32
  let v82 : BitVec 32 := Scalar.shli v81 c7_i32_41
  let v83 : BitVec 32 := v82
  let v90 : Index := Scalar.indexCast v83
  ![0, v90.toNat]

def k0_chk3 (v80 : BitVec 32) : Prop :=
  (128 ∣ (k0_mult5 v80).toNat) ∧
  (∀ a, (k0_off9 v80) a + S8x128.size a ≤ S8x49152.size a)
theorem k0_mult5_dvd : ∀ (v80 : BitVec 32) (k0_hw3 : k0_chk3 v80), 128 ∣ (k0_mult5 v80).toNat := fun v80 k0_hw3 => k0_hw3.1
theorem k0_off9_inb : ∀ (v80 : BitVec 32) (k0_hw3 : k0_chk3 v80), ∀ a, (k0_off9 v80) a + S8x128.size a ≤ S8x49152.size a := fun v80 k0_hw3 => k0_hw3.2

def k0_off10 (i : grid0.Coords) : Fin 2 → Nat :=
  let c2_i32_46 : BitVec 32 := 2#32
  let arg0 : BitVec 32 := BitVec.ofNat 32 (i 0).val
  let v96 : BitVec 32 := Scalar.muli c2_i32_46 arg0
  let c0_i32_47 : BitVec 32 := 0#32
  let v97 : BitVec 32 := Scalar.addi v96 c0_i32_47
  let v98 : Index := Scalar.indexCast v97
  let c3 : Index := 3#32
  ![v98.toNat, 3]
def k0_mult6 (v99 : BitVec 32) : BitVec 32 :=
  let c7_i32_48 : BitVec 32 := 7#32
  let v100 : BitVec 32 := Scalar.shrsi v99 c7_i32_48
  let c7_i32_49 : BitVec 32 := 7#32
  let v101 : BitVec 32 := Scalar.shli v100 c7_i32_49
  v101

def k0_off11 (v99 : BitVec 32) : Fin 2 → Nat :=
  let c0_51 : Index := 0#32
  let c7_i32_48 : BitVec 32 := 7#32
  let v100 : BitVec 32 := Scalar.shrsi v99 c7_i32_48
  let c7_i32_49 : BitVec 32 := 7#32
  let v101 : BitVec 32 := Scalar.shli v100 c7_i32_49
  let v102 : BitVec 32 := v101
  let v109 : Index := Scalar.indexCast v102
  ![0, v109.toNat]

def k0_chk4 (v99 : BitVec 32) : Prop :=
  (128 ∣ (k0_mult6 v99).toNat) ∧
  (∀ a, (k0_off11 v99) a + S8x128.size a ≤ S8x49152.size a)
theorem k0_mult6_dvd : ∀ (v99 : BitVec 32) (k0_hw4 : k0_chk4 v99), 128 ∣ (k0_mult6 v99).toNat := fun v99 k0_hw4 => k0_hw4.1
theorem k0_off11_inb : ∀ (v99 : BitVec 32) (k0_hw4 : k0_chk4 v99), ∀ a, (k0_off11 v99) a + S8x128.size a ≤ S8x49152.size a := fun v99 k0_hw4 => k0_hw4.2

def k0_off12 (i : grid0.Coords) : Fin 2 → Nat :=
  let c2_i32_53 : BitVec 32 := 2#32
  let arg0 : BitVec 32 := BitVec.ofNat 32 (i 0).val
  let v115 : BitVec 32 := Scalar.muli c2_i32_53 arg0
  let c1_i32_54 : BitVec 32 := 1#32
  let v116 : BitVec 32 := Scalar.addi v115 c1_i32_54
  let v117 : Index := Scalar.indexCast v116
  let c0_55 : Index := 0#32
  ![v117.toNat, 0]
def k0_mult7 (v118 : BitVec 32) : BitVec 32 :=
  let c7_i32_56 : BitVec 32 := 7#32
  let v119 : BitVec 32 := Scalar.shrsi v118 c7_i32_56
  let c7_i32_57 : BitVec 32 := 7#32
  let v120 : BitVec 32 := Scalar.shli v119 c7_i32_57
  v120

def k0_off13 (v118 : BitVec 32) : Fin 2 → Nat :=
  let c0_59 : Index := 0#32
  let c7_i32_56 : BitVec 32 := 7#32
  let v119 : BitVec 32 := Scalar.shrsi v118 c7_i32_56
  let c7_i32_57 : BitVec 32 := 7#32
  let v120 : BitVec 32 := Scalar.shli v119 c7_i32_57
  let v121 : BitVec 32 := v120
  let v128 : Index := Scalar.indexCast v121
  ![0, v128.toNat]

def k0_chk5 (v118 : BitVec 32) : Prop :=
  (128 ∣ (k0_mult7 v118).toNat) ∧
  (∀ a, (k0_off13 v118) a + S8x128.size a ≤ S8x49152.size a)
theorem k0_mult7_dvd : ∀ (v118 : BitVec 32) (k0_hw5 : k0_chk5 v118), 128 ∣ (k0_mult7 v118).toNat := fun v118 k0_hw5 => k0_hw5.1
theorem k0_off13_inb : ∀ (v118 : BitVec 32) (k0_hw5 : k0_chk5 v118), ∀ a, (k0_off13 v118) a + S8x128.size a ≤ S8x49152.size a := fun v118 k0_hw5 => k0_hw5.2

def k0_off14 (i : grid0.Coords) : Fin 2 → Nat :=
  let c2_i32_61 : BitVec 32 := 2#32
  let arg0 : BitVec 32 := BitVec.ofNat 32 (i 0).val
  let v134 : BitVec 32 := Scalar.muli c2_i32_61 arg0
  let c1_i32_62 : BitVec 32 := 1#32
  let v135 : BitVec 32 := Scalar.addi v134 c1_i32_62
  let v136 : Index := Scalar.indexCast v135
  let c1_63 : Index := 1#32
  ![v136.toNat, 1]
def k0_mult8 (v137 : BitVec 32) : BitVec 32 :=
  let c7_i32_64 : BitVec 32 := 7#32
  let v138 : BitVec 32 := Scalar.shrsi v137 c7_i32_64
  let c7_i32_65 : BitVec 32 := 7#32
  let v139 : BitVec 32 := Scalar.shli v138 c7_i32_65
  v139

def k0_off15 (v137 : BitVec 32) : Fin 2 → Nat :=
  let c0_67 : Index := 0#32
  let c7_i32_64 : BitVec 32 := 7#32
  let v138 : BitVec 32 := Scalar.shrsi v137 c7_i32_64
  let c7_i32_65 : BitVec 32 := 7#32
  let v139 : BitVec 32 := Scalar.shli v138 c7_i32_65
  let v140 : BitVec 32 := v139
  let v147 : Index := Scalar.indexCast v140
  ![0, v147.toNat]

def k0_chk6 (v137 : BitVec 32) : Prop :=
  (128 ∣ (k0_mult8 v137).toNat) ∧
  (∀ a, (k0_off15 v137) a + S8x128.size a ≤ S8x49152.size a)
theorem k0_mult8_dvd : ∀ (v137 : BitVec 32) (k0_hw6 : k0_chk6 v137), 128 ∣ (k0_mult8 v137).toNat := fun v137 k0_hw6 => k0_hw6.1
theorem k0_off15_inb : ∀ (v137 : BitVec 32) (k0_hw6 : k0_chk6 v137), ∀ a, (k0_off15 v137) a + S8x128.size a ≤ S8x49152.size a := fun v137 k0_hw6 => k0_hw6.2

def k0_off16 (i : grid0.Coords) : Fin 2 → Nat :=
  let c2_i32_69 : BitVec 32 := 2#32
  let arg0 : BitVec 32 := BitVec.ofNat 32 (i 0).val
  let v153 : BitVec 32 := Scalar.muli c2_i32_69 arg0
  let c1_i32_70 : BitVec 32 := 1#32
  let v154 : BitVec 32 := Scalar.addi v153 c1_i32_70
  let v155 : Index := Scalar.indexCast v154
  let c2_71 : Index := 2#32
  ![v155.toNat, 2]
def k0_mult9 (v156 : BitVec 32) : BitVec 32 :=
  let c7_i32_72 : BitVec 32 := 7#32
  let v157 : BitVec 32 := Scalar.shrsi v156 c7_i32_72
  let c7_i32_73 : BitVec 32 := 7#32
  let v158 : BitVec 32 := Scalar.shli v157 c7_i32_73
  v158

def k0_off17 (v156 : BitVec 32) : Fin 2 → Nat :=
  let c0_75 : Index := 0#32
  let c7_i32_72 : BitVec 32 := 7#32
  let v157 : BitVec 32 := Scalar.shrsi v156 c7_i32_72
  let c7_i32_73 : BitVec 32 := 7#32
  let v158 : BitVec 32 := Scalar.shli v157 c7_i32_73
  let v159 : BitVec 32 := v158
  let v166 : Index := Scalar.indexCast v159
  ![0, v166.toNat]

def k0_chk7 (v156 : BitVec 32) : Prop :=
  (128 ∣ (k0_mult9 v156).toNat) ∧
  (∀ a, (k0_off17 v156) a + S8x128.size a ≤ S8x49152.size a)
theorem k0_mult9_dvd : ∀ (v156 : BitVec 32) (k0_hw7 : k0_chk7 v156), 128 ∣ (k0_mult9 v156).toNat := fun v156 k0_hw7 => k0_hw7.1
theorem k0_off17_inb : ∀ (v156 : BitVec 32) (k0_hw7 : k0_chk7 v156), ∀ a, (k0_off17 v156) a + S8x128.size a ≤ S8x49152.size a := fun v156 k0_hw7 => k0_hw7.2

def k0_off18 (i : grid0.Coords) : Fin 2 → Nat :=
  let c2_i32_77 : BitVec 32 := 2#32
  let arg0 : BitVec 32 := BitVec.ofNat 32 (i 0).val
  let v172 : BitVec 32 := Scalar.muli c2_i32_77 arg0
  let c1_i32_78 : BitVec 32 := 1#32
  let v173 : BitVec 32 := Scalar.addi v172 c1_i32_78
  let v174 : Index := Scalar.indexCast v173
  let c3_79 : Index := 3#32
  ![v174.toNat, 3]
def k0_mult10 (v175 : BitVec 32) : BitVec 32 :=
  let c7_i32_80 : BitVec 32 := 7#32
  let v176 : BitVec 32 := Scalar.shrsi v175 c7_i32_80
  let c7_i32_81 : BitVec 32 := 7#32
  let v177 : BitVec 32 := Scalar.shli v176 c7_i32_81
  v177

def k0_off19 (v175 : BitVec 32) : Fin 2 → Nat :=
  let c0_84 : Index := 0#32
  let c7_i32_80 : BitVec 32 := 7#32
  let v176 : BitVec 32 := Scalar.shrsi v175 c7_i32_80
  let c7_i32_81 : BitVec 32 := 7#32
  let v177 : BitVec 32 := Scalar.shli v176 c7_i32_81
  let v178 : BitVec 32 := v177
  let v185 : Index := Scalar.indexCast v178
  ![0, v185.toNat]

def k0_chk8 (v175 : BitVec 32) : Prop :=
  (128 ∣ (k0_mult10 v175).toNat) ∧
  (∀ a, (k0_off19 v175) a + S8x128.size a ≤ S8x49152.size a)
theorem k0_mult10_dvd : ∀ (v175 : BitVec 32) (k0_hw8 : k0_chk8 v175), 128 ∣ (k0_mult10 v175).toNat := fun v175 k0_hw8 => k0_hw8.1
theorem k0_off19_inb : ∀ (v175 : BitVec 32) (k0_hw8 : k0_chk8 v175), ∀ a, (k0_off19 v175) a + S8x128.size a ≤ S8x49152.size a := fun v175 k0_hw8 => k0_hw8.2

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x49152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x49152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x49152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ResidReferenceIdeal.lean ====
abbrev S72x4 : Shape := ⟨2, ![72, 4]⟩
abbrev S360x49152 : Shape := ⟨2, ![360, 49152]⟩
abbrev S288x49152 : Shape := ⟨2, ![288, 49152]⟩
abbrev S360x128 : Shape := ⟨2, ![360, 128]⟩
abbrev S288x128 : Shape := ⟨2, ![288, 128]⟩
abbrev S288 : Shape := ⟨1, ![288]⟩
abbrev S288x1 : Shape := ⟨2, ![288, 1]⟩
abbrev S_ : Shape := ⟨0, ![]⟩
abbrev S288x1x1 : Shape := ⟨3, ![288, 1, 1]⟩
abbrev S1 : Shape := ⟨1, ![1]⟩
abbrev S1x1x1 : Shape := ⟨3, ![1, 1, 1]⟩

abbrev nBuf : Space → Nat
  | .hbm => 60
  | .vmem => 9
  | .smem => 0
  | _ => 0

abbrev bufTy : (tb : Table) → Fin (tcTables nBuf tb) → BufTy
  | .hbm, ⟨0, _⟩ => ⟨S72x4, .i32⟩
  | .hbm, ⟨1, _⟩ => ⟨S360x49152, .f32⟩
  | .hbm, ⟨2, _⟩ => ⟨S288x49152, .f32⟩
  | .hbm, ⟨3, _⟩ => ⟨S360x128, .f32⟩
  | .hbm, ⟨4, _⟩ => ⟨S360x128, .f32⟩
  | .hbm, ⟨5, _⟩ => ⟨S288x128, .f32⟩
  | .hbm, ⟨6, _⟩ => ⟨S288x128, .f32⟩
  | .hbm, ⟨7, _⟩ => ⟨S288x49152, .f32⟩
  | .hbm, ⟨8, _⟩ => ⟨S288x128, .f32⟩
  | .hbm, ⟨9, _⟩ => ⟨S288x128, .f32⟩
  | .hbm, ⟨10, _⟩ => ⟨S288x128, .f32⟩
  | .hbm, ⟨11, _⟩ => ⟨S288x49152, .f32⟩
  | .hbm, ⟨12, _⟩ => ⟨S288x49152, .f32⟩
  | .hbm, ⟨13, _⟩ => ⟨S288x1, .i32⟩
  | .hbm, ⟨14, _⟩ => ⟨S_, .i32⟩
  | .hbm, ⟨15, _⟩ => ⟨S288x1, .i32⟩
  | .hbm, ⟨16, _⟩ => ⟨S288x1, .i1⟩
  | .hbm, ⟨17, _⟩ => ⟨S_, .i32⟩
  | .hbm, ⟨18, _⟩ => ⟨S288x1, .i32⟩
  | .hbm, ⟨19, _⟩ => ⟨S288x1, .i32⟩
  | .hbm, ⟨20, _⟩ => ⟨S288x1, .i32⟩
  | .hbm, ⟨21, _⟩ => ⟨S288x1x1, .i32⟩
  | .hbm, ⟨22, _⟩ => ⟨S1, .i32⟩
  | .hbm, ⟨23, _⟩ => ⟨S_, .i32⟩
  | .hbm, ⟨24, _⟩ => ⟨S288x1x1, .i32⟩
  | .hbm, ⟨25, _⟩ => ⟨S288x1x1, .i1⟩
  | .hbm, ⟨26, _⟩ => ⟨S1x1x1, .i32⟩
  | .hbm, ⟨27, _⟩ => ⟨S288x1x1, .i32⟩
  | .hbm, ⟨28, _⟩ => ⟨S288x1x1, .i1⟩
  | .hbm, ⟨29, _⟩ => ⟨S288x1x1, .i1⟩
  | .hbm, ⟨30, _⟩ => ⟨S_, .i1⟩
  | .hbm, ⟨31, _⟩ => ⟨S288x1, .i1⟩
  | .hbm, ⟨32, _⟩ => ⟨S288x1, .f32⟩
  | .hbm, ⟨33, _⟩ => ⟨S_, .f32⟩
  | .hbm, ⟨34, _⟩ => ⟨S288x1, .f32⟩
  | .hbm, ⟨35, _⟩ => ⟨S288x1, .f32⟩
  | .hbm, ⟨36, _⟩ => ⟨S_, .i32⟩
  | .hbm, ⟨37, _⟩ => ⟨S288x1, .i32⟩
  | .hbm, ⟨38, _⟩ => ⟨S288x1, .i1⟩
  | .hbm, ⟨39, _⟩ => ⟨S_, .i32⟩
  | .hbm, ⟨40, _⟩ => ⟨S288x1, .i32⟩
  | .hbm, ⟨41, _⟩ => ⟨S288x1, .i32⟩
  | .hbm, ⟨42, _⟩ => ⟨S288x1, .i32⟩
  | .hbm, ⟨43, _⟩ => ⟨S288x1x1, .i32⟩
  | .hbm, ⟨44, _⟩ => ⟨S1, .i32⟩
  | .hbm, ⟨45, _⟩ => ⟨S_, .i32⟩
  | .hbm, ⟨46, _⟩ => ⟨S288x1x1, .i32⟩
  | .hbm, ⟨47, _⟩ => ⟨S288x1x1, .i1⟩
  | .hbm, ⟨48, _⟩ => ⟨S1x1x1, .i32⟩
  | .hbm, ⟨49, _⟩ => ⟨S288x1x1, .i32⟩
  | .hbm, ⟨50, _⟩ => ⟨S288x1x1, .i1⟩
  | .hbm, ⟨51, _⟩ => ⟨S288x1x1, .i1⟩
  | .hbm, ⟨52, _⟩ => ⟨S_, .i1⟩
  | .hbm, ⟨53, _⟩ => ⟨S288x1, .i1⟩
  | .hbm, ⟨54, _⟩ => ⟨S288x1, .f32⟩
  | .hbm, ⟨55, _⟩ => ⟨S_, .f32⟩
  | .hbm, ⟨56, _⟩ => ⟨S288x1, .f32⟩
  | .hbm, ⟨57, _⟩ => ⟨S288x1, .f32⟩
  | .hbm, ⟨58, _⟩ => ⟨S288x128, .f32⟩
  | .hbm, ⟨59, _⟩ => ⟨S288x128, .f32⟩
  | .local _ .vmem, ⟨0, _⟩ => ⟨S288x49152, .f32⟩
  | .local _ .vmem, ⟨1, _⟩ => ⟨S288x49152, .f32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x49152, .f32⟩
  | .local _ .vmem, ⟨8, _⟩ => ⟨S288x49152, .f32⟩
  | _, _ => ⟨S72x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v5 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S288x49152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x49152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S288x49152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S288x49152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.PrintedPrep.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The body's `pl.when` condition: the first grid step. -/
abbrev cond0_0 (i : grid0.Coords) : Prop := (Scalar.cmpi .ne (Scalar.extui (Scalar.cmpi .eq (BitVec.ofNat 32 (i 0).val) 0#32)) 0#32) = 1#1
/-! ## What one grid step computes, as functions of the blocks it reads -/

/-- The draft hidden states' quantised codes, one row per drafted token. -/
def codesOf (h : Vec F S72x4x1536 .bf16) : Vec F S288x1536 .fp8e4m3 := k0_pay8 (k0_pay4 h) (k0_pay6 h) k0_pay7
/-- The draft hidden states' scales, one per drafted token. -/
def hdsOf (h : Vec F S72x4x1536 .bf16) : Vec F S288x1 .f32 := k0_pay9 (F := F) (k0_pay5 h)
/-- The target hidden states laid out by rows: the drafted positions first, then each sequence's bonus position. -/
def xsOf (x : Vec F S72x5x6144 .bf16) : Vec F S360x6144 .bf16 := fun p =>
  if h : (p 0).val < 288 then k0_pay10 x (ix2 ⟨(p 0).val, h⟩ (p 1))
  else k0_pay11 x (ix2 ⟨(p 0).val - 288, by have : (p 0).val < 360 := (p 0).isLt; omega⟩ (p 1))
/-- The sequence a row belongs to. -/
def seqOf (r : ℕ) : ℕ := if r < 288 then r / 4 else r - 288
/-- The place of sequence `n` in the table of temperatures. -/
abbrev at72 (n : ℕ) : S72.Idx := ValueIdx.ix1 (⟨n % 72, Nat.mod_lt _ (by decide)⟩ : Fin 72)
/-- `log2 e` over one temperature. -/
def recipT (t : Elt F .f32) : Elt F .f32 := k0_pay12 (F := F) t (ix2 0 0)
/-- The factor of each row of target logits: `log2 e` over the row's temperature, in every lane. -/
def ctOf (t : Vec F S72 .f32) : Vec F S360x128 .f32 := fun p => recipT (t (at72 (seqOf (p 0).val)))
/-- The factor of each row of draft logits: the target factor times the row's scale. -/
def cdOf (t : Vec F S72 .f32) (h : Vec F S72x4x1536 .bf16) : Vec F S288x128 .f32 :=
  k0_pay239 (fun j => ctOf t (ix2 ⟨(j 0).val, by have : (j 0).val < 288 := (j 0).isLt; omega⟩ (j 1))) (hdsOf h)
/-- One block of masked, scaled target logits. -/
def ltOf (w : Vec F S3072x512 .i8) (ws : Vec F S48x512 .f32) (al : Vec F S72x512 .i8) (xs : Vec F S360x6144 .bf16) (ct : Vec F S360x128 .f32) : Vec F S360x512 .f32 :=
  k0_pay247 (k0_pay244 w ws xs) al ct ct ct ct
/-- One block of masked, scaled draft logits. -/
def ldOf (w : Vec F S1536x512 .fp8e4m3) (ws : Vec F S1x512 .f32) (al : Vec F S72x512 .i8) (codes : Vec F S288x1536 .fp8e4m3) (cd : Vec F S288x128 .f32) : Vec F S288x512 .f32 :=
  k0_pay250 (k0_pay248 (F := F) al) (k0_pay249 (k0_pay245 codes w) cd cd cd cd) ws

/-! ## The 144 row stores of the logits' factor -/

/-- A scalar load of the temperatures reads the sequence's temperature. -/
theorem readAt_temp (arg1 : Memref sig .tc .smem S72 .f32) (harg1 : arg1.IsWhole) (t : Vec F S72 .f32) (n : ℕ) (hn : n < 72)
    (inb : ∀ a, ![n] a + S1.size a ≤ S72.size a) (j : (Rect.unit (s := S72) ![n] S1.size inb).shape.Idx) :
    View.readAt (Elt F) arg1.view (Rect.unit (s := S72) ![n] S1.size inb).toLoadRect (harg1.unread t) j = t (at72 n) := by
  rw [View.readAt_apply, harg1.read_unread]
  congr 1
  funext a
  have ha : a = 0 := Subsingleton.elim _ _
  subst ha
  refine Fin.ext ?_
  have hj : (j 0).val < 1 := (j 0).isLt
  have e : (((Rect.unit (s := S72) ![n] S1.size inb).toLoadRect.idx j) 0).val = n + 1 * (j 0).val := rfl
  rw [e]
  have e2 : (at72 n 0).val = n % 72 := rfl
  rw [e2, Nat.mod_eq_of_lt hn]; omega

/-- A four-row store of one sequence's factor holds `ctOf` at the rows it covers. -/
theorem piece4 (arg1 : Memref sig .tc .smem S72 .f32) (harg1 : arg1.IsWhole) (t : Vec F S72 .f32) (o : ℕ) (inb : ∀ a, ![o, 0] a + S4x128.size a ≤ S360x128.size a) (w : S4x128.Idx → Elt F .f32)
    (h0 : o % 4 = 0) (h1 : o + 4 ≤ 288) (inb' : ∀ a, ![o / 4] a + S1.size a ≤ S72.size a) (j : S1.Idx)
    (hw : ∀ x, w x = recipT (View.readAt (Elt F) arg1.view (Rect.unit (s := S72) ![o / 4] S1.size inb').toLoadRect (harg1.unread t) j))
    (x : (Rect.unit (s := S360x128) ![o, 0] S4x128.size inb).shape.Idx) :
    w x = ctOf t ((Rect.unit (s := S360x128) ![o, 0] S4x128.size inb).emb x) := by
  rw [hw x, readAt_temp arg1 harg1 t _ (by omega)]
  have hx : (x 0).val < 4 := (x 0).isLt
  have e : ((Rect.unit (s := S360x128) ![o, 0] S4x128.size inb).emb x 0).val = o + 1 * (x 0).val := rfl
  have e' : seqOf ((Rect.unit (s := S360x128) ![o, 0] S4x128.size inb).emb x 0).val = o / 4 := by
    rw [e]; unfold seqOf; split <;> omega
  unfold ctOf
  rw [e']

/-- A one-row store of one sequence's factor holds `ctOf` at the row it covers. -/
theorem piece1 (arg1 : Memref sig .tc .smem S72 .f32) (harg1 : arg1.IsWhole) (t : Vec F S72 .f32) (o : ℕ) (inb : ∀ a, ![o, 0] a + S1x128.size a ≤ S360x128.size a) (w : S1x128.Idx → Elt F .f32)
    (h1 : 288 ≤ o) (h2 : o < 360) (inb' : ∀ a, ![o - 288] a + S1.size a ≤ S72.size a) (j : S1.Idx)
    (hw : ∀ x, w x = recipT (View.readAt (Elt F) arg1.view (Rect.unit (s := S72) ![o - 288] S1.size inb').toLoadRect (harg1.unread t) j))
    (x : (Rect.unit (s := S360x128) ![o, 0] S1x128.size inb).shape.Idx) :
    w x = ctOf t ((Rect.unit (s := S360x128) ![o, 0] S1x128.size inb).emb x) := by
  rw [hw x, readAt_temp arg1 harg1 t _ (by omega)]
  have hx : (x 0).val < 1 := (x 0).isLt
  have e : ((Rect.unit (s := S360x128) ![o, 0] S1x128.size inb).emb x 0).val = o + 1 * (x 0).val := rfl
  have e' : seqOf ((Rect.unit (s := S360x128) ![o, 0] S1x128.size inb).emb x 0).val = o - 288 := by
    rw [e]; unfold seqOf; split <;> omega
  unfold ctOf
  rw [e']

set_option maxHeartbeats 8000000 in
/-- The first grid step's prologue: it quantises the draft hidden states, lays out the target hidden states, tabulates the
    factors and resets the running maxima and sums; then the two products of the step. -/
theorem prep_run (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (E : Set ℕ) (K : _ → sProp 𝕄) :
   iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare k0_pay240 ∗ owns (c : Thread nD τ) arg12 fullShare k0_pay242 ∗ owns (c : Thread nD τ) arg13 fullShare k0_pay241 ∗ owns (c : Thread nD τ) arg14 fullShare k0_pay243 ∗ owns (c : Thread nD τ) arg15 fullShare (codesOf x4) ∗ owns (c : Thread nD τ) arg16 fullShare (hdsOf x4) ∗ owns (c : Thread nD τ) arg17 fullShare (xsOf x1) ∗ owns (c : Thread nD τ) arg18 fullShare (ctOf x0) ∗ owns (c : Thread nD τ) arg19 fullShare (cdOf x0 x4)) -∗ K ⟨k0_pay244 x2 x3 (xsOf x1), k0_pay245 (codesOf x4) x5⟩)) ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold k0_part26_skel
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec (disch := first | sl_exact hc0)
    have hx : View.readAt (Elt F) arg5.view (Rect.unit (s := S72x4x1536) ![0, 0, 0] S72x4x1536.size inb_S72x4x1536_S72x4x1536_0_0_0).toLoadRect (harg5.unread x4) = x4 := by
      rw [View.readAt_full, harg5.read_unread]
    have e15 : ∀ f, View.read (Elt F) arg15.view (arg15.view.writes (Elt F) f (prep_run.sl.H15_1 c arg5 harg5 x4)) = codesOf x4 := by
      intro f; unfold prep_run.sl.H15_1
      rw [View.read_writes_full]
      exact Eq.trans (b := codesOf (View.readAt (Elt F) arg5.view (Rect.unit (s := S72x4x1536) ![0, 0, 0] S72x4x1536.size inb_S72x4x1536_S72x4x1536_0_0_0).toLoadRect (harg5.unread x4))) rfl (congrArg codesOf hx)
    have e16' : k0_pay9 (F := F) (prep_run.sl.r_1 c arg5 harg5 x4) = hdsOf x4 :=
      Eq.trans (b := hdsOf (View.readAt (Elt F) arg5.view (Rect.unit (s := S72x4x1536) ![0, 0, 0] S72x4x1536.size inb_S72x4x1536_S72x4x1536_0_0_0).toLoadRect (harg5.unread x4))) rfl (congrArg hdsOf hx)
    have e16 : ∀ f, View.read (Elt F) arg16.view (arg16.view.writes (Elt F) f (prep_run.sl.H16_1 c arg5 harg5 x4)) = hdsOf x4 := by
      intro f; unfold prep_run.sl.H16_1
      rw [View.read_writes_full]
      exact e16'
    have e17 : ∀ f, View.read (Elt F) arg17.view (arg17.view.writes (Elt F) f (prep_run.sl.H17_2 c arg2 harg2 x1)) = xsOf x1 := by
      intro f; unfold prep_run.sl.H17_2
      rw [View.readAt_full, harg2.read_unread]
      funext y
      unfold xsOf
      have h0 : (y 0).val < 360 := (y 0).isLt
      split
      · rename_i h
        rw [View.read_writes_cons_miss_of_axis (y := y) (a := 0) (o := 288) (n := 72)]
        rw [View.read_writes_cons_hit_of_coords (x := ix2 ⟨(y 0).val, h⟩ (y 1))]
        all_goals first
          | rfl
          | exact Or.inl h
          | (intro a; fin_cases a
             · show (y 0).val = 0 + 1 * (y 0).val; omega
             · show (y 1).val = 0 + 1 * (y 1).val; omega)
      · rename_i h
        rw [View.read_writes_cons_hit_of_coords (x := ix2 ⟨(y 0).val - 288, by omega⟩ (y 1))]
        · rfl
        intro a; fin_cases a
        · show (y 0).val = 288 + 1 * ((y 0).val - 288); omega
        · show (y 1).val = 0 + 1 * (y 1).val; omega
    have e18 : ∀ f, View.read (Elt F) arg18.view (arg18.view.writes (Elt F) f (prep_run.sl.H18_144 c arg1 harg1 x0)) = ctOf x0 := by
      intro f; funext y
      refine View.read_writes_apply_of_pieces _ _ (ctOf x0) _ ?_ y (View.cover_of_tiledBy _ ![1, 128] (by sl_kernel_rfl) y)
      unfold prep_run.sl.H18_144
      simp only [List.forall_mem_cons]
      repeat' apply And.intro
      all_goals first
        | exact piece1 arg1 harg1 x0 _ _ _ (by decide) (by decide) (by decide) _ (fun x => rfl)
        | exact piece4 arg1 harg1 x0 _ _ _ (by decide) (by decide) (by decide) _ (fun x => rfl)
        | exact fun _ h => absurd h List.not_mem_nil
    have r18 : prep_run.sl.v1016 c arg1 harg1 arg18 x0 = (fun j => ctOf x0 (ix2 ⟨(j 0).val, by have : (j 0).val < 288 := (j 0).isLt; omega⟩ (j 1))) := by
      unfold prep_run.sl.v1016 View.readCov
      funext j
      rw [View.readAt_apply, e18]
      congr 1; funext a; refine Fin.ext ?_; fin_cases a
      · show 0 + 1 * (j 0).val = (j 0).val; omega
      · show 0 + 1 * (j 1).val = (j 1).val; omega
    have r16 : prep_run.sl.v1017 c arg5 harg5 arg16 x4 = hdsOf x4 := by
      unfold prep_run.sl.v1017 View.readCov
      rw [View.readAt_full, e16]
    have r17 : prep_run.sl.v32 c arg2 harg2 arg17 x1 = xsOf x1 := by
      unfold prep_run.sl.v32 View.readCov
      rw [View.readAt_full, e17]
    have r15 : prep_run.sl.v35 c arg5 harg5 arg15 x4 = codesOf x4 := by
      unfold prep_run.sl.v35 View.readCov
      rw [View.readAt_full, e15]
    rw [r15, r17, View.readAt_full, View.readAt_full, View.readAt_full, harg3.read_unread, harg4.read_unread, harg6.read_unread]
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H11]
    · iexists _; isplitr; swap; · iexact H11
      ipureintro; exact View.read_writes_full _ _ _ _ _
    isplitl [H12]
    · iexists _; isplitr; swap; · iexact H12
      ipureintro; exact View.read_writes_full _ _ _ _ _
    isplitl [H13]
    · iexists _; isplitr; swap; · iexact H13
      ipureintro; exact View.read_writes_full _ _ _ _ _
    isplitl [H14]
    · iexists _; isplitr; swap; · iexact H14
      ipureintro; exact View.read_writes_full _ _ _ _ _
    isplitl [H15]
    · iexists _; isplitr; swap; · iexact H15
      ipureintro; exact e15 _
    isplitl [H16]
    · iexists _; isplitr; swap; · iexact H16
      ipureintro; exact e16 _
    isplitl [H17]
    · iexists _; isplitr; swap; · iexact H17
      ipureintro; exact e17 _
    isplitl [H18]
    · iexists _; isplitr; swap; · iexact H18
      ipureintro; exact e18 _
    iexists _; isplitr; swap; · iexact H19
    ipureintro; rw [View.read_writes_full, r18, r16]; rfl

end Cert.Kernel.Gen

end
-- ==== Proof.PrintedStep.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx
public import proofs.«01_k».proof.Proof.PrintedPrep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! # One grid step of the first kernel

From the state of the running maxima, running sums, codes, scales, laid-out hidden states and factors, one step leaves
the step's two blocks of logits and the updated maxima and sums. -/

set_option maxHeartbeats 8000000 in
/-- The step after its prologue, whatever the prologue started from (`R`): it leaves the two blocks of logits and updates
    the running maxima and sums. -/
theorem step_of (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (R : sProp 𝕄) (x0 : Vec F S72 .f32) (x1 : Vec F S72x5x6144 .bf16) (x2 : Vec F S3072x512 .i8) (x3 : Vec F S48x512 .f32) (x4 : Vec F S72x4x1536 .bf16) (x5 : Vec F S1536x512 .fp8e4m3) (x6 : Vec F S1x512 .f32) (x7 : Vec F S72x512 .i8) (mt : Vec F S360x128 .f32) (st : Vec F S360x128 .f32) (md : Vec F S288x128 .f32) (sd : Vec F S288x128 .f32) (codes : Vec F S288x1536 .fp8e4m3) (hds : Vec F S288x1 .f32) (xs : Vec F S360x6144 .bf16) (ct : Vec F S360x128 .f32) (cd : Vec F S288x128 .f32)
    (h26 : ∀ (E : Set ℕ) (K : _ → sProp 𝕄), iprop(R ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨k0_pay244 x2 x3 xs, k0_pay245 codes x5⟩)) ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K)
    (E : Set ℕ) (K : _ → sProp 𝕄) :
   iprop((R ∗ owns (c : Thread nD τ) arg7 fullShare x6 ∗ owns (c : Thread nD τ) arg8 fullShare x7 ∗ (∃ d, owns (c : Thread nD τ) arg9 fullShare d) ∗ (∃ d, owns (c : Thread nD τ) arg10 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ltOf x2 x3 x7 xs ct) ∗ owns (c : Thread nD τ) arg10 fullShare (ldOf x5 x6 x7 codes cd) ∗ owns (c : Thread nD τ) arg11 fullShare (k0_pay252 (ltOf x2 x3 x7 xs ct) mt) ∗ owns (c : Thread nD τ) arg12 fullShare (k0_pay253 (ltOf x2 x3 x7 xs ct) mt st) ∗ owns (c : Thread nD τ) arg13 fullShare (k0_pay2 (ldOf x5 x6 x7 codes cd) md) ∗ owns (c : Thread nD τ) arg14 fullShare (k0_pay3 (ldOf x5 x6 x7 codes cd) md sd) ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨⟩)) ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [cc0_heads_eq_skeleton]; unfold cc0_heads_skel
    simp only [k0_part27_eq_skeleton, k0_part28_eq_skeleton]
    rw [wp_bind]
    iintro ⟨⟨HR, H7, H8, H9, H10⟩, Hk⟩
    iapply (h26 E _)
    isplitl [HR]
    · iexact HR
    unfold owns
    icases H7 with ⟨%f7, %hf7, H7⟩
    icases H8 with ⟨%f8, %hf8, H8⟩
    icases H9 with ⟨%d9, %f9, -, H9⟩
    icases H10 with ⟨%d10, %f10, -, H10⟩
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg7.eq_unread hf7; obtain rfl := harg8.eq_unread hf8
    sl_exec
    have q7 : View.readAt (Elt F) arg7.view (Rect.unit (s := S1x512) ![0, 0] S1x512.size inb_S1x512_S1x512_0_0).toLoadRect (harg7.unread x6) = x6 := by
      rw [View.readAt_full, harg7.read_unread]
    have q11 : View.readAt (Elt F) arg11.view (Rect.unit (s := S360x128) ![0, 0] S360x128.size inb_S360x128_S360x128_0_0).toLoadRect (harg11.unread mt) = mt := by
      rw [View.readAt_full, harg11.read_unread]
    have q12 : View.readAt (Elt F) arg12.view (Rect.unit (s := S360x128) ![0, 0] S360x128.size inb_S360x128_S360x128_0_0).toLoadRect (harg12.unread st) = st := by
      rw [View.readAt_full, harg12.read_unread]
    have q13 : View.readAt (Elt F) arg13.view (Rect.unit (s := S288x128) ![0, 0] S288x128.size inb_S288x128_S288x128_0_0).toLoadRect (harg13.unread md) = md := by
      rw [View.readAt_full, harg13.read_unread]
    have q14 : View.readAt (Elt F) arg14.view (Rect.unit (s := S288x128) ![0, 0] S288x128.size inb_S288x128_S288x128_0_0).toLoadRect (harg14.unread sd) = sd := by
      rw [View.readAt_full, harg14.read_unread]
    have q8 : (View.readAt (Elt F) arg8.view (Rect.unit (s := S72x512) ![0, 0] S72x512.size inb_S72x512_S72x512_0_0).toLoadRect (harg8.unread x7)) = x7 := by
      rw [View.readAt_full, harg8.read_unread]
    have q18 : (View.readAt (Elt F) arg18.view (Rect.unit (s := S360x128) ![0, 0] S360x128.size inb_S360x128_S360x128_0_0).toLoadRect (harg18.unread ct)) = ct := by
      rw [View.readAt_full, harg18.read_unread]
    have q19 : (View.readAt (Elt F) arg19.view (Rect.unit (s := S288x128) ![0, 0] S288x128.size inb_S288x128_S288x128_0_0).toLoadRect (harg19.unread cd)) = cd := by
      rw [View.readAt_full, harg19.read_unread]
    have er : step_of.sl.r c arg8 harg8 arg18 harg18 x2 x3 x5 x7 codes xs ct = ltOf x2 x3 x7 xs ct :=
      Eq.trans (b := k0_pay247 (k0_pay244 x2 x3 xs) (View.readAt (Elt F) arg8.view (Rect.unit (s := S72x512) ![0, 0] S72x512.size inb_S72x512_S72x512_0_0).toLoadRect (harg8.unread x7)) (View.readAt (Elt F) arg18.view (Rect.unit (s := S360x128) ![0, 0] S360x128.size inb_S360x128_S360x128_0_0).toLoadRect (harg18.unread ct)) (View.readAt (Elt F) arg18.view (Rect.unit (s := S360x128) ![0, 0] S360x128.size inb_S360x128_S360x128_0_0).toLoadRect (harg18.unread ct)) (View.readAt (Elt F) arg18.view (Rect.unit (s := S360x128) ![0, 0] S360x128.size inb_S360x128_S360x128_0_0).toLoadRect (harg18.unread ct)) (View.readAt (Elt F) arg18.view (Rect.unit (s := S360x128) ![0, 0] S360x128.size inb_S360x128_S360x128_0_0).toLoadRect (harg18.unread ct))) rfl (by rw [q8, q18]; rfl)
    have er1 : step_of.sl.r_1 c arg8 harg8 x7 = k0_pay248 (F := F) x7 :=
      Eq.trans (b := k0_pay248 (F := F) (View.readAt (Elt F) arg8.view (Rect.unit (s := S72x512) ![0, 0] S72x512.size inb_S72x512_S72x512_0_0).toLoadRect (harg8.unread x7))) rfl (by rw [q8])
    have er2 : step_of.sl.r_2 c arg19 harg19 x2 x3 x5 codes xs cd = k0_pay249 (k0_pay245 codes x5) cd cd cd cd :=
      Eq.trans (b := k0_pay249 (k0_pay245 codes x5) (View.readAt (Elt F) arg19.view (Rect.unit (s := S288x128) ![0, 0] S288x128.size inb_S288x128_S288x128_0_0).toLoadRect (harg19.unread cd)) (View.readAt (Elt F) arg19.view (Rect.unit (s := S288x128) ![0, 0] S288x128.size inb_S288x128_S288x128_0_0).toLoadRect (harg19.unread cd)) (View.readAt (Elt F) arg19.view (Rect.unit (s := S288x128) ![0, 0] S288x128.size inb_S288x128_S288x128_0_0).toLoadRect (harg19.unread cd)) (View.readAt (Elt F) arg19.view (Rect.unit (s := S288x128) ![0, 0] S288x128.size inb_S288x128_S288x128_0_0).toLoadRect (harg19.unread cd))) rfl (by rw [q19])
    have er3 : step_of.sl.r_3 c arg7 harg7 arg8 harg8 arg19 harg19 x2 x3 x5 x6 x7 codes xs cd = ldOf x5 x6 x7 codes cd :=
      Eq.trans (b := k0_pay250 (step_of.sl.r_1 c arg8 harg8 x7) (step_of.sl.r_2 c arg19 harg19 x2 x3 x5 codes xs cd) (View.readAt (Elt F) arg7.view (Rect.unit (s := S1x512) ![0, 0] S1x512.size inb_S1x512_S1x512_0_0).toLoadRect (harg7.unread x6))) rfl (by rw [er1, er2, q7]; rfl)
    have w9 : ∀ f, View.read (Elt F) arg9.view (arg9.view.writes (Elt F) f [⟨Rect.unit ![0, 0] S360x512.size inb_S360x512_S360x512_0_0, step_of.sl.r c arg8 harg8 arg18 harg18 x2 x3 x5 x7 codes xs ct⟩]) = ltOf x2 x3 x7 xs ct :=
      fun f => (View.read_writes_full _ _ _ _ _).trans er
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact w9 _
    isplitl [H10]
    · iexists _; isplitr; swap; · iexact H10
      ipureintro; exact (View.read_writes_full _ _ _ _ _).trans (by rw [er1, er2, q7]; rfl)
    isplitl [H11]
    · iexists _; isplitr; swap; · iexact H11
      ipureintro; exact (View.read_writes_full _ _ _ _ _).trans (by rw [er, q11])
    isplitl [H12]
    · iexists _; isplitr; swap; · iexact H12
      ipureintro; exact (View.read_writes_full _ _ _ _ _).trans (by rw [er, q11, q12])
    isplitl [H13]
    · iexists _; isplitr; swap; · iexact H13
      ipureintro; exact (View.read_writes_full (s := S288x128) _ _ _ _ _).trans (congrArg₂ k0_pay2 er3 q13)
    isplitl [H14]
    · iexists _; isplitr; swap; · iexact H14
      ipureintro; exact (View.read_writes_full (s := S288x128) _ _ _ _ _).trans (congr (congrArg₂ k0_pay3 er3 q13) q14)
    isplitl [H15]
    · iexists _; isplitr; swap; · iexact H15
      ipureintro; exact harg15.read_unread _
    isplitl [H16]
    · iexists _; isplitr; swap; · iexact H16
      ipureintro; exact harg16.read_unread _
    isplitl [H17]
    · iexists _; isplitr; swap; · iexact H17
      ipureintro; exact harg17.read_unread _
    isplitl [H18]
    · iexists _; isplitr; swap; · iexact H18
      ipureintro; exact harg18.read_unread _
    iexists _; isplitr; swap; · iexact H19
    ipureintro; exact harg19.read_unread _

end Cert.Kernel.Gen

end
-- ==== Proof.PrintedBody.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx
public import proofs.«01_k».proof.Proof.PrintedStep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! # The first kernel's body, at the first grid step and at a later one -/

set_option maxHeartbeats 4000000 in
/-- At the first grid step the body sets up its state from the inputs, whatever the buffers held. -/
theorem body_first (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (x6 : Vec F S1x512 .f32) (x7 : Vec F S72x512 .i8) (E : Set ℕ) (K : _ → sProp 𝕄) :
   iprop(((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ owns (c : Thread nD τ) arg7 fullShare x6 ∗ owns (c : Thread nD τ) arg8 fullShare x7 ∗ (∃ d, owns (c : Thread nD τ) arg9 fullShare d) ∗ (∃ d, owns (c : Thread nD τ) arg10 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ltOf x2 x3 x7 (xsOf x1) (ctOf x0)) ∗ owns (c : Thread nD τ) arg10 fullShare (ldOf x5 x6 x7 (codesOf x4) (cdOf x0 x4)) ∗ owns (c : Thread nD τ) arg11 fullShare (k0_pay252 (ltOf x2 x3 x7 (xsOf x1) (ctOf x0)) k0_pay240) ∗ owns (c : Thread nD τ) arg12 fullShare (k0_pay253 (ltOf x2 x3 x7 (xsOf x1) (ctOf x0)) k0_pay240 k0_pay242) ∗ owns (c : Thread nD τ) arg13 fullShare (k0_pay2 (ldOf x5 x6 x7 (codesOf x4) (cdOf x0 x4)) k0_pay241) ∗ owns (c : Thread nD τ) arg14 fullShare (k0_pay3 (ldOf x5 x6 x7 (codesOf x4) (cdOf x0 x4)) k0_pay241 k0_pay243) ∗ owns (c : Thread nD τ) arg15 fullShare (codesOf x4) ∗ owns (c : Thread nD τ) arg16 fullShare (hdsOf x4) ∗ owns (c : Thread nD τ) arg17 fullShare (xsOf x1) ∗ owns (c : Thread nD τ) arg18 fullShare (ctOf x0) ∗ owns (c : Thread nD τ) arg19 fullShare (cdOf x0 x4)) -∗ K ⟨⟩)) ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K :=
  step_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ x0 x1 x2 x3 x4 x5 x6 x7 k0_pay240 k0_pay242 k0_pay241 k0_pay243 (codesOf x4) (hdsOf x4) (xsOf x1) (ctOf x0) (cdOf x0 x4)
    (fun E K => prep_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 E K) E K

set_option maxHeartbeats 4000000 in
/-- At a later grid step the prologue is skipped: only the two products are taken. -/
theorem skip_run (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : ¬cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (mt : Vec F S360x128 .f32) (st : Vec F S360x128 .f32) (md : Vec F S288x128 .f32) (sd : Vec F S288x128 .f32) (codes : Vec F S288x1536 .fp8e4m3) (hds : Vec F S288x1 .f32) (xs : Vec F S360x6144 .bf16) (ct : Vec F S360x128 .f32) (cd : Vec F S288x128 .f32) (E : Set ℕ) (K : _ → sProp 𝕄) :
   iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨k0_pay244 x2 x3 xs, k0_pay245 codes x5⟩)) ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [k0_part26_eq_skeleton]
    unfold k0_part26_skel
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0)
    rw [View.readAt_full, View.readAt_full, View.readAt_full, View.readAt_full, View.readAt_full, harg3.read_unread, harg4.read_unread, harg6.read_unread, harg17.read_unread, harg15.read_unread]
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    isplitl [H15]
    · iexists _; isplitr; swap; · iexact H15
      ipureintro; exact harg15.read_unread _
    isplitl [H16]
    · iexists _; isplitr; swap; · iexact H16
      ipureintro; exact harg16.read_unread _
    isplitl [H17]
    · iexists _; isplitr; swap; · iexact H17
      ipureintro; exact harg17.read_unread _
    isplitl [H18]
    · iexists _; isplitr; swap; · iexact H18
      ipureintro; exact harg18.read_unread _
    iexists _; isplitr; swap; · iexact H19
    ipureintro; exact harg19.read_unread _

set_option maxHeartbeats 4000000 in
/-- At a later grid step the body carries the state on from the step before. -/
theorem body_later (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : ¬cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (x6 : Vec F S1x512 .f32) (x7 : Vec F S72x512 .i8) (mt : Vec F S360x128 .f32) (st : Vec F S360x128 .f32) (md : Vec F S288x128 .f32) (sd : Vec F S288x128 .f32) (codes : Vec F S288x1536 .fp8e4m3) (hds : Vec F S288x1 .f32) (xs : Vec F S360x6144 .bf16) (ct : Vec F S360x128 .f32) (cd : Vec F S288x128 .f32) (E : Set ℕ) (K : _ → sProp 𝕄) :
   iprop(((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) ∗ owns (c : Thread nD τ) arg7 fullShare x6 ∗ owns (c : Thread nD τ) arg8 fullShare x7 ∗ (∃ d, owns (c : Thread nD τ) arg9 fullShare d) ∗ (∃ d, owns (c : Thread nD τ) arg10 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ltOf x2 x3 x7 xs ct) ∗ owns (c : Thread nD τ) arg10 fullShare (ldOf x5 x6 x7 codes cd) ∗ owns (c : Thread nD τ) arg11 fullShare (k0_pay252 (ltOf x2 x3 x7 xs ct) mt) ∗ owns (c : Thread nD τ) arg12 fullShare (k0_pay253 (ltOf x2 x3 x7 xs ct) mt st) ∗ owns (c : Thread nD τ) arg13 fullShare (k0_pay2 (ldOf x5 x6 x7 codes cd) md) ∗ owns (c : Thread nD τ) arg14 fullShare (k0_pay3 (ldOf x5 x6 x7 codes cd) md sd) ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨⟩)) ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K :=
  step_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ x0 x1 x2 x3 x4 x5 x6 x7 mt st md sd codes hds xs ct cd
    (fun E K => skip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 mt st md sd codes hds xs ct cd E K) E K

end Cert.Kernel.Gen

end
-- ==== Proof.PrintedDats.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx
public import proofs.«01_k».proof.Proof.PrintedBody
public import Idealize.ShloMosaic.Lib.Claim
public import Idealize.ShloMosaic.Lib.Pipeline.TableIdle

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

abbrev ms0_0 (t : Fin cfg0.N) : Memref sig .tc .smem S72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S72x5x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S72x4x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S72x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S360x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S288x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S360x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S360x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S288x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S288x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S288x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S288x1 .f32 := win0_15.stage (cfg0.slots t 15)
abbrev hs0_15 (t : Fin cfg0.N) : (ms0_15 t).IsWhole := hstage0_15 ((cfg0.slots t 15).cast nbuf0_15)
abbrev scM0_0 : Memref sig .tc .vmem S360x6144 .bf16 := Memref.whole cc0_scratch0
abbrev scM0_1 : Memref sig .tc .vmem S360x128 .f32 := Memref.whole cc0_scratch1
abbrev scM0_2 : Memref sig .tc .vmem S288x128 .f32 := Memref.whole cc0_scratch2

variable (m : (ℓ : Loc nD τ sig) → Buf (Elt F) ℓ) (ρ : Dev nD → PrngReg)

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The prologue runs at the first grid step only. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-! ## What the call leaves, step by step -/

/-- The first grid step. -/
def tz : Fin cfg0.N := ⟨0, by rw [show cfg0.N = 96 from N_0]; decide⟩

/-- The draft's codes. -/
def codes0 (c : Dev nD) : Vec F S288x1536 .fp8e4m3 := codesOf (iblk m c 4 tz)
/-- The draft rows' scales. -/
def hds0 (c : Dev nD) : Vec F S288x1 .f32 := hdsOf (iblk m c 4 tz)
/-- The target's rows. -/
def xs0 (c : Dev nD) : Vec F S360x6144 .bf16 := xsOf (iblk m c 1 tz)
/-- The target rows' factors. -/
def ct0 (c : Dev nD) : Vec F S360x128 .f32 := ctOf (iblk m c 0 tz)
/-- The draft rows' factors. -/
def cd0 (c : Dev nD) : Vec F S288x128 .f32 := cdOf (iblk m c 0 tz) (iblk m c 4 tz)
/-- The target's block of logits at a step. -/
def ltB (c : Dev nD) (t : Fin cfg0.N) : Vec F S360x512 .f32 := ltOf (iblk m c 2 t) (iblk m c 3 t) (iblk m c 7 t) (xs0 m c) (ct0 m c)
/-- The draft's block of logits at a step. -/
def ldB (c : Dev nD) (t : Fin cfg0.N) : Vec F S288x512 .f32 := ldOf (iblk m c 5 t) (iblk m c 6 t) (iblk m c 7 t) (codes0 m c) (cd0 m c)

/-- The target's running lane maxima and sums after a step. -/
def statT (c : Dev nD) : (n : ℕ) → n < cfg0.N → Vec F S360x128 .f32 × Vec F S360x128 .f32
  | 0, hn => (k0_pay252 (ltB m c ⟨0, hn⟩) k0_pay240, k0_pay253 (ltB m c ⟨0, hn⟩) k0_pay240 k0_pay242)
  | n + 1, hn => (k0_pay252 (ltB m c ⟨n + 1, hn⟩) (statT c n (Nat.lt_of_succ_lt hn)).1,
      k0_pay253 (ltB m c ⟨n + 1, hn⟩) (statT c n (Nat.lt_of_succ_lt hn)).1 (statT c n (Nat.lt_of_succ_lt hn)).2)

/-- The draft's running lane maxima and sums after a step. -/
def statD (c : Dev nD) : (n : ℕ) → n < cfg0.N → Vec F S288x128 .f32 × Vec F S288x128 .f32
  | 0, hn => (k0_pay2 (ldB m c ⟨0, hn⟩) k0_pay241, k0_pay3 (ldB m c ⟨0, hn⟩) k0_pay241 k0_pay243)
  | n + 1, hn => (k0_pay2 (ldB m c ⟨n + 1, hn⟩) (statD c n (Nat.lt_of_succ_lt hn)).1,
      k0_pay3 (ldB m c ⟨n + 1, hn⟩) (statD c n (Nat.lt_of_succ_lt hn)).1 (statD c n (Nat.lt_of_succ_lt hn)).2)

theorem statT_pos (c : Dev nD) (t : Fin cfg0.N) (hz : t.val ≠ 0) (hp : t.val - 1 < cfg0.N) :
    statT m c t.val t.isLt = (k0_pay252 (ltB m c t) (statT m c (t.val - 1) hp).1,
      k0_pay253 (ltB m c t) (statT m c (t.val - 1) hp).1 (statT m c (t.val - 1) hp).2) := by
  obtain ⟨n, hn⟩ := t
  cases n with
  | zero => exact absurd rfl hz
  | succ n => rfl

theorem statD_pos (c : Dev nD) (t : Fin cfg0.N) (hz : t.val ≠ 0) (hp : t.val - 1 < cfg0.N) :
    statD m c t.val t.isLt = (k0_pay2 (ldB m c t) (statD m c (t.val - 1) hp).1,
      k0_pay3 (ldB m c t) (statD m c (t.val - 1) hp).1 (statD m c (t.val - 1) hp).2) := by
  obtain ⟨n, hn⟩ := t
  cases n with
  | zero => exact absurd rfl hz
  | succ n => rfl

/-- Before the first step the scratch holds anything; afterwards the rows and factors the first step stored. -/
def PhiS (c : Dev nD) : (n : ℕ) → n ≤ cfg0.N → sProp 𝕄
  | 0, _ => Pipeline.ΦA spec0 c
  | _ + 1, _ => iprop(iprop(owns (c : Thread nD τ) scM0_0 fullShare (xs0 m c) ∗ owns (c : Thread nD τ) scM0_1 fullShare (ct0 m c) ∗ owns (c : Thread nD τ) scM0_2 fullShare (cd0 m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (xs0 m c) ∗ owns (c : Thread nD τ) scM0_1 fullShare (ct0 m c) ∗ owns (c : Thread nD τ) scM0_2 fullShare (cd0 m c)) ∗ (∃ r, prngReg c r)) := by
  cases n with
  | zero => exact absurd rfl hz
  | succ n => rfl

/-- The arrays as the region finds them, each input's block left in place, the outputs as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ltB m c t
    | ⟨9, _⟩ => ldB m c t
    | ⟨10, _⟩ => (statT m c t.val t.isLt).1
    | ⟨11, _⟩ => (statT m c t.val t.isLt).2
    | ⟨12, _⟩ => (statD m c t.val t.isLt).1
    | ⟨13, _⟩ => (statD m c t.val t.isLt).2
    | ⟨14, _⟩ => codes0 m c
    | ⟨15, _⟩ => hds0 m c
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = ltB m c t := by dsimp only [dats]
theorem after0_9 (c : Dev nD) (t : Fin cfg0.N) : (dats m 0 c).after 9 t = ldB m c t := by dsimp only [dats]
theorem after0_10 (c : Dev nD) (t : Fin cfg0.N) : (dats m 0 c).after 10 t = (statT m c t.val t.isLt).1 := by dsimp only [dats]
theorem after0_11 (c : Dev nD) (t : Fin cfg0.N) : (dats m 0 c).after 11 t = (statT m c t.val t.isLt).2 := by dsimp only [dats]
theorem after0_12 (c : Dev nD) (t : Fin cfg0.N) : (dats m 0 c).after 12 t = (statD m c t.val t.isLt).1 := by dsimp only [dats]
theorem after0_13 (c : Dev nD) (t : Fin cfg0.N) : (dats m 0 c).after 13 t = (statD m c t.val t.isLt).2 := by dsimp only [dats]
theorem after0_14 (c : Dev nD) (t : Fin cfg0.N) : (dats m 0 c).after 14 t = codes0 m c := by dsimp only [dats]
theorem after0_15 (c : Dev nD) (t : Fin cfg0.N) : (dats m 0 c).after 15 t = hds0 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem before0_10_B (c : Dev nD) (t : Fin cfg0.N) (h0 : ¬t.val % 96 = 0) (d) :
    (dats m 0 c).before 10 t d = (statT m c (t.val - 1) (Nat.lt_of_le_of_lt (Nat.sub_le _ _) t.isLt)).1 := by
  have hN : t.val < 96 := lt_of_lt_of_eq t.isLt (show cfg0.N = 96 from N_0)
  rw [Dat.before_out_kept _ 10 rfl t (by omega) (Bool.eq_false_iff.mpr fun h => by have := (flush0_10 _).mp h; dsimp only at this; omega)
    (fun _ => rfl) (fun _ _ => rfl)]
  dsimp only [dats]

theorem before0_11_B (c : Dev nD) (t : Fin cfg0.N) (h0 : ¬t.val % 96 = 0) (d) :
    (dats m 0 c).before 11 t d = (statT m c (t.val - 1) (Nat.lt_of_le_of_lt (Nat.sub_le _ _) t.isLt)).2 := by
  have hN : t.val < 96 := lt_of_lt_of_eq t.isLt (show cfg0.N = 96 from N_0)
  rw [Dat.before_out_kept _ 11 rfl t (by omega) (Bool.eq_false_iff.mpr fun h => by have := (flush0_11 _).mp h; dsimp only at this; omega)
    (fun _ => rfl) (fun _ _ => rfl)]
  dsimp only [dats]

theorem before0_12_B (c : Dev nD) (t : Fin cfg0.N) (h0 : ¬t.val % 96 = 0) (d) :
    (dats m 0 c).before 12 t d = (statD m c (t.val - 1) (Nat.lt_of_le_of_lt (Nat.sub_le _ _) t.isLt)).1 := by
  have hN : t.val < 96 := lt_of_lt_of_eq t.isLt (show cfg0.N = 96 from N_0)
  rw [Dat.before_out_kept _ 12 rfl t (by omega) (Bool.eq_false_iff.mpr fun h => by have := (flush0_12 _).mp h; dsimp only at this; omega)
    (fun _ => rfl) (fun _ _ => rfl)]
  dsimp only [dats]

theorem before0_13_B (c : Dev nD) (t : Fin cfg0.N) (h0 : ¬t.val % 96 = 0) (d) :
    (dats m 0 c).before 13 t d = (statD m c (t.val - 1) (Nat.lt_of_le_of_lt (Nat.sub_le _ _) t.isLt)).2 := by
  have hN : t.val < 96 := lt_of_lt_of_eq t.isLt (show cfg0.N = 96 from N_0)
  rw [Dat.before_out_kept _ 13 rfl t (by omega) (Bool.eq_false_iff.mpr fun h => by have := (flush0_13 _).mp h; dsimp only at this; omega)
    (fun _ => rfl) (fun _ _ => rfl)]
  dsimp only [dats]

/-- The codes and scales are stored at the first step only. -/
theorem idle0_14 : ∀ t : Fin cfg0.N, cfg0.idle 14 (grid0.coords t) = decide (t.val ≠ 0) :=
  (by decide +kernel : ∀ t : Fin grid0.N, cfg0.idle 14 (grid0.coords t) = decide (t.val ≠ 0))

theorem fresh0_14 (t : Fin cfg0.N) (hz : t.val ≠ 0) : cfg0.fresh 14 t.val = false := by
  have hN : t.val < 96 := lt_of_lt_of_eq t.isLt (show cfg0.N = 96 from N_0)
  rw [cfg0.fresh_tab 14 (fun n => decide (n = 0) || decide (n = 96)) rfl (fun t => ?_) t.val (Nat.le_of_lt t.isLt)]
  · simp only [Bool.or_eq_false_iff, decide_eq_false_iff_not]; omega
  · have hN : t.val < 96 := lt_of_lt_of_eq t.isLt (show cfg0.N = 96 from N_0)
    rw [idle0_14]
    have hf : (cfg0.win 14).flush t = decide (t.val % 96 = 95) := by
      rw [Bool.eq_iff_iff, flush0_14 t, decide_eq_true_iff]
    rw [hf, Bool.eq_iff_iff]
    simp only [Bool.or_eq_true, Bool.and_eq_true, decide_eq_true_iff]
    omega

theorem before0_14_B (c : Dev nD) (t : Fin cfg0.N) (h0 : ¬t.val % 96 = 0) (d) :
    (dats m 0 c).before 14 t d = codes0 m c := by
  have hz : t.val ≠ 0 := by omega
  rw [(dats m 0 c).before_out_traj 14 rfl (fun _ _ => rfl) (fun _ _ _ _ => by rw [after0_14, after0_14]) t.val t rfl d,
    fresh0_14 t hz, if_neg Bool.false_ne_true, after0_14]

/-- What the body leaves of window 14 is what the pipeline asks of it, stored or kept. -/
theorem post0_14 (c : Dev nD) (t : Fin cfg0.N) :
    (owns (c : Thread nD τ) (ms0_14 t) fullShare ((dats m 0 c).after 14 t) : sProp 𝕄) ⊢
      (match cfg0.idle 14 (cfg0.grid.coords t) with
        | true =>
          match (cfg0.win 14).flush t with
          | false => iprop(∃ d, owns (c : Thread nD τ) (ms0_14 t) fullShare ((dats m 0 c).before 14 t d))
          | true => owns (c : Thread nD τ) (ms0_14 t) fullShare ((dats m 0 c).after 14 t)
        | false => owns (c : Thread nD τ) (ms0_14 t) fullShare ((dats m 0 c).after 14 t) : sProp 𝕄) := by
  have hN : t.val < 96 := lt_of_lt_of_eq t.isLt (show cfg0.N = 96 from N_0)
  by_cases hz : t.val = 0
  · rw [show cfg0.idle 14 (cfg0.grid.coords t) = false from (idle0_14 t).trans (by simp [hz])]
  · rw [show cfg0.idle 14 (cfg0.grid.coords t) = true from (idle0_14 t).trans (by simp [hz])]
    by_cases hf : (cfg0.win 14).flush t = true
    · rw [hf]
    · rw [Bool.eq_false_iff.mpr hf]
      dsimp only
      simp only [before0_14_B m c t (by omega)]
      rw [after0_14]
      iintro H
      iexists (codes0 m c)
      iexact H

/-- The codes and scales are stored at the first step only. -/
theorem idle0_15 : ∀ t : Fin cfg0.N, cfg0.idle 15 (grid0.coords t) = decide (t.val ≠ 0) :=
  (by decide +kernel : ∀ t : Fin grid0.N, cfg0.idle 15 (grid0.coords t) = decide (t.val ≠ 0))

theorem fresh0_15 (t : Fin cfg0.N) (hz : t.val ≠ 0) : cfg0.fresh 15 t.val = false := by
  have hN : t.val < 96 := lt_of_lt_of_eq t.isLt (show cfg0.N = 96 from N_0)
  rw [cfg0.fresh_tab 15 (fun n => decide (n = 0) || decide (n = 96)) rfl (fun t => ?_) t.val (Nat.le_of_lt t.isLt)]
  · simp only [Bool.or_eq_false_iff, decide_eq_false_iff_not]; omega
  · have hN : t.val < 96 := lt_of_lt_of_eq t.isLt (show cfg0.N = 96 from N_0)
    rw [idle0_15]
    have hf : (cfg0.win 15).flush t = decide (t.val % 96 = 95) := by
      rw [Bool.eq_iff_iff, flush0_15 t, decide_eq_true_iff]
    rw [hf, Bool.eq_iff_iff]
    simp only [Bool.or_eq_true, Bool.and_eq_true, decide_eq_true_iff]
    omega

theorem before0_15_B (c : Dev nD) (t : Fin cfg0.N) (h0 : ¬t.val % 96 = 0) (d) :
    (dats m 0 c).before 15 t d = hds0 m c := by
  have hz : t.val ≠ 0 := by omega
  rw [(dats m 0 c).before_out_traj 15 rfl (fun _ _ => rfl) (fun _ _ _ _ => by rw [after0_15, after0_15]) t.val t rfl d,
    fresh0_15 t hz, if_neg Bool.false_ne_true, after0_15]

/-- What the body leaves of window 15 is what the pipeline asks of it, stored or kept. -/
theorem post0_15 (c : Dev nD) (t : Fin cfg0.N) :
    (owns (c : Thread nD τ) (ms0_15 t) fullShare ((dats m 0 c).after 15 t) : sProp 𝕄) ⊢
      (match cfg0.idle 15 (cfg0.grid.coords t) with
        | true =>
          match (cfg0.win 15).flush t with
          | false => iprop(∃ d, owns (c : Thread nD τ) (ms0_15 t) fullShare ((dats m 0 c).before 15 t d))
          | true => owns (c : Thread nD τ) (ms0_15 t) fullShare ((dats m 0 c).after 15 t)
        | false => owns (c : Thread nD τ) (ms0_15 t) fullShare ((dats m 0 c).after 15 t) : sProp 𝕄) := by
  have hN : t.val < 96 := lt_of_lt_of_eq t.isLt (show cfg0.N = 96 from N_0)
  by_cases hz : t.val = 0
  · rw [show cfg0.idle 15 (cfg0.grid.coords t) = false from (idle0_15 t).trans (by simp [hz])]
  · rw [show cfg0.idle 15 (cfg0.grid.coords t) = true from (idle0_15 t).trans (by simp [hz])]
    by_cases hf : (cfg0.win 15).flush t = true
    · rw [hf]
    · rw [Bool.eq_false_iff.mpr hf]
      dsimp only
      simp only [before0_15_B m c t (by omega)]
      rw [after0_15]
      iintro H
      iexists (hds0 m c)
      iexact H

/-- What the body is called with at a step, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What the body leaves at a step. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body's triple at a step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_pos m c (t.val + 1) _ (Nat.succ_ne_zero _)]
  have hN : t.val < 96 := lt_of_lt_of_eq t.isLt (show cfg0.N = 96 from N_0)
  by_cases hz : t.val = 0
  · rw [PhiS_castSucc m c t, PhiS_zero m c _ _ hz, PhiA0_eq]
    obtain rfl : t = tz := Fin.ext hz
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (body_first c (grid0.coords tz) (ms0_0 tz) (hs0_0 tz) (ms0_1 tz) (hs0_1 tz) (ms0_2 tz) (hs0_2 tz) (ms0_3 tz) (hs0_3 tz) (ms0_4 tz) (hs0_4 tz) (ms0_5 tz) (hs0_5 tz) (ms0_6 tz) (hs0_6 tz) (ms0_7 tz) (hs0_7 tz) (ms0_8 tz) (hs0_8 tz) (ms0_9 tz) (hs0_9 tz) (ms0_10 tz) (hs0_10 tz) (ms0_11 tz) (hs0_11 tz) (ms0_12 tz) (hs0_12 tz) (ms0_13 tz) (hs0_13 tz) (ms0_14 tz) (hs0_14 tz) (ms0_15 tz) (hs0_15 tz) scM0_0 (Memref.isWhole_whole _) scM0_1 (Memref.isWhole_whole _) scM0_2 (Memref.isWhole_whole _) ((hcond0_0 tz).mpr rfl) (iblk m c 0 tz) (iblk m c 1 tz) (iblk m c 2 tz) (iblk m c 3 tz) (iblk m c 4 tz) (iblk m c 5 tz) (iblk m c 6 tz) (iblk m c 7 tz) Set.univ _)
      isplitl [H0 H1 H2 H3 H4 H5 H10 H11 H12 H13 H14 H15 HS0 HS1 HS2 H6 H7 H8 H9]
      · isplitl [H0 H1 H2 H3 H4 H5 H10 H11 H12 H13 H14 H15 HS0 HS1 HS2]
        · isplitl [H0]; · iexact H0
          isplitl [H1]; · iexact H1
          isplitl [H2]; · iexact H2
          isplitl [H3]; · iexact H3
          isplitl [H4]; · iexact H4
          isplitl [H5]; · iexact H5
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          iexact HS2
        isplitl [H6]; · iexact H6
        isplitl [H7]; · iexact H7
        isplitl [H8]; · iexists _; iexact H8
        iexists _; iexact H9
      iintro ⟨H0, H1, H2, H3, H4, H5, H6, H7, H8, H9, H10, H11, H12, H13, H14, H15, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
  · rw [PhiS_castSucc m c t, PhiS_pos m c _ _ hz]
    have h0 : ¬t.val % 96 = 0 := by omega
    simp only [before0_10_B m c t h0, before0_11_B m c t h0, before0_12_B m c t h0, before0_13_B m c t h0, before0_14_B m c t h0, before0_15_B m c t h0]
    rw [statT_pos m c t hz (Nat.lt_of_le_of_lt (Nat.sub_le _ _) t.isLt), statD_pos m c t hz (Nat.lt_of_le_of_lt (Nat.sub_le _ _) t.isLt)]
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (body_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (statT m c (t.val - 1) (Nat.lt_of_le_of_lt (Nat.sub_le _ _) t.isLt)).1 (statT m c (t.val - 1) (Nat.lt_of_le_of_lt (Nat.sub_le _ _) t.isLt)).2 (statD m c (t.val - 1) (Nat.lt_of_le_of_lt (Nat.sub_le _ _) t.isLt)).1 (statD m c (t.val - 1) (Nat.lt_of_le_of_lt (Nat.sub_le _ _) t.isLt)).2 (codes0 m c) (hds0 m c) (xs0 m c) (ct0 m c) (cd0 m c) Set.univ _)
      isplitl [H0 H1 H2 H3 H4 H5 H10 H11 H12 H13 H14 H15 HS0 HS1 HS2 H6 H7 H8 H9]
      · isplitl [H0 H1 H2 H3 H4 H5 H10 H11 H12 H13 H14 H15 HS0 HS1 HS2]
        · isplitl [H0]; · iexact H0
          isplitl [H1]; · iexact H1
          isplitl [H2]; · iexact H2
          isplitl [H3]; · iexact H3
          isplitl [H4]; · iexact H4
          isplitl [H5]; · iexact H5
          isplitl [H10]; · iexact H10
          isplitl [H11]; · iexact H11
          isplitl [H12]; · iexact H12
          isplitl [H13]; · iexact H13
          isplitl [H14]; · iexact H14
          isplitl [H15]; · iexact H15
          isplitl [HS0]; · iexact HS0
          isplitl [HS1]; · iexact HS1
          iexact HS2
        isplitl [H6]; · iexact H6
        isplitl [H7]; · iexact H7
        isplitl [H8]; · iexists _; iexact H8
        iexists _; iexact H9
      iintro ⟨H0, H1, H2, H3, H4, H5, H6, H7, H8, H9, H10, H11, H12, H13, H14, H15, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  exact BI.sep_mono (post0_14 m c t) (post0_15 m c t)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: every argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.HeadsPrep.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The body's `pl.when` condition: the first grid step. -/
abbrev cond0_0 (i : grid0.Coords) : Prop := (Scalar.cmpi .ne (Scalar.extui (Scalar.cmpi .eq (BitVec.ofNat 32 (i 0).val) 0#32)) 0#32) = 1#1
/-! ## What one grid step computes, as functions of the blocks it reads -/

/-- The draft hidden states' quantised codes, one row per drafted token. -/
def codesOf (h : Vec F S72x4x1536 .bf16) : Vec F S288x1536 .fp8e4m3 := k0_pay8 (k0_pay4 h) (k0_pay6 h) k0_pay7
/-- The draft hidden states' scales, one per drafted token. -/
def hdsOf (h : Vec F S72x4x1536 .bf16) : Vec F S288x1 .f32 := k0_pay9 (F := F) (k0_pay5 h)
/-- The target hidden states laid out by rows: the drafted positions first, then each sequence's bonus position. -/
def xsOf (x : Vec F S72x5x6144 .bf16) : Vec F S360x6144 .bf16 := fun p =>
  if h : (p 0).val < 288 then k0_pay10 x (ix2 ⟨(p 0).val, h⟩ (p 1))
  else k0_pay11 x (ix2 ⟨(p 0).val - 288, by have : (p 0).val < 360 := (p 0).isLt; omega⟩ (p 1))
/-- The sequence a row belongs to. -/
def seqOf (r : ℕ) : ℕ := if r < 288 then r / 4 else r - 288
/-- The place of sequence `n` in the table of temperatures. -/
abbrev at72 (n : ℕ) : S72.Idx := ValueIdx.ix1 (⟨n % 72, Nat.mod_lt _ (by decide)⟩ : Fin 72)
/-- `log2 e` over one temperature. -/
def recipT (t : Elt F .f32) : Elt F .f32 := k0_pay12 (F := F) t (ix2 0 0)
/-- The factor of each row of target logits: `log2 e` over the row's temperature, in every lane. -/
def ctOf (t : Vec F S72 .f32) : Vec F S360x128 .f32 := fun p => recipT (t (at72 (seqOf (p 0).val)))
/-- The factor of each row of draft logits: the target factor times the row's scale. -/
def cdOf (t : Vec F S72 .f32) (h : Vec F S72x4x1536 .bf16) : Vec F S288x128 .f32 :=
  k0_pay239 (fun j => ctOf t (ix2 ⟨(j 0).val, by have : (j 0).val < 288 := (j 0).isLt; omega⟩ (j 1))) (hdsOf h)
/-- One block of masked, scaled target logits. -/
def ltOf (w : Vec F S3072x512 .i8) (ws : Vec F S48x512 .f32) (al : Vec F S72x512 .i8) (xs : Vec F S360x6144 .bf16) (ct : Vec F S360x128 .f32) : Vec F S360x512 .f32 :=
  k0_pay247 (k0_pay244 w ws xs) al ct ct ct ct
/-- One block of masked, scaled draft logits. -/
def ldOf (w : Vec F S1536x512 .fp8e4m3) (ws : Vec F S1x512 .f32) (al : Vec F S72x512 .i8) (codes : Vec F S288x1536 .fp8e4m3) (cd : Vec F S288x128 .f32) : Vec F S288x512 .f32 :=
  k0_pay250 (k0_pay248 (F := F) al) (k0_pay249 (k0_pay245 codes w) cd cd cd cd) ws

/-! ## The 144 row stores of the logits' factor -/

/-- A scalar load of the temperatures reads the sequence's temperature. -/
theorem readAt_temp (arg1 : Memref sig .tc .smem S72 .f32) (harg1 : arg1.IsWhole) (t : Vec F S72 .f32) (n : ℕ) (hn : n < 72)
    (inb : ∀ a, ![n] a + S1.size a ≤ S72.size a) (j : (Rect.unit (s := S72) ![n] S1.size inb).shape.Idx) :
    View.readAt (Elt F) arg1.view (Rect.unit (s := S72) ![n] S1.size inb).toLoadRect (harg1.unread t) j = t (at72 n) := by
  rw [View.readAt_apply, harg1.read_unread]
  congr 1
  funext a
  have ha : a = 0 := Subsingleton.elim _ _
  subst ha
  refine Fin.ext ?_
  have hj : (j 0).val < 1 := (j 0).isLt
  have e : (((Rect.unit (s := S72) ![n] S1.size inb).toLoadRect.idx j) 0).val = n + 1 * (j 0).val := rfl
  rw [e]
  have e2 : (at72 n 0).val = n % 72 := rfl
  rw [e2, Nat.mod_eq_of_lt hn]; omega

/-- A four-row store of one sequence's factor holds `ctOf` at the rows it covers. -/
theorem piece4 (arg1 : Memref sig .tc .smem S72 .f32) (harg1 : arg1.IsWhole) (t : Vec F S72 .f32) (o : ℕ) (inb : ∀ a, ![o, 0] a + S4x128.size a ≤ S360x128.size a) (w : S4x128.Idx → Elt F .f32)
    (h0 : o % 4 = 0) (h1 : o + 4 ≤ 288) (inb' : ∀ a, ![o / 4] a + S1.size a ≤ S72.size a) (j : S1.Idx)
    (hw : ∀ x, w x = recipT (View.readAt (Elt F) arg1.view (Rect.unit (s := S72) ![o / 4] S1.size inb').toLoadRect (harg1.unread t) j))
    (x : (Rect.unit (s := S360x128) ![o, 0] S4x128.size inb).shape.Idx) :
    w x = ctOf t ((Rect.unit (s := S360x128) ![o, 0] S4x128.size inb).emb x) := by
  rw [hw x, readAt_temp arg1 harg1 t _ (by omega)]
  have hx : (x 0).val < 4 := (x 0).isLt
  have e : ((Rect.unit (s := S360x128) ![o, 0] S4x128.size inb).emb x 0).val = o + 1 * (x 0).val := rfl
  have e' : seqOf ((Rect.unit (s := S360x128) ![o, 0] S4x128.size inb).emb x 0).val = o / 4 := by
    rw [e]; unfold seqOf; split <;> omega
  unfold ctOf
  rw [e']

/-- A one-row store of one sequence's factor holds `ctOf` at the row it covers. -/
theorem piece1 (arg1 : Memref sig .tc .smem S72 .f32) (harg1 : arg1.IsWhole) (t : Vec F S72 .f32) (o : ℕ) (inb : ∀ a, ![o, 0] a + S1x128.size a ≤ S360x128.size a) (w : S1x128.Idx → Elt F .f32)
    (h1 : 288 ≤ o) (h2 : o < 360) (inb' : ∀ a, ![o - 288] a + S1.size a ≤ S72.size a) (j : S1.Idx)
    (hw : ∀ x, w x = recipT (View.readAt (Elt F) arg1.view (Rect.unit (s := S72) ![o - 288] S1.size inb').toLoadRect (harg1.unread t) j))
    (x : (Rect.unit (s := S360x128) ![o, 0] S1x128.size inb).shape.Idx) :
    w x = ctOf t ((Rect.unit (s := S360x128) ![o, 0] S1x128.size inb).emb x) := by
  rw [hw x, readAt_temp arg1 harg1 t _ (by omega)]
  have hx : (x 0).val < 1 := (x 0).isLt
  have e : ((Rect.unit (s := S360x128) ![o, 0] S1x128.size inb).emb x 0).val = o + 1 * (x 0).val := rfl
  have e' : seqOf ((Rect.unit (s := S360x128) ![o, 0] S1x128.size inb).emb x 0).val = o - 288 := by
    rw [e]; unfold seqOf; split <;> omega
  unfold ctOf
  rw [e']

set_option maxHeartbeats 8000000 in
/-- The first grid step's prologue: it quantises the draft hidden states, lays out the target hidden states, tabulates the
    factors and resets the running maxima and sums; then the two products of the step. -/
theorem prep_run (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (E : Set ℕ) (K : _ → sProp 𝕄) :
   iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare k0_pay240 ∗ owns (c : Thread nD τ) arg12 fullShare k0_pay242 ∗ owns (c : Thread nD τ) arg13 fullShare k0_pay241 ∗ owns (c : Thread nD τ) arg14 fullShare k0_pay243 ∗ owns (c : Thread nD τ) arg15 fullShare (codesOf x4) ∗ owns (c : Thread nD τ) arg16 fullShare (hdsOf x4) ∗ owns (c : Thread nD τ) arg17 fullShare (xsOf x1) ∗ owns (c : Thread nD τ) arg18 fullShare (ctOf x0) ∗ owns (c : Thread nD τ) arg19 fullShare (cdOf x0 x4)) -∗ K ⟨k0_pay244 x2 x3 (xsOf x1), k0_pay245 (codesOf x4) x5⟩)) ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold k0_part26_skel
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec (disch := first | sl_exact hc0)
    have hx : View.readAt (Elt F) arg5.view (Rect.unit (s := S72x4x1536) ![0, 0, 0] S72x4x1536.size inb_S72x4x1536_S72x4x1536_0_0_0).toLoadRect (harg5.unread x4) = x4 := by
      rw [View.readAt_full, harg5.read_unread]
    have e15 : ∀ f, View.read (Elt F) arg15.view (arg15.view.writes (Elt F) f (prep_run.sl.H15_1 c arg5 harg5 x4)) = codesOf x4 := by
      intro f; unfold prep_run.sl.H15_1
      rw [View.read_writes_full]
      exact Eq.trans (b := codesOf (View.readAt (Elt F) arg5.view (Rect.unit (s := S72x4x1536) ![0, 0, 0] S72x4x1536.size inb_S72x4x1536_S72x4x1536_0_0_0).toLoadRect (harg5.unread x4))) rfl (congrArg codesOf hx)
    have e16' : k0_pay9 (F := F) (prep_run.sl.r_1 c arg5 harg5 x4) = hdsOf x4 :=
      Eq.trans (b := hdsOf (View.readAt (Elt F) arg5.view (Rect.unit (s := S72x4x1536) ![0, 0, 0] S72x4x1536.size inb_S72x4x1536_S72x4x1536_0_0_0).toLoadRect (harg5.unread x4))) rfl (congrArg hdsOf hx)
    have e16 : ∀ f, View.read (Elt F) arg16.view (arg16.view.writes (Elt F) f (prep_run.sl.H16_1 c arg5 harg5 x4)) = hdsOf x4 := by
      intro f; unfold prep_run.sl.H16_1
      rw [View.read_writes_full]
      exact e16'
    have e17 : ∀ f, View.read (Elt F) arg17.view (arg17.view.writes (Elt F) f (prep_run.sl.H17_2 c arg2 harg2 x1)) = xsOf x1 := by
      intro f; unfold prep_run.sl.H17_2
      rw [View.readAt_full, harg2.read_unread]
      funext y
      unfold xsOf
      have h0 : (y 0).val < 360 := (y 0).isLt
      split
      · rename_i h
        rw [View.read_writes_cons_miss_of_axis (y := y) (a := 0) (o := 288) (n := 72)]
        rw [View.read_writes_cons_hit_of_coords (x := ix2 ⟨(y 0).val, h⟩ (y 1))]
        all_goals first
          | rfl
          | exact Or.inl h
          | (intro a; fin_cases a
             · show (y 0).val = 0 + 1 * (y 0).val; omega
             · show (y 1).val = 0 + 1 * (y 1).val; omega)
      · rename_i h
        rw [View.read_writes_cons_hit_of_coords (x := ix2 ⟨(y 0).val - 288, by omega⟩ (y 1))]
        · rfl
        intro a; fin_cases a
        · show (y 0).val = 288 + 1 * ((y 0).val - 288); omega
        · show (y 1).val = 0 + 1 * (y 1).val; omega
    have e18 : ∀ f, View.read (Elt F) arg18.view (arg18.view.writes (Elt F) f (prep_run.sl.H18_144 c arg1 harg1 x0)) = ctOf x0 := by
      intro f; funext y
      refine View.read_writes_apply_of_pieces _ _ (ctOf x0) _ ?_ y (View.cover_of_tiledBy _ ![1, 128] (by sl_kernel_rfl) y)
      unfold prep_run.sl.H18_144
      simp only [List.forall_mem_cons]
      repeat' apply And.intro
      all_goals first
        | exact piece1 arg1 harg1 x0 _ _ _ (by decide) (by decide) (by decide) _ (fun x => rfl)
        | exact piece4 arg1 harg1 x0 _ _ _ (by decide) (by decide) (by decide) _ (fun x => rfl)
        | exact fun _ h => absurd h List.not_mem_nil
    have r18 : prep_run.sl.v1016 c arg1 harg1 arg18 x0 = (fun j => ctOf x0 (ix2 ⟨(j 0).val, by have : (j 0).val < 288 := (j 0).isLt; omega⟩ (j 1))) := by
      unfold prep_run.sl.v1016 View.readCov
      funext j
      rw [View.readAt_apply, e18]
      congr 1; funext a; refine Fin.ext ?_; fin_cases a
      · show 0 + 1 * (j 0).val = (j 0).val; omega
      · show 0 + 1 * (j 1).val = (j 1).val; omega
    have r16 : prep_run.sl.v1017 c arg5 harg5 arg16 x4 = hdsOf x4 := by
      unfold prep_run.sl.v1017 View.readCov
      rw [View.readAt_full, e16]
    have r17 : prep_run.sl.v32 c arg2 harg2 arg17 x1 = xsOf x1 := by
      unfold prep_run.sl.v32 View.readCov
      rw [View.readAt_full, e17]
    have r15 : prep_run.sl.v35 c arg5 harg5 arg15 x4 = codesOf x4 := by
      unfold prep_run.sl.v35 View.readCov
      rw [View.readAt_full, e15]
    rw [r15, r17, View.readAt_full, View.readAt_full, View.readAt_full, harg3.read_unread, harg4.read_unread, harg6.read_unread]
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H11]
    · iexists _; isplitr; swap; · iexact H11
      ipureintro; exact View.read_writes_full _ _ _ _ _
    isplitl [H12]
    · iexists _; isplitr; swap; · iexact H12
      ipureintro; exact View.read_writes_full _ _ _ _ _
    isplitl [H13]
    · iexists _; isplitr; swap; · iexact H13
      ipureintro; exact View.read_writes_full _ _ _ _ _
    isplitl [H14]
    · iexists _; isplitr; swap; · iexact H14
      ipureintro; exact View.read_writes_full _ _ _ _ _
    isplitl [H15]
    · iexists _; isplitr; swap; · iexact H15
      ipureintro; exact e15 _
    isplitl [H16]
    · iexists _; isplitr; swap; · iexact H16
      ipureintro; exact e16 _
    isplitl [H17]
    · iexists _; isplitr; swap; · iexact H17
      ipureintro; exact e17 _
    isplitl [H18]
    · iexists _; isplitr; swap; · iexact H18
      ipureintro; exact e18 _
    iexists _; isplitr; swap; · iexact H19
    ipureintro; rw [View.read_writes_full, r18, r16]; rfl

end Cert.KernelIdeal.Gen

end
-- ==== Proof.HeadsStep.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx
public import proofs.«01_k».proof.Proof.HeadsPrep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! # One grid step of the first kernel

From the state of the running maxima, running sums, codes, scales, laid-out hidden states and factors, one step leaves
the step's two blocks of logits and the updated maxima and sums. -/

set_option maxHeartbeats 8000000 in
/-- The step after its prologue, whatever the prologue started from (`R`): it leaves the two blocks of logits and updates
    the running maxima and sums. -/
theorem step_of (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (R : sProp 𝕄) (x0 : Vec F S72 .f32) (x1 : Vec F S72x5x6144 .bf16) (x2 : Vec F S3072x512 .i8) (x3 : Vec F S48x512 .f32) (x4 : Vec F S72x4x1536 .bf16) (x5 : Vec F S1536x512 .fp8e4m3) (x6 : Vec F S1x512 .f32) (x7 : Vec F S72x512 .i8) (mt : Vec F S360x128 .f32) (st : Vec F S360x128 .f32) (md : Vec F S288x128 .f32) (sd : Vec F S288x128 .f32) (codes : Vec F S288x1536 .fp8e4m3) (hds : Vec F S288x1 .f32) (xs : Vec F S360x6144 .bf16) (ct : Vec F S360x128 .f32) (cd : Vec F S288x128 .f32)
    (h26 : ∀ (E : Set ℕ) (K : _ → sProp 𝕄), iprop(R ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨k0_pay244 x2 x3 xs, k0_pay245 codes x5⟩)) ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K)
    (E : Set ℕ) (K : _ → sProp 𝕄) :
   iprop((R ∗ owns (c : Thread nD τ) arg7 fullShare x6 ∗ owns (c : Thread nD τ) arg8 fullShare x7 ∗ (∃ d, owns (c : Thread nD τ) arg9 fullShare d) ∗ (∃ d, owns (c : Thread nD τ) arg10 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ltOf x2 x3 x7 xs ct) ∗ owns (c : Thread nD τ) arg10 fullShare (ldOf x5 x6 x7 codes cd) ∗ owns (c : Thread nD τ) arg11 fullShare (k0_pay252 (ltOf x2 x3 x7 xs ct) mt) ∗ owns (c : Thread nD τ) arg12 fullShare (k0_pay253 (ltOf x2 x3 x7 xs ct) mt st) ∗ owns (c : Thread nD τ) arg13 fullShare (k0_pay2 (ldOf x5 x6 x7 codes cd) md) ∗ owns (c : Thread nD τ) arg14 fullShare (k0_pay3 (ldOf x5 x6 x7 codes cd) md sd) ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨⟩)) ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [cc0_heads_eq_skeleton]; unfold cc0_heads_skel
    simp only [k0_part27_eq_skeleton, k0_part28_eq_skeleton]
    rw [wp_bind]
    iintro ⟨⟨HR, H7, H8, H9, H10⟩, Hk⟩
    iapply (h26 E _)
    isplitl [HR]
    · iexact HR
    unfold owns
    icases H7 with ⟨%f7, %hf7, H7⟩
    icases H8 with ⟨%f8, %hf8, H8⟩
    icases H9 with ⟨%d9, %f9, -, H9⟩
    icases H10 with ⟨%d10, %f10, -, H10⟩
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg7.eq_unread hf7; obtain rfl := harg8.eq_unread hf8
    sl_exec
    have q7 : View.readAt (Elt F) arg7.view (Rect.unit (s := S1x512) ![0, 0] S1x512.size inb_S1x512_S1x512_0_0).toLoadRect (harg7.unread x6) = x6 := by
      rw [View.readAt_full, harg7.read_unread]
    have q11 : View.readAt (Elt F) arg11.view (Rect.unit (s := S360x128) ![0, 0] S360x128.size inb_S360x128_S360x128_0_0).toLoadRect (harg11.unread mt) = mt := by
      rw [View.readAt_full, harg11.read_unread]
    have q12 : View.readAt (Elt F) arg12.view (Rect.unit (s := S360x128) ![0, 0] S360x128.size inb_S360x128_S360x128_0_0).toLoadRect (harg12.unread st) = st := by
      rw [View.readAt_full, harg12.read_unread]
    have q13 : View.readAt (Elt F) arg13.view (Rect.unit (s := S288x128) ![0, 0] S288x128.size inb_S288x128_S288x128_0_0).toLoadRect (harg13.unread md) = md := by
      rw [View.readAt_full, harg13.read_unread]
    have q14 : View.readAt (Elt F) arg14.view (Rect.unit (s := S288x128) ![0, 0] S288x128.size inb_S288x128_S288x128_0_0).toLoadRect (harg14.unread sd) = sd := by
      rw [View.readAt_full, harg14.read_unread]
    have q8 : (View.readAt (Elt F) arg8.view (Rect.unit (s := S72x512) ![0, 0] S72x512.size inb_S72x512_S72x512_0_0).toLoadRect (harg8.unread x7)) = x7 := by
      rw [View.readAt_full, harg8.read_unread]
    have q18 : (View.readAt (Elt F) arg18.view (Rect.unit (s := S360x128) ![0, 0] S360x128.size inb_S360x128_S360x128_0_0).toLoadRect (harg18.unread ct)) = ct := by
      rw [View.readAt_full, harg18.read_unread]
    have q19 : (View.readAt (Elt F) arg19.view (Rect.unit (s := S288x128) ![0, 0] S288x128.size inb_S288x128_S288x128_0_0).toLoadRect (harg19.unread cd)) = cd := by
      rw [View.readAt_full, harg19.read_unread]
    have er : step_of.sl.r c arg8 harg8 arg18 harg18 x2 x3 x5 x7 codes xs ct = ltOf x2 x3 x7 xs ct :=
      Eq.trans (b := k0_pay247 (k0_pay244 x2 x3 xs) (View.readAt (Elt F) arg8.view (Rect.unit (s := S72x512) ![0, 0] S72x512.size inb_S72x512_S72x512_0_0).toLoadRect (harg8.unread x7)) (View.readAt (Elt F) arg18.view (Rect.unit (s := S360x128) ![0, 0] S360x128.size inb_S360x128_S360x128_0_0).toLoadRect (harg18.unread ct)) (View.readAt (Elt F) arg18.view (Rect.unit (s := S360x128) ![0, 0] S360x128.size inb_S360x128_S360x128_0_0).toLoadRect (harg18.unread ct)) (View.readAt (Elt F) arg18.view (Rect.unit (s := S360x128) ![0, 0] S360x128.size inb_S360x128_S360x128_0_0).toLoadRect (harg18.unread ct)) (View.readAt (Elt F) arg18.view (Rect.unit (s := S360x128) ![0, 0] S360x128.size inb_S360x128_S360x128_0_0).toLoadRect (harg18.unread ct))) rfl (by rw [q8, q18]; rfl)
    have er1 : step_of.sl.r_1 c arg8 harg8 x7 = k0_pay248 (F := F) x7 :=
      Eq.trans (b := k0_pay248 (F := F) (View.readAt (Elt F) arg8.view (Rect.unit (s := S72x512) ![0, 0] S72x512.size inb_S72x512_S72x512_0_0).toLoadRect (harg8.unread x7))) rfl (by rw [q8])
    have er2 : step_of.sl.r_2 c arg19 harg19 x2 x3 x5 codes xs cd = k0_pay249 (k0_pay245 codes x5) cd cd cd cd :=
      Eq.trans (b := k0_pay249 (k0_pay245 codes x5) (View.readAt (Elt F) arg19.view (Rect.unit (s := S288x128) ![0, 0] S288x128.size inb_S288x128_S288x128_0_0).toLoadRect (harg19.unread cd)) (View.readAt (Elt F) arg19.view (Rect.unit (s := S288x128) ![0, 0] S288x128.size inb_S288x128_S288x128_0_0).toLoadRect (harg19.unread cd)) (View.readAt (Elt F) arg19.view (Rect.unit (s := S288x128) ![0, 0] S288x128.size inb_S288x128_S288x128_0_0).toLoadRect (harg19.unread cd)) (View.readAt (Elt F) arg19.view (Rect.unit (s := S288x128) ![0, 0] S288x128.size inb_S288x128_S288x128_0_0).toLoadRect (harg19.unread cd))) rfl (by rw [q19])
    have er3 : step_of.sl.r_3 c arg7 harg7 arg8 harg8 arg19 harg19 x2 x3 x5 x6 x7 codes xs cd = ldOf x5 x6 x7 codes cd :=
      Eq.trans (b := k0_pay250 (step_of.sl.r_1 c arg8 harg8 x7) (step_of.sl.r_2 c arg19 harg19 x2 x3 x5 codes xs cd) (View.readAt (Elt F) arg7.view (Rect.unit (s := S1x512) ![0, 0] S1x512.size inb_S1x512_S1x512_0_0).toLoadRect (harg7.unread x6))) rfl (by rw [er1, er2, q7]; rfl)
    have w9 : ∀ f, View.read (Elt F) arg9.view (arg9.view.writes (Elt F) f [⟨Rect.unit ![0, 0] S360x512.size inb_S360x512_S360x512_0_0, step_of.sl.r c arg8 harg8 arg18 harg18 x2 x3 x5 x7 codes xs ct⟩]) = ltOf x2 x3 x7 xs ct :=
      fun f => (View.read_writes_full _ _ _ _ _).trans er
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact w9 _
    isplitl [H10]
    · iexists _; isplitr; swap; · iexact H10
      ipureintro; exact (View.read_writes_full _ _ _ _ _).trans (by rw [er1, er2, q7]; rfl)
    isplitl [H11]
    · iexists _; isplitr; swap; · iexact H11
      ipureintro; exact (View.read_writes_full _ _ _ _ _).trans (by rw [er, q11])
    isplitl [H12]
    · iexists _; isplitr; swap; · iexact H12
      ipureintro; exact (View.read_writes_full _ _ _ _ _).trans (by rw [er, q11, q12])
    isplitl [H13]
    · iexists _; isplitr; swap; · iexact H13
      ipureintro; exact (View.read_writes_full (s := S288x128) _ _ _ _ _).trans (congrArg₂ k0_pay2 er3 q13)
    isplitl [H14]
    · iexists _; isplitr; swap; · iexact H14
      ipureintro; exact (View.read_writes_full (s := S288x128) _ _ _ _ _).trans (congr (congrArg₂ k0_pay3 er3 q13) q14)
    isplitl [H15]
    · iexists _; isplitr; swap; · iexact H15
      ipureintro; exact harg15.read_unread _
    isplitl [H16]
    · iexists _; isplitr; swap; · iexact H16
      ipureintro; exact harg16.read_unread _
    isplitl [H17]
    · iexists _; isplitr; swap; · iexact H17
      ipureintro; exact harg17.read_unread _
    isplitl [H18]
    · iexists _; isplitr; swap; · iexact H18
      ipureintro; exact harg18.read_unread _
    iexists _; isplitr; swap; · iexact H19
    ipureintro; exact harg19.read_unread _

end Cert.KernelIdeal.Gen

end
-- ==== Proof.HeadsBody.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx
public import proofs.«01_k».proof.Proof.HeadsStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! # The first kernel's body, at the first grid step and at a later one -/

set_option maxHeartbeats 4000000 in
/-- At the first grid step the body sets up its state from the inputs, whatever the buffers held. -/
theorem body_first (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (x6 : Vec F S1x512 .f32) (x7 : Vec F S72x512 .i8) (E : Set ℕ) (K : _ → sProp 𝕄) :
   iprop(((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) ∗ owns (c : Thread nD τ) arg7 fullShare x6 ∗ owns (c : Thread nD τ) arg8 fullShare x7 ∗ (∃ d, owns (c : Thread nD τ) arg9 fullShare d) ∗ (∃ d, owns (c : Thread nD τ) arg10 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ltOf x2 x3 x7 (xsOf x1) (ctOf x0)) ∗ owns (c : Thread nD τ) arg10 fullShare (ldOf x5 x6 x7 (codesOf x4) (cdOf x0 x4)) ∗ owns (c : Thread nD τ) arg11 fullShare (k0_pay252 (ltOf x2 x3 x7 (xsOf x1) (ctOf x0)) k0_pay240) ∗ owns (c : Thread nD τ) arg12 fullShare (k0_pay253 (ltOf x2 x3 x7 (xsOf x1) (ctOf x0)) k0_pay240 k0_pay242) ∗ owns (c : Thread nD τ) arg13 fullShare (k0_pay2 (ldOf x5 x6 x7 (codesOf x4) (cdOf x0 x4)) k0_pay241) ∗ owns (c : Thread nD τ) arg14 fullShare (k0_pay3 (ldOf x5 x6 x7 (codesOf x4) (cdOf x0 x4)) k0_pay241 k0_pay243) ∗ owns (c : Thread nD τ) arg15 fullShare (codesOf x4) ∗ owns (c : Thread nD τ) arg16 fullShare (hdsOf x4) ∗ owns (c : Thread nD τ) arg17 fullShare (xsOf x1) ∗ owns (c : Thread nD τ) arg18 fullShare (ctOf x0) ∗ owns (c : Thread nD τ) arg19 fullShare (cdOf x0 x4)) -∗ K ⟨⟩)) ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K :=
  step_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ x0 x1 x2 x3 x4 x5 x6 x7 k0_pay240 k0_pay242 k0_pay241 k0_pay243 (codesOf x4) (hdsOf x4) (xsOf x1) (ctOf x0) (cdOf x0 x4)
    (fun E K => prep_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 E K) E K

set_option maxHeartbeats 4000000 in
/-- At a later grid step the prologue is skipped: only the two products are taken. -/
theorem skip_run (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : ¬cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (mt : Vec F S360x128 .f32) (st : Vec F S360x128 .f32) (md : Vec F S288x128 .f32) (sd : Vec F S288x128 .f32) (codes : Vec F S288x1536 .fp8e4m3) (hds : Vec F S288x1 .f32) (xs : Vec F S360x6144 .bf16) (ct : Vec F S360x128 .f32) (cd : Vec F S288x128 .f32) (E : Set ℕ) (K : _ → sProp 𝕄) :
   iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨k0_pay244 x2 x3 xs, k0_pay245 codes x5⟩)) ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [k0_part26_eq_skeleton]
    unfold k0_part26_skel
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0)
    rw [View.readAt_full, View.readAt_full, View.readAt_full, View.readAt_full, View.readAt_full, harg3.read_unread, harg4.read_unread, harg6.read_unread, harg17.read_unread, harg15.read_unread]
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    isplitl [H15]
    · iexists _; isplitr; swap; · iexact H15
      ipureintro; exact harg15.read_unread _
    isplitl [H16]
    · iexists _; isplitr; swap; · iexact H16
      ipureintro; exact harg16.read_unread _
    isplitl [H17]
    · iexists _; isplitr; swap; · iexact H17
      ipureintro; exact harg17.read_unread _
    isplitl [H18]
    · iexists _; isplitr; swap; · iexact H18
      ipureintro; exact harg18.read_unread _
    iexists _; isplitr; swap; · iexact H19
    ipureintro; exact harg19.read_unread _

set_option maxHeartbeats 4000000 in
/-- At a later grid step the body carries the state on from the step before. -/
theorem body_later (c : Dev nD) (i : grid0.Coords) (arg1 : Memref sig .tc .smem S72 .f32) (harg1 : arg1.IsWhole) (arg2 : Memref sig .tc .vmem S72x5x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S72x4x1536 .bf16) (harg5 : arg5.IsWhole) (arg6 : Memref sig .tc .vmem S1536x512 .fp8e4m3) (harg6 : arg6.IsWhole) (arg7 : Memref sig .tc .vmem S1x512 .f32) (harg7 : arg7.IsWhole) (arg8 : Memref sig .tc .vmem S72x512 .i8) (harg8 : arg8.IsWhole) (arg9 : Memref sig .tc .vmem S360x512 .f32) (harg9 : arg9.IsWhole) (arg10 : Memref sig .tc .vmem S288x512 .f32) (harg10 : arg10.IsWhole) (arg11 : Memref sig .tc .vmem S360x128 .f32) (harg11 : arg11.IsWhole) (arg12 : Memref sig .tc .vmem S360x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x1536 .fp8e4m3) (harg15 : arg15.IsWhole) (arg16 : Memref sig .tc .vmem S288x1 .f32) (harg16 : arg16.IsWhole) (arg17 : Memref sig .tc .vmem S360x6144 .bf16) (harg17 : arg17.IsWhole) (arg18 : Memref sig .tc .vmem S360x128 .f32) (harg18 : arg18.IsWhole) (arg19 : Memref sig .tc .vmem S288x128 .f32) (harg19 : arg19.IsWhole) (hc0 : ¬cond0_0 i) (x0 : Vec F S72 .f32) (x1 : Vec F S72x5x6144 .bf16) (x2 : Vec F S3072x512 .i8) (x3 : Vec F S48x512 .f32) (x4 : Vec F S72x4x1536 .bf16) (x5 : Vec F S1536x512 .fp8e4m3) (x6 : Vec F S1x512 .f32) (x7 : Vec F S72x512 .i8) (mt : Vec F S360x128 .f32) (st : Vec F S360x128 .f32) (md : Vec F S288x128 .f32) (sd : Vec F S288x128 .f32) (codes : Vec F S288x1536 .fp8e4m3) (hds : Vec F S288x1 .f32) (xs : Vec F S360x6144 .bf16) (ct : Vec F S360x128 .f32) (cd : Vec F S288x128 .f32) (E : Set ℕ) (K : _ → sProp 𝕄) :
   iprop(((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare mt ∗ owns (c : Thread nD τ) arg12 fullShare st ∗ owns (c : Thread nD τ) arg13 fullShare md ∗ owns (c : Thread nD τ) arg14 fullShare sd ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) ∗ owns (c : Thread nD τ) arg7 fullShare x6 ∗ owns (c : Thread nD τ) arg8 fullShare x7 ∗ (∃ d, owns (c : Thread nD τ) arg9 fullShare d) ∗ (∃ d, owns (c : Thread nD τ) arg10 fullShare d)) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (ltOf x2 x3 x7 xs ct) ∗ owns (c : Thread nD τ) arg10 fullShare (ldOf x5 x6 x7 codes cd) ∗ owns (c : Thread nD τ) arg11 fullShare (k0_pay252 (ltOf x2 x3 x7 xs ct) mt) ∗ owns (c : Thread nD τ) arg12 fullShare (k0_pay253 (ltOf x2 x3 x7 xs ct) mt st) ∗ owns (c : Thread nD τ) arg13 fullShare (k0_pay2 (ldOf x5 x6 x7 codes cd) md) ∗ owns (c : Thread nD τ) arg14 fullShare (k0_pay3 (ldOf x5 x6 x7 codes cd) md sd) ∗ owns (c : Thread nD τ) arg15 fullShare codes ∗ owns (c : Thread nD τ) arg16 fullShare hds ∗ owns (c : Thread nD τ) arg17 fullShare xs ∗ owns (c : Thread nD τ) arg18 fullShare ct ∗ owns (c : Thread nD τ) arg19 fullShare cd) -∗ K ⟨⟩)) ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K :=
  step_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ x0 x1 x2 x3 x4 x5 x6 x7 mt st md sd codes hds xs ct cd
    (fun E K => skip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 mt st md sd codes hds xs ct cd E K) E K

end Cert.KernelIdeal.Gen

end
-- ==== Proof.HeadsDats.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdx
public import proofs.«01_k».proof.Proof.HeadsBody
public import Idealize.ShloMosaic.Lib.Claim
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

abbrev ms0_0 (t : Fin cfg0.N) : Memref sig .tc .smem S72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S72x5x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S72x4x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S72x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S360x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S288x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S360x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S360x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S288x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S288x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S288x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S288x1 .f32 := win0_15.stage (cfg0.slots t 15)
abbrev hs0_15 (t : Fin cfg0.N) : (ms0_15 t).IsWhole := hstage0_15 ((cfg0.slots t 15).cast nbuf0_15)
abbrev scM0_0 : Memref sig .tc .vmem S360x6144 .bf16 := Memref.whole cc0_scratch0
abbrev scM0_1 : Memref sig .tc .vmem S360x128 .f32 := Memref.whole cc0_scratch1
abbrev scM0_2 : Memref sig .tc .vmem S288x128 .f32 := Memref.whole cc0_scratch2

variable (m : (ℓ : Loc nD τ sig) → Buf (Elt F) ℓ) (ρ : Dev nD → PrngReg)

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The prologue runs at the first grid step only. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-! ## What the call leaves, step by step -/

/-- The first grid step. -/
def tz : Fin cfg0.N := ⟨0, by rw [show cfg0.N = 96 from N_0]; decide⟩

/-- The draft's codes. -/
def codes0 (c : Dev nD) : Vec F S288x1536 .fp8e4m3 := codesOf (iblk m c 4 tz)
/-- The draft rows' scales. -/
def hds0 (c : Dev nD) : Vec F S288x1 .f32 := hdsOf (iblk m c 4 tz)
/-- The target's rows. -/
def xs0 (c : Dev nD) : Vec F S360x6144 .bf16 := xsOf (iblk m c 1 tz)
/-- The target rows' factors. -/
def ct0 (c : Dev nD) : Vec F S360x128 .f32 := ctOf (iblk m c 0 tz)
/-- The draft rows' factors. -/
def cd0 (c : Dev nD) : Vec F S288x128 .f32 := cdOf (iblk m c 0 tz) (iblk m c 4 tz)
/-- The target's block of logits at a step. -/
def ltB (c : Dev nD) (t : Fin cfg0.N) : Vec F S360x512 .f32 := ltOf (iblk m c 2 t) (iblk m c 3 t) (iblk m c 7 t) (xs0 m c) (ct0 m c)
/-- The draft's block of logits at a step. -/
def ldB (c : Dev nD) (t : Fin cfg0.N) : Vec F S288x512 .f32 := ldOf (iblk m c 5 t) (iblk m c 6 t) (iblk m c 7 t) (codes0 m c) (cd0 m c)

/-- The target's running lane maxima and sums after a step. -/
def statT (c : Dev nD) : (n : ℕ) → n < cfg0.N → Vec F S360x128 .f32 × Vec F S360x128 .f32
  | 0, hn => (k0_pay252 (ltB m c ⟨0, hn⟩) k0_pay240, k0_pay253 (ltB m c ⟨0, hn⟩) k0_pay240 k0_pay242)
  | n + 1, hn => (k0_pay252 (ltB m c ⟨n + 1, hn⟩) (statT c n (Nat.lt_of_succ_lt hn)).1,
      k0_pay253 (ltB m c ⟨n + 1, hn⟩) (statT c n (Nat.lt_of_succ_lt hn)).1 (statT c n (Nat.lt_of_succ_lt hn)).2)

/-- The draft's running lane maxima and sums after a step. -/
def statD (c : Dev nD) : (n : ℕ) → n < cfg0.N → Vec F S288x128 .f32 × Vec F S288x128 .f32
  | 0, hn => (k0_pay2 (ldB m c ⟨0, hn⟩) k0_pay241, k0_pay3 (ldB m c ⟨0, hn⟩) k0_pay241 k0_pay243)
  | n + 1, hn => (k0_pay2 (ldB m c ⟨n + 1, hn⟩) (statD c n (Nat.lt_of_succ_lt hn)).1,
      k0_pay3 (ldB m c ⟨n + 1, hn⟩) (statD c n (Nat.lt_of_succ_lt hn)).1 (statD c n (Nat.lt_of_succ_lt hn)).2)

theorem statT_pos (c : Dev nD) (t : Fin cfg0.N) (hz : t.val ≠ 0) (hp : t.val - 1 < cfg0.N) :
    statT m c t.val t.isLt = (k0_pay252 (ltB m c t) (statT m c (t.val - 1) hp).1,
      k0_pay253 (ltB m c t) (statT m c (t.val - 1) hp).1 (statT m c (t.val - 1) hp).2) := by
  obtain ⟨n, hn⟩ := t
  cases n with
  | zero => exact absurd rfl hz
  | succ n => rfl

theorem statD_pos (c : Dev nD) (t : Fin cfg0.N) (hz : t.val ≠ 0) (hp : t.val - 1 < cfg0.N) :
    statD m c t.val t.isLt = (k0_pay2 (ldB m c t) (statD m c (t.val - 1) hp).1,
      k0_pay3 (ldB m c t) (statD m c (t.val - 1) hp).1 (statD m c (t.val - 1) hp).2) := by
  obtain ⟨n, hn⟩ := t
  cases n with
  | zero => exact absurd rfl hz
  | succ n => rfl

/-- Before the first step the scratch holds anything; afterwards the rows and factors the first step stored. -/
def PhiS (c : Dev nD) : (n : ℕ) → n ≤ cfg0.N → sProp 𝕄
  | 0, _ => Pipeline.ΦA spec0 c
  | _ + 1, _ => iprop(iprop(owns (c : Thread nD τ) scM0_0 fullShare (xs0 m c) ∗ owns (c : Thread nD τ) scM0_1 fullShare (ct0 m c) ∗ owns (c : Thread nD τ) scM0_2 fullShare (cd0 m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (xs0 m c) ∗ owns (c : Thread nD τ) scM0_1 fullShare (ct0 m c) ∗ owns (c : Thread nD τ) scM0_2 fullShare (cd0 m c)) ∗ (∃ r, prngReg c r)) := by
  cases n with
  | zero => exact absurd rfl hz
  | succ n => rfl

/-- The arrays as the region finds them, each input's block left in place, the outputs as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ltB m c t
    | ⟨9, _⟩ => ldB m c t
    | ⟨10, _⟩ => (statT m c t.val t.isLt).1
    | ⟨11, _⟩ => (statT m c t.val t.isLt).2
    | ⟨12, _⟩ => (statD m c t.val t.isLt).1
    | ⟨13, _⟩ => (statD m c t.val t.isLt).2
    | ⟨14, _⟩ => codes0 m c
    | ⟨15, _⟩ => hds0 m c
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = ltB m c t := by dsimp only [dats]
theorem after0_9 (c : Dev nD) (t : Fin cfg0.N) : (dats m 0 c).after 9 t = ldB m c t := by dsimp only [dats]
theorem after0_10 (c : Dev nD) (t : Fin cfg0.N) : (dats m 0 c).after 10 t = (statT m c t.val t.isLt).1 := by dsimp only [dats]
theorem after0_11 (c : Dev nD) (t : Fin cfg0.N) : (dats m 0 c).after 11 t = (statT m c t.val t.isLt).2 := by dsimp only [dats]
theorem after0_12 (c : Dev nD) (t : Fin cfg0.N) : (dats m 0 c).after 12 t = (statD m c t.val t.isLt).1 := by dsimp only [dats]
theorem after0_13 (c : Dev nD) (t : Fin cfg0.N) : (dats m 0 c).after 13 t = (statD m c t.val t.isLt).2 := by dsimp only [dats]
theorem after0_14 (c : Dev nD) (t : Fin cfg0.N) : (dats m 0 c).after 14 t = codes0 m c := by dsimp only [dats]
theorem after0_15 (c : Dev nD) (t : Fin cfg0.N) : (dats m 0 c).after 15 t = hds0 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem before0_10_B (c : Dev nD) (t : Fin cfg0.N) (h0 : ¬t.val % 96 = 0) (d) :
    (dats m 0 c).before 10 t d = (statT m c (t.val - 1) (Nat.lt_of_le_of_lt (Nat.sub_le _ _) t.isLt)).1 := by
  have hN : t.val < 96 := lt_of_lt_of_eq t.isLt (show cfg0.N = 96 from N_0)
  rw [Dat.before_out_kept _ 10 rfl t (by omega) (Bool.eq_false_iff.mpr fun h => by have := (flush0_10 _).mp h; dsimp only at this; omega)
    (fun _ => rfl) (fun _ _ => rfl)]
  dsimp only [dats]

theorem before0_11_B (c : Dev nD) (t : Fin cfg0.N) (h0 : ¬t.val % 96 = 0) (d) :
    (dats m 0 c).before 11 t d = (statT m c (t.val - 1) (Nat.lt_of_le_of_lt (Nat.sub_le _ _) t.isLt)).2 := by
  have hN : t.val < 96 := lt_of_lt_of_eq t.isLt (show cfg0.N = 96 from N_0)
  rw [Dat.before_out_kept _ 11 rfl t (by omega) (Bool.eq_false_iff.mpr fun h => by have := (flush0_11 _).mp h; dsimp only at this; omega)
    (fun _ => rfl) (fun _ _ => rfl)]
  dsimp only [dats]

theorem before0_12_B (c : Dev nD) (t : Fin cfg0.N) (h0 : ¬t.val % 96 = 0) (d) :
    (dats m 0 c).before 12 t d = (statD m c (t.val - 1) (Nat.lt_of_le_of_lt (Nat.sub_le _ _) t.isLt)).1 := by
  have hN : t.val < 96 := lt_of_lt_of_eq t.isLt (show cfg0.N = 96 from N_0)
  rw [Dat.before_out_kept _ 12 rfl t (by omega) (Bool.eq_false_iff.mpr fun h => by have := (flush0_12 _).mp h; dsimp only at this; omega)
    (fun _ => rfl) (fun _ _ => rfl)]
  dsimp only [dats]

theorem before0_13_B (c : Dev nD) (t : Fin cfg0.N) (h0 : ¬t.val % 96 = 0) (d) :
    (dats m 0 c).before 13 t d = (statD m c (t.val - 1) (Nat.lt_of_le_of_lt (Nat.sub_le _ _) t.isLt)).2 := by
  have hN : t.val < 96 := lt_of_lt_of_eq t.isLt (show cfg0.N = 96 from N_0)
  rw [Dat.before_out_kept _ 13 rfl t (by omega) (Bool.eq_false_iff.mpr fun h => by have := (flush0_13 _).mp h; dsimp only at this; omega)
    (fun _ => rfl) (fun _ _ => rfl)]
  dsimp only [dats]

/-- The codes and scales are stored at the first step only. -/
theorem idle0_14 : ∀ t : Fin cfg0.N, cfg0.idle 14 (grid0.coords t) = decide (t.val ≠ 0) :=
  (by decide +kernel : ∀ t : Fin grid0.N, cfg0.idle 14 (grid0.coords t) = decide (t.val ≠ 0))

theorem fresh0_14 (t : Fin cfg0.N) (hz : t.val ≠ 0) : cfg0.fresh 14 t.val = false := by
  have hN : t.val < 96 := lt_of_lt_of_eq t.isLt (show cfg0.N = 96 from N_0)
  rw [cfg0.fresh_tab 14 (fun n => decide (n = 0) || decide (n = 96)) rfl (fun t => ?_) t.val (Nat.le_of_lt t.isLt)]
  · simp only [Bool.or_eq_false_iff, decide_eq_false_iff_not]; omega
  · have hN : t.val < 96 := lt_of_lt_of_eq t.isLt (show cfg0.N = 96 from N_0)
    rw [idle0_14]
    have hf : (cfg0.win 14).flush t = decide (t.val % 96 = 95) := by
      rw [Bool.eq_iff_iff, flush0_14 t, decide_eq_true_iff]
    rw [hf, Bool.eq_iff_iff]
    simp only [Bool.or_eq_true, Bool.and_eq_true, decide_eq_true_iff]
    omega

theorem before0_14_B (c : Dev nD) (t : Fin cfg0.N) (h0 : ¬t.val % 96 = 0) (d) :
    (dats m 0 c).before 14 t d = codes0 m c := by
  have hz : t.val ≠ 0 := by omega
  rw [(dats m 0 c).before_out_traj 14 rfl (fun _ _ => rfl) (fun _ _ _ _ => by rw [after0_14, after0_14]) t.val t rfl d,
    fresh0_14 t hz, if_neg Bool.false_ne_true, after0_14]

/-- What the body leaves of window 14 is what the pipeline asks of it, stored or kept. -/
theorem post0_14 (c : Dev nD) (t : Fin cfg0.N) :
    (owns (c : Thread nD τ) (ms0_14 t) fullShare ((dats m 0 c).after 14 t) : sProp 𝕄) ⊢
      (match cfg0.idle 14 (cfg0.grid.coords t) with
        | true =>
          match (cfg0.win 14).flush t with
          | false => iprop(∃ d, owns (c : Thread nD τ) (ms0_14 t) fullShare ((dats m 0 c).before 14 t d))
          | true => owns (c : Thread nD τ) (ms0_14 t) fullShare ((dats m 0 c).after 14 t)
        | false => owns (c : Thread nD τ) (ms0_14 t) fullShare ((dats m 0 c).after 14 t) : sProp 𝕄) := by
  have hN : t.val < 96 := lt_of_lt_of_eq t.isLt (show cfg0.N = 96 from N_0)
  by_cases hz : t.val = 0
  · rw [show cfg0.idle 14 (cfg0.grid.coords t) = false from (idle0_14 t).trans (by simp [hz])]
  · rw [show cfg0.idle 14 (cfg0.grid.coords t) = true from (idle0_14 t).trans (by simp [hz])]
    by_cases hf : (cfg0.win 14).flush t = true
    · rw [hf]
    · rw [Bool.eq_false_iff.mpr hf]
      dsimp only
      simp only [before0_14_B m c t (by omega)]
      rw [after0_14]
      iintro H
      iexists (codes0 m c)
      iexact H

/-- The codes and scales are stored at the first step only. -/
theorem idle0_15 : ∀ t : Fin cfg0.N, cfg0.idle 15 (grid0.coords t) = decide (t.val ≠ 0) :=
  (by decide +kernel : ∀ t : Fin grid0.N, cfg0.idle 15 (grid0.coords t) = decide (t.val ≠ 0))

theorem fresh0_15 (t : Fin cfg0.N) (hz : t.val ≠ 0) : cfg0.fresh 15 t.val = false := by
  have hN : t.val < 96 := lt_of_lt_of_eq t.isLt (show cfg0.N = 96 from N_0)
  rw [cfg0.fresh_tab 15 (fun n => decide (n = 0) || decide (n = 96)) rfl (fun t => ?_) t.val (Nat.le_of_lt t.isLt)]
  · simp only [Bool.or_eq_false_iff, decide_eq_false_iff_not]; omega
  · have hN : t.val < 96 := lt_of_lt_of_eq t.isLt (show cfg0.N = 96 from N_0)
    rw [idle0_15]
    have hf : (cfg0.win 15).flush t = decide (t.val % 96 = 95) := by
      rw [Bool.eq_iff_iff, flush0_15 t, decide_eq_true_iff]
    rw [hf, Bool.eq_iff_iff]
    simp only [Bool.or_eq_true, Bool.and_eq_true, decide_eq_true_iff]
    omega

theorem before0_15_B (c : Dev nD) (t : Fin cfg0.N) (h0 : ¬t.val % 96 = 0) (d) :
    (dats m 0 c).before 15 t d = hds0 m c := by
  have hz : t.val ≠ 0 := by omega
  rw [(dats m 0 c).before_out_traj 15 rfl (fun _ _ => rfl) (fun _ _ _ _ => by rw [after0_15, after0_15]) t.val t rfl d,
    fresh0_15 t hz, if_neg Bool.false_ne_true, after0_15]

/-- What the body leaves of window 15 is what the pipeline asks of it, stored or kept. -/
theorem post0_15 (c : Dev nD) (t : Fin cfg0.N) :
    (owns (c : Thread nD τ) (ms0_15 t) fullShare ((dats m 0 c).after 15 t) : sProp 𝕄) ⊢
      (match cfg0.idle 15 (cfg0.grid.coords t) with
        | true =>
          match (cfg0.win 15).flush t with
          | false => iprop(∃ d, owns (c : Thread nD τ) (ms0_15 t) fullShare ((dats m 0 c).before 15 t d))
          | true => owns (c : Thread nD τ) (ms0_15 t) fullShare ((dats m 0 c).after 15 t)
        | false => owns (c : Thread nD τ) (ms0_15 t) fullShare ((dats m 0 c).after 15 t) : sProp 𝕄) := by
  have hN : t.val < 96 := lt_of_lt_of_eq t.isLt (show cfg0.N = 96 from N_0)
  by_cases hz : t.val = 0
  · rw [show cfg0.idle 15 (cfg0.grid.coords t) = false from (idle0_15 t).trans (by simp [hz])]
  · rw [show cfg0.idle 15 (cfg0.grid.coords t) = true from (idle0_15 t).trans (by simp [hz])]
    by_cases hf : (cfg0.win 15).flush t = true
    · rw [hf]
    · rw [Bool.eq_false_iff.mpr hf]
      dsimp only
      simp only [before0_15_B m c t (by omega)]
      rw [after0_15]
      iintro H
      iexists (hds0 m c)
      iexact H

/-- What the body is called with at a step, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What the body leaves at a step. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body's triple at a step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_pos m c (t.val + 1) _ (Nat.succ_ne_zero _)]
  have hN : t.val < 96 := lt_of_lt_of_eq t.isLt (show cfg0.N = 96 from N_0)
  by_cases hz : t.val = 0
  · rw [PhiS_castSucc m c t, PhiS_zero m c _ _ hz, PhiA0_eq]
    obtain rfl : t = tz := Fin.ext hz
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (body_first c (grid0.coords tz) (ms0_0 tz) (hs0_0 tz) (ms0_1 tz) (hs0_1 tz) (ms0_2 tz) (hs0_2 tz) (ms0_3 tz) (hs0_3 tz) (ms0_4 tz) (hs0_4 tz) (ms0_5 tz) (hs0_5 tz) (ms0_6 tz) (hs0_6 tz) (ms0_7 tz) (hs0_7 tz) (ms0_8 tz) (hs0_8 tz) (ms0_9 tz) (hs0_9 tz) (ms0_10 tz) (hs0_10 tz) (ms0_11 tz) (hs0_11 tz) (ms0_12 tz) (hs0_12 tz) (ms0_13 tz) (hs0_13 tz) (ms0_14 tz) (hs0_14 tz) (ms0_15 tz) (hs0_15 tz) scM0_0 (Memref.isWhole_whole _) scM0_1 (Memref.isWhole_whole _) scM0_2 (Memref.isWhole_whole _) ((hcond0_0 tz).mpr rfl) (iblk m c 0 tz) (iblk m c 1 tz) (iblk m c 2 tz) (iblk m c 3 tz) (iblk m c 4 tz) (iblk m c 5 tz) (iblk m c 6 tz) (iblk m c 7 tz) Set.univ _)
      isplitl [H0 H1 H2 H3 H4 H5 H10 H11 H12 H13 H14 H15 HS0 HS1 HS2 H6 H7 H8 H9]
      · isplitl [H0 H1 H2 H3 H4 H5 H10 H11 H12 H13 H14 H15 HS0 HS1 HS2]
        · isplitl [H0]; · iexact H0
          isplitl [H1]; · iexact H1
          isplitl [H2]; · iexact H2
          isplitl [H3]; · iexact H3
          isplitl [H4]; · iexact H4
          isplitl [H5]; · iexact H5
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          iexact HS2
        isplitl [H6]; · iexact H6
        isplitl [H7]; · iexact H7
        isplitl [H8]; · iexists _; iexact H8
        iexists _; iexact H9
      iintro ⟨H0, H1, H2, H3, H4, H5, H6, H7, H8, H9, H10, H11, H12, H13, H14, H15, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
  · rw [PhiS_castSucc m c t, PhiS_pos m c _ _ hz]
    have h0 : ¬t.val % 96 = 0 := by omega
    simp only [before0_10_B m c t h0, before0_11_B m c t h0, before0_12_B m c t h0, before0_13_B m c t h0, before0_14_B m c t h0, before0_15_B m c t h0]
    rw [statT_pos m c t hz (Nat.lt_of_le_of_lt (Nat.sub_le _ _) t.isLt), statD_pos m c t hz (Nat.lt_of_le_of_lt (Nat.sub_le _ _) t.isLt)]
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (body_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (statT m c (t.val - 1) (Nat.lt_of_le_of_lt (Nat.sub_le _ _) t.isLt)).1 (statT m c (t.val - 1) (Nat.lt_of_le_of_lt (Nat.sub_le _ _) t.isLt)).2 (statD m c (t.val - 1) (Nat.lt_of_le_of_lt (Nat.sub_le _ _) t.isLt)).1 (statD m c (t.val - 1) (Nat.lt_of_le_of_lt (Nat.sub_le _ _) t.isLt)).2 (codes0 m c) (hds0 m c) (xs0 m c) (ct0 m c) (cd0 m c) Set.univ _)
      isplitl [H0 H1 H2 H3 H4 H5 H10 H11 H12 H13 H14 H15 HS0 HS1 HS2 H6 H7 H8 H9]
      · isplitl [H0 H1 H2 H3 H4 H5 H10 H11 H12 H13 H14 H15 HS0 HS1 HS2]
        · isplitl [H0]; · iexact H0
          isplitl [H1]; · iexact H1
          isplitl [H2]; · iexact H2
          isplitl [H3]; · iexact H3
          isplitl [H4]; · iexact H4
          isplitl [H5]; · iexact H5
          isplitl [H10]; · iexact H10
          isplitl [H11]; · iexact H11
          isplitl [H12]; · iexact H12
          isplitl [H13]; · iexact H13
          isplitl [H14]; · iexact H14
          isplitl [H15]; · iexact H15
          isplitl [HS0]; · iexact HS0
          isplitl [HS1]; · iexact HS1
          iexact HS2
        isplitl [H6]; · iexact H6
        isplitl [H7]; · iexact H7
        isplitl [H8]; · iexists _; iexact H8
        iexists _; iexact H9
      iintro ⟨H0, H1, H2, H3, H4, H5, H6, H7, H8, H9, H10, H11, H12, H13, H14, H15, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  refine BI.sep_mono (Idealize.SL.BI.Entails.refl _) ?_
  exact BI.sep_mono (post0_14 m c t) (post0_15 m c t)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: every argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.HeadsSpec.lean ====
module

public import Idealize.ShloMosaic.Lib.Pointwise
public import Idealize.ShloMosaic.PureOps.Ideal

@[expose] public section

set_option maxRecDepth 16384

noncomputable section

/-! # One logit of either head

What one entry of the masked, tempered logits is over the extended reals, from the row of hidden states, the column of
weights, the column's scales, the mask's byte and the temperature. -/

namespace Cert.HeadsSpec

open Idealize.ShloMosaic

/-- The value of a four-bit field read as a signed number. -/
def signed (n : BitVec 32) : EReal :=
  FloatOps.sitofp (F := Ideal) FTy.bf16 (IntOp.subi n (IntOp.muli (16#32) (BitVec.setWidth 32 (IntOp.cmpi CmpIPredicate.sge n 8#32))))

/-- A packed byte's low field. -/
def lo (b : BitVec 8) : BitVec 32 := IntOp.andi (BitVec.setWidth 32 b) 15#32
/-- A packed byte's high field. -/
def hi (b : BitVec 8) : BitVec 32 := IntOp.shrsi ArithUnit.vector (BitVec.setWidth 32 b) 4#32

/-- The field of a packed byte that row `p` of the weights holds: the low one in an even row, the high one in an odd row. -/
def field (p : ℕ) (b : BitVec 8) : BitVec 32 := Scalar.select (IntOp.cmpi CmpIPredicate.eq (BitVec.ofNat 32 (p % 2)) 0#32) (lo b) (hi b)

theorem field_even (p : ℕ) (b : BitVec 8) (h : p % 2 = 0) : field p b = lo b := by
  unfold field; rw [h]; rfl

theorem field_odd (p : ℕ) (b : BitVec 8) (h : p % 2 = 1) : field p b = hi b := by
  unfold field; rw [h]; rfl

/-- The float nearest to `log2 e`. -/
abbrev log2e : EReal := Ideal.ofBits FTy.f32 1069066811#32
/-- Minus infinity's pattern. -/
abbrev minf : EReal := Ideal.ofBits FTy.f32 4286578688#32

/-- One product of a row of hidden states and a column of unpacked, scaled weights. -/
def dotT (X : Fin 6144 → EReal) (W : Fin 3072 → BitVec 8) (S : Fin 48 → EReal) : EReal :=
  ∑ p : Fin 6144, X p * (signed (field p.val (W ⟨p.val / 2, by omega⟩)) * S ⟨p.val / 128, by omega⟩)

open Classical in
/-- One entry of the target's logits. -/
def valT (X : Fin 6144 → EReal) (W : Fin 3072 → BitVec 8) (S : Fin 48 → EReal) (a : BitVec 8) (t : EReal) : EReal :=
  if (0 : EReal) < FloatOps.sitofp (F := Ideal) FTy.f32 a then dotT X W S * Ideal.div log2e t else minf

open Classical in
/-- One entry of the draft's logits. -/
def valD (X : Fin 1536 → EReal) (W : Fin 1536 → EReal) (e s : EReal) (a : BitVec 8) (t : EReal) : EReal :=
  if (0 : EReal) < FloatOps.sitofp (F := Ideal) FTy.f32 a then (∑ x, X x * W x) * (Ideal.div log2e t * e) * s else minf

/-- One code of the quantised hidden states, from the state and the factor. -/
def code (x f : EReal) : EReal := min (Ideal.ofBits FTy.f32 1138753536#32) (max (Ideal.ofBits FTy.f32 3286237184#32) (x * f))

/-- The sequence that a row of the target's logits belongs to: the drafted positions' rows come first, then one row per sequence. -/
def seqF (r : Fin 360) : Fin 72 := if h : r.val < 288 then ⟨r.val / 4, by omega⟩ else ⟨r.val - 288, by omega⟩

/-- The hidden states of one row of the target's logits. -/
def rowF (x : Fin 72 → Fin 5 → Fin 6144 → EReal) (r : Fin 360) (p : Fin 6144) : EReal :=
  if h : r.val < 288 then x ⟨r.val / 4, by omega⟩ ⟨r.val % 4, by omega⟩ p else x ⟨r.val - 288, by omega⟩ 4 p

/-- The sequence of a drafted row. -/
def seqD (r : Fin 288) : Fin 72 := ⟨r.val / 4, by omega⟩
/-- The position of a drafted row. -/
def posD (r : Fin 288) : Fin 4 := ⟨r.val % 4, by omega⟩

/-- A row's greatest magnitude. -/
def amax (h : Fin 1536 → EReal) : EReal :=
  Finset.fold max (Ideal.ofBits FTy.f32 4286578688#32) (fun x => FloatOps.absf (F := Ideal) (φ := .f32) (h x)) Finset.univ

/-- A sum over the rows splits into those in even places and those in odd places, each by groups of 64. -/
theorem sum_split (f : Fin 6144 → EReal) :
    ∑ p, f p = (∑ g : Fin 48, ∑ r : Fin 64, f ⟨2 * (g.val * 64 + r.val), by omega⟩)
      + ∑ g : Fin 48, ∑ r : Fin 64, f ⟨1 + 2 * (g.val * 64 + r.val), by omega⟩ := by
  have e1 : ∑ p, f p = ∑ x : Fin 3072 × Fin 2, f (finProdFinEquiv (m := 3072) (n := 2) x) := (Equiv.sum_comp (finProdFinEquiv (m := 3072) (n := 2)) f).symm
  have e2 (F : Fin 3072 → EReal) : ∑ q, F q = ∑ x : Fin 48 × Fin 64, F (finProdFinEquiv (m := 48) (n := 64) x) := (Equiv.sum_comp (finProdFinEquiv (m := 48) (n := 64)) F).symm
  rw [e1, Fintype.sum_prod_type, e2, Fintype.sum_prod_type, ← Finset.sum_add_distrib]
  refine Finset.sum_congr rfl fun g _ => ?_
  rw [← Finset.sum_add_distrib]
  refine Finset.sum_congr rfl fun r _ => ?_
  rw [Fin.sum_univ_two]
  congr 2
  · refine Fin.ext ?_
    simp [finProdFinEquiv]; omega
  · refine Fin.ext ?_
    simp [finProdFinEquiv]; omega

/-- The product as the reference states it, even and odd places apart. -/
theorem dotT_eq (X : Fin 6144 → EReal) (W : Fin 3072 → BitVec 8) (S : Fin 48 → EReal) :
    dotT X W S = (∑ g : Fin 48, ∑ r : Fin 64, X ⟨2 * (g.val * 64 + r.val), by omega⟩ * (signed (lo (W ⟨g.val * 64 + r.val, by omega⟩)) * S g))
      + ∑ g : Fin 48, ∑ r : Fin 64, X ⟨1 + 2 * (g.val * 64 + r.val), by omega⟩ * (signed (hi (W ⟨g.val * 64 + r.val, by omega⟩)) * S g) := by
  have h1 (g : Fin 48) (r : Fin 64) : (⟨2 * (g.val * 64 + r.val) / 2, by omega⟩ : Fin 3072) = ⟨g.val * 64 + r.val, by omega⟩ := Fin.ext (by show 2 * (g.val * 64 + r.val) / 2 = g.val * 64 + r.val; omega)
  have h2 (g : Fin 48) (r : Fin 64) : (⟨2 * (g.val * 64 + r.val) / 128, by omega⟩ : Fin 48) = g := Fin.ext (by show 2 * (g.val * 64 + r.val) / 128 = g.val; omega)
  have h3 (g : Fin 48) (r : Fin 64) : (⟨(1 + 2 * (g.val * 64 + r.val)) / 2, by omega⟩ : Fin 3072) = ⟨g.val * 64 + r.val, by omega⟩ := Fin.ext (by show (1 + 2 * (g.val * 64 + r.val)) / 2 = g.val * 64 + r.val; omega)
  have h4 (g : Fin 48) (r : Fin 64) : (⟨(1 + 2 * (g.val * 64 + r.val)) / 128, by omega⟩ : Fin 48) = g := Fin.ext (by show (1 + 2 * (g.val * 64 + r.val)) / 128 = g.val; omega)
  refine (sum_split _).trans (congrArg₂ (· + ·) (Finset.sum_congr rfl fun g _ => Finset.sum_congr rfl fun r _ => ?_) (Finset.sum_congr rfl fun g _ => Finset.sum_congr rfl fun r _ => ?_))
  · show X _ * (signed (field (2 * (g.val * 64 + r.val)) (W ⟨2 * (g.val * 64 + r.val) / 2, _⟩)) * S ⟨2 * (g.val * 64 + r.val) / 128, _⟩) = _
    rw [field_even _ _ (by omega), h1, h2]
  · show X _ * (signed (field (1 + 2 * (g.val * 64 + r.val)) (W ⟨(1 + 2 * (g.val * 64 + r.val)) / 2, _⟩)) * S ⟨(1 + 2 * (g.val * 64 + r.val)) / 128, _⟩) = _
    rw [field_odd _ _ (by omega), h3, h4]

/-- Dividing by a temperature that is not zero and scaling by `log2 e` is scaling by their quotient. -/
theorem temper (x t : EReal) (h : t ≠ 0) : Ideal.div x t * log2e = x * Ideal.div log2e t := by
  unfold Ideal.div
  rw [if_neg h, if_neg h, mul_assoc, mul_comm t⁻¹ log2e]

/-- The same for the draft, whose factor also has the row's scale and the column's. -/
theorem temperD (x e s t : EReal) (h : t ≠ 0) : Ideal.div (x * e * s) t * log2e = x * (Ideal.div log2e t * e) * s := by
  unfold Ideal.div
  rw [if_neg h, if_neg h]
  ac_rfl

/-- The mask's byte is above zero exactly where the mask's bit is set. -/
theorem mask_pos (b : BitVec 1) : (0 : EReal) < FloatOps.sitofp (F := Ideal) FTy.f32 (BitVec.setWidth 8 b) ↔ b = 1#1 := by
  show (0 : EReal) < (((BitVec.setWidth 8 b).toInt : ℝ) : EReal) ↔ _
  rcases BitVec.eq_zero_or_eq_one b with rfl | rfl
  · simp
  · rw [show (BitVec.setWidth 8 1#1).toInt = 1 from by decide]; simp

end Cert.HeadsSpec

end
-- ==== Proof.Quantiser.lean ====
module

public import Idealize.ShloMosaic.Lib.Pointwise
public import Idealize.ShloMosaic.Lib.IndicatorCount
public import Idealize.ShloMosaic.PureOps.Ideal

@[expose] public section

set_option maxRecDepth 16384

noncomputable section

/-! # The power-of-two quantiser's exponent

The kernel finds the exponent of a row's scale by counting, among the normal powers of two, those not above the row's
greatest magnitude over 448, with a shift by 23 where that is below the least normal float.  The reference counts among
all powers of two down to the least subnormal.  The two counts agree on the rows of the precondition. -/

namespace Cert.Quantiser

open Idealize.ShloMosaic

/-- The word that the kernel makes of an exponent's place: the place moved to the exponent field. -/
theorem word_of (x : Fin 256) :
    IntOp.shli ArithUnit.vector (IntOp.addi (IntOp.subi (BitVec.ofNat 32 x.val) 127#32) 127#32) 23#32 = BitVec.ofNat 32 (x.val * 8388608) := by
  revert x; decide +kernel

theorem fields_of (x : Fin 256) :
    (BitVec.ofNat 32 (x.val * 8388608)).extractLsb' 31 1 = 0#1 ∧ ((BitVec.ofNat 32 (x.val * 8388608)).extractLsb' 23 8).toNat = x.val
      ∧ ((BitVec.ofNat 32 (x.val * 8388608)).extractLsb' 0 23).toNat = 0 := by
  revert x; decide +kernel

/-- A normal exponent field with no fraction denotes its power of two. -/
theorem ofBits_pow (x : Fin 256) (h1 : 1 ≤ x.val) (h2 : x.val ≤ 254) :
    Ideal.ofBits .f32 (BitVec.ofNat 32 (x.val * 8388608)) = (((2 : ℝ) ^ ((x.val : ℤ) - 127) : ℝ) : EReal) := by
  obtain ⟨e1, e2, e3⟩ := fields_of x
  have hx : x.val ≠ 255 := by omega
  have hx0 : x.val ≠ 0 := by omega
  show Ideal.ieee 8 23 _ = _
  unfold Ideal.ieee
  simp only [show (8 + 23 : ℕ) = 31 from rfl, e1, e2, e3]
  rw [if_neg (by norm_num; exact hx), if_neg hx0]
  congr 1
  have : ((x.val : ℤ) - (2 ^ (8 - 1) - 1) - (23 : ℕ)) = ((x.val : ℤ) - 127) - 23 := by norm_num
  rw [this, zpow_sub₀ (two_ne_zero)]
  norm_num
  exact mul_div_cancel₀ _ (by norm_num)

theorem ofBits_zeroth : Ideal.ofBits .f32 (BitVec.ofNat 32 (0 * 8388608)) = 0 := by
  simp [Ideal.ofBits, Ideal.ieee]

theorem ofBits_last : Ideal.ofBits .f32 (BitVec.ofNat 32 (255 * 8388608)) = ⊤ := by
  simp [Ideal.ofBits, Ideal.ieee]

/-- The float nearest to 1/448. -/
theorem recip448 : Ideal.ofBits .f32 991054117#32 = (((9586981 : ℝ) * (2 : ℝ) ^ (-32 : ℤ) : ℝ) : EReal) := by
  simp [Ideal.ofBits, Ideal.ieee, -EReal.coe_mul]

theorem leastNormal : Ideal.ofBits .f32 8388608#32 = (((2 : ℝ) ^ (-126 : ℤ) : ℝ) : EReal) := by
  rw [show (8388608#32 : BitVec 32) = BitVec.ofNat 32 ((1 : Fin 256).val * 8388608) from rfl, ofBits_pow 1 (by decide) (by decide)]
  norm_num

theorem two23 : Ideal.ofBits .f32 1258291200#32 = (((2 : ℝ) ^ (23 : ℤ) : ℝ) : EReal) := by
  rw [show (1258291200#32 : BitVec 32) = BitVec.ofNat 32 ((150 : Fin 256).val * 8388608) from rfl, ofBits_pow 150 (by decide) (by decide)]
  norm_num

theorem two127 : Ideal.ofBits .f32 2130706432#32 = (((2 : ℝ) ^ (127 : ℤ) : ℝ) : EReal) := by
  rw [show (2130706432#32 : BitVec 32) = BitVec.ofNat 32 ((254 : Fin 256).val * 8388608) from rfl, ofBits_pow 254 (by decide) (by decide)]
  norm_num

theorem least : Ideal.ofBits .f32 73400320#32 = (((14680064 : ℝ) * (2 : ℝ) ^ (-142 : ℤ) : ℝ) : EReal) := by
  simp [Ideal.ofBits, Ideal.ieee, -EReal.coe_mul]

/-- How many of the first `N` numbers are below `n`. -/
theorem card_lt (N n : ℕ) (h : n ≤ N) : (Finset.univ.filter fun x : Fin N => x.val < n).card = n := by
  rw [Fin.card_filter_val_lt]; omega

/-- Counting the indices that hold a property which is that of being below `n`. -/
theorem count_eq (N n : ℕ) (h : n ≤ N) (p : Fin N → Prop) [DecidablePred p] (hp : ∀ x, p x ↔ x.val < n) :
    Finset.fold IntOp.addi (0#32) (fun x => BitVec.setWidth 32 (BitVec.ofBool (decide (p x)))) (Finset.univ : Finset (Fin N)) = BitVec.ofNat 32 n := by
  rw [IndicatorCount.fold_addi_setWidth_eq_card]
  congr 1
  rw [← card_lt N n h]
  congr 1
  ext x
  by_cases hx : x.val < n <;> simp [hp x, hx]

/-- Whether a power of two is at most a number between two successive powers. -/
theorem zpow_le_iff {y : ℝ} {k j : ℤ} (h1 : (2 : ℝ) ^ k ≤ y) (h2 : y < (2 : ℝ) ^ (k + 1)) : (2 : ℝ) ^ j ≤ y ↔ j ≤ k := by
  constructor
  · intro h
    by_contra hc
    have : (2 : ℝ) ^ (k + 1) ≤ (2 : ℝ) ^ j := zpow_le_zpow_right₀ (by norm_num) (by omega)
    linarith
  · intro h
    exact le_trans (zpow_le_zpow_right₀ (by norm_num) h) h1

/-- The kernel's count of the powers of two not above a number. -/
def kCount (y : EReal) : BitVec 32 :=
  Finset.fold IntOp.addi (0#32) (fun x : Fin 256 => BitVec.setWidth 32 (BitVec.ofBool (decide (
    Ideal.ofBits .f32 (IntOp.shli ArithUnit.vector (IntOp.addi (IntOp.subi (BitVec.ofNat 32 x.val) 127#32) 127#32) 23#32) ≤ y)))) Finset.univ

theorem kCount_eq {y : ℝ} {k : ℤ} (h1 : (2 : ℝ) ^ k ≤ y) (h2 : y < (2 : ℝ) ^ (k + 1)) (hk : -126 ≤ k) (hk' : k ≤ 127) :
    kCount (y : EReal) = BitVec.ofNat 32 (k + 128).toNat := by
  unfold kCount
  refine count_eq 256 _ (by omega) _ fun x => ?_
  rw [word_of x]
  have hy : 0 < y := lt_of_lt_of_le (zpow_pos (by norm_num) k) h1
  by_cases h0 : x.val = 0
  · rw [h0, ofBits_zeroth]
    have : (0 : EReal) ≤ (y : EReal) := by exact_mod_cast hy.le
    simp only [this, true_iff]; omega
  · by_cases h255 : x.val = 255
    · rw [h255, ofBits_last]
      have : ¬ ((⊤ : EReal) ≤ (y : EReal)) := by simp
      simp only [this, false_iff]; omega
    · rw [ofBits_pow x (by omega) (by omega), EReal.coe_le_coe_iff, zpow_le_iff h1 h2]
      omega

/-- The reference's count of the powers of two not above a number. -/
def rCount (y : EReal) : BitVec 32 :=
  Finset.fold IntOp.addi (0#32) (fun x : Fin 277 => BitVec.setWidth 32 (BitVec.ofBool (decide (
    FloatOps.exp2 (F := Ideal) (φ := .f32) (FloatOps.sitofp (F := Ideal) FTy.f32 (IntOp.subi (BitVec.ofNat 32 x.val) 149#32)) ≤ y)))) Finset.univ

theorem sub149 (x : Fin 277) : (IntOp.subi (BitVec.ofNat 32 x.val) 149#32).toInt = (x.val : ℤ) - 149 := by
  revert x; decide +kernel

/-- Two to an integer power. -/
theorem exp2_int (n : ℤ) : Ideal.exp2 (((n : ℝ)) : EReal) = (((2 : ℝ) ^ n : ℝ) : EReal) := by
  rw [Ideal.exp2_coe]
  congr 1
  exact Real.rpow_intCast 2 n

theorem rCount_eq {y : ℝ} {k : ℤ} (h1 : (2 : ℝ) ^ k ≤ y) (h2 : y < (2 : ℝ) ^ (k + 1)) (hk : -150 ≤ k) (hk' : k ≤ 127) :
    rCount (y : EReal) = BitVec.ofNat 32 (k + 150).toNat := by
  unfold rCount
  refine count_eq 277 _ (by omega) _ fun x => ?_
  have e : FloatOps.exp2 (F := Ideal) (φ := .f32) (FloatOps.sitofp (F := Ideal) FTy.f32 (IntOp.subi (BitVec.ofNat 32 x.val) 149#32))
      = (((2 : ℝ) ^ ((x.val : ℤ) - 149) : ℝ) : EReal) := by
    show Ideal.exp2 ((((IntOp.subi (BitVec.ofNat 32 x.val) 149#32).toInt : ℝ)) : EReal) = _
    rw [sub149, exp2_int]
  rw [e, EReal.coe_le_coe_iff, zpow_le_iff h1 h2]
  omega

/-- The kernel's exponent of a row whose greatest magnitude is `a`. -/
def kExp (a : EReal) : BitVec 32 :=
  if a = 0 then 0#32 else
    IntOp.subi (IntOp.subi (IntOp.subi
      (kCount (if a * Ideal.ofBits .f32 991054117#32 < Ideal.ofBits .f32 8388608#32
        then a * Ideal.ofBits .f32 991054117#32 * Ideal.ofBits .f32 1258291200#32 else a * Ideal.ofBits .f32 991054117#32)) 1#32) 126#32)
      (if a * Ideal.ofBits .f32 991054117#32 < Ideal.ofBits .f32 8388608#32 then 23#32 else 0#32)

/-- The reference's exponent of a row whose greatest magnitude is `a`. -/
def rExp (a : EReal) : BitVec 32 :=
  if a = 0 then 0#32 else IntOp.subi (rCount (a * Ideal.ofBits .f32 991054117#32)) 149#32

/-- The rows of the precondition. -/
def Good (a : EReal) : Prop := a = 0 ∨ (Ideal.ofBits .f32 73400320#32 ≤ a ∧ a < Ideal.ofBits .f32 2130706432#32)

/-- The exponent as an integer. -/
def word (n : ℤ) : BitVec 32 := BitVec.ofInt 32 n

theorem word_toInt (n : ℤ) (h1 : -200 ≤ n) (h2 : n ≤ 200) : (word n).toInt = n := by
  unfold word
  rw [BitVec.toInt_ofInt]
  simp only [Int.bmod]
  omega

theorem exps (a : EReal) (h : Good a) : ∃ n : ℤ, -126 ≤ n ∧ n ≤ 119 ∧ kExp a = word n ∧ rExp a = word n := by
  by_cases h0 : a = 0
  · refine ⟨0, by norm_num, by norm_num, ?_, ?_⟩
    · rw [kExp, if_pos h0]; rfl
    · rw [rExp, if_pos h0]; rfl
  · rcases h with h | ⟨hl, hu⟩
    · exact absurd h h0
    rw [least] at hl
    rw [two127] at hu
    obtain ⟨a, rfl⟩ : ∃ r : ℝ, a = (r : EReal) := by
      induction a with
      | bot => exact absurd (le_bot_iff.mp hl) (EReal.coe_ne_bot _)
      | top => simp at hu
      | coe r => exact ⟨r, rfl⟩
    rw [EReal.coe_le_coe_iff] at hl
    rw [EReal.coe_lt_coe_iff] at hu
    have ey : (a : EReal) * Ideal.ofBits .f32 991054117#32 = ((a * (9586981 * (2 : ℝ) ^ (-32 : ℤ)) : ℝ) : EReal) := by
      rw [recip448, ← EReal.coe_mul]
    set y : ℝ := a * (9586981 * (2 : ℝ) ^ (-32 : ℤ)) with hy
    have c32 : (0 : ℝ) < 9586981 * (2 : ℝ) ^ (-32 : ℤ) := by positivity
    have yl : (2 : ℝ) ^ (-127 : ℤ) ≤ y := by
      refine le_trans ?_ (mul_le_mul_of_nonneg_right hl c32.le)
      norm_num
    have yu : y < (2 : ℝ) ^ (119 : ℤ) := by
      refine lt_of_lt_of_le (mul_lt_mul_of_pos_right hu c32) ?_
      norm_num
    have yp : 0 < y := lt_of_lt_of_le (by positivity) yl
    obtain ⟨k, b1, b2⟩ := exists_mem_Ico_zpow yp (show (1 : ℝ) < 2 by norm_num)
    have k1 : -127 ≤ k := by
      by_contra hc
      have : (2 : ℝ) ^ (k + 1) ≤ (2 : ℝ) ^ (-127 : ℤ) := zpow_le_zpow_right₀ (by norm_num) (by omega)
      linarith
    have k2 : k ≤ 118 := by
      by_contra hc
      have : (2 : ℝ) ^ (119 : ℤ) ≤ (2 : ℝ) ^ k := zpow_le_zpow_right₀ (by norm_num) (by omega)
      linarith
    refine ⟨k + 1, by omega, by omega, ?_, ?_⟩
    · rw [kExp, if_neg h0, ey, leastNormal, two23]
      by_cases ht : y < (2 : ℝ) ^ (-126 : ℤ)
      · have ht' : ((y : ℝ) : EReal) < (((2 : ℝ) ^ (-126 : ℤ) : ℝ) : EReal) := EReal.coe_lt_coe_iff.mpr ht
        rw [if_pos ht', if_pos ht', ← EReal.coe_mul]
        have k3 : k ≤ -127 := by
          by_contra hc
          have : (2 : ℝ) ^ (-126 : ℤ) ≤ (2 : ℝ) ^ k := zpow_le_zpow_right₀ (by norm_num) (by omega)
          linarith
        obtain rfl : k = -127 := by omega
        have d1 : (2 : ℝ) ^ (-104 : ℤ) ≤ y * (2 : ℝ) ^ (23 : ℤ) := by
          have := mul_le_mul_of_nonneg_right b1 (show (0 : ℝ) ≤ (2 : ℝ) ^ (23 : ℤ) by positivity)
          refine le_trans (le_of_eq ?_) this
          norm_num
        have d2 : y * (2 : ℝ) ^ (23 : ℤ) < (2 : ℝ) ^ (-104 + 1 : ℤ) := by
          have := mul_lt_mul_of_pos_right b2 (show (0 : ℝ) < (2 : ℝ) ^ (23 : ℤ) by positivity)
          refine lt_of_lt_of_le this (le_of_eq ?_)
          norm_num
        rw [kCount_eq d1 d2 (by norm_num) (by norm_num)]
        rfl
      · have ht' : ¬ ((y : ℝ) : EReal) < (((2 : ℝ) ^ (-126 : ℤ) : ℝ) : EReal) := fun h => ht (EReal.coe_lt_coe_iff.mp h)
        rw [if_neg ht', if_neg ht']
        have k3 : -126 ≤ k := by
          by_contra hc
          have : (2 : ℝ) ^ (k + 1) ≤ (2 : ℝ) ^ (-126 : ℤ) := zpow_le_zpow_right₀ (by norm_num) (by omega)
          linarith
        rw [kCount_eq b1 b2 (by omega) (by omega)]
        obtain ⟨n, hn⟩ : ∃ n : Fin 256, k = (n.val : ℤ) - 128 := ⟨⟨(k + 128).toNat, by omega⟩, by simp; omega⟩
        rw [hn]
        clear * -
        revert n; decide +kernel
    · rw [rExp, if_neg h0, ey, rCount_eq b1 b2 (by omega) (by omega)]
      obtain ⟨n, hn⟩ : ∃ n : Fin 256, k = (n.val : ℤ) - 128 := ⟨⟨(k + 128).toNat, by omega⟩, by simp; omega⟩
      rw [hn]
      clear * -
      revert n; decide +kernel

theorem pow_word (n : ℤ) (h1 : -126 ≤ n) (h2 : n ≤ 127) :
    Ideal.ofBits .f32 (IntOp.shli ArithUnit.vector (IntOp.addi (word n) 127#32) 23#32) = (((2 : ℝ) ^ n : ℝ) : EReal) := by
  obtain ⟨x, hx⟩ : ∃ x : Fin 256, n = (x.val : ℤ) - 127 := ⟨⟨(n + 127).toNat, by omega⟩, by simp; omega⟩
  subst hx
  have e : IntOp.shli ArithUnit.vector (IntOp.addi (word ((x.val : ℤ) - 127)) 127#32) 23#32 = BitVec.ofNat 32 (x.val * 8388608) := by
    clear h1 h2
    revert x; decide +kernel
  rw [e, ofBits_pow x (by omega) (by omega)]

theorem neg_word (n : ℤ) (h1 : -126 ≤ n) (h2 : n ≤ 119) : IntOp.subi (0#32) (word n) = word (-n) := by
  obtain ⟨x, hx⟩ : ∃ x : Fin 256, n = (x.val : ℤ) - 127 := ⟨⟨(n + 127).toNat, by omega⟩, by simp; omega⟩
  subst hx
  clear h1 h2
  revert x; decide +kernel

/-- The kernel's scale is the reference's. -/
theorem scale_eq (a : EReal) (h : Good a) :
    Ideal.ofBits .f32 (IntOp.shli ArithUnit.vector (IntOp.addi (kExp a) 127#32) 23#32)
      = Ideal.exp2 ((((rExp a).toInt : ℝ)) : EReal) := by
  obtain ⟨n, h1, h2, hk, hr⟩ := exps a h
  rw [hk, hr, pow_word n h1 (by omega), word_toInt n (by omega) (by omega), exp2_int]

/-- The kernel's factor of the codes, one over its scale, is the reference's. -/
theorem recip_eq (a : EReal) (h : Good a) :
    Ideal.ofBits .f32 (IntOp.shli ArithUnit.vector (IntOp.addi (IntOp.subi (0#32) (kExp a)) 127#32) 23#32)
      = Ideal.exp2 (0 - (((rExp a).toInt : ℝ) : EReal)) := by
  obtain ⟨n, h1, h2, hk, hr⟩ := exps a h
  rw [hk, hr, neg_word n h1 h2, pow_word (-n) (by omega) (by omega), word_toInt n (by omega) (by omega), ← exp2_int]
  congr 1
  rw [zero_sub, ← EReal.coe_neg]
  push_cast
  rfl

end Cert.Quantiser

end
-- ==== Proof.KernelAt.lean ====
module

public import proofs.«01_k».proof.Proof.Gen.KernelIdeal.Skeleton
public import Idealize.ShloMosaic.Lib.Pointwise
public import Idealize.ShloMosaic.PureOps.Ideal
public import proofs.«01_k».proof.Proof.HeadsSpec
public import proofs.«01_k».proof.Proof.Quantiser

@[expose] public section

set_option maxRecDepth 16384

noncomputable section

/-! # The kernel's payloads at an index -/

namespace Cert.KernelIdeal.Gen

open Idealize.ShloMosaic Cert.HeadsSpec

set_option maxHeartbeats 4000000

theorem pay244_at (w : Vec Ideal S3072x512 .i8) (ws : Vec Ideal S48x512 .f32) (xs : Vec Ideal S360x6144 .bf16) (r : Fin 360) (l : Fin 512) :
    k0_pay244 (F := Ideal) w ws xs (ix2 r l) = dotT (fun p => xs (ix2 r p)) (fun q => w (ix2 q l)) (fun g => ws (ix2 g l)) := by
  unfold dotT
  simp only [field, signed, lo, hi]
  pointwise [k0_pay244]

theorem pay245_at (w : Vec Ideal S1536x512 .fp8e4m3) (cs : Vec Ideal S288x1536 .fp8e4m3) (r : Fin 288) (l : Fin 512) :
    k0_pay245 (F := Ideal) cs w (ix2 r l) = ∑ x, cs (ix2 r x) * w (ix2 x l) := by
  pointwise [k0_pay245]

theorem pay246_at (al : Vec Ideal S72x512 .i8) (r : Fin 360) (l : Fin 512) :
    k0_pay246 (F := Ideal) al (ix2 r l) = BitVec.ofBool (decide ((0 : EReal) < FloatOps.sitofp (F := Ideal) FTy.f32 (al (ix2 (seqF r) l)))) := by
  pointwise [k0_pay246]
  unfold seqF
  split_ifs <;> rfl

/-- The four lane blocks of the product with a factor that is the same in every lane. -/
theorem pay247_at (v : FVec Ideal S360x512 .f32) (al : Vec Ideal S72x512 .i8) (ct : Vec Ideal S360x128 .f32) (τ : EReal) (r : Fin 360) (l : Fin 512)
    (hct : ∀ j : Fin 128, ct (ix2 r j) = τ) :
    k0_pay247 (F := Ideal) v al ct ct ct ct (ix2 r l) = Scalar.select (k0_pay246 (F := Ideal) al (ix2 r l)) (v (ix2 r l) * τ) minf := by
  pointwise [k0_pay247]
  simp only [hct]
  congr 1
  split_ifs <;> congr 3 <;> refine Fin.ext ?_ <;> dsimp only <;> omega

theorem pay249_at (v : FVec Ideal S288x512 .f32) (ct : Vec Ideal S288x128 .f32) (τ : EReal) (r : Fin 288) (l : Fin 512)
    (hct : ∀ j : Fin 128, ct (ix2 r j) = τ) :
    k0_pay249 (F := Ideal) v ct ct ct ct (ix2 r l) = v (ix2 r l) * τ := by
  pointwise [k0_pay249]
  simp only [hct]
  split_ifs <;> congr 3 <;> refine Fin.ext ?_ <;> dsimp only <;> omega

theorem pay248_at (al : Vec Ideal S72x512 .i8) (r : Fin 288) (l : Fin 512) :
    k0_pay248 (F := Ideal) al (ix2 r l) = BitVec.ofBool (decide ((0 : EReal) < FloatOps.sitofp (F := Ideal) FTy.f32 (al (ix2 (seqD r) l)))) := by
  pointwise [k0_pay248]
  rw [pay246_at]
  unfold seqF seqD
  rw [dif_pos (show (r : ℕ) < 288 from r.isLt)]

theorem pay250_at (m : IVec S288x512 1) (v : FVec Ideal S288x512 .f32) (ws : Vec Ideal S1x512 .f32) (r : Fin 288) (l : Fin 512) :
    k0_pay250 (F := Ideal) m v ws (ix2 r l) = Scalar.select (m (ix2 r l)) (v (ix2 r l) * ws (ix2 0 l)) minf := by
  pointwise [k0_pay250]

theorem pay10_at (x : Vec Ideal S72x5x6144 .bf16) (r : Fin 288) (l : Fin 6144) :
    k0_pay10 (F := Ideal) x (ix2 r l) = x (ix3 (⟨r.val / 4, by omega⟩ : Fin 72) (⟨r.val % 4, by omega⟩ : Fin 5) l) := by
  pointwise [k0_pay10]

theorem pay11_at (x : Vec Ideal S72x5x6144 .bf16) (r : Fin 72) (l : Fin 6144) :
    k0_pay11 (F := Ideal) x (ix2 r l) = x (ix3 r (4 : Fin 5) l) := by
  pointwise [k0_pay11]

theorem pay12_at (x : Elt Ideal .f32) (r : Fin 4) (l : Fin 128) :
    k0_pay12 (F := Ideal) x (ix2 r l) = Ideal.div log2e x := by
  pointwise [k0_pay12]

theorem pay239_at (x : Vec Ideal S288x128 .f32) (y : Vec Ideal S288x1 .f32) (r : Fin 288) (l : Fin 128) :
    k0_pay239 (F := Ideal) x y (ix2 r l) = x (ix2 r l) * y (ix2 r 0) := by
  pointwise [k0_pay239]

theorem pay8_at (h : Vec Ideal S72x4x1536 .bf16) (e : IVec S72x4x1 32) (e' : IVec S72x4x1 32) (r : Fin 288) (l : Fin 1536) :
    k0_pay8 (F := Ideal) h e e' (ix2 r l) = code (h (ix3 (seqD r) (posD r) l))
      (Ideal.ofBits .f32 (IntOp.shli ArithUnit.vector (IntOp.addi (e (ix3 (seqD r) (posD r) 0)) (e' (ix3 (seqD r) (posD r) 0))) 23#32)) := by
  unfold code seqD posD
  pointwise [k0_pay8]

theorem pay9_at (e : IVec S72x4x1 32) (r : Fin 288) (l : Fin 1) :
    k0_pay9 (F := Ideal) e (ix2 r l) = Ideal.ofBits .f32 (IntOp.shli ArithUnit.vector (IntOp.addi (e (ix3 (seqD r) (posD r) 0)) 127#32) 23#32) := by
  unfold seqD posD
  pointwise [k0_pay9]

theorem pay4_at (h : Vec Ideal S72x4x1536 .bf16) (r : Fin 72) (l : Fin 4) (x : Fin 1536) :
    k0_pay4 (F := Ideal) h (ix3 r l x) = h (ix3 r l x) := by
  pointwise [k0_pay4]

theorem pay6_at (h : Vec Ideal S72x4x1536 .bf16) (r : Fin 72) (l : Fin 4) :
    k0_pay6 (F := Ideal) h (ix3 r l 0) = IntOp.subi (0#32) (k0_pay5 (F := Ideal) h (ix3 r l 0)) := by
  pointwise [k0_pay6]

theorem pay7_at (r : Fin 72) (l : Fin 4) : k0_pay7 (ix3 r l 0) = 127#32 := by
  pointwise [k0_pay7]

theorem pay5_at (h : Vec Ideal S72x4x1536 .bf16) (r : Fin 72) (l : Fin 4) :
    k0_pay5 (F := Ideal) h (ix3 r l 0) = Cert.Quantiser.kExp (amax fun x => h (ix3 r l x)) := by
  unfold Cert.Quantiser.kExp Cert.Quantiser.kCount amax
  pointwise [k0_pay5, k0_pay4]

end Cert.KernelIdeal.Gen

end
-- ==== Proof.HeadsAt.lean ====
module

public import proofs.«01_k».proof.Proof.HeadsPrep
public import proofs.«01_k».proof.Proof.KernelAt

@[expose] public section

set_option maxRecDepth 16384

noncomputable section

/-! # One grid step's blocks at an index -/

namespace Cert.KernelIdeal.Gen

open Idealize.ShloMosaic Cert.HeadsSpec

open Classical in
/-- A select on a decided comparison. -/
theorem select_pos (a : BitVec 8) (x y : EReal) :
    Scalar.select (BitVec.ofBool (decide ((0 : EReal) < FloatOps.sitofp (F := Ideal) FTy.f32 a))) x y
      = if (0 : EReal) < FloatOps.sitofp (F := Ideal) FTy.f32 a then x else y := by
  by_cases h : (0 : EReal) < FloatOps.sitofp (F := Ideal) FTy.f32 a
  · rw [if_pos h, decide_eq_true h]; rfl
  · rw [if_neg h, decide_eq_false h]; rfl

set_option maxHeartbeats 4000000

theorem codesOf_at (h : Vec Ideal S72x4x1536 .bf16) (r : Fin 288) (l : Fin 1536) (hg : Cert.Quantiser.Good (amax fun x => h (ix3 (seqD r) (posD r) x))) :
    codesOf (F := Ideal) h (ix2 r l) = code (h (ix3 (seqD r) (posD r) l))
      (Ideal.exp2 (0 - FloatOps.sitofp (F := Ideal) FTy.f32 (Cert.Quantiser.rExp (amax fun x => h (ix3 (seqD r) (posD r) x))))) := by
  unfold codesOf
  rw [pay8_at, pay4_at, pay6_at, pay7_at, pay5_at, Cert.Quantiser.recip_eq _ hg]
  rfl

theorem hdsOf_at (h : Vec Ideal S72x4x1536 .bf16) (r : Fin 288) (l : Fin 1) (hg : Cert.Quantiser.Good (amax fun x => h (ix3 (seqD r) (posD r) x))) :
    hdsOf (F := Ideal) h (ix2 r l) = Ideal.exp2 (FloatOps.sitofp (F := Ideal) FTy.f32 (Cert.Quantiser.rExp (amax fun x => h (ix3 (seqD r) (posD r) x)))) := by
  unfold hdsOf
  rw [pay9_at, pay5_at, Cert.Quantiser.scale_eq _ hg]
  rfl

theorem xsOf_at (x : Vec Ideal S72x5x6144 .bf16) (r : Fin 360) (p : Fin 6144) :
    xsOf (F := Ideal) x (ix2 r p) = rowF (fun s k p => x (ix3 s k p)) r p := by
  unfold xsOf rowF
  by_cases h : r.val < 288
  · rw [dif_pos h]
    exact (dif_pos h).trans ((congrArg _ (ix2_eq_valueIdx _ _).symm).trans (pay10_at x ⟨r.val, h⟩ p))
  · rw [dif_neg h]
    exact (dif_neg h).trans ((congrArg _ (ix2_eq_valueIdx _ _).symm).trans (pay11_at x ⟨r.val - 288, by omega⟩ p))

theorem at72_seqOf (r : Fin 360) : at72 (seqOf r.val) = ix1 (seqF r) := by
  unfold at72
  rw [← ix1_eq_valueIdx]
  congr 1
  unfold seqOf seqF
  by_cases h : r.val < 288
  · rw [dif_pos h]; refine Fin.ext ?_; rw [if_pos h]; exact Nat.mod_eq_of_lt (by omega)
  · rw [dif_neg h]; refine Fin.ext ?_; rw [if_neg h]; exact Nat.mod_eq_of_lt (by omega)

theorem ctOf_at (t : Vec Ideal S72 .f32) (r : Fin 360) (l : Fin 128) :
    ctOf (F := Ideal) t (ix2 r l) = Ideal.div log2e (t (ix1 (seqF r))) := by
  show recipT (F := Ideal) (t (at72 (seqOf r.val))) = _
  rw [at72_seqOf]
  unfold recipT
  rw [← ix2_eq_valueIdx]
  exact pay12_at _ 0 0

theorem seqF_drafted (r : Fin 288) : seqF ⟨r.val, by omega⟩ = seqD r := dif_pos r.isLt

theorem cdOf_at (t : Vec Ideal S72 .f32) (h : Vec Ideal S72x4x1536 .bf16) (r : Fin 288) (l : Fin 128) :
    cdOf (F := Ideal) t h (ix2 r l) = Ideal.div log2e (t (ix1 (seqD r))) * hdsOf (F := Ideal) h (ix2 r 0) := by
  unfold cdOf
  rw [pay239_at]
  congr 1
  rw [← seqF_drafted]
  exact (congrArg _ (ix2_eq_valueIdx _ _).symm).trans (ctOf_at t ⟨r.val, by omega⟩ l)

/-- One entry of a step's target logits. -/
theorem ltOf_at (w : Vec Ideal S3072x512 .i8) (ws : Vec Ideal S48x512 .f32) (al : Vec Ideal S72x512 .i8) (x : Vec Ideal S72x5x6144 .bf16) (t : Vec Ideal S72 .f32)
    (r : Fin 360) (l : Fin 512) :
    ltOf (F := Ideal) w ws al (xsOf x) (ctOf t) (ix2 r l) = valT (rowF (fun s k p => x (ix3 s k p)) r) (fun q => w (ix2 q l)) (fun g => ws (ix2 g l))
      (al (ix2 (seqF r) l)) (t (ix1 (seqF r))) := by
  unfold ltOf
  rw [pay247_at _ _ _ _ _ _ (fun j => ctOf_at t r j), pay246_at, pay244_at]
  simp only [xsOf_at]
  unfold valT
  exact select_pos _ _ _

/-- One entry of a step's draft logits. -/
theorem ldOf_at (w : Vec Ideal S1536x512 .fp8e4m3) (ws : Vec Ideal S1x512 .f32) (al : Vec Ideal S72x512 .i8) (h : Vec Ideal S72x4x1536 .bf16) (t : Vec Ideal S72 .f32)
    (r : Fin 288) (l : Fin 512) :
    ldOf (F := Ideal) w ws al (codesOf h) (cdOf t h) (ix2 r l) = valD (fun x => codesOf (F := Ideal) h (ix2 r x)) (fun x => w (ix2 x l)) (hdsOf (F := Ideal) h (ix2 r 0)) (ws (ix2 0 l))
      (al (ix2 (seqD r) l)) (t (ix1 (seqD r))) := by
  unfold ldOf
  rw [pay250_at, pay249_at _ _ _ _ _ (fun j => cdOf_at t h r j), pay248_at, pay245_at]
  unfold valD
  exact select_pos _ _ _

end Cert.KernelIdeal.Gen

end
-- ==== Proof.HeadsBlocks.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pointwise
public import Idealize.ShloMosaic.Lib.StableHlo.ReadAt
public import Idealize.ShloMosaic.PureOps.Ideal

@[expose] public section

set_option maxRecDepth 16384

noncomputable section

/-! # The blocks a grid step reads, as parts of the arguments -/

namespace Cert.KernelIdeal.Gen

open Idealize.ShloMosaic Idealize.ShloMosaic.TcCoe

variable (m : (ℓ : Loc nD τ sig) → Buf (Elt Ideal) ℓ)

/-- The column of the vocabulary at lane `l` of step `t`'s block. -/
def colOf (t : Fin cfg0.N) (l : Fin 512) : Fin 49152 :=
  ⟨t.val * 512 + l.val, by have : t.val < 96 := lt_of_lt_of_eq t.isLt (show cfg0.N = 96 from N_0); omega⟩

theorem index_0 : ∀ t : Fin cfg0.N, win0_0.index t = ![0] := (by decide +kernel : ∀ t : Fin grid0.N, win0_0.index t = ![0])
theorem index_1 : ∀ t : Fin cfg0.N, win0_1.index t = ![0, 0, 0] := (by decide +kernel : ∀ t : Fin grid0.N, win0_1.index t = ![0, 0, 0])
theorem index_4 : ∀ t : Fin cfg0.N, win0_4.index t = ![0, 0, 0] := (by decide +kernel : ∀ t : Fin grid0.N, win0_4.index t = ![0, 0, 0])
theorem index_2 : ∀ t : Fin cfg0.N, win0_2.index t = ![0, t.val] := (by decide +kernel : ∀ t : Fin grid0.N, win0_2.index t = ![0, t.val])
theorem index_3 : ∀ t : Fin cfg0.N, win0_3.index t = ![0, t.val] := (by decide +kernel : ∀ t : Fin grid0.N, win0_3.index t = ![0, t.val])
theorem index_5 : ∀ t : Fin cfg0.N, win0_5.index t = ![0, t.val] := (by decide +kernel : ∀ t : Fin grid0.N, win0_5.index t = ![0, t.val])
theorem index_6 : ∀ t : Fin cfg0.N, win0_6.index t = ![0, t.val] := (by decide +kernel : ∀ t : Fin grid0.N, win0_6.index t = ![0, t.val])
theorem index_7 : ∀ t : Fin cfg0.N, win0_7.index t = ![0, t.val] := (by decide +kernel : ∀ t : Fin grid0.N, win0_7.index t = ![0, t.val])

/-- Window 0's block is the whole argument at every step. -/
theorem iblk_0 (c : Dev nD) (t : Fin cfg0.N) : (iblk m c 0 t : Vec Ideal S72 .f32) = (m (c, Proc.tc.devRef main_arg8) : Vec Ideal S72 .f32) := by
  funext y
  show V m c main_arg8 (((cfg0.win 0).blk t).view.emb y) = _
  rw [V_main_arg8]
  refine congrArg (m (c, Proc.tc.devRef main_arg8) : Vec Ideal S72 .f32) (funext fun a => Fin.ext ?_)
  have h : win0_0.index t a = 0 := by
    rw [index_0]
    exact (by decide : ∀ a : Fin 1, (![0] : Fin 1 → ℕ) a = 0) a
  show win0_0.index t a * S72.size a + 1 * (y a).val = (y a).val
  rw [h]; omega

/-- Window 1's block is the whole argument at every step. -/
theorem iblk_1 (c : Dev nD) (t : Fin cfg0.N) : (iblk m c 1 t : Vec Ideal S72x5x6144 .bf16) = (m (c, Proc.tc.devRef main_arg0) : Vec Ideal S72x5x6144 .bf16) := by
  funext y
  show V m c main_arg0 (((cfg0.win 1).blk t).view.emb y) = _
  rw [V_main_arg0]
  refine congrArg (m (c, Proc.tc.devRef main_arg0) : Vec Ideal S72x5x6144 .bf16) (funext fun a => Fin.ext ?_)
  have h : win0_1.index t a = 0 := by
    rw [index_1]
    exact (by decide : ∀ a : Fin 3, (![0, 0, 0] : Fin 3 → ℕ) a = 0) a
  show win0_1.index t a * S72x5x6144.size a + 1 * (y a).val = (y a).val
  rw [h]; omega

/-- Window 4's block is the whole argument at every step. -/
theorem iblk_4 (c : Dev nD) (t : Fin cfg0.N) : (iblk m c 4 t : Vec Ideal S72x4x1536 .bf16) = (m (c, Proc.tc.devRef main_arg3) : Vec Ideal S72x4x1536 .bf16) := by
  funext y
  show V m c main_arg3 (((cfg0.win 4).blk t).view.emb y) = _
  rw [V_main_arg3]
  refine congrArg (m (c, Proc.tc.devRef main_arg3) : Vec Ideal S72x4x1536 .bf16) (funext fun a => Fin.ext ?_)
  have h : win0_4.index t a = 0 := by
    rw [index_4]
    exact (by decide : ∀ a : Fin 3, (![0, 0, 0] : Fin 3 → ℕ) a = 0) a
  show win0_4.index t a * S72x4x1536.size a + 1 * (y a).val = (y a).val
  rw [h]; omega

/-- Window 2's block at a step holds the columns of that step. -/
theorem iblk_2_V (c : Dev nD) (t : Fin cfg0.N) (r : Fin 3072) (l : Fin 512) :
    (iblk m c 2 t : Vec Ideal S3072x512 .i8) (ix2 r l) = (V m c main_arg1 : Vec Ideal S3072x49152 .i8) (ix2 r (colOf t l)) := by
  show V m c main_arg1 (((cfg0.win 2).blk t).view.emb (ix2 r l)) = _
  refine congrArg (V m c main_arg1 : Vec Ideal S3072x49152 .i8) (funext fun a => Fin.ext ?_)
  match a with
  | ⟨0, _⟩ =>
    show win0_2.index t (0 : Fin 2) * 3072 + 1 * r.val = r.val
    rw [index_2]; show 0 * 3072 + 1 * r.val = r.val; omega
  | ⟨1, _⟩ =>
    show win0_2.index t (1 : Fin 2) * 512 + 1 * l.val = t.val * 512 + l.val
    rw [index_2]; show t.val * 512 + 1 * l.val = t.val * 512 + l.val; omega

/-- Window 3's block at a step holds the columns of that step. -/
theorem iblk_3_V (c : Dev nD) (t : Fin cfg0.N) (r : Fin 48) (l : Fin 512) :
    (iblk m c 3 t : Vec Ideal S48x512 .f32) (ix2 r l) = (V m c main_arg2 : Vec Ideal S48x49152 .f32) (ix2 r (colOf t l)) := by
  show V m c main_arg2 (((cfg0.win 3).blk t).view.emb (ix2 r l)) = _
  refine congrArg (V m c main_arg2 : Vec Ideal S48x49152 .f32) (funext fun a => Fin.ext ?_)
  match a with
  | ⟨0, _⟩ =>
    show win0_3.index t (0 : Fin 2) * 48 + 1 * r.val = r.val
    rw [index_3]; show 0 * 48 + 1 * r.val = r.val; omega
  | ⟨1, _⟩ =>
    show win0_3.index t (1 : Fin 2) * 512 + 1 * l.val = t.val * 512 + l.val
    rw [index_3]; show t.val * 512 + 1 * l.val = t.val * 512 + l.val; omega

/-- Window 5's block at a step holds the columns of that step. -/
theorem iblk_5_V (c : Dev nD) (t : Fin cfg0.N) (r : Fin 1536) (l : Fin 512) :
    (iblk m c 5 t : Vec Ideal S1536x512 .fp8e4m3) (ix2 r l) = (V m c main_arg4 : Vec Ideal S1536x49152 .fp8e4m3) (ix2 r (colOf t l)) := by
  show V m c main_arg4 (((cfg0.win 5).blk t).view.emb (ix2 r l)) = _
  refine congrArg (V m c main_arg4 : Vec Ideal S1536x49152 .fp8e4m3) (funext fun a => Fin.ext ?_)
  match a with
  | ⟨0, _⟩ =>
    show win0_5.index t (0 : Fin 2) * 1536 + 1 * r.val = r.val
    rw [index_5]; show 0 * 1536 + 1 * r.val = r.val; omega
  | ⟨1, _⟩ =>
    show win0_5.index t (1 : Fin 2) * 512 + 1 * l.val = t.val * 512 + l.val
    rw [index_5]; show t.val * 512 + 1 * l.val = t.val * 512 + l.val; omega

/-- Window 6's block at a step holds the columns of that step. -/
theorem iblk_6_V (c : Dev nD) (t : Fin cfg0.N) (r : Fin 1) (l : Fin 512) :
    (iblk m c 6 t : Vec Ideal S1x512 .f32) (ix2 r l) = (V m c main_v0 : Vec Ideal S1x49152 .f32) (ix2 r (colOf t l)) := by
  show V m c main_v0 (((cfg0.win 6).blk t).view.emb (ix2 r l)) = _
  refine congrArg (V m c main_v0 : Vec Ideal S1x49152 .f32) (funext fun a => Fin.ext ?_)
  match a with
  | ⟨0, _⟩ =>
    show win0_6.index t (0 : Fin 2) * 1 + 1 * r.val = r.val
    rw [index_6]; show 0 * 1 + 1 * r.val = r.val; omega
  | ⟨1, _⟩ =>
    show win0_6.index t (1 : Fin 2) * 512 + 1 * l.val = t.val * 512 + l.val
    rw [index_6]; show t.val * 512 + 1 * l.val = t.val * 512 + l.val; omega

/-- Window 7's block at a step holds the columns of that step. -/
theorem iblk_7_V (c : Dev nD) (t : Fin cfg0.N) (r : Fin 72) (l : Fin 512) :
    (iblk m c 7 t : Vec Ideal S72x512 .i8) (ix2 r l) = (V m c main_v1 : Vec Ideal S72x49152 .i8) (ix2 r (colOf t l)) := by
  show V m c main_v1 (((cfg0.win 7).blk t).view.emb (ix2 r l)) = _
  refine congrArg (V m c main_v1 : Vec Ideal S72x49152 .i8) (funext fun a => Fin.ext ?_)
  match a with
  | ⟨0, _⟩ =>
    show win0_7.index t (0 : Fin 2) * 72 + 1 * r.val = r.val
    rw [index_7]; show 0 * 72 + 1 * r.val = r.val; omega
  | ⟨1, _⟩ =>
    show win0_7.index t (1 : Fin 2) * 512 + 1 * l.val = t.val * 512 + l.val
    rw [index_7]; show t.val * 512 + 1 * l.val = t.val * 512 + l.val; omega

/-- The draft's column scales as the call takes them. -/
theorem V_v0_at (c : Dev nD) (r : Fin 1) (v : Fin 49152) : (V m c main_v0 : Vec Ideal S1x49152 .f32) (ix2 r v) = (m (c, Proc.tc.devRef main_arg5) : Vec Ideal S49152 .f32) (ix1 v) := by
  unfold V
  after_reads_at

/-- The mask as the call takes it. -/
theorem V_v1_at (c : Dev nD) (r : Fin 72) (v : Fin 49152) : (V m c main_v1 : Vec Ideal S72x49152 .i8) (ix2 r v) = BitVec.setWidth 8 ((m (c, Proc.tc.devRef main_arg9) : Vec Ideal S72x49152 .i1) (ix2 r v)) := by
  unfold V
  after_reads_at

theorem iblk_2 (c : Dev nD) (t : Fin cfg0.N) (r : Fin 3072) (l : Fin 512) :
    (iblk m c 2 t : Vec Ideal S3072x512 .i8) (ix2 r l) = (m (c, Proc.tc.devRef main_arg1) : Vec Ideal S3072x49152 .i8) (ix2 r (colOf t l)) := by
  rw [iblk_2_V, V_main_arg1]
theorem iblk_3 (c : Dev nD) (t : Fin cfg0.N) (r : Fin 48) (l : Fin 512) :
    (iblk m c 3 t : Vec Ideal S48x512 .f32) (ix2 r l) = (m (c, Proc.tc.devRef main_arg2) : Vec Ideal S48x49152 .f32) (ix2 r (colOf t l)) := by
  rw [iblk_3_V, V_main_arg2]
theorem iblk_5 (c : Dev nD) (t : Fin cfg0.N) (r : Fin 1536) (l : Fin 512) :
    (iblk m c 5 t : Vec Ideal S1536x512 .fp8e4m3) (ix2 r l) = (m (c, Proc.tc.devRef main_arg4) : Vec Ideal S1536x49152 .fp8e4m3) (ix2 r (colOf t l)) := by
  rw [iblk_5_V, V_main_arg4]
theorem iblk_6 (c : Dev nD) (t : Fin cfg0.N) (r : Fin 1) (l : Fin 512) :
    (iblk m c 6 t : Vec Ideal S1x512 .f32) (ix2 r l) = (m (c, Proc.tc.devRef main_arg5) : Vec Ideal S49152 .f32) (ix1 (colOf t l)) := by
  rw [iblk_6_V, V_v0_at]
theorem iblk_7 (c : Dev nD) (t : Fin cfg0.N) (r : Fin 72) (l : Fin 512) :
    (iblk m c 7 t : Vec Ideal S72x512 .i8) (ix2 r l) = BitVec.setWidth 8 ((m (c, Proc.tc.devRef main_arg9) : Vec Ideal S72x49152 .i1) (ix2 r (colOf t l))) := by
  rw [iblk_7_V, V_v1_at]

end Cert.KernelIdeal.Gen

end
-- ==== Proof.HeadsArray.lean ====
module

public import proofs.«01_k».proof.Proof.HeadsDats
public import proofs.«01_k».proof.Proof.HeadsAt
public import proofs.«01_k».proof.Proof.HeadsBlocks
public import Idealize.ShloMosaic.Lib.Pipeline.Value
public import Idealize.ShloMosaic.Lib.Pipeline.ValueKit

@[expose] public section

set_option maxRecDepth 16384

noncomputable section

/-! # What the kernel leaves in its result arrays -/

namespace Cert.KernelIdeal.Gen

open Idealize.ShloMosaic Idealize.ShloMosaic.TcCoe Cert.HeadsSpec Idealize.SL.Sem
open Idealize.ShloMosaic.Pipeline (Dat)

variable (m : (ℓ : Loc nD τ sig) → Buf (Elt Ideal) ℓ) (ρ : Dev nD → PrngReg)

/-- The step that computes a column of the vocabulary. -/
def stepOf (v : Fin 49152) : Fin cfg0.N := ⟨v.val / 512, by rw [show cfg0.N = 96 from N_0]; omega⟩
/-- The column's lane in that step's block. -/
def laneOf (v : Fin 49152) : Fin 512 := ⟨v.val % 512, by omega⟩

theorem colOf_step (v : Fin 49152) : colOf (stepOf v) (laneOf v) = v :=
  Fin.ext (by show v.val / 512 * 512 + v.val % 512 = v.val; omega)
theorem stepOf_col (t : Fin cfg0.N) (l : Fin 512) : stepOf (colOf t l) = t :=
  Fin.ext (by show (t.val * 512 + l.val) / 512 = t.val; omega)
theorem laneOf_col (t : Fin cfg0.N) (l : Fin 512) : laneOf (colOf t l) = l :=
  Fin.ext (by show (t.val * 512 + l.val) % 512 = l.val; omega)

theorem index_8 : ∀ t : Fin cfg0.N, win0_8.index t = ![0, t.val] := (by decide +kernel : ∀ t : Fin grid0.N, win0_8.index t = ![0, t.val])
theorem emb_8 (t : Fin cfg0.N) (r : Fin 360) (l : Fin 512) : ((cfg0.win 8).blk t).view.emb (ix2 r l) = (ix2 r (colOf t l) : S360x49152.Idx) := by
  refine funext fun a => Fin.ext ?_
  match a with
  | ⟨0, _⟩ =>
    show win0_8.index t (0 : Fin 2) * 360 + 1 * r.val = r.val
    rw [index_8]; show 0 * 360 + 1 * r.val = r.val; omega
  | ⟨1, _⟩ =>
    show win0_8.index t (1 : Fin 2) * 512 + 1 * l.val = t.val * 512 + l.val
    rw [index_8]; show t.val * 512 + 1 * l.val = t.val * 512 + l.val; omega

/-- The whole array, each column from the step that computes it. -/
def ltA (c : Dev nD) : Vec Ideal S360x49152 .f32 := fun i => ltB m c (stepOf (i 1)) (ix2 (i 0) (laneOf (i 1)))

theorem final8 (c : Dev nD) : (dats m 0 c).arrAt 8 cfg0.N = (ltA m c : Vec Ideal S360x49152 .f32) := by
  refine (dats m 0 c).arrAt_eq_of_covers 8 _ (by decide +kernel) fun t hf y => ?_
  blk_simp
  rw [after0_8]
  obtain ⟨r, l, hy⟩ : ∃ (r : Fin 360) (l : Fin 512), y = (ix2 r l : S360x512.Idx) := ⟨y 0, y 1, eq_ix2 (n0 := 360) (n1 := 512) y⟩
  rw [hy]
  refine Eq.trans ?_ (congrArg (ltA m c) (emb_8 t r l)).symm
  show ltB m c t (ix2 r l) = ltB m c (stepOf (colOf t l)) (ix2 r (laneOf (colOf t l)))
  rw [stepOf_col, laneOf_col]

theorem index_9 : ∀ t : Fin cfg0.N, win0_9.index t = ![0, t.val] := (by decide +kernel : ∀ t : Fin grid0.N, win0_9.index t = ![0, t.val])
theorem emb_9 (t : Fin cfg0.N) (r : Fin 288) (l : Fin 512) : ((cfg0.win 9).blk t).view.emb (ix2 r l) = (ix2 r (colOf t l) : S288x49152.Idx) := by
  refine funext fun a => Fin.ext ?_
  match a with
  | ⟨0, _⟩ =>
    show win0_9.index t (0 : Fin 2) * 288 + 1 * r.val = r.val
    rw [index_9]; show 0 * 288 + 1 * r.val = r.val; omega
  | ⟨1, _⟩ =>
    show win0_9.index t (1 : Fin 2) * 512 + 1 * l.val = t.val * 512 + l.val
    rw [index_9]; show t.val * 512 + 1 * l.val = t.val * 512 + l.val; omega

/-- The whole array, each column from the step that computes it. -/
def ldA (c : Dev nD) : Vec Ideal S288x49152 .f32 := fun i => ldB m c (stepOf (i 1)) (ix2 (i 0) (laneOf (i 1)))

theorem final9 (c : Dev nD) : (dats m 0 c).arrAt 9 cfg0.N = (ldA m c : Vec Ideal S288x49152 .f32) := by
  refine (dats m 0 c).arrAt_eq_of_covers 9 _ (by decide +kernel) fun t hf y => ?_
  blk_simp
  rw [after0_9]
  obtain ⟨r, l, hy⟩ : ∃ (r : Fin 288) (l : Fin 512), y = (ix2 r l : S288x512.Idx) := ⟨y 0, y 1, eq_ix2 (n0 := 288) (n1 := 512) y⟩
  rw [hy]
  refine Eq.trans ?_ (congrArg (ldA m c) (emb_9 t r l)).symm
  show ldB m c t (ix2 r l) = ldB m c (stepOf (colOf t l)) (ix2 r (laneOf (colOf t l)))
  rw [stepOf_col, laneOf_col]

theorem index_14 : ∀ t : Fin cfg0.N, win0_14.index t = ![0, 0] := (by decide +kernel : ∀ t : Fin grid0.N, win0_14.index t = ![0, 0])
theorem emb_14 (t : Fin cfg0.N) (y : S288x1536.Idx) : ((cfg0.win 14).blk t).view.emb y = y := by
  refine funext fun a => Fin.ext ?_
  have h : win0_14.index t a = 0 := by
    rw [index_14]
    exact (by decide : ∀ a : Fin 2, (![0, 0] : Fin 2 → ℕ) a = 0) a
  show win0_14.index t a * S288x1536.size a + 1 * (y a).val = (y a).val
  rw [h]; omega
theorem final14 (c : Dev nD) : (dats m 0 c).arrAt 14 cfg0.N = codes0 m c := by
  refine (dats m 0 c).arrAt_eq_of_covers 14 _ (by decide +kernel) fun t hf y => ?_
  blk_simp
  rw [after0_14]
  exact (congrArg (codes0 m c) (emb_14 t y)).symm

theorem index_15 : ∀ t : Fin cfg0.N, win0_15.index t = ![0, 0] := (by decide +kernel : ∀ t : Fin grid0.N, win0_15.index t = ![0, 0])
theorem emb_15 (t : Fin cfg0.N) (y : S288x1.Idx) : ((cfg0.win 15).blk t).view.emb y = y := by
  refine funext fun a => Fin.ext ?_
  have h : win0_15.index t a = 0 := by
    rw [index_15]
    exact (by decide : ∀ a : Fin 2, (![0, 0] : Fin 2 → ℕ) a = 0) a
  show win0_15.index t a * S288x1.size a + 1 * (y a).val = (y a).val
  rw [h]; omega
theorem final15 (c : Dev nD) : (dats m 0 c).arrAt 15 cfg0.N = hds0 m c := by
  refine (dats m 0 c).arrAt_eq_of_covers 15 _ (by decide +kernel) fun t hf y => ?_
  blk_simp
  rw [after0_15]
  exact (congrArg (hds0 m c) (emb_15 t y)).symm

/-- One entry of the target's logits. -/
theorem ltA_at (c : Dev nD) (r : Fin 360) (v : Fin 49152) :
    ltA m c (ix2 r v)
      = valT (rowF (fun s k p => (m (c, Proc.tc.devRef main_arg0) : Vec Ideal S72x5x6144 .bf16) (ix3 s k p)) r)
          (fun q => (m (c, Proc.tc.devRef main_arg1) : Vec Ideal S3072x49152 .i8) (ix2 q v))
          (fun g => (m (c, Proc.tc.devRef main_arg2) : Vec Ideal S48x49152 .f32) (ix2 g v))
          (BitVec.setWidth 8 ((m (c, Proc.tc.devRef main_arg9) : Vec Ideal S72x49152 .i1) (ix2 (seqF r) v)))
          ((m (c, Proc.tc.devRef main_arg8) : Vec Ideal S72 .f32) (ix1 (seqF r))) := by
  show ltB m c (stepOf v) (ix2 r (laneOf v)) = _
  unfold ltB xs0 ct0
  rw [ltOf_at]
  simp only [iblk_2, iblk_3, iblk_7, iblk_0, iblk_1, colOf_step]

/-- One entry of the draft's logits. -/
theorem ldA_at (c : Dev nD) (r : Fin 288) (v : Fin 49152) :
    ldA m c (ix2 r v)
      = valD (fun x => codes0 m c (ix2 r x)) (fun x => (m (c, Proc.tc.devRef main_arg4) : Vec Ideal S1536x49152 .fp8e4m3) (ix2 x v))
          (hds0 m c (ix2 r 0)) ((m (c, Proc.tc.devRef main_arg5) : Vec Ideal S49152 .f32) (ix1 v))
          (BitVec.setWidth 8 ((m (c, Proc.tc.devRef main_arg9) : Vec Ideal S72x49152 .i1) (ix2 (seqD r) v)))
          ((m (c, Proc.tc.devRef main_arg8) : Vec Ideal S72 .f32) (ix1 (seqD r))) := by
  show ldB m c (stepOf v) (ix2 r (laneOf v)) = _
  unfold ldB codes0 cd0 hds0
  rw [ldOf_at]
  simp only [iblk_5, iblk_6, iblk_7, iblk_0, colOf_step]

/-- The codes are the argument's. -/
theorem codes0_eq (c : Dev nD) : codes0 m c = codesOf (F := Ideal) (m (c, Proc.tc.devRef main_arg3) : Vec Ideal S72x4x1536 .bf16) := by
  unfold codes0; exact congrArg (codesOf (F := Ideal)) (iblk_4 m c tz)
/-- So are the scales. -/
theorem hds0_eq (c : Dev nD) : hds0 m c = hdsOf (F := Ideal) (m (c, Proc.tc.devRef main_arg3) : Vec Ideal S72x4x1536 .bf16) := by
  unfold hds0; exact congrArg (hdsOf (F := Ideal)) (iblk_4 m c tz)

end Cert.KernelIdeal.Gen

end
-- ==== Proof.Lanes.lean ====
module

public import Idealize.ShloMosaic.Lib.Pointwise
public import Idealize.ShloMosaic.PureOps.Ideal

@[expose] public section

noncomputable section

/-! # Running maxima and sums of one lane

A lane sees its columns four at a time. It keeps the greatest entry so far and the sum of the powers of two of the
entries less that maximum; when the maximum grows the sum is scaled down. Over the extended reals the result is the
maximum of all entries and the sum taken below it. -/

namespace Cert.Lanes

open Idealize.ShloMosaic

/-- The finite number that the maxima start from. -/
abbrev low : EReal := Ideal.ofBits FTy.f32 4284592614#32

theorem low_ne_bot : low ≠ ⊥ := by
  rw [show low = ((-(14791142 * (2 : ℝ) ^ (104 : ℤ)) : ℝ) : EReal) from by
    simp [low, Ideal.ofBits, Ideal.ieee, -EReal.coe_mul]]
  exact EReal.coe_ne_bot _

theorem exp2_nonneg (x : EReal) : 0 ≤ Ideal.exp2 x := by
  induction x with
  | bot => exact le_refl _
  | top => exact le_top
  | coe r => exact EReal.coe_nonneg.2 (Real.rpow_nonneg (by norm_num) r)

/-- Moving the point that exponents are taken from. -/
theorem exp2_shift (l m k : EReal) (hl : l ≤ m) (hm : m ≠ ⊥) (hk : m ≤ k) :
    Ideal.exp2 (l - m) * Ideal.exp2 (m - k) = Ideal.exp2 (l - k) := by
  induction k with
  | bot => exact absurd (le_bot_iff.1 hk) hm
  | top => simp [sub_eq_add_neg]
  | coe k =>
    induction m with
    | bot => exact absurd rfl hm
    | top => exact absurd (top_le_iff.1 hk) (EReal.coe_ne_top k)
    | coe m =>
      induction l with
      | bot => simp [sub_eq_add_neg]
      | top => exact absurd (top_le_iff.1 hl) (EReal.coe_ne_top m)
      | coe l =>
        rw [← EReal.coe_sub, ← EReal.coe_sub, ← EReal.coe_sub, Ideal.exp2_coe, Ideal.exp2_coe, Ideal.exp2_coe, ← EReal.coe_mul]
        refine congrArg _ ?_
        show (2 : ℝ) ^ (l - m) * (2 : ℝ) ^ (m - k) = (2 : ℝ) ^ (l - k)
        rw [← Real.rpow_add (by norm_num)]
        congr 1; ring

theorem sum_nonneg {ι : Type} (s : Finset ι) (f : ι → EReal) (hf : ∀ i, 0 ≤ f i) : 0 ≤ ∑ i ∈ s, f i := Finset.sum_nonneg fun i _ => hf i

/-- A sum of numbers that are not negative, scaled. -/
theorem sum_scale {ι : Type} (s : Finset ι) (f : ι → EReal) (hf : ∀ i, 0 ≤ f i) (k : EReal) : (∑ i ∈ s, f i) * k = ∑ i ∈ s, f i * k := by
  classical
  induction s using Finset.induction_on with
  | empty => simp
  | insert a s ha ih => rw [Finset.sum_insert ha, Finset.sum_insert ha, EReal.right_distrib_of_nonneg (hf a) (sum_nonneg s f hf), ih]

/-- The greatest of the first `k` entries, never below `low`. -/
def top (x : ℕ → EReal) (k : ℕ) : EReal := (Finset.range k).fold max low x
/-- The powers of two of the first `k` entries below their greatest, added up. -/
def mass (x : ℕ → EReal) (k : ℕ) : EReal := ∑ i ∈ Finset.range k, Ideal.exp2 (x i - top x k)

/-- Four more entries' maximum. -/
def stepMax (m a b c d : EReal) : EReal := max (max (max (max m a) b) c) d
/-- Four more entries' sum. -/
def stepSum (m s a b c d : EReal) : EReal :=
  s * Ideal.exp2 (m - stepMax m a b c d) + Ideal.exp2 (a - stepMax m a b c d) + Ideal.exp2 (b - stepMax m a b c d)
    + Ideal.exp2 (c - stepMax m a b c d) + Ideal.exp2 (d - stepMax m a b c d)

theorem top_succ (x : ℕ → EReal) (k : ℕ) : top x (k + 1) = max (top x k) (x k) := by
  unfold top
  rw [Finset.range_add_one, Finset.fold_insert (by simp), max_comm]

theorem low_le (x : ℕ → EReal) (k : ℕ) : low ≤ top x k := (Finset.le_fold_max _).2 (Or.inl (le_refl _))
theorem le_of_lt (x : ℕ → EReal) (k i : ℕ) (h : i < k) : x i ≤ top x k := (Finset.le_fold_max _).2 (Or.inr ⟨i, Finset.mem_range.2 h, le_refl _⟩)
theorem top_ne_bot (x : ℕ → EReal) (k : ℕ) : top x k ≠ ⊥ := fun h => low_ne_bot (le_bot_iff.1 ((low_le x k).trans (le_of_eq h)))

theorem step_max (x : ℕ → EReal) (k : ℕ) : stepMax (top x k) (x k) (x (k + 1)) (x (k + 2)) (x (k + 3)) = top x (k + 4) := by
  rw [top_succ x (k + 3), top_succ x (k + 2), top_succ x (k + 1), top_succ x k]; rfl

theorem step_sum (x : ℕ → EReal) (k : ℕ) : stepSum (top x k) (mass x k) (x k) (x (k + 1)) (x (k + 2)) (x (k + 3)) = mass x (k + 4) := by
  unfold stepSum
  rw [step_max]
  unfold mass
  rw [sum_scale _ _ (fun _ => exp2_nonneg _), Finset.sum_range_succ _ (k + 3), Finset.sum_range_succ _ (k + 2), Finset.sum_range_succ _ (k + 1), Finset.sum_range_succ _ k]
  have hk : top x k ≤ top x (k + 4) := by
    rw [← step_max]; unfold stepMax
    exact (((le_max_left _ _).trans (le_max_left _ _)).trans (le_max_left _ _)).trans (le_max_left _ _)
  congr 4
  exact Finset.sum_congr rfl fun i hi => exp2_shift _ _ _ (le_of_lt x k i (Finset.mem_range.1 hi)) (top_ne_bot x k) hk

/-- What a lane keeps after each of the steps. -/
theorem trajectory (N : ℕ) (x : ℕ → EReal) (P : (n : ℕ) → n < N → EReal × EReal)
    (h0 : ∀ h, P 0 h = (stepMax low (x 0) (x 1) (x 2) (x 3), stepSum low 0 (x 0) (x 1) (x 2) (x 3)))
    (hs : ∀ n (h : n + 1 < N), P (n + 1) h = (stepMax (P n (Nat.lt_of_succ_lt h)).1 (x (4 * (n + 1))) (x (4 * (n + 1) + 1)) (x (4 * (n + 1) + 2)) (x (4 * (n + 1) + 3)),
      stepSum (P n (Nat.lt_of_succ_lt h)).1 (P n (Nat.lt_of_succ_lt h)).2 (x (4 * (n + 1))) (x (4 * (n + 1) + 1)) (x (4 * (n + 1) + 2)) (x (4 * (n + 1) + 3)))) :
    ∀ n (h : n < N), P n h = (top x (4 * (n + 1)), mass x (4 * (n + 1))) := by
  intro n
  induction n with
  | zero =>
    intro h
    rw [h0]
    refine Prod.ext ?_ ?_
    · exact step_max x 0
    · exact (congrArg (fun s => stepSum low s (x 0) (x 1) (x 2) (x 3)) (show (0 : EReal) = mass x 0 from rfl)).trans (step_sum x 0)
  | succ n ih =>
    intro h
    rw [hs n h, ih]
    refine Prod.ext ?_ ?_
    · exact step_max x (4 * (n + 1))
    · exact step_sum x (4 * (n + 1))

theorem minf_eq : Ideal.ofBits FTy.f32 4286578688#32 = (⊥ : EReal) := by
  simp [Ideal.ofBits, Ideal.ieee]

/-- The maximum as the reference states it. -/
theorem top_eq (n : ℕ) (x : ℕ → EReal) :
    max (Finset.fold max (Ideal.ofBits FTy.f32 4286578688#32) (fun i : Fin n => x i.val) Finset.univ) low = top x n := by
  rw [minf_eq]
  refine eq_of_forall_ge_iff fun c => ?_
  unfold top
  rw [max_le_iff, Finset.fold_max_le, Finset.fold_max_le]
  constructor
  · rintro ⟨⟨-, h⟩, hl⟩
    exact ⟨hl, fun i hi => h ⟨i, Finset.mem_range.1 hi⟩ (Finset.mem_univ _)⟩
  · rintro ⟨hl, h⟩
    exact ⟨⟨bot_le, fun i _ => h i.val (Finset.mem_range.2 i.isLt)⟩, hl⟩

/-- The sum as the reference states it. -/
theorem mass_eq (n : ℕ) (x : ℕ → EReal) : ∑ i : Fin n, Ideal.exp2 (x i.val - top x n) = mass x n :=
  Fin.sum_univ_eq_sum_range (fun i => Ideal.exp2 (x i - top x n)) n

/-- A row's entries of one lane, in the order of their columns; zero past the last. -/
def laneOf (X : Fin 49152 → EReal) (l : Fin 128) (i : ℕ) : EReal := if h : 128 * i + l.val < 49152 then X ⟨128 * i + l.val, h⟩ else 0

theorem laneOf_lt (X : Fin 49152 → EReal) (l : Fin 128) (i : ℕ) (h : i < 384) : laneOf X l i = X ⟨128 * i + l.val, by omega⟩ := dif_pos (by omega)

end Cert.Lanes

end
-- ==== Proof.HeadsLanesAt.lean ====
module

public import proofs.«01_k».proof.Proof.Gen.KernelIdeal.Skeleton
public import proofs.«01_k».proof.Proof.Lanes

@[expose] public section

set_option maxRecDepth 16384

noncomputable section

/-! # One step of the running maxima and sums, at a row and a lane -/

namespace Cert.KernelIdeal.Gen

open Idealize.ShloMosaic Cert.Lanes

set_option maxHeartbeats 4000000

theorem pay240_at (r : Fin 360) (l : Fin 128) : k0_pay240 (F := Ideal) (ix2 r l) = low := by
  pointwise [k0_pay240]
theorem pay241_at (r : Fin 288) (l : Fin 128) : k0_pay241 (F := Ideal) (ix2 r l) = low := by
  pointwise [k0_pay241]
theorem pay242_at (r : Fin 360) (l : Fin 128) : k0_pay242 (F := Ideal) (ix2 r l) = (0 : EReal) := by
  pointwise [k0_pay242]
theorem pay243_at (r : Fin 288) (l : Fin 128) : k0_pay243 (F := Ideal) (ix2 r l) = (0 : EReal) := by
  pointwise [k0_pay243]

theorem pay252_at (v : FVec Ideal S360x512 .f32) (M : Vec Ideal S360x128 .f32) (r : Fin 360) (l : Fin 128) :
    k0_pay252 (F := Ideal) v M (ix2 r l) = stepMax (M (ix2 r l)) (v (ix2 r ⟨l.val, by omega⟩)) (v (ix2 r ⟨128 + l.val, by omega⟩))
      (v (ix2 r ⟨256 + l.val, by omega⟩)) (v (ix2 r ⟨384 + l.val, by omega⟩)) := by
  unfold stepMax
  pointwise [k0_pay252, k0_pay251]

theorem pay253_at (v : FVec Ideal S360x512 .f32) (M S : Vec Ideal S360x128 .f32) (r : Fin 360) (l : Fin 128) :
    k0_pay253 (F := Ideal) v M S (ix2 r l) = stepSum (M (ix2 r l)) (S (ix2 r l)) (v (ix2 r ⟨l.val, by omega⟩)) (v (ix2 r ⟨128 + l.val, by omega⟩))
      (v (ix2 r ⟨256 + l.val, by omega⟩)) (v (ix2 r ⟨384 + l.val, by omega⟩)) := by
  unfold stepSum
  rw [← pay252_at]
  pointwise [k0_pay253, k0_pay251]
  rfl

theorem pay2_at (v : FVec Ideal S288x512 .f32) (M : Vec Ideal S288x128 .f32) (r : Fin 288) (l : Fin 128) :
    k0_pay2 (F := Ideal) v M (ix2 r l) = stepMax (M (ix2 r l)) (v (ix2 r ⟨l.val, by omega⟩)) (v (ix2 r ⟨128 + l.val, by omega⟩))
      (v (ix2 r ⟨256 + l.val, by omega⟩)) (v (ix2 r ⟨384 + l.val, by omega⟩)) := by
  unfold stepMax
  pointwise [k0_pay2, k0_pay1]

theorem pay3_at (v : FVec Ideal S288x512 .f32) (M S : Vec Ideal S288x128 .f32) (r : Fin 288) (l : Fin 128) :
    k0_pay3 (F := Ideal) v M S (ix2 r l) = stepSum (M (ix2 r l)) (S (ix2 r l)) (v (ix2 r ⟨l.val, by omega⟩)) (v (ix2 r ⟨128 + l.val, by omega⟩))
      (v (ix2 r ⟨256 + l.val, by omega⟩)) (v (ix2 r ⟨384 + l.val, by omega⟩)) := by
  unfold stepSum
  rw [← pay2_at]
  pointwise [k0_pay3, k0_pay1]
  rfl

end Cert.KernelIdeal.Gen

end
-- ==== Proof.HeadsLanes.lean ====
module

public import proofs.«01_k».proof.Proof.HeadsArray
public import proofs.«01_k».proof.Proof.HeadsLanesAt

@[expose] public section

set_option maxRecDepth 16384

noncomputable section

/-! # The lanes' maxima and sums when the last step has run -/

namespace Cert.KernelIdeal.Gen

open Idealize.ShloMosaic Idealize.ShloMosaic.TcCoe Cert.HeadsSpec Idealize.SL.Sem
open Idealize.ShloMosaic.Pipeline (Dat)
open Cert.Lanes (top mass trajectory)

variable (m : (ℓ : Loc nD τ sig) → Buf (Elt Ideal) ℓ) (ρ : Dev nD → PrngReg)

/-- The target's logits of a row's lane, in the order of their columns. -/
def entriesT (c : Dev nD) (r : Fin 360) (l : Fin 128) : ℕ → EReal := Cert.Lanes.laneOf (fun v => ltA m c (ix2 r v)) l
/-- The draft's logits of a row's lane, in the order of their columns. -/
def entriesD (c : Dev nD) (r : Fin 288) (l : Fin 128) : ℕ → EReal := Cert.Lanes.laneOf (fun v => ldA m c (ix2 r v)) l

theorem entryT (c : Dev nD) (n : ℕ) (h : n < cfg0.N) (r : Fin 360) (l : Fin 128) (j : ℕ) (hj : j < 4) (k : ℕ) (hk : k = 4 * n + j)
    (b : Fin 512) (hb : b.val = 128 * j + l.val) : entriesT m c r l k = ltB m c ⟨n, h⟩ (ix2 r b) := by
  subst hk
  have hN : n < 96 := lt_of_lt_of_eq h (show cfg0.N = 96 from N_0)
  unfold entriesT
  rw [Cert.Lanes.laneOf_lt _ _ _ (by omega)]
  have h1 : stepOf ⟨128 * (4 * n + j) + l.val, by omega⟩ = ⟨n, h⟩ := Fin.ext (by show (128 * (4 * n + j) + l.val) / 512 = n; omega)
  have h2 : laneOf ⟨128 * (4 * n + j) + l.val, by omega⟩ = b := Fin.ext (by show (128 * (4 * n + j) + l.val) % 512 = b.val; omega)
  show ltB m c (stepOf ⟨128 * (4 * n + j) + l.val, by omega⟩) (ix2 r (laneOf ⟨128 * (4 * n + j) + l.val, by omega⟩)) = _
  rw [h1, h2]

/-- After a step the running maximum and sum are those of the columns seen so far. -/
theorem statT_at (c : Dev nD) (r : Fin 360) (l : Fin 128) : ∀ n (h : n < cfg0.N),
    ((((statT m c n h).1 : Vec Ideal S360x128 .f32) (ix2 r l), ((statT m c n h).2 : Vec Ideal S360x128 .f32) (ix2 r l)) : EReal × EReal)
      = (top (entriesT m c r l) (4 * (n + 1)), mass (entriesT m c r l) (4 * (n + 1))) := by
  refine trajectory cfg0.N (entriesT m c r l)
    (fun n h => (((statT m c n h).1 : Vec Ideal S360x128 .f32) (ix2 r l), ((statT m c n h).2 : Vec Ideal S360x128 .f32) (ix2 r l))) (fun h => ?_) (fun n h => ?_)
  · rw [entryT m c 0 h r l 0 (by omega) 0 (by omega) ⟨l.val, by omega⟩ (by show l.val = _; omega),
      entryT m c 0 h r l 1 (by omega) 1 (by omega) ⟨128 + l.val, by omega⟩ (by show 128 + l.val = _; omega),
      entryT m c 0 h r l 2 (by omega) 2 (by omega) ⟨256 + l.val, by omega⟩ (by show 256 + l.val = _; omega),
      entryT m c 0 h r l 3 (by omega) 3 (by omega) ⟨384 + l.val, by omega⟩ (by show 384 + l.val = _; omega)]
    refine Prod.ext ?_ ?_
    · refine (pay252_at (ltB m c ⟨0, h⟩) (k0_pay240 (F := Ideal)) r l).trans ?_
      rw [pay240_at]
    · refine (pay253_at (ltB m c ⟨0, h⟩) (k0_pay240 (F := Ideal)) (k0_pay242 (F := Ideal)) r l).trans ?_
      rw [pay240_at, pay242_at]
  · rw [entryT m c (n + 1) h r l 0 (by omega) (4 * (n + 1)) (by omega) ⟨l.val, by omega⟩ (by show l.val = _; omega),
      entryT m c (n + 1) h r l 1 (by omega) (4 * (n + 1) + 1) (by omega) ⟨128 + l.val, by omega⟩ (by show 128 + l.val = _; omega),
      entryT m c (n + 1) h r l 2 (by omega) (4 * (n + 1) + 2) (by omega) ⟨256 + l.val, by omega⟩ (by show 256 + l.val = _; omega),
      entryT m c (n + 1) h r l 3 (by omega) (4 * (n + 1) + 3) (by omega) ⟨384 + l.val, by omega⟩ (by show 384 + l.val = _; omega)]
    refine Prod.ext ?_ ?_
    · exact pay252_at (ltB m c ⟨n + 1, h⟩) (statT m c n (Nat.lt_of_succ_lt h)).1 r l
    · exact pay253_at (ltB m c ⟨n + 1, h⟩) (statT m c n (Nat.lt_of_succ_lt h)).1 (statT m c n (Nat.lt_of_succ_lt h)).2 r l

/-- The target's lane maxima, over all the columns. -/
def maxT (c : Dev nD) : Vec Ideal S360x128 .f32 := fun i => top (entriesT m c (i 0) (i 1)) 384
/-- The target's lane sums, over all the columns. -/
def sumT (c : Dev nD) : Vec Ideal S360x128 .f32 := fun i => mass (entriesT m c (i 0) (i 1)) 384

theorem statT_last (c : Dev nD) (t : Fin cfg0.N) (ht : t.val % 96 = 95) : (statT m c t.val t.isLt).1 = maxT m c ∧ (statT m c t.val t.isLt).2 = sumT m c := by
  have hN : t.val < 96 := lt_of_lt_of_eq t.isLt (show cfg0.N = 96 from N_0)
  have h384 : 4 * (t.val + 1) = 384 := by omega
  constructor
  · funext i
    obtain ⟨r, l, rfl⟩ : ∃ (r : Fin 360) (l : Fin 128), i = (ix2 r l : S360x128.Idx) := ⟨i 0, i 1, eq_ix2 (n0 := 360) (n1 := 128) i⟩
    have h := congrArg Prod.fst (statT_at m c r l t.val t.isLt)
    rw [h384] at h
    exact h
  · funext i
    obtain ⟨r, l, rfl⟩ : ∃ (r : Fin 360) (l : Fin 128), i = (ix2 r l : S360x128.Idx) := ⟨i 0, i 1, eq_ix2 (n0 := 360) (n1 := 128) i⟩
    have h := congrArg Prod.snd (statT_at m c r l t.val t.isLt)
    rw [h384] at h
    exact h

theorem entryD (c : Dev nD) (n : ℕ) (h : n < cfg0.N) (r : Fin 288) (l : Fin 128) (j : ℕ) (hj : j < 4) (k : ℕ) (hk : k = 4 * n + j)
    (b : Fin 512) (hb : b.val = 128 * j + l.val) : entriesD m c r l k = ldB m c ⟨n, h⟩ (ix2 r b) := by
  subst hk
  have hN : n < 96 := lt_of_lt_of_eq h (show cfg0.N = 96 from N_0)
  unfold entriesD
  rw [Cert.Lanes.laneOf_lt _ _ _ (by omega)]
  have h1 : stepOf ⟨128 * (4 * n + j) + l.val, by omega⟩ = ⟨n, h⟩ := Fin.ext (by show (128 * (4 * n + j) + l.val) / 512 = n; omega)
  have h2 : laneOf ⟨128 * (4 * n + j) + l.val, by omega⟩ = b := Fin.ext (by show (128 * (4 * n + j) + l.val) % 512 = b.val; omega)
  show ldB m c (stepOf ⟨128 * (4 * n + j) + l.val, by omega⟩) (ix2 r (laneOf ⟨128 * (4 * n + j) + l.val, by omega⟩)) = _
  rw [h1, h2]

/-- After a step the running maximum and sum are those of the columns seen so far. -/
theorem statD_at (c : Dev nD) (r : Fin 288) (l : Fin 128) : ∀ n (h : n < cfg0.N),
    ((((statD m c n h).1 : Vec Ideal S288x128 .f32) (ix2 r l), ((statD m c n h).2 : Vec Ideal S288x128 .f32) (ix2 r l)) : EReal × EReal)
      = (top (entriesD m c r l) (4 * (n + 1)), mass (entriesD m c r l) (4 * (n + 1))) := by
  refine trajectory cfg0.N (entriesD m c r l)
    (fun n h => (((statD m c n h).1 : Vec Ideal S288x128 .f32) (ix2 r l), ((statD m c n h).2 : Vec Ideal S288x128 .f32) (ix2 r l))) (fun h => ?_) (fun n h => ?_)
  · rw [entryD m c 0 h r l 0 (by omega) 0 (by omega) ⟨l.val, by omega⟩ (by show l.val = _; omega),
      entryD m c 0 h r l 1 (by omega) 1 (by omega) ⟨128 + l.val, by omega⟩ (by show 128 + l.val = _; omega),
      entryD m c 0 h r l 2 (by omega) 2 (by omega) ⟨256 + l.val, by omega⟩ (by show 256 + l.val = _; omega),
      entryD m c 0 h r l 3 (by omega) 3 (by omega) ⟨384 + l.val, by omega⟩ (by show 384 + l.val = _; omega)]
    refine Prod.ext ?_ ?_
    · refine (pay2_at (ldB m c ⟨0, h⟩) (k0_pay241 (F := Ideal)) r l).trans ?_
      rw [pay241_at]
    · refine (pay3_at (ldB m c ⟨0, h⟩) (k0_pay241 (F := Ideal)) (k0_pay243 (F := Ideal)) r l).trans ?_
      rw [pay241_at, pay243_at]
  · rw [entryD m c (n + 1) h r l 0 (by omega) (4 * (n + 1)) (by omega) ⟨l.val, by omega⟩ (by show l.val = _; omega),
      entryD m c (n + 1) h r l 1 (by omega) (4 * (n + 1) + 1) (by omega) ⟨128 + l.val, by omega⟩ (by show 128 + l.val = _; omega),
      entryD m c (n + 1) h r l 2 (by omega) (4 * (n + 1) + 2) (by omega) ⟨256 + l.val, by omega⟩ (by show 256 + l.val = _; omega),
      entryD m c (n + 1) h r l 3 (by omega) (4 * (n + 1) + 3) (by omega) ⟨384 + l.val, by omega⟩ (by show 384 + l.val = _; omega)]
    refine Prod.ext ?_ ?_
    · exact pay2_at (ldB m c ⟨n + 1, h⟩) (statD m c n (Nat.lt_of_succ_lt h)).1 r l
    · exact pay3_at (ldB m c ⟨n + 1, h⟩) (statD m c n (Nat.lt_of_succ_lt h)).1 (statD m c n (Nat.lt_of_succ_lt h)).2 r l

/-- The draft's lane maxima, over all the columns. -/
def maxD (c : Dev nD) : Vec Ideal S288x128 .f32 := fun i => top (entriesD m c (i 0) (i 1)) 384
/-- The draft's lane sums, over all the columns. -/
def sumD (c : Dev nD) : Vec Ideal S288x128 .f32 := fun i => mass (entriesD m c (i 0) (i 1)) 384

theorem statD_last (c : Dev nD) (t : Fin cfg0.N) (ht : t.val % 96 = 95) : (statD m c t.val t.isLt).1 = maxD m c ∧ (statD m c t.val t.isLt).2 = sumD m c := by
  have hN : t.val < 96 := lt_of_lt_of_eq t.isLt (show cfg0.N = 96 from N_0)
  have h384 : 4 * (t.val + 1) = 384 := by omega
  constructor
  · funext i
    obtain ⟨r, l, rfl⟩ : ∃ (r : Fin 288) (l : Fin 128), i = (ix2 r l : S288x128.Idx) := ⟨i 0, i 1, eq_ix2 (n0 := 288) (n1 := 128) i⟩
    have h := congrArg Prod.fst (statD_at m c r l t.val t.isLt)
    rw [h384] at h
    exact h
  · funext i
    obtain ⟨r, l, rfl⟩ : ∃ (r : Fin 288) (l : Fin 128), i = (ix2 r l : S288x128.Idx) := ⟨i 0, i 1, eq_ix2 (n0 := 288) (n1 := 128) i⟩
    have h := congrArg Prod.snd (statD_at m c r l t.val t.isLt)
    rw [h384] at h
    exact h

theorem index_10 : ∀ t : Fin cfg0.N, win0_10.index t = ![0, 0] := (by decide +kernel : ∀ t : Fin grid0.N, win0_10.index t = ![0, 0])
theorem emb_10 (t : Fin cfg0.N) (y : S360x128.Idx) : ((cfg0.win 10).blk t).view.emb y = y := by
  refine funext fun a => Fin.ext ?_
  have h : win0_10.index t a = 0 := by
    rw [index_10]
    exact (by decide : ∀ a : Fin 2, (![0, 0] : Fin 2 → ℕ) a = 0) a
  show win0_10.index t a * S360x128.size a + 1 * (y a).val = (y a).val
  rw [h]; omega
theorem final10 (c : Dev nD) : (dats m 0 c).arrAt 10 cfg0.N = maxT m c := by
  refine (dats m 0 c).arrAt_eq_of_covers 10 _ (by decide +kernel) fun t hf y => ?_
  have ht := (flush0_10 t).mp hf
  blk_simp
  rw [after0_10, (statT_last m c t ht).1]
  exact (congrArg (maxT m c) (emb_10 t y)).symm

theorem index_11 : ∀ t : Fin cfg0.N, win0_11.index t = ![0, 0] := (by decide +kernel : ∀ t : Fin grid0.N, win0_11.index t = ![0, 0])
theorem emb_11 (t : Fin cfg0.N) (y : S360x128.Idx) : ((cfg0.win 11).blk t).view.emb y = y := by
  refine funext fun a => Fin.ext ?_
  have h : win0_11.index t a = 0 := by
    rw [index_11]
    exact (by decide : ∀ a : Fin 2, (![0, 0] : Fin 2 → ℕ) a = 0) a
  show win0_11.index t a * S360x128.size a + 1 * (y a).val = (y a).val
  rw [h]; omega
theorem final11 (c : Dev nD) : (dats m 0 c).arrAt 11 cfg0.N = sumT m c := by
  refine (dats m 0 c).arrAt_eq_of_covers 11 _ (by decide +kernel) fun t hf y => ?_
  have ht := (flush0_11 t).mp hf
  blk_simp
  rw [after0_11, (statT_last m c t ht).2]
  exact (congrArg (sumT m c) (emb_11 t y)).symm

theorem index_12 : ∀ t : Fin cfg0.N, win0_12.index t = ![0, 0] := (by decide +kernel : ∀ t : Fin grid0.N, win0_12.index t = ![0, 0])
theorem emb_12 (t : Fin cfg0.N) (y : S288x128.Idx) : ((cfg0.win 12).blk t).view.emb y = y := by
  refine funext fun a => Fin.ext ?_
  have h : win0_12.index t a = 0 := by
    rw [index_12]
    exact (by decide : ∀ a : Fin 2, (![0, 0] : Fin 2 → ℕ) a = 0) a
  show win0_12.index t a * S288x128.size a + 1 * (y a).val = (y a).val
  rw [h]; omega
theorem final12 (c : Dev nD) : (dats m 0 c).arrAt 12 cfg0.N = maxD m c := by
  refine (dats m 0 c).arrAt_eq_of_covers 12 _ (by decide +kernel) fun t hf y => ?_
  have ht := (flush0_12 t).mp hf
  blk_simp
  rw [after0_12, (statD_last m c t ht).1]
  exact (congrArg (maxD m c) (emb_12 t y)).symm

theorem index_13 : ∀ t : Fin cfg0.N, win0_13.index t = ![0, 0] := (by decide +kernel : ∀ t : Fin grid0.N, win0_13.index t = ![0, 0])
theorem emb_13 (t : Fin cfg0.N) (y : S288x128.Idx) : ((cfg0.win 13).blk t).view.emb y = y := by
  refine funext fun a => Fin.ext ?_
  have h : win0_13.index t a = 0 := by
    rw [index_13]
    exact (by decide : ∀ a : Fin 2, (![0, 0] : Fin 2 → ℕ) a = 0) a
  show win0_13.index t a * S288x128.size a + 1 * (y a).val = (y a).val
  rw [h]; omega
theorem final13 (c : Dev nD) : (dats m 0 c).arrAt 13 cfg0.N = sumD m c := by
  refine (dats m 0 c).arrAt_eq_of_covers 13 _ (by decide +kernel) fun t hf y => ?_
  have ht := (flush0_13 t).mp hf
  blk_simp
  rw [after0_13, (statD_last m c t ht).2]
  exact (congrArg (sumD m c) (emb_13 t y)).symm

/-- What the kernel's run leaves in all eight result arrays. -/
theorem run_all : θ_run defs (onTc (τ := τ) (main (F := Ideal))) ⟨m, fun _ => 0, ρ⟩ fun r => ∀ c : Dev nD,
      r.2.mem ((c : Thread nD τ).loc main_v2_0) = (ltA m c : Vec Ideal S360x49152 .f32)
      ∧ r.2.mem ((c : Thread nD τ).loc main_v2_1) = (ldA m c : Vec Ideal S288x49152 .f32)
      ∧ r.2.mem ((c : Thread nD τ).loc main_v2_2) = (maxT m c : Vec Ideal S360x128 .f32)
      ∧ r.2.mem ((c : Thread nD τ).loc main_v2_3) = (sumT m c : Vec Ideal S360x128 .f32)
      ∧ r.2.mem ((c : Thread nD τ).loc main_v2_4) = (maxD m c : Vec Ideal S288x128 .f32)
      ∧ r.2.mem ((c : Thread nD τ).loc main_v2_5) = (sumD m c : Vec Ideal S288x128 .f32)
      ∧ r.2.mem ((c : Thread nD τ).loc main_v2_6) = codes0 m c
      ∧ r.2.mem ((c : Thread nD τ).loc main_v2_7) = hds0 m c :=
  (θ_run defs _ _).mono (fun r h c => ⟨((h c).1 8).trans (final8 m c), ((h c).1 9).trans (final9 m c), ((h c).1 10).trans (final10 m c),
    ((h c).1 11).trans (final11 m c), ((h c).1 12).trans (final12 m c), ((h c).1 13).trans (final13 m c),
    ((h c).1 14).trans (final14 m c), ((h c).1 15).trans (final15 m c)⟩) (run_main m ρ)

end Cert.KernelIdeal.Gen

end
-- ==== Proof.ReferenceAt.lean ====
module

public import proofs.«01_k».proof.Proof.Gen.ReferenceIdeal.Skeleton
public import Idealize.ShloMosaic.Lib.Pointwise
public import Idealize.ShloMosaic.PureOps.Ideal
public import proofs.«01_k».proof.Proof.Gen.ReferenceIdeal.Frame
public import Idealize.ShloMosaic.Lib.StableHlo.ReadAt
public import proofs.«01_k».proof.Proof.HeadsSpec
public import proofs.«01_k».proof.Proof.Quantiser

@[expose] public section

set_option maxRecDepth 16384

noncomputable section

/-! # The reference's values at an index -/

namespace Cert.ReferenceIdeal.Gen

open Idealize.ShloMosaic Idealize.ShloMosaic.TcCoe Cert.HeadsSpec

set_option maxHeartbeats 4000000

theorem rpay10_at (e : FVec Ideal S72x4x1 .f32) (cs : FVec Ideal S288x1536 .fp8e4m3) (w : Vec Ideal S1536x49152 .fp8e4m3) (ws : Vec Ideal S1x49152 .f32) (al : Vec Ideal S72x49152 .i8) (t : Vec Ideal S72x1x1 .f32) (r : Fin 288) (v : Fin 49152)
    (ht : t (ix3 (seqD r) 0 0) ≠ (0 : EReal)) :
    k0_pay10 (F := Ideal) e cs w ws al t (ix2 r v) =
      valD (fun x => cs (ix2 r x)) (fun x => w (ix2 x v)) (e (ix3 (seqD r) (posD r) 0)) (ws (ix2 0 v)) (al (ix2 (seqD r) v)) (t (ix3 (seqD r) 0 0)) := by
  unfold valD
  rw [← temperD _ _ _ _ ht]
  unfold seqD posD
  pointwise [k0_pay10]

theorem rpay6_at (h : Vec Ideal S72x4x1536 .bf16) (r : Fin 72) (l : Fin 4) :
    k0_pay6 (F := Ideal) h (ix3 r l 0) = FloatOps.sitofp (F := Ideal) FTy.f32 (Cert.Quantiser.rExp (amax fun x => h (ix3 r l x))) := by
  unfold Cert.Quantiser.rExp Cert.Quantiser.rCount amax
  pointwise [k0_pay6, k0_pay5]

theorem rpay7_at (h : Vec Ideal S72x4x1536 .bf16) (r : Fin 72) (l : Fin 4) :
    k0_pay7 (F := Ideal) h (ix3 r l 0) = Ideal.exp2 (k0_pay6 (F := Ideal) h (ix3 r l 0)) := by
  pointwise [k0_pay7]
  rfl

theorem rpay8_at (h : Vec Ideal S72x4x1536 .bf16) (r : Fin 288) (l : Fin 1536) :
    k0_pay8 (F := Ideal) h (ix2 r l) = code (h (ix3 (seqD r) (posD r) l)) (Ideal.exp2 (0 - k0_pay6 (F := Ideal) h (ix3 (seqD r) (posD r) 0))) := by
  unfold code seqD posD
  pointwise [k0_pay8, k0_pay5]
  rfl

theorem rpay9_at (h : Vec Ideal S72x4x1536 .bf16) (r : Fin 288) (l : Fin 1) :
    k0_pay9 (F := Ideal) h (ix2 r l) = Ideal.exp2 (k0_pay6 (F := Ideal) h (ix3 (seqD r) (posD r) 0)) := by
  unfold seqD posD
  pointwise [k0_pay9, k0_pay7]
  rfl

variable (m : (ℓ : Loc nD τ sig) → Buf (Elt Ideal) ℓ)

/-- A host's shift by four is the vector unit's. -/
theorem hi_host (b : BitVec 8) : IntOp.shrsi ArithUnit.host (BitVec.setWidth 32 b) 4#32 = hi b := by
  unfold hi
  revert b; decide +kernel

open Classical in
/-- A select on the mask's bit is a choice on the mask's byte. -/
theorem select_mask (b : BitVec 1) (x y : EReal) :
    Scalar.select b x y = if (0 : EReal) < FloatOps.sitofp (F := Ideal) FTy.f32 (BitVec.setWidth 8 b) then x else y := by
  by_cases hb : b = 1#1
  · rw [if_pos ((mask_pos b).2 hb), hb]; rfl
  · rw [if_neg (fun h => hb ((mask_pos b).1 h))]
    rcases BitVec.eq_zero_or_eq_one b with h | h
    · rw [h]; rfl
    · exact absurd h hb

/-- The target's logits as the host computes them. -/
theorem V_lt_at (c : Dev nD) (r : Fin 360) (v : Fin 49152)
    (ht : ∀ s : Fin 72, (m (c, Proc.tc.devRef main_arg8) : Vec Ideal S72 .f32) (ix1 s) ≠ (0 : EReal)) :
    (V m c main_v45 : Vec Ideal S360x49152 .f32) (ix2 r v)
      = valT (rowF (fun s k p => (m (c, Proc.tc.devRef main_arg0) : Vec Ideal S72x5x6144 .bf16) (ix3 s k p)) r)
          (fun q => (m (c, Proc.tc.devRef main_arg1) : Vec Ideal S3072x49152 .i8) (ix2 q v))
          (fun g => (m (c, Proc.tc.devRef main_arg2) : Vec Ideal S48x49152 .f32) (ix2 g v))
          (BitVec.setWidth 8 ((m (c, Proc.tc.devRef main_arg9) : Vec Ideal S72x49152 .i1) (ix2 (seqF r) v)))
          ((m (c, Proc.tc.devRef main_arg8) : Vec Ideal S72 .f32) (ix1 (seqF r))) := by
  unfold valT
  rw [← temper _ _ (ht _), dotT_eq]
  by_cases h : r.val < 288
  · have h1 : seqF r = ⟨r.val / 4, by omega⟩ := dif_pos h
    have h2 (x : Fin 72 → Fin 5 → Fin 6144 → EReal) : rowF x r = x ⟨r.val / 4, by omega⟩ ⟨r.val % 4, by omega⟩ := funext fun p => dif_pos h
    rw [h1, h2]
    unfold V
    after_reads_at
    rw [dif_pos h]
    simp only [hi_host]
    exact select_mask _ _ _
  · have h1 : seqF r = ⟨r.val - 288, by omega⟩ := dif_neg h
    have h2 (x : Fin 72 → Fin 5 → Fin 6144 → EReal) : rowF x r = x ⟨r.val - 288, by omega⟩ 4 := funext fun p => dif_neg h
    rw [h1, h2]
    unfold V
    after_reads_at
    rw [dif_neg h]
    simp only [hi_host]
    exact select_mask _ _ _

theorem V_w_at (c : Dev nD) (r : Fin 1) (v : Fin 49152) : (V m c main_v46 : Vec Ideal S1x49152 .f32) (ix2 r v) = (m (c, Proc.tc.devRef main_arg5) : Vec Ideal S49152 .f32) (ix1 v) := by
  unfold V
  after_reads_at

theorem V_t_at (c : Dev nD) (r : Fin 72)  : (V m c main_v47 : Vec Ideal S72x1x1 .f32) (ix3 r 0 0) = (m (c, Proc.tc.devRef main_arg8) : Vec Ideal S72 .f32) (ix1 r) := by
  unfold V
  after_reads_at

theorem V_a_at (c : Dev nD) (r : Fin 72) (v : Fin 49152) : (V m c main_v48 : Vec Ideal S72x49152 .i8) (ix2 r v) = BitVec.setWidth 8 ((m (c, Proc.tc.devRef main_arg9) : Vec Ideal S72x49152 .i1) (ix2 r v)) := by
  unfold V
  after_reads_at

end Cert.ReferenceIdeal.Gen

end
-- ==== Proof.ReferenceLanesAt.lean ====
module

public import proofs.«01_k».proof.Proof.Gen.ReferenceIdeal.Skeleton
public import Idealize.ShloMosaic.Lib.Pointwise
public import Idealize.ShloMosaic.PureOps.Ideal
public import proofs.«01_k».proof.Proof.Lanes

@[expose] public section

set_option maxRecDepth 16384

noncomputable section

/-! # The reference's lane maxima and sums at an index -/

namespace Cert.ReferenceIdeal.Gen

open Idealize.ShloMosaic Cert.Lanes

set_option maxHeartbeats 4000000

/-- The column of a lane's entry. -/
def col (i : Fin 384) (l : Fin 128) : Fin 49152 := ⟨i.val * 128 + l.val, by omega⟩

theorem laneOf_col (X : Fin 49152 → EReal) (l : Fin 128) (i : Fin 384) : laneOf X l i.val = X (col i l) := by
  rw [laneOf_lt X l i.val i.isLt]
  exact congrArg X (Fin.ext (by show 128 * i.val + l.val = i.val * 128 + l.val; omega))

theorem pay11_at (L : Vec Ideal S360x49152 .f32) (r : Fin 360) (i : Fin 384) (l : Fin 128) :
    k0_pay11 (F := Ideal) L (ix3 r i l) = L (ix2 r (col i l)) := by
  unfold col
  pointwise [k0_pay11]

theorem maximumf_eq (a b : EReal) : FloatOps.maximumf (F := Ideal) (φ := .f32) a b = max a b := rfl
theorem ofBits_low : FloatOps.ofBits (F := Ideal) FTy.f32 4284592614#32 = low := rfl

theorem greatest360_at (X : FVec Ideal S360x384x128 .f32) (r : Fin 360) (l : Fin 128) :
    multiReduction .maximumf [1] S360x128 X 0xFF800000#32 reduces_S360x384x128_S360x128 (.inl rfl) rfl (ix2 r l)
      = Finset.fold max (Ideal.ofBits FTy.f32 4286578688#32) (fun i : Fin 384 => X (ix3 r i l)) Finset.univ := by
  pointwise []

theorem floor360_at (X : FVec Ideal S360x128 .f32) (b : Ideal .f32) (r : Fin 360) (l : Fin 128) :
    maximumf X (broadcast S360x128 b) (ix2 r l) = FloatOps.maximumf (X (ix2 r l)) b := rfl

theorem pay12_at (L : Vec Ideal S360x49152 .f32) (r : Fin 360) (l : Fin 128) :
    k0_pay12 (F := Ideal) L (ix2 r l) = max (Finset.fold max (Ideal.ofBits FTy.f32 4286578688#32) (fun i : Fin 384 => k0_pay11 (F := Ideal) L (ix3 r i l)) Finset.univ) low := by
  rw [← greatest360_at (k0_pay11 (F := Ideal) L) r l, ← ofBits_low, ← maximumf_eq]
  unfold k0_pay12
  generalize multiReduction .maximumf [1] S360x128 (k0_pay11 (F := Ideal) L) 0xFF800000#32 reduces_S360x384x128_S360x128 (.inl rfl) rfl = X
  generalize FloatOps.ofBits (F := Ideal) FTy.f32 4284592614#32 = b
  exact floor360_at X b r l

/-- The maximum of a lane of the target. -/
theorem pay12_top (L : Vec Ideal S360x49152 .f32) (r : Fin 360) (l : Fin 128) :
    k0_pay12 (F := Ideal) L (ix2 r l) = top (laneOf (fun v => L (ix2 r v)) l) 384 := by
  rw [pay12_at, ← top_eq 384 (laneOf (fun v => L (ix2 r v)) l),
    show (fun i : Fin 384 => k0_pay11 (F := Ideal) L (ix3 r i l)) = fun i : Fin 384 => laneOf (fun v => L (ix2 r v)) l i.val from
      funext fun i => (pay11_at L r i l).trans (laneOf_col (fun v => L (ix2 r v)) l i).symm]

theorem pay1_at (L : Vec Ideal S360x49152 .f32) (r : Fin 360) (l : Fin 128) :
    k0_pay1 (F := Ideal) (k0_pay13 (F := Ideal) L) (ix2 r l) = ∑ i : Fin 384, Ideal.exp2 (k0_pay11 (F := Ideal) L (ix3 r i l) - k0_pay12 (F := Ideal) L (ix2 r l)) := by
  unfold k0_pay1 k0_pay13
  generalize k0_pay12 (F := Ideal) L = M
  generalize k0_pay11 (F := Ideal) L = X
  pointwise []
  rfl

/-- The sum of a lane of the target. -/
theorem pay1_mass (L : Vec Ideal S360x49152 .f32) (r : Fin 360) (l : Fin 128) :
    k0_pay1 (F := Ideal) (k0_pay13 (F := Ideal) L) (ix2 r l) = mass (laneOf (fun v => L (ix2 r v)) l) 384 := by
  rw [pay1_at, pay12_top, ← mass_eq 384 (laneOf (fun v => L (ix2 r v)) l)]
  exact Finset.sum_congr rfl fun i _ => by rw [pay11_at, laneOf_col]

theorem pay2_at (L : Vec Ideal S288x49152 .f32) (r : Fin 288) (i : Fin 384) (l : Fin 128) :
    k0_pay2 (F := Ideal) L (ix3 r i l) = L (ix2 r (col i l)) := by
  unfold col
  pointwise [k0_pay2]

theorem greatest288_at (X : FVec Ideal S288x384x128 .f32) (r : Fin 288) (l : Fin 128) :
    multiReduction .maximumf [1] S288x128 X 0xFF800000#32 reduces_S288x384x128_S288x128 (.inl rfl) rfl (ix2 r l)
      = Finset.fold max (Ideal.ofBits FTy.f32 4286578688#32) (fun i : Fin 384 => X (ix3 r i l)) Finset.univ := by
  pointwise []

theorem floor288_at (X : FVec Ideal S288x128 .f32) (b : Ideal .f32) (r : Fin 288) (l : Fin 128) :
    maximumf X (broadcast S288x128 b) (ix2 r l) = FloatOps.maximumf (X (ix2 r l)) b := rfl

theorem pay3_at (L : Vec Ideal S288x49152 .f32) (r : Fin 288) (l : Fin 128) :
    k0_pay3 (F := Ideal) L (ix2 r l) = max (Finset.fold max (Ideal.ofBits FTy.f32 4286578688#32) (fun i : Fin 384 => k0_pay2 (F := Ideal) L (ix3 r i l)) Finset.univ) low := by
  rw [← greatest288_at (k0_pay2 (F := Ideal) L) r l, ← ofBits_low, ← maximumf_eq]
  unfold k0_pay3
  generalize multiReduction .maximumf [1] S288x128 (k0_pay2 (F := Ideal) L) 0xFF800000#32 reduces_S288x384x128_S288x128 (.inl rfl) rfl = X
  generalize FloatOps.ofBits (F := Ideal) FTy.f32 4284592614#32 = b
  exact floor288_at X b r l

/-- The maximum of a lane of the draft. -/
theorem pay3_top (L : Vec Ideal S288x49152 .f32) (r : Fin 288) (l : Fin 128) :
    k0_pay3 (F := Ideal) L (ix2 r l) = top (laneOf (fun v => L (ix2 r v)) l) 384 := by
  rw [pay3_at, ← top_eq 384 (laneOf (fun v => L (ix2 r v)) l),
    show (fun i : Fin 384 => k0_pay2 (F := Ideal) L (ix3 r i l)) = fun i : Fin 384 => laneOf (fun v => L (ix2 r v)) l i.val from
      funext fun i => (pay2_at L r i l).trans (laneOf_col (fun v => L (ix2 r v)) l i).symm]

theorem pay4_at (L : Vec Ideal S288x49152 .f32) (r : Fin 288) (l : Fin 128) :
    k0_pay4 (F := Ideal) L (ix2 r l) = ∑ i : Fin 384, Ideal.exp2 (k0_pay2 (F := Ideal) L (ix3 r i l) - k0_pay3 (F := Ideal) L (ix2 r l)) := by
  unfold k0_pay4
  generalize k0_pay3 (F := Ideal) L = M
  generalize k0_pay2 (F := Ideal) L = X
  pointwise []
  rfl

/-- The sum of a lane of the draft. -/
theorem pay4_mass (L : Vec Ideal S288x49152 .f32) (r : Fin 288) (l : Fin 128) :
    k0_pay4 (F := Ideal) L (ix2 r l) = mass (laneOf (fun v => L (ix2 r v)) l) 384 := by
  rw [pay4_at, pay3_top, ← mass_eq 384 (laneOf (fun v => L (ix2 r v)) l)]
  exact Finset.sum_congr rfl fun i _ => by rw [pay2_at, laneOf_col]

end Cert.ReferenceIdeal.Gen

end
-- ==== Proof.ReferenceArray.lean ====
module

public import proofs.«01_k».proof.Proof.ReferenceAt
public import proofs.«01_k».proof.Proof.ReferenceLanesAt
public import Idealize.ShloMosaic.Lib.Pipeline.Value
public import Idealize.ShloMosaic.Lib.Pipeline.ValueKit

@[expose] public section

set_option maxRecDepth 16384

noncomputable section

/-! # What the reference leaves in its result arrays -/

namespace Cert.ReferenceIdeal.Gen

open Idealize.ShloMosaic Idealize.ShloMosaic.TcCoe Cert.HeadsSpec Idealize.SL.Sem
open Idealize.ShloMosaic.Pipeline (Dat)

variable (m : (ℓ : Loc nD τ sig) → Buf (Elt Ideal) ℓ) (ρ : Dev nD → PrngReg)

theorem index_0 : ∀ t : Fin cfg0.N, win0_0.index t = ![0, 0, 0] := (by decide +kernel : ∀ t : Fin grid0.N, win0_0.index t = ![0, 0, 0])
theorem emb_0 (t : Fin cfg0.N) (y : S72x4x1536.Idx) : ((cfg0.win 0).blk t).view.emb y = y := by
  refine funext fun a => Fin.ext ?_
  have h : win0_0.index t a = 0 := by
    rw [index_0]
    exact (by decide : ∀ a : Fin 3, (![0, 0, 0] : Fin 3 → ℕ) a = 0) a
  show win0_0.index t a * S72x4x1536.size a + 1 * (y a).val = (y a).val
  rw [h]; omega
theorem iblk_0 (c : Dev nD) (t : Fin cfg0.N) : (iblk m c 0 t : Vec Ideal S72x4x1536 .bf16) = (V m c main_arg3 : Vec Ideal S72x4x1536 .bf16) := by
  funext y
  show V m c main_arg3 (((cfg0.win 0).blk t).view.emb y) = _
  exact congrArg (V m c main_arg3 : Vec Ideal S72x4x1536 .bf16) (emb_0 t y)

theorem index_1 : ∀ t : Fin cfg0.N, win0_1.index t = ![0, 0] := (by decide +kernel : ∀ t : Fin grid0.N, win0_1.index t = ![0, 0])
theorem emb_1 (t : Fin cfg0.N) (y : S1536x49152.Idx) : ((cfg0.win 1).blk t).view.emb y = y := by
  refine funext fun a => Fin.ext ?_
  have h : win0_1.index t a = 0 := by
    rw [index_1]
    exact (by decide : ∀ a : Fin 2, (![0, 0] : Fin 2 → ℕ) a = 0) a
  show win0_1.index t a * S1536x49152.size a + 1 * (y a).val = (y a).val
  rw [h]; omega
theorem iblk_1 (c : Dev nD) (t : Fin cfg0.N) : (iblk m c 1 t : Vec Ideal S1536x49152 .fp8e4m3) = (V m c main_arg4 : Vec Ideal S1536x49152 .fp8e4m3) := by
  funext y
  show V m c main_arg4 (((cfg0.win 1).blk t).view.emb y) = _
  exact congrArg (V m c main_arg4 : Vec Ideal S1536x49152 .fp8e4m3) (emb_1 t y)

theorem index_2 : ∀ t : Fin cfg0.N, win0_2.index t = ![0, 0] := (by decide +kernel : ∀ t : Fin grid0.N, win0_2.index t = ![0, 0])
theorem emb_2 (t : Fin cfg0.N) (y : S1x49152.Idx) : ((cfg0.win 2).blk t).view.emb y = y := by
  refine funext fun a => Fin.ext ?_
  have h : win0_2.index t a = 0 := by
    rw [index_2]
    exact (by decide : ∀ a : Fin 2, (![0, 0] : Fin 2 → ℕ) a = 0) a
  show win0_2.index t a * S1x49152.size a + 1 * (y a).val = (y a).val
  rw [h]; omega
theorem iblk_2 (c : Dev nD) (t : Fin cfg0.N) : (iblk m c 2 t : Vec Ideal S1x49152 .f32) = (V m c main_v46 : Vec Ideal S1x49152 .f32) := by
  funext y
  show V m c main_v46 (((cfg0.win 2).blk t).view.emb y) = _
  exact congrArg (V m c main_v46 : Vec Ideal S1x49152 .f32) (emb_2 t y)

theorem index_3 : ∀ t : Fin cfg0.N, win0_3.index t = ![0, 0, 0] := (by decide +kernel : ∀ t : Fin grid0.N, win0_3.index t = ![0, 0, 0])
theorem emb_3 (t : Fin cfg0.N) (y : S72x1x1.Idx) : ((cfg0.win 3).blk t).view.emb y = y := by
  refine funext fun a => Fin.ext ?_
  have h : win0_3.index t a = 0 := by
    rw [index_3]
    exact (by decide : ∀ a : Fin 3, (![0, 0, 0] : Fin 3 → ℕ) a = 0) a
  show win0_3.index t a * S72x1x1.size a + 1 * (y a).val = (y a).val
  rw [h]; omega
theorem iblk_3 (c : Dev nD) (t : Fin cfg0.N) : (iblk m c 3 t : Vec Ideal S72x1x1 .f32) = (V m c main_v47 : Vec Ideal S72x1x1 .f32) := by
  funext y
  show V m c main_v47 (((cfg0.win 3).blk t).view.emb y) = _
  exact congrArg (V m c main_v47 : Vec Ideal S72x1x1 .f32) (emb_3 t y)

theorem index_4 : ∀ t : Fin cfg0.N, win0_4.index t = ![0, 0] := (by decide +kernel : ∀ t : Fin grid0.N, win0_4.index t = ![0, 0])
theorem emb_4 (t : Fin cfg0.N) (y : S72x49152.Idx) : ((cfg0.win 4).blk t).view.emb y = y := by
  refine funext fun a => Fin.ext ?_
  have h : win0_4.index t a = 0 := by
    rw [index_4]
    exact (by decide : ∀ a : Fin 2, (![0, 0] : Fin 2 → ℕ) a = 0) a
  show win0_4.index t a * S72x49152.size a + 1 * (y a).val = (y a).val
  rw [h]; omega
theorem iblk_4 (c : Dev nD) (t : Fin cfg0.N) : (iblk m c 4 t : Vec Ideal S72x49152 .i8) = (V m c main_v48 : Vec Ideal S72x49152 .i8) := by
  funext y
  show V m c main_v48 (((cfg0.win 4).blk t).view.emb y) = _
  exact congrArg (V m c main_v48 : Vec Ideal S72x49152 .i8) (emb_4 t y)

theorem index_5 : ∀ t : Fin cfg0.N, win0_5.index t = ![0, 0] := (by decide +kernel : ∀ t : Fin grid0.N, win0_5.index t = ![0, 0])
theorem emb_5 (t : Fin cfg0.N) (y : S360x49152.Idx) : ((cfg0.win 5).blk t).view.emb y = y := by
  refine funext fun a => Fin.ext ?_
  have h : win0_5.index t a = 0 := by
    rw [index_5]
    exact (by decide : ∀ a : Fin 2, (![0, 0] : Fin 2 → ℕ) a = 0) a
  show win0_5.index t a * S360x49152.size a + 1 * (y a).val = (y a).val
  rw [h]; omega
theorem iblk_5 (c : Dev nD) (t : Fin cfg0.N) : (iblk m c 5 t : Vec Ideal S360x49152 .f32) = (V m c main_v45 : Vec Ideal S360x49152 .f32) := by
  funext y
  show V m c main_v45 (((cfg0.win 5).blk t).view.emb y) = _
  exact congrArg (V m c main_v45 : Vec Ideal S360x49152 .f32) (emb_5 t y)

theorem index_6 : ∀ t : Fin cfg0.N, win0_6.index t = ![0, 0] := (by decide +kernel : ∀ t : Fin grid0.N, win0_6.index t = ![0, 0])
theorem emb_6 (t : Fin cfg0.N) (y : S288x1536.Idx) : ((cfg0.win 6).blk t).view.emb y = y := by
  refine funext fun a => Fin.ext ?_
  have h : win0_6.index t a = 0 := by
    rw [index_6]
    exact (by decide : ∀ a : Fin 2, (![0, 0] : Fin 2 → ℕ) a = 0) a
  show win0_6.index t a * S288x1536.size a + 1 * (y a).val = (y a).val
  rw [h]; omega

/-- The draft's codes. -/
def codes (c : Dev nD) : Vec Ideal S288x1536 .fp8e4m3 := k0_pay8 (F := Ideal) (m (c, Proc.tc.devRef main_arg3))

theorem final6 (c : Dev nD) : (dats m 0 c).arrAt 6 cfg0.N = (codes m c : Vec Ideal S288x1536 .fp8e4m3) := by
  refine (dats m 0 c).arrAt_eq_of_covers 6 _ (by decide +kernel) fun t hf y => ?_
  blk_simp
  rw [after0_6]
  frame_out
  simp only [iblk_0, iblk_1, iblk_2, iblk_3, iblk_4, iblk_5, V_main_arg3, V_main_arg4]
  exact (congrArg (codes m c) (emb_6 t y)).symm

theorem index_7 : ∀ t : Fin cfg0.N, win0_7.index t = ![0, 0] := (by decide +kernel : ∀ t : Fin grid0.N, win0_7.index t = ![0, 0])
theorem emb_7 (t : Fin cfg0.N) (y : S288x1.Idx) : ((cfg0.win 7).blk t).view.emb y = y := by
  refine funext fun a => Fin.ext ?_
  have h : win0_7.index t a = 0 := by
    rw [index_7]
    exact (by decide : ∀ a : Fin 2, (![0, 0] : Fin 2 → ℕ) a = 0) a
  show win0_7.index t a * S288x1.size a + 1 * (y a).val = (y a).val
  rw [h]; omega

/-- The draft's scales. -/
def scales (c : Dev nD) : Vec Ideal S288x1 .f32 := k0_pay9 (F := Ideal) (m (c, Proc.tc.devRef main_arg3))

theorem final7 (c : Dev nD) : (dats m 0 c).arrAt 7 cfg0.N = (scales m c : Vec Ideal S288x1 .f32) := by
  refine (dats m 0 c).arrAt_eq_of_covers 7 _ (by decide +kernel) fun t hf y => ?_
  blk_simp
  rw [after0_7]
  frame_out
  simp only [iblk_0, iblk_1, iblk_2, iblk_3, iblk_4, iblk_5, V_main_arg3, V_main_arg4]
  exact (congrArg (scales m c) (emb_7 t y)).symm

theorem index_8 : ∀ t : Fin cfg0.N, win0_8.index t = ![0, 0] := (by decide +kernel : ∀ t : Fin grid0.N, win0_8.index t = ![0, 0])
theorem emb_8 (t : Fin cfg0.N) (y : S288x49152.Idx) : ((cfg0.win 8).blk t).view.emb y = y := by
  refine funext fun a => Fin.ext ?_
  have h : win0_8.index t a = 0 := by
    rw [index_8]
    exact (by decide : ∀ a : Fin 2, (![0, 0] : Fin 2 → ℕ) a = 0) a
  show win0_8.index t a * S288x49152.size a + 1 * (y a).val = (y a).val
  rw [h]; omega

/-- The draft's logits. -/
def logits (c : Dev nD) : Vec Ideal S288x49152 .f32 := k0_pay10 (F := Ideal) (k0_pay7 (F := Ideal) (m (c, Proc.tc.devRef main_arg3))) (k0_pay8 (F := Ideal) (m (c, Proc.tc.devRef main_arg3))) (m (c, Proc.tc.devRef main_arg4)) (V m c main_v46) (V m c main_v48) (V m c main_v47)

theorem final8 (c : Dev nD) : (dats m 0 c).arrAt 8 cfg0.N = (logits m c : Vec Ideal S288x49152 .f32) := by
  refine (dats m 0 c).arrAt_eq_of_covers 8 _ (by decide +kernel) fun t hf y => ?_
  blk_simp
  rw [after0_8]
  unfold out0_8 k0_pay15 k0_pay14
  frame_out
  simp only [iblk_0, iblk_1, iblk_2, iblk_3, iblk_4, iblk_5, V_main_arg3, V_main_arg4]
  exact (congrArg (logits m c) (emb_8 t y)).symm

theorem index_9 : ∀ t : Fin cfg0.N, win0_9.index t = ![0, 0] := (by decide +kernel : ∀ t : Fin grid0.N, win0_9.index t = ![0, 0])
theorem emb_9 (t : Fin cfg0.N) (y : S360x128.Idx) : ((cfg0.win 9).blk t).view.emb y = y := by
  refine funext fun a => Fin.ext ?_
  have h : win0_9.index t a = 0 := by
    rw [index_9]
    exact (by decide : ∀ a : Fin 2, (![0, 0] : Fin 2 → ℕ) a = 0) a
  show win0_9.index t a * S360x128.size a + 1 * (y a).val = (y a).val
  rw [h]; omega

/-- The target's lane maxima. -/
def maxT (c : Dev nD) : Vec Ideal S360x128 .f32 := k0_pay12 (F := Ideal) (V m c main_v45)

theorem final9 (c : Dev nD) : (dats m 0 c).arrAt 9 cfg0.N = (maxT m c : Vec Ideal S360x128 .f32) := by
  refine (dats m 0 c).arrAt_eq_of_covers 9 _ (by decide +kernel) fun t hf y => ?_
  blk_simp
  rw [after0_9]
  frame_out
  simp only [iblk_0, iblk_1, iblk_2, iblk_3, iblk_4, iblk_5, V_main_arg3, V_main_arg4]
  exact (congrArg (maxT m c) (emb_9 t y)).symm

theorem index_10 : ∀ t : Fin cfg0.N, win0_10.index t = ![0, 0] := (by decide +kernel : ∀ t : Fin grid0.N, win0_10.index t = ![0, 0])
theorem emb_10 (t : Fin cfg0.N) (y : S360x128.Idx) : ((cfg0.win 10).blk t).view.emb y = y := by
  refine funext fun a => Fin.ext ?_
  have h : win0_10.index t a = 0 := by
    rw [index_10]
    exact (by decide : ∀ a : Fin 2, (![0, 0] : Fin 2 → ℕ) a = 0) a
  show win0_10.index t a * S360x128.size a + 1 * (y a).val = (y a).val
  rw [h]; omega

/-- The target's lane sums. -/
def sumT (c : Dev nD) : Vec Ideal S360x128 .f32 := k0_pay1 (F := Ideal) (k0_pay13 (F := Ideal) (V m c main_v45))

theorem final10 (c : Dev nD) : (dats m 0 c).arrAt 10 cfg0.N = (sumT m c : Vec Ideal S360x128 .f32) := by
  refine (dats m 0 c).arrAt_eq_of_covers 10 _ (by decide +kernel) fun t hf y => ?_
  blk_simp
  rw [after0_10]
  frame_out
  simp only [iblk_0, iblk_1, iblk_2, iblk_3, iblk_4, iblk_5, V_main_arg3, V_main_arg4]
  exact (congrArg (sumT m c) (emb_10 t y)).symm

theorem index_11 : ∀ t : Fin cfg0.N, win0_11.index t = ![0, 0] := (by decide +kernel : ∀ t : Fin grid0.N, win0_11.index t = ![0, 0])
theorem emb_11 (t : Fin cfg0.N) (y : S288x128.Idx) : ((cfg0.win 11).blk t).view.emb y = y := by
  refine funext fun a => Fin.ext ?_
  have h : win0_11.index t a = 0 := by
    rw [index_11]
    exact (by decide : ∀ a : Fin 2, (![0, 0] : Fin 2 → ℕ) a = 0) a
  show win0_11.index t a * S288x128.size a + 1 * (y a).val = (y a).val
  rw [h]; omega

/-- The draft's lane maxima. -/
def maxD (c : Dev nD) : Vec Ideal S288x128 .f32 := k0_pay3 (F := Ideal) (logits m c)

theorem final11 (c : Dev nD) : (dats m 0 c).arrAt 11 cfg0.N = (maxD m c : Vec Ideal S288x128 .f32) := by
  refine (dats m 0 c).arrAt_eq_of_covers 11 _ (by decide +kernel) fun t hf y => ?_
  blk_simp
  rw [after0_11]
  unfold out0_11 k0_pay16 k0_pay15 k0_pay14
  frame_out
  simp only [iblk_0, iblk_1, iblk_2, iblk_3, iblk_4, iblk_5, V_main_arg3, V_main_arg4]
  exact (congrArg (maxD m c) (emb_11 t y)).symm

theorem index_12 : ∀ t : Fin cfg0.N, win0_12.index t = ![0, 0] := (by decide +kernel : ∀ t : Fin grid0.N, win0_12.index t = ![0, 0])
theorem emb_12 (t : Fin cfg0.N) (y : S288x128.Idx) : ((cfg0.win 12).blk t).view.emb y = y := by
  refine funext fun a => Fin.ext ?_
  have h : win0_12.index t a = 0 := by
    rw [index_12]
    exact (by decide : ∀ a : Fin 2, (![0, 0] : Fin 2 → ℕ) a = 0) a
  show win0_12.index t a * S288x128.size a + 1 * (y a).val = (y a).val
  rw [h]; omega

/-- The draft's lane sums. -/
def sumD (c : Dev nD) : Vec Ideal S288x128 .f32 := k0_pay4 (F := Ideal) (logits m c)

theorem final12 (c : Dev nD) : (dats m 0 c).arrAt 12 cfg0.N = (sumD m c : Vec Ideal S288x128 .f32) := by
  refine (dats m 0 c).arrAt_eq_of_covers 12 _ (by decide +kernel) fun t hf y => ?_
  blk_simp
  rw [after0_12]
  unfold out0_12 k0_pay16 k0_pay15 k0_pay14
  frame_out
  simp only [iblk_0, iblk_1, iblk_2, iblk_3, iblk_4, iblk_5, V_main_arg3, V_main_arg4]
  exact (congrArg (sumD m c) (emb_12 t y)).symm

set_option maxHeartbeats 2000000 in
/-- What the reference's run leaves. -/
theorem run_results : θ_run defs (onTc (τ := τ) (main (F := Ideal))) ⟨m, fun _ => 0, ρ⟩ fun r => ∀ c : Dev nD,
      r.2.mem ((c : Thread nD τ).loc main_v45) = V m c main_v45
      ∧ r.2.mem ((c : Thread nD τ).loc main_v49_2) = (logits m c : Vec Ideal S288x49152 .f32)
      ∧ r.2.mem ((c : Thread nD τ).loc main_v49_3) = (maxT m c : Vec Ideal S360x128 .f32)
      ∧ r.2.mem ((c : Thread nD τ).loc main_v49_4) = (sumT m c : Vec Ideal S360x128 .f32)
      ∧ r.2.mem ((c : Thread nD τ).loc main_v49_5) = (maxD m c : Vec Ideal S288x128 .f32)
      ∧ r.2.mem ((c : Thread nD τ).loc main_v49_6) = (sumD m c : Vec Ideal S288x128 .f32)
      ∧ r.2.mem ((c : Thread nD τ).loc main_v49_0) = (codes m c : Vec Ideal S288x1536 .fp8e4m3)
      ∧ r.2.mem ((c : Thread nD τ).loc main_v49_1) = (scales m c : Vec Ideal S288x1 .f32) :=
  (θ_run defs _ _).mono (fun r h c => ⟨((h c).1 5).trans (((dats m 0 c).arrAt_in 5 rfl _).trans (A_eq m c 5)), ((h c).1 8).trans (final8 m c), ((h c).1 9).trans (final9 m c), ((h c).1 10).trans (final10 m c), ((h c).1 11).trans (final11 m c), ((h c).1 12).trans (final12 m c), ((h c).1 6).trans (final6 m c), ((h c).1 7).trans (final7 m c)⟩)
    (run_main m ρ)

end Cert.ReferenceIdeal.Gen

end
-- ==== Proof.Precondition.lean ====
module

public import proofs.«01_k».proof.Defs
public import proofs.«01_k».proof.Proof.Gen.Pre_meaningful
public import proofs.«01_k».proof.Proof.Quantiser
public import proofs.«01_k».proof.Proof.HeadsSpec
public import proofs.«01_k».proof.Proof.Gen.KernelIdeal
public import Idealize.ShloMosaic.Lib.Pointwise

@[expose] public section

set_option maxRecDepth 16384

noncomputable section

/-! # What the precondition says of the arguments -/

namespace Cert.Precondition

open Idealize.ShloMosaic Cert.Pre_meaningful Cert.HeadsSpec

local instance : Cert.Pre_meaningful.Facts := Cert.Pre_meaningful.Gen.facts

/-- A comparison that reads one holds. -/
theorem of_ite {p : Prop} [Decidable p] (h : (if p then 1#1 else 0#1) = 1#1) : p := by
  by_contra hp; rw [if_neg hp] at h; exact absurd h (by decide)

variable (x0 : FVec Ideal S72x5x6144 .bf16) (x1 : IVec S3072x49152 8) (x2 : FVec Ideal S48x49152 .f32) (x3 : FVec Ideal S72x4x1536 .bf16)
  (x4 : FVec Ideal S1536x49152 .fp8e4m3) (x5 : FVec Ideal S49152 .f32) (x6 : IVec S72x4 32) (x7 : FVec Ideal S72x4 .f32) (x8 : FVec Ideal S72 .f32)
  (x9 : IVec S72x49152 1)

/-- The first test, at one sequence. -/
theorem fst_at (s : Fin 72) : (fn (F := Ideal) x0 x1 x2 x3 x4 x5 x6 x7 x8 x9).1 (ix1 s) = FloatOps.cmpf (F := Ideal) (φ := .f32) .une (x8 (ix1 s)) (Ideal.ofBits .f32 0#32) := by
  pointwise [fn]

/-- The second test, at one row. -/
theorem snd_at (s : Fin 72) (p : Fin 4) : (fn (F := Ideal) x0 x1 x2 x3 x4 x5 x6 x7 x8 x9).2 (ix2 s p)
    = IntOp.ori (FloatOps.cmpf (F := Ideal) (φ := .f32) .oeq (amax fun x => x3 (ix3 s p x)) (Ideal.ofBits .f32 0#32))
        (IntOp.andi (FloatOps.cmpf (F := Ideal) (φ := .f32) .oge (amax fun x => x3 (ix3 s p x)) (Ideal.ofBits .f32 73400320#32))
          (FloatOps.cmpf (F := Ideal) (φ := .f32) .olt (amax fun x => x3 (ix3 s p x)) (Ideal.ofBits .f32 2130706432#32))) := by
  unfold amax
  pointwise [fn]

/-- No temperature is zero. -/
theorem temp_ne (h : (fn (F := Ideal) x0 x1 x2 x3 x4 x5 x6 x7 x8 x9).1 = fun _ => 1#1) (s : Fin 72) : x8 (ix1 s) ≠ (0 : EReal) := by
  intro hx
  have h1 := (fst_at x0 x1 x2 x3 x4 x5 x6 x7 x8 x9 s).symm.trans (congrFun h (ix1 s))
  rw [show Ideal.ofBits .f32 0#32 = (0 : EReal) from Ideal.ofBits_zero_f32] at h1
  have h2 : FloatOps.cmpf (F := Ideal) (φ := .f32) .une (x8 (ix1 s)) (0 : EReal) = 0#1 := by
    rw [hx]; show Ideal.cmp .une 0 0 = 0#1; simp [Ideal.cmp]
  exact absurd (h2.symm.trans h1) (by decide)

open Classical in
/-- Every row's greatest magnitude is one at which the two statements of the scale agree. -/
theorem good (h : (fn (F := Ideal) x0 x1 x2 x3 x4 x5 x6 x7 x8 x9).2 = fun _ => 1#1) (s : Fin 72) (p : Fin 4) :
    Cert.Quantiser.Good (amax fun x => x3 (ix3 s p x)) := by
  have h1 := (snd_at x0 x1 x2 x3 x4 x5 x6 x7 x8 x9 s p).symm.trans (congrFun h (ix2 s p))
  generalize (amax fun x => x3 (ix3 s p x)) = a at h1 ⊢
  rw [show Ideal.ofBits .f32 0#32 = (0 : EReal) from Ideal.ofBits_zero_f32] at h1
  by_contra hg
  unfold Cert.Quantiser.Good at hg
  rw [not_or, not_and] at hg
  have e1 : FloatOps.cmpf (F := Ideal) (φ := .f32) .oeq a (0 : EReal) = 0#1 := by
    show Ideal.cmp .oeq a 0 = 0#1
    simp [Ideal.cmp, hg.1]
  have e2 : IntOp.andi (FloatOps.cmpf (F := Ideal) (φ := .f32) .oge a (Ideal.ofBits .f32 73400320#32))
      (FloatOps.cmpf (F := Ideal) (φ := .f32) .olt a (Ideal.ofBits .f32 2130706432#32)) = 0#1 := by
    show IntOp.andi (Ideal.cmp .oge a (Ideal.ofBits .f32 73400320#32)) (Ideal.cmp .olt a (Ideal.ofBits .f32 2130706432#32)) = 0#1
    by_cases hl : Ideal.ofBits .f32 73400320#32 ≤ a
    · have := hg.2 hl
      simp [Ideal.cmp, this, IntOp.andi]
    · simp [Ideal.cmp, hl, IntOp.andi]
  rw [e1, e2] at h1
  exact absurd h1 (by decide)

end Cert.Precondition

end
-- ==== Proof.Match.lean ====
module

public import proofs.«01_k».proof.Defs
public import proofs.«01_k».proof.Proof.Gen.Pre_meaningful
public import proofs.«01_k».proof.Proof.HeadsLanes
public import proofs.«01_k».proof.Proof.ReferenceArray
public import proofs.«01_k».proof.Proof.ReferenceAt
public import proofs.«01_k».proof.Proof.Precondition

@[expose] public section

set_option maxRecDepth 16384

noncomputable section

/-! # The kernel's result arrays are the reference's -/

namespace Cert.Match

open Idealize.ShloMosaic Idealize.ShloMosaic.TcCoe Cert.HeadsSpec

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The target's logits. -/
theorem lt_eq (h0 : (m' (c, Proc.tc.devRef ReferenceIdeal.main_arg0) : Vec Ideal KernelIdeal.S72x5x6144 .bf16) = (m (c, Proc.tc.devRef KernelIdeal.main_arg0) : Vec Ideal KernelIdeal.S72x5x6144 .bf16)) (h1 : (m' (c, Proc.tc.devRef ReferenceIdeal.main_arg1) : Vec Ideal KernelIdeal.S3072x49152 .i8) = (m (c, Proc.tc.devRef KernelIdeal.main_arg1) : Vec Ideal KernelIdeal.S3072x49152 .i8)) (h2 : (m' (c, Proc.tc.devRef ReferenceIdeal.main_arg2) : Vec Ideal KernelIdeal.S48x49152 .f32) = (m (c, Proc.tc.devRef KernelIdeal.main_arg2) : Vec Ideal KernelIdeal.S48x49152 .f32)) (h8 : (m' (c, Proc.tc.devRef ReferenceIdeal.main_arg8) : Vec Ideal KernelIdeal.S72 .f32) = (m (c, Proc.tc.devRef KernelIdeal.main_arg8) : Vec Ideal KernelIdeal.S72 .f32)) (h9 : (m' (c, Proc.tc.devRef ReferenceIdeal.main_arg9) : Vec Ideal KernelIdeal.S72x49152 .i1) = (m (c, Proc.tc.devRef KernelIdeal.main_arg9) : Vec Ideal KernelIdeal.S72x49152 .i1))
    (ht : ∀ s : Fin 72, (m (c, Proc.tc.devRef KernelIdeal.main_arg8) : Vec Ideal KernelIdeal.S72 .f32) (ix1 s) ≠ (0 : EReal)) :
    (ReferenceIdeal.Gen.V m' c ReferenceIdeal.main_v45 : Vec Ideal KernelIdeal.S360x49152 .f32) = KernelIdeal.Gen.ltA m c := by
  funext i
  obtain ⟨r, v, rfl⟩ : ∃ (r : Fin 360) (v : Fin 49152), i = (ix2 r v : KernelIdeal.S360x49152.Idx) := ⟨i 0, i 1, eq_ix2 (n0 := 360) (n1 := 49152) i⟩
  refine (ReferenceIdeal.Gen.V_lt_at m' c r v fun s => ?_).trans (Eq.trans ?_ (KernelIdeal.Gen.ltA_at m c r v).symm)
  · exact fun h => ht s ((congrFun h8 (ix1 s)).symm.trans h)
  · rw [h0, h1, h2, h8, h9]

/-- The draft's codes. -/
theorem codes_eq (h3 : (m' (c, Proc.tc.devRef ReferenceIdeal.main_arg3) : Vec Ideal KernelIdeal.S72x4x1536 .bf16) = (m (c, Proc.tc.devRef KernelIdeal.main_arg3) : Vec Ideal KernelIdeal.S72x4x1536 .bf16))
    (hg : ∀ (s : Fin 72) (p : Fin 4), Cert.Quantiser.Good (amax fun x => (m (c, Proc.tc.devRef KernelIdeal.main_arg3) : Vec Ideal KernelIdeal.S72x4x1536 .bf16) (ix3 s p x))) :
    (ReferenceIdeal.Gen.codes m' c : Vec Ideal KernelIdeal.S288x1536 .fp8e4m3) = KernelIdeal.Gen.codes0 m c := by
  rw [KernelIdeal.Gen.codes0_eq]
  unfold ReferenceIdeal.Gen.codes
  funext i
  obtain ⟨r, v, rfl⟩ : ∃ (r : Fin 288) (v : Fin 1536), i = (ix2 r v : KernelIdeal.S288x1536.Idx) := ⟨i 0, i 1, eq_ix2 (n0 := 288) (n1 := 1536) i⟩
  refine (ReferenceIdeal.Gen.rpay8_at _ r v).trans (Eq.trans ?_ (KernelIdeal.Gen.codesOf_at _ r v (hg _ _)).symm)
  rw [ReferenceIdeal.Gen.rpay6_at, h3]

/-- Their scales. -/
theorem scales_eq (h3 : (m' (c, Proc.tc.devRef ReferenceIdeal.main_arg3) : Vec Ideal KernelIdeal.S72x4x1536 .bf16) = (m (c, Proc.tc.devRef KernelIdeal.main_arg3) : Vec Ideal KernelIdeal.S72x4x1536 .bf16))
    (hg : ∀ (s : Fin 72) (p : Fin 4), Cert.Quantiser.Good (amax fun x => (m (c, Proc.tc.devRef KernelIdeal.main_arg3) : Vec Ideal KernelIdeal.S72x4x1536 .bf16) (ix3 s p x))) :
    (ReferenceIdeal.Gen.scales m' c : Vec Ideal KernelIdeal.S288x1 .f32) = KernelIdeal.Gen.hds0 m c := by
  rw [KernelIdeal.Gen.hds0_eq]
  unfold ReferenceIdeal.Gen.scales
  funext i
  obtain ⟨r, v, rfl⟩ : ∃ (r : Fin 288) (v : Fin 1), i = (ix2 r v : KernelIdeal.S288x1.Idx) := ⟨i 0, i 1, eq_ix2 (n0 := 288) (n1 := 1) i⟩
  refine (ReferenceIdeal.Gen.rpay9_at _ r v).trans (Eq.trans ?_ (KernelIdeal.Gen.hdsOf_at _ r v (hg _ _)).symm)
  rw [ReferenceIdeal.Gen.rpay6_at, h3]

/-- The draft's logits. -/
theorem ld_eq (h3 : (m' (c, Proc.tc.devRef ReferenceIdeal.main_arg3) : Vec Ideal KernelIdeal.S72x4x1536 .bf16) = (m (c, Proc.tc.devRef KernelIdeal.main_arg3) : Vec Ideal KernelIdeal.S72x4x1536 .bf16)) (h4 : (m' (c, Proc.tc.devRef ReferenceIdeal.main_arg4) : Vec Ideal KernelIdeal.S1536x49152 .fp8e4m3) = (m (c, Proc.tc.devRef KernelIdeal.main_arg4) : Vec Ideal KernelIdeal.S1536x49152 .fp8e4m3)) (h5 : (m' (c, Proc.tc.devRef ReferenceIdeal.main_arg5) : Vec Ideal KernelIdeal.S49152 .f32) = (m (c, Proc.tc.devRef KernelIdeal.main_arg5) : Vec Ideal KernelIdeal.S49152 .f32)) (h8 : (m' (c, Proc.tc.devRef ReferenceIdeal.main_arg8) : Vec Ideal KernelIdeal.S72 .f32) = (m (c, Proc.tc.devRef KernelIdeal.main_arg8) : Vec Ideal KernelIdeal.S72 .f32)) (h9 : (m' (c, Proc.tc.devRef ReferenceIdeal.main_arg9) : Vec Ideal KernelIdeal.S72x49152 .i1) = (m (c, Proc.tc.devRef KernelIdeal.main_arg9) : Vec Ideal KernelIdeal.S72x49152 .i1))
    (ht : ∀ s : Fin 72, (m (c, Proc.tc.devRef KernelIdeal.main_arg8) : Vec Ideal KernelIdeal.S72 .f32) (ix1 s) ≠ (0 : EReal))
    (hg : ∀ (s : Fin 72) (p : Fin 4), Cert.Quantiser.Good (amax fun x => (m (c, Proc.tc.devRef KernelIdeal.main_arg3) : Vec Ideal KernelIdeal.S72x4x1536 .bf16) (ix3 s p x))) :
    (ReferenceIdeal.Gen.logits m' c : Vec Ideal KernelIdeal.S288x49152 .f32) = KernelIdeal.Gen.ldA m c := by
  funext i
  obtain ⟨r, v, rfl⟩ : ∃ (r : Fin 288) (v : Fin 49152), i = (ix2 r v : KernelIdeal.S288x49152.Idx) := ⟨i 0, i 1, eq_ix2 (n0 := 288) (n1 := 49152) i⟩
  have hs : ReferenceIdeal.Gen.k0_pay7 (F := Ideal) (m' (c, Proc.tc.devRef ReferenceIdeal.main_arg3)) (ix3 (seqD r) (posD r) 0) = KernelIdeal.Gen.hds0 m c (ix2 r 0) := by
    rw [← scales_eq m m' c h3 hg]
    unfold ReferenceIdeal.Gen.scales
    exact (ReferenceIdeal.Gen.rpay7_at _ _ _).trans (ReferenceIdeal.Gen.rpay9_at _ r 0).symm
  have ht' : (ReferenceIdeal.Gen.V m' c ReferenceIdeal.main_v47 : Vec Ideal ReferenceIdeal.S72x1x1 .f32) (ix3 (seqD r) 0 0) = (m (c, Proc.tc.devRef KernelIdeal.main_arg8) : Vec Ideal KernelIdeal.S72 .f32) (ix1 (seqD r)) := by
    rw [ReferenceIdeal.Gen.V_t_at]; exact congrFun h8 _
  unfold ReferenceIdeal.Gen.logits
  refine (ReferenceIdeal.Gen.rpay10_at _ _ _ _ _ _ r v (by rw [ht']; exact ht _)).trans (Eq.trans ?_ (KernelIdeal.Gen.ldA_at m c r v).symm)
  rw [ht', hs, ReferenceIdeal.Gen.V_w_at, ReferenceIdeal.Gen.V_a_at, ← codes_eq m m' c h3 hg, h4, h5, h9]
  rfl

/-- The target's lane maxima. -/
theorem maxT_eq (h : (ReferenceIdeal.Gen.V m' c ReferenceIdeal.main_v45 : Vec Ideal KernelIdeal.S360x49152 .f32) = KernelIdeal.Gen.ltA m c) :
    (ReferenceIdeal.Gen.maxT m' c : Vec Ideal KernelIdeal.S360x128 .f32) = KernelIdeal.Gen.maxT m c := by
  funext i
  obtain ⟨r, l, rfl⟩ : ∃ (r : Fin 360) (l : Fin 128), i = (ix2 r l : KernelIdeal.S360x128.Idx) := ⟨i 0, i 1, eq_ix2 (n0 := 360) (n1 := 128) i⟩
  refine (ReferenceIdeal.Gen.pay12_top _ r l).trans ?_
  exact congrArg (fun f : Vec Ideal KernelIdeal.S360x49152 .f32 => Cert.Lanes.top (Cert.Lanes.laneOf (fun v => f (ix2 r v)) l) 384) h

/-- The target's lane sums. -/
theorem sumT_eq (h : (ReferenceIdeal.Gen.V m' c ReferenceIdeal.main_v45 : Vec Ideal KernelIdeal.S360x49152 .f32) = KernelIdeal.Gen.ltA m c) :
    (ReferenceIdeal.Gen.sumT m' c : Vec Ideal KernelIdeal.S360x128 .f32) = KernelIdeal.Gen.sumT m c := by
  funext i
  obtain ⟨r, l, rfl⟩ : ∃ (r : Fin 360) (l : Fin 128), i = (ix2 r l : KernelIdeal.S360x128.Idx) := ⟨i 0, i 1, eq_ix2 (n0 := 360) (n1 := 128) i⟩
  refine (ReferenceIdeal.Gen.pay1_mass _ r l).trans ?_
  exact congrArg (fun f : Vec Ideal KernelIdeal.S360x49152 .f32 => Cert.Lanes.mass (Cert.Lanes.laneOf (fun v => f (ix2 r v)) l) 384) h

/-- The draft's lane maxima. -/
theorem maxD_eq (h : (ReferenceIdeal.Gen.logits m' c : Vec Ideal KernelIdeal.S288x49152 .f32) = KernelIdeal.Gen.ldA m c) :
    (ReferenceIdeal.Gen.maxD m' c : Vec Ideal KernelIdeal.S288x128 .f32) = KernelIdeal.Gen.maxD m c := by
  funext i
  obtain ⟨r, l, rfl⟩ : ∃ (r : Fin 288) (l : Fin 128), i = (ix2 r l : KernelIdeal.S288x128.Idx) := ⟨i 0, i 1, eq_ix2 (n0 := 288) (n1 := 128) i⟩
  refine (ReferenceIdeal.Gen.pay3_top _ r l).trans ?_
  exact congrArg (fun f : Vec Ideal KernelIdeal.S288x49152 .f32 => Cert.Lanes.top (Cert.Lanes.laneOf (fun v => f (ix2 r v)) l) 384) h

/-- The draft's lane sums. -/
theorem sumD_eq (h : (ReferenceIdeal.Gen.logits m' c : Vec Ideal KernelIdeal.S288x49152 .f32) = KernelIdeal.Gen.ldA m c) :
    (ReferenceIdeal.Gen.sumD m' c : Vec Ideal KernelIdeal.S288x128 .f32) = KernelIdeal.Gen.sumD m c := by
  funext i
  obtain ⟨r, l, rfl⟩ : ∃ (r : Fin 288) (l : Fin 128), i = (ix2 r l : KernelIdeal.S288x128.Idx) := ⟨i 0, i 1, eq_ix2 (n0 := 288) (n1 := 128) i⟩
  refine (ReferenceIdeal.Gen.pay4_mass _ r l).trans ?_
  exact congrArg (fun f : Vec Ideal KernelIdeal.S288x49152 .f32 => Cert.Lanes.mass (Cert.Lanes.laneOf (fun v => f (ix2 r v)) l) 384) h

end Cert.Match

end
-- ==== Proof.BonusSpec.lean ====
module

public import proofs.«01_k».proof.Proof.Lanes

@[expose] public section

set_option maxRecDepth 16384

noncomputable section

/-! # The last position's probabilities: a row's normaliser from its lanes -/

namespace Cert.BonusSpec

open Idealize.ShloMosaic Cert.Lanes

/-- The row of a sequence's last position. -/
def rowL (s : Fin 72) : Fin 360 := ⟨288 + s.val, by omega⟩

/-- The row's maximum, from the lanes' maxima. -/
def rowTop (M : Fin 128 → EReal) : EReal := Finset.fold max (Ideal.ofBits FTy.f32 4286578688#32) (fun j => M j) Finset.univ
/-- The row's normaliser, from the lanes' maxima and sums. -/
def rowTotal (M S : Fin 128 → EReal) : EReal := ∑ j : Fin 128, S j * Ideal.exp2 (M j - rowTop M)

theorem exp2_zero : Ideal.exp2 0 = 1 := by
  show ((Real.rpow 2 0 : ℝ) : EReal) = 1
  rw [show Real.rpow 2 0 = 1 from Real.rpow_zero 2]; rfl

/-- A lane that holds the row's maximum and has a sum above zero makes the normaliser positive. -/
theorem rowTotal_pos (M S : Fin 128 → EReal) (hS : ∀ j, 0 ≤ S j) (j : Fin 128) (hj : M j = rowTop M) (hp : 0 < S j)
    (hb : rowTop M ≠ ⊥) (ht : rowTop M ≠ ⊤) : 0 < rowTotal M S := by
  unfold rowTotal
  refine lt_of_lt_of_le ?_ (Finset.single_le_sum (f := fun j => S j * Ideal.exp2 (M j - rowTop M))
    (fun i _ => mul_nonneg (hS i) (exp2_nonneg _)) (Finset.mem_univ j))
  show 0 < S j * Ideal.exp2 (M j - rowTop M)
  rw [hj, EReal.sub_self ht hb, exp2_zero, mul_one]
  exact hp

/-- Where the normaliser is not zero, multiplying by its inverse is dividing by it. -/
theorem mul_inv (x z : EReal) (hz : z ≠ 0) : x * Ideal.div 1 z = Ideal.div x z := by
  unfold Ideal.div
  rw [if_neg hz, if_neg hz, one_mul]

end Cert.BonusSpec

end
-- ==== Proof.BonusAt.lean ====
module

public import proofs.«01_k».proof.Proof.Gen.BonusIdeal.Frame
public import proofs.«01_k».proof.Proof.BonusSpec
public import Idealize.ShloMosaic.Lib.Pointwise
public import Idealize.ShloMosaic.PureOps.Ideal

@[expose] public section

set_option maxRecDepth 16384

noncomputable section

/-! # The kernel's probabilities at an index -/

namespace Cert.BonusIdeal.Gen

open Idealize.ShloMosaic Cert.BonusSpec

set_option maxHeartbeats 4000000

theorem bonus_at (M S : Vec Ideal S8x128 .f32) (L : Vec Ideal S8x49152 .f32) (r : Fin 8) (v : Fin 49152) :
    k0_pay1 (F := Ideal) M S L (ix2 r v)
      = Ideal.exp2 (L (ix2 r v) - rowTop fun j => M (ix2 r j)) * Ideal.div 1 (rowTotal (fun j => M (ix2 r j)) fun j => S (ix2 r j)) := by
  unfold rowTotal rowTop
  pointwise [k0_pay1]
  rfl

end Cert.BonusIdeal.Gen

end
-- ==== Proof.BonusArray.lean ====
module

public import proofs.«01_k».proof.Proof.BonusAt
public import Idealize.ShloMosaic.Lib.Pipeline.Value
public import Idealize.ShloMosaic.Lib.Pipeline.ValueKit

@[expose] public section

set_option maxRecDepth 16384

noncomputable section

/-! # The array of the last positions' probabilities -/

namespace Cert.BonusIdeal.Gen

open Idealize.ShloMosaic Idealize.ShloMosaic.TcCoe Cert.BonusSpec Idealize.SL.Sem
open Idealize.ShloMosaic.Pipeline (Dat)

variable (m : (ℓ : Loc nD τ sig) → Buf (Elt Ideal) ℓ) (ρ : Dev nD → PrngReg)

/-- The sequence at a row of a step's block. -/
def seqOf (t : Fin cfg0.N) (r : Fin 8) : Fin 72 := ⟨t.val * 8 + r.val, by have : t.val < 9 := lt_of_lt_of_eq t.isLt (show cfg0.N = 9 from N_0); omega⟩

theorem index_0 : ∀ t : Fin cfg0.N, win0_0.index t = ![t.val + 36, 0] := (by decide +kernel : ∀ t : Fin grid0.N, win0_0.index t = ![t.val + 36, 0])
/-- Window 0's block holds the last positions of eight sequences. -/
theorem iblk_0 (c : Dev nD) (t : Fin cfg0.N) (r : Fin 8) (l : Fin 49152) :
    (iblk m c 0 t : Vec Ideal S8x49152 .f32) (ix2 r l) = (m (c, Proc.tc.devRef main_arg0) : Vec Ideal S360x49152 .f32) (ix2 (rowL (seqOf t r)) l) := by
  show V m c main_arg0 (((cfg0.win 0).blk t).view.emb (ix2 r l)) = _
  rw [V_main_arg0]
  refine congrArg (m (c, Proc.tc.devRef main_arg0) : Vec Ideal S360x49152 .f32) (funext fun a => Fin.ext ?_)
  match a with
  | ⟨0, _⟩ =>
    show win0_0.index t (0 : Fin 2) * 8 + 1 * r.val = 288 + (t.val * 8 + r.val)
    rw [index_0]; show (t.val + 36) * 8 + 1 * r.val = 288 + (t.val * 8 + r.val); omega
  | ⟨1, _⟩ =>
    show win0_0.index t (1 : Fin 2) * 49152 + 1 * l.val = l.val
    rw [index_0]; show 0 * 49152 + 1 * l.val = l.val; omega

theorem index_1 : ∀ t : Fin cfg0.N, win0_1.index t = ![t.val + 36, 0] := (by decide +kernel : ∀ t : Fin grid0.N, win0_1.index t = ![t.val + 36, 0])
/-- Window 1's block holds the last positions of eight sequences. -/
theorem iblk_1 (c : Dev nD) (t : Fin cfg0.N) (r : Fin 8) (l : Fin 128) :
    (iblk m c 1 t : Vec Ideal S8x128 .f32) (ix2 r l) = (m (c, Proc.tc.devRef main_arg1) : Vec Ideal S360x128 .f32) (ix2 (rowL (seqOf t r)) l) := by
  show V m c main_arg1 (((cfg0.win 1).blk t).view.emb (ix2 r l)) = _
  rw [V_main_arg1]
  refine congrArg (m (c, Proc.tc.devRef main_arg1) : Vec Ideal S360x128 .f32) (funext fun a => Fin.ext ?_)
  match a with
  | ⟨0, _⟩ =>
    show win0_1.index t (0 : Fin 2) * 8 + 1 * r.val = 288 + (t.val * 8 + r.val)
    rw [index_1]; show (t.val + 36) * 8 + 1 * r.val = 288 + (t.val * 8 + r.val); omega
  | ⟨1, _⟩ =>
    show win0_1.index t (1 : Fin 2) * 128 + 1 * l.val = l.val
    rw [index_1]; show 0 * 128 + 1 * l.val = l.val; omega

theorem index_2 : ∀ t : Fin cfg0.N, win0_2.index t = ![t.val + 36, 0] := (by decide +kernel : ∀ t : Fin grid0.N, win0_2.index t = ![t.val + 36, 0])
/-- Window 2's block holds the last positions of eight sequences. -/
theorem iblk_2 (c : Dev nD) (t : Fin cfg0.N) (r : Fin 8) (l : Fin 128) :
    (iblk m c 2 t : Vec Ideal S8x128 .f32) (ix2 r l) = (m (c, Proc.tc.devRef main_arg2) : Vec Ideal S360x128 .f32) (ix2 (rowL (seqOf t r)) l) := by
  show V m c main_arg2 (((cfg0.win 2).blk t).view.emb (ix2 r l)) = _
  rw [V_main_arg2]
  refine congrArg (m (c, Proc.tc.devRef main_arg2) : Vec Ideal S360x128 .f32) (funext fun a => Fin.ext ?_)
  match a with
  | ⟨0, _⟩ =>
    show win0_2.index t (0 : Fin 2) * 8 + 1 * r.val = 288 + (t.val * 8 + r.val)
    rw [index_2]; show (t.val + 36) * 8 + 1 * r.val = 288 + (t.val * 8 + r.val); omega
  | ⟨1, _⟩ =>
    show win0_2.index t (1 : Fin 2) * 128 + 1 * l.val = l.val
    rw [index_2]; show 0 * 128 + 1 * l.val = l.val; omega

theorem index_3 : ∀ t : Fin cfg0.N, win0_3.index t = ![t.val, 0] := (by decide +kernel : ∀ t : Fin grid0.N, win0_3.index t = ![t.val, 0])
theorem emb_3 (t : Fin cfg0.N) (r : Fin 8) (v : Fin 49152) : ((cfg0.win 3).blk t).view.emb (ix2 r v) = (ix2 (seqOf t r) v : S72x49152.Idx) := by
  refine funext fun a => Fin.ext ?_
  match a with
  | ⟨0, _⟩ =>
    show win0_3.index t (0 : Fin 2) * 8 + 1 * r.val = t.val * 8 + r.val
    rw [index_3]; show t.val * 8 + 1 * r.val = t.val * 8 + r.val; omega
  | ⟨1, _⟩ =>
    show win0_3.index t (1 : Fin 2) * 49152 + 1 * v.val = v.val
    rw [index_3]; show 0 * 49152 + 1 * v.val = v.val; omega

/-- A last position's logits. -/
def lt (c : Dev nD) (s : Fin 72) (v : Fin 49152) : EReal := (m (c, Proc.tc.devRef main_arg0) : Vec Ideal S360x49152 .f32) (ix2 (rowL s) v)
/-- A last position's lane maxima. -/
def mt (c : Dev nD) (s : Fin 72) (j : Fin 128) : EReal := (m (c, Proc.tc.devRef main_arg1) : Vec Ideal S360x128 .f32) (ix2 (rowL s) j)
/-- A last position's lane sums. -/
def st (c : Dev nD) (s : Fin 72) (j : Fin 128) : EReal := (m (c, Proc.tc.devRef main_arg2) : Vec Ideal S360x128 .f32) (ix2 (rowL s) j)

/-- The probabilities as the kernel computes them. -/
def probsA (c : Dev nD) : Vec Ideal S72x49152 .bf16 := fun i =>
  Ideal.exp2 (lt m c (i 0) (i 1) - rowTop (mt m c (i 0)))
    * Ideal.div 1 (rowTotal (mt m c (i 0)) (st m c (i 0)))

theorem final3 (c : Dev nD) : (dats m 0 c).arrAt 3 cfg0.N = (probsA m c : Vec Ideal S72x49152 .bf16) := by
  refine (dats m 0 c).arrAt_eq_of_covers 3 _ (by decide +kernel) fun t hf y => ?_
  blk_simp
  rw [after0_3]
  frame_out
  obtain ⟨r, v, hy⟩ : ∃ (r : Fin 8) (v : Fin 49152), y = (ix2 r v : S8x49152.Idx) := ⟨y 0, y 1, eq_ix2 (n0 := 8) (n1 := 49152) y⟩
  rw [hy]
  refine Eq.trans ?_ (congrArg (probsA m c) (emb_3 t r v)).symm
  refine (bonus_at (iblk m c 1 t) (iblk m c 2 t) (iblk m c 0 t) r v).trans ?_
  rw [iblk_0 m c t r v, show (fun j => (iblk m c 1 t : Vec Ideal S8x128 .f32) (ix2 r j)) = mt m c (seqOf t r) from funext fun j => iblk_1 m c t r j,
    show (fun j => (iblk m c 2 t : Vec Ideal S8x128 .f32) (ix2 r j)) = st m c (seqOf t r) from funext fun j => iblk_2 m c t r j]
  rfl

/-- What the kernel's run leaves. -/
theorem run_results : θ_run defs (onTc (τ := τ) (main (F := Ideal))) ⟨m, fun _ => 0, ρ⟩ fun r => ∀ c : Dev nD,
      r.2.mem ((c : Thread nD τ).loc main_v0) = (probsA m c : Vec Ideal S72x49152 .bf16) :=
  (θ_run defs _ _).mono (fun r h c => ((h c).1 3).trans (final3 m c)) (run_main m ρ)

end Cert.BonusIdeal.Gen

end
-- ==== Proof.BonusReferenceAt.lean ====
module

public import proofs.«01_k».proof.Proof.Gen.BonusReferenceIdeal.Frame
public import proofs.«01_k».proof.Proof.BonusSpec
public import Idealize.ShloMosaic.Lib.Pointwise
public import Idealize.ShloMosaic.PureOps.Ideal
public import Idealize.ShloMosaic.Lib.StableHlo.ReadAt

@[expose] public section

set_option maxRecDepth 16384

noncomputable section

/-! # The reference's probabilities at an index -/

namespace Cert.BonusReferenceIdeal.Gen

open Idealize.ShloMosaic Idealize.ShloMosaic.TcCoe Cert.BonusSpec

set_option maxHeartbeats 4000000

theorem probs_at (M S M' : Vec Ideal S72x128 .f32) (L : Vec Ideal S72x49152 .f32) (r : Fin 72) (v : Fin 49152) (hM : M' = M) :
    k0_pay1 (F := Ideal) M S M' L (ix2 r v)
      = Ideal.div (Ideal.exp2 (L (ix2 r v) - rowTop fun j => M (ix2 r j))) (rowTotal (fun j => M (ix2 r j)) fun j => S (ix2 r j)) := by
  subst hM
  unfold rowTotal rowTop
  pointwise [k0_pay1]
  rfl

variable (m : (ℓ : Loc nD τ sig) → Buf (Elt Ideal) ℓ)

theorem V_0_at (c : Dev nD) (r : Fin 72) (v : Fin 49152) : (V m c main_v0 : Vec Ideal S72x49152 .f32) (ix2 r v)
    = (m (c, Proc.tc.devRef main_arg0) : Vec Ideal S360x49152 .f32) (ix2 (rowL r) v) := by
  unfold V rowL
  after_reads_at

theorem V_1_at (c : Dev nD) (r : Fin 72) (l : Fin 128) : (V m c main_v1 : Vec Ideal S72x128 .f32) (ix2 r l)
    = (m (c, Proc.tc.devRef main_arg1) : Vec Ideal S360x128 .f32) (ix2 (rowL r) l) := by
  unfold V rowL
  after_reads_at

theorem V_2_at (c : Dev nD) (r : Fin 72) (l : Fin 128) : (V m c main_v2 : Vec Ideal S72x128 .f32) (ix2 r l)
    = (m (c, Proc.tc.devRef main_arg2) : Vec Ideal S360x128 .f32) (ix2 (rowL r) l) := by
  unfold V rowL
  after_reads_at

end Cert.BonusReferenceIdeal.Gen

end
-- ==== Proof.BonusReferenceArray.lean ====
module

public import proofs.«01_k».proof.Proof.BonusReferenceAt
public import Idealize.ShloMosaic.Lib.Pipeline.Value
public import Idealize.ShloMosaic.Lib.Pipeline.ValueKit

@[expose] public section

set_option maxRecDepth 16384

noncomputable section

/-! # The array of probabilities the reference leaves -/

namespace Cert.BonusReferenceIdeal.Gen

open Idealize.ShloMosaic Idealize.ShloMosaic.TcCoe Cert.BonusSpec Idealize.SL.Sem
open Idealize.ShloMosaic.Pipeline (Dat)

variable (m : (ℓ : Loc nD τ sig) → Buf (Elt Ideal) ℓ) (ρ : Dev nD → PrngReg)

theorem index_0 : ∀ t : Fin cfg0.N, win0_0.index t = ![0, 0] := (by decide +kernel : ∀ t : Fin grid0.N, win0_0.index t = ![0, 0])
theorem emb_0 (t : Fin cfg0.N) (y : S72x49152.Idx) : ((cfg0.win 0).blk t).view.emb y = y := by
  refine funext fun a => Fin.ext ?_
  have h : win0_0.index t a = 0 := by
    rw [index_0]
    exact (by decide : ∀ a : Fin 2, (![0, 0] : Fin 2 → ℕ) a = 0) a
  show win0_0.index t a * S72x49152.size a + 1 * (y a).val = (y a).val
  rw [h]; omega
theorem iblk_0 (c : Dev nD) (t : Fin cfg0.N) : (iblk m c 0 t : Vec Ideal S72x49152 .f32) = (V m c main_v0 : Vec Ideal S72x49152 .f32) := by
  funext y
  show V m c main_v0 (((cfg0.win 0).blk t).view.emb y) = _
  exact congrArg (V m c main_v0 : Vec Ideal S72x49152 .f32) (emb_0 t y)

theorem index_1 : ∀ t : Fin cfg0.N, win0_1.index t = ![0, 0] := (by decide +kernel : ∀ t : Fin grid0.N, win0_1.index t = ![0, 0])
theorem emb_1 (t : Fin cfg0.N) (y : S72x128.Idx) : ((cfg0.win 1).blk t).view.emb y = y := by
  refine funext fun a => Fin.ext ?_
  have h : win0_1.index t a = 0 := by
    rw [index_1]
    exact (by decide : ∀ a : Fin 2, (![0, 0] : Fin 2 → ℕ) a = 0) a
  show win0_1.index t a * S72x128.size a + 1 * (y a).val = (y a).val
  rw [h]; omega
theorem iblk_1 (c : Dev nD) (t : Fin cfg0.N) : (iblk m c 1 t : Vec Ideal S72x128 .f32) = (V m c main_v1 : Vec Ideal S72x128 .f32) := by
  funext y
  show V m c main_v1 (((cfg0.win 1).blk t).view.emb y) = _
  exact congrArg (V m c main_v1 : Vec Ideal S72x128 .f32) (emb_1 t y)

theorem index_2 : ∀ t : Fin cfg0.N, win0_2.index t = ![0, 0] := (by decide +kernel : ∀ t : Fin grid0.N, win0_2.index t = ![0, 0])
theorem emb_2 (t : Fin cfg0.N) (y : S72x128.Idx) : ((cfg0.win 2).blk t).view.emb y = y := by
  refine funext fun a => Fin.ext ?_
  have h : win0_2.index t a = 0 := by
    rw [index_2]
    exact (by decide : ∀ a : Fin 2, (![0, 0] : Fin 2 → ℕ) a = 0) a
  show win0_2.index t a * S72x128.size a + 1 * (y a).val = (y a).val
  rw [h]; omega
theorem iblk_2 (c : Dev nD) (t : Fin cfg0.N) : (iblk m c 2 t : Vec Ideal S72x128 .f32) = (V m c main_v2 : Vec Ideal S72x128 .f32) := by
  funext y
  show V m c main_v2 (((cfg0.win 2).blk t).view.emb y) = _
  exact congrArg (V m c main_v2 : Vec Ideal S72x128 .f32) (emb_2 t y)

theorem index_3 : ∀ t : Fin cfg0.N, win0_3.index t = ![0, 0] := (by decide +kernel : ∀ t : Fin grid0.N, win0_3.index t = ![0, 0])
theorem emb_3 (t : Fin cfg0.N) (y : S72x49152.Idx) : ((cfg0.win 3).blk t).view.emb y = y := by
  refine funext fun a => Fin.ext ?_
  have h : win0_3.index t a = 0 := by
    rw [index_3]
    exact (by decide : ∀ a : Fin 2, (![0, 0] : Fin 2 → ℕ) a = 0) a
  show win0_3.index t a * S72x49152.size a + 1 * (y a).val = (y a).val
  rw [h]; omega

/-- The probabilities, from the last positions' rows. -/
def probs (c : Dev nD) : Vec Ideal S72x49152 .bf16 := k0_pay1 (F := Ideal) (V m c main_v1) (V m c main_v2) (V m c main_v1) (V m c main_v0)

theorem final3 (c : Dev nD) : (dats m 0 c).arrAt 3 cfg0.N = (probs m c : Vec Ideal S72x49152 .bf16) := by
  refine (dats m 0 c).arrAt_eq_of_covers 3 _ (by decide +kernel) fun t hf y => ?_
  blk_simp
  rw [after0_3]
  frame_out
  simp only [iblk_0, iblk_1, iblk_2]
  exact (congrArg (probs m c) (emb_3 t y)).symm

/-- What the reference's run leaves. -/
theorem run_results : θ_run defs (onTc (τ := τ) (main (F := Ideal))) ⟨m, fun _ => 0, ρ⟩ fun r => ∀ c : Dev nD,
      r.2.mem ((c : Thread nD τ).loc main_v3) = (probs m c : Vec Ideal S72x49152 .bf16) :=
  (θ_run defs _ _).mono (fun r h c => ((h c).1 3).trans (final3 m c)) (run_main m ρ)

/-- A last position's logits. -/
def lt (c : Dev nD) (s : Fin 72) (v : Fin 49152) : EReal := (m (c, Proc.tc.devRef main_arg0) : Vec Ideal S360x49152 .f32) (ix2 (rowL s) v)
/-- A last position's lane maxima. -/
def mt (c : Dev nD) (s : Fin 72) (j : Fin 128) : EReal := (m (c, Proc.tc.devRef main_arg1) : Vec Ideal S360x128 .f32) (ix2 (rowL s) j)
/-- A last position's lane sums. -/
def st (c : Dev nD) (s : Fin 72) (j : Fin 128) : EReal := (m (c, Proc.tc.devRef main_arg2) : Vec Ideal S360x128 .f32) (ix2 (rowL s) j)

/-- One probability. -/
theorem probs_eq (c : Dev nD) (s : Fin 72) (v : Fin 49152) :
    probs m c (ix2 s v) = Ideal.div (Ideal.exp2 (lt m c s v - rowTop (mt m c s))) (rowTotal (mt m c s) (st m c s)) := by
  refine (probs_at (V m c main_v1) (V m c main_v2) (V m c main_v1) (V m c main_v0) s v rfl).trans ?_
  rw [V_0_at, show (fun j => (V m c main_v1 : Vec Ideal S72x128 .f32) (ix2 s j)) = mt m c s from funext fun j => V_1_at m c s j,
    show (fun j => (V m c main_v2 : Vec Ideal S72x128 .f32) (ix2 s j)) = st m c s from funext fun j => V_2_at m c s j]
  rfl

end Cert.BonusReferenceIdeal.Gen

end
-- ==== Proof.BonusPrecondition.lean ====
module

public import proofs.«01_k».proof.Defs
public import proofs.«01_k».proof.Proof.Gen.Pre_positive
public import proofs.«01_k».proof.Proof.BonusSpec
public import Idealize.ShloMosaic.Lib.Pointwise

@[expose] public section

set_option maxRecDepth 16384

noncomputable section

/-! # What the precondition says of the lanes -/

namespace Cert.BonusPrecondition

open Idealize.ShloMosaic Cert.Pre_positive Cert.BonusSpec

local instance : Cert.Pre_positive.Facts := Cert.Pre_positive.Gen.facts

/-- A comparison's bit that is set holds. -/
theorem of_bit {P : Prop} [Decidable P] (h : BitVec.ofBool (decide P) = 1#1) : P := by
  by_contra hp
  rw [decide_eq_false hp] at h
  exact absurd h (by decide)

variable (x0 : FVec Ideal S360x49152 .f32) (x1 : FVec Ideal S360x128 .f32) (x2 : FVec Ideal S360x128 .f32)

theorem fst_at (s : Fin 72) : (fn (F := Ideal) x0 x1 x2).1 (ix1 s)
    = FloatOps.cmpf (F := Ideal) (φ := .f32) .oge (Finset.fold min (Ideal.ofBits FTy.f32 2139095040#32) (fun j : Fin 128 => x2 (ix2 (rowL s) j)) Finset.univ) (Ideal.ofBits .f32 0#32) := by
  unfold rowL
  pointwise [fn]

theorem snd_at (s : Fin 72) : (fn (F := Ideal) x0 x1 x2).2.1 (ix1 s)
    = FloatOps.cmpf (F := Ideal) (φ := .f32) .ogt (Finset.fold max (Ideal.ofBits FTy.f32 4286578688#32)
        (fun j : Fin 128 => Scalar.select (FloatOps.cmpf (F := Ideal) (φ := .f32) .oeq (x1 (ix2 (rowL s) j)) (rowTop fun j => x1 (ix2 (rowL s) j))) (x2 (ix2 (rowL s) j)) (Ideal.ofBits .f32 0#32))
        Finset.univ) (Ideal.ofBits .f32 0#32) := by
  unfold rowL rowTop
  pointwise [fn, fn_where]
  have hz : (id (constant (F := Ideal) S_ FTy.f32 0#32) : FVec Ideal S_ .f32) ix0 = (0 : EReal) := Ideal.ofBits_zero_f32
  simp only [hz]

theorem trd_at (s : Fin 72) : (fn (F := Ideal) x0 x1 x2).2.2 (ix1 s)
    = FloatOps.cmpf (F := Ideal) (φ := .f32) .olt (max (rowTop fun j => x1 (ix2 (rowL s) j)) (-(rowTop fun j => x1 (ix2 (rowL s) j)))) (Ideal.ofBits .f32 2139095040#32) := by
  unfold rowL rowTop
  pointwise [fn]
  rfl

theorem inf_eq : Ideal.ofBits FTy.f32 2139095040#32 = (⊤ : EReal) := by
  simp [Ideal.ofBits, Ideal.ieee]

/-- The normaliser of a last position's row is not zero. -/
theorem total_ne (h1 : (fn (F := Ideal) x0 x1 x2).1 = fun _ => 1#1) (h2 : (fn (F := Ideal) x0 x1 x2).2.1 = fun _ => 1#1)
    (h3 : (fn (F := Ideal) x0 x1 x2).2.2 = fun _ => 1#1) (s : Fin 72) :
    rowTotal (fun j => x1 (ix2 (rowL s) j)) (fun j => x2 (ix2 (rowL s) j)) ≠ 0 := by
  have e1 := of_bit (P := (0 : EReal) ≤ Finset.fold min (⊤ : EReal) (fun j : Fin 128 => x2 (ix2 (rowL s) j)) Finset.univ) (by
    have e := (fst_at x0 x1 x2 s).symm.trans (congrFun h1 (ix1 s))
    rw [Ideal.ofBits_zero_f32, inf_eq] at e
    exact e)
  have e3 := of_bit (P := max (rowTop fun j => x1 (ix2 (rowL s) j)) (-(rowTop fun j => x1 (ix2 (rowL s) j))) < (⊤ : EReal)) (by
    have e := (trd_at x0 x1 x2 s).symm.trans (congrFun h3 (ix1 s))
    rw [inf_eq] at e
    exact e)
  have e2 := of_bit (P := (0 : EReal) < Finset.fold max (⊥ : EReal)
      (fun j : Fin 128 => Scalar.select (FloatOps.cmpf (F := Ideal) (φ := .f32) .oeq (x1 (ix2 (rowL s) j)) (rowTop fun j => x1 (ix2 (rowL s) j))) (x2 (ix2 (rowL s) j)) 0)
      Finset.univ) (by
    have e := (snd_at x0 x1 x2 s).symm.trans (congrFun h2 (ix1 s))
    rw [Ideal.ofBits_zero_f32, Cert.Lanes.minf_eq] at e
    exact e)
  have hS : ∀ j : Fin 128, (0 : EReal) ≤ x2 (ix2 (rowL s) j) := fun j => ((Finset.le_fold_min _).1 e1).2 j (Finset.mem_univ j)
  have htop : (rowTop fun j => x1 (ix2 (rowL s) j)) ≠ ⊤ := fun h => by
    rw [h] at e3; exact absurd (lt_of_le_of_lt (le_max_left _ _) e3) (lt_irrefl _)
  have hbot : (rowTop fun j => x1 (ix2 (rowL s) j)) ≠ ⊥ := fun h => by
    rw [h, EReal.neg_bot] at e3; exact absurd (lt_of_le_of_lt (le_max_right _ _) e3) (lt_irrefl _)
  obtain hb | ⟨j, _, hj⟩ := (Finset.lt_fold_max _).1 e2
  · exact absurd hb (not_lt.2 bot_le)
  · by_cases he : x1 (ix2 (rowL s) j) = rowTop fun j => x1 (ix2 (rowL s) j)
    · have hc : FloatOps.cmpf (F := Ideal) (φ := .f32) .oeq (x1 (ix2 (rowL s) j)) (rowTop fun j => x1 (ix2 (rowL s) j)) = 1#1 := by
        show BitVec.ofBool (decide _) = 1#1
        rw [decide_eq_true he]; rfl
      rw [hc] at hj
      exact ne_of_gt (rowTotal_pos _ _ hS j he hj hbot htop)
    · have hc : FloatOps.cmpf (F := Ideal) (φ := .f32) .oeq (x1 (ix2 (rowL s) j)) (rowTop fun j => x1 (ix2 (rowL s) j)) = 0#1 := by
        show BitVec.ofBool (decide _) = 0#1
        rw [decide_eq_false he]; rfl
      rw [hc] at hj
      exact absurd hj (lt_irrefl _)

end Cert.BonusPrecondition

end
-- ==== Proof.BonusMatch.lean ====
module

public import proofs.«01_k».proof.Defs
public import proofs.«01_k».proof.Proof.BonusArray
public import proofs.«01_k».proof.Proof.BonusReferenceArray
public import proofs.«01_k».proof.Proof.BonusPrecondition

@[expose] public section

set_option maxRecDepth 16384

noncomputable section

/-! # The last positions' probabilities are the reference's -/

namespace Cert.BonusMatch

open Idealize.ShloMosaic Idealize.ShloMosaic.TcCoe Cert.BonusSpec Idealize.SL.Sem

theorem probs_eq (m : (ℓ : Loc BonusIdeal.nD BonusIdeal.τ BonusIdeal.sig) → Buf (Elt Ideal) ℓ)
    (m' : (ℓ : Loc BonusReferenceIdeal.nD BonusReferenceIdeal.τ BonusReferenceIdeal.sig) → Buf (Elt Ideal) ℓ) (c : Dev BonusIdeal.nD)
    (h0 : (m' (c, Proc.tc.devRef BonusReferenceIdeal.main_arg0) : Vec Ideal BonusIdeal.S360x49152 .f32) = (m (c, Proc.tc.devRef BonusIdeal.main_arg0) : Vec Ideal BonusIdeal.S360x49152 .f32))
    (h1 : (m' (c, Proc.tc.devRef BonusReferenceIdeal.main_arg1) : Vec Ideal BonusIdeal.S360x128 .f32) = (m (c, Proc.tc.devRef BonusIdeal.main_arg1) : Vec Ideal BonusIdeal.S360x128 .f32))
    (h2 : (m' (c, Proc.tc.devRef BonusReferenceIdeal.main_arg2) : Vec Ideal BonusIdeal.S360x128 .f32) = (m (c, Proc.tc.devRef BonusIdeal.main_arg2) : Vec Ideal BonusIdeal.S360x128 .f32))
    (hz : ∀ s : Fin 72, rowTotal (BonusIdeal.Gen.mt m c s) (BonusIdeal.Gen.st m c s) ≠ 0) :
    (BonusReferenceIdeal.Gen.probs m' c : Vec Ideal BonusIdeal.S72x49152 .bf16) = BonusIdeal.Gen.probsA m c := by
  funext i
  obtain ⟨s, v, rfl⟩ : ∃ (s : Fin 72) (v : Fin 49152), i = (ix2 s v : BonusIdeal.S72x49152.Idx) := ⟨i 0, i 1, eq_ix2 (n0 := 72) (n1 := 49152) i⟩
  refine (BonusReferenceIdeal.Gen.probs_eq m' c s v).trans ?_
  have e0 : BonusReferenceIdeal.Gen.lt m' c s = BonusIdeal.Gen.lt m c s := funext fun v => congrFun h0 (ix2 (rowL s) v)
  have e1 : BonusReferenceIdeal.Gen.mt m' c s = BonusIdeal.Gen.mt m c s := funext fun j => congrFun h1 (ix2 (rowL s) j)
  have e2 : BonusReferenceIdeal.Gen.st m' c s = BonusIdeal.Gen.st m c s := funext fun j => congrFun h2 (ix2 (rowL s) j)
  rw [e0, e1, e2]
  exact (mul_inv _ _ (hz s)).symm

/-- The kernel over the reals and the reference end with the same probabilities. -/
theorem algebraic : algebraic_BonusIdeal_BonusReferenceIdeal_pre_positive (hBonusIdeal := Cert.BonusIdeal.Gen.facts)
    (hBonusReferenceIdeal := Cert.BonusReferenceIdeal.Gen.facts) (hPre_positive := Cert.Pre_positive.Gen.facts) := by
  intro m g m' g' hp ha
  refine ⟨fun c => Cert.BonusIdeal.Gen.probsA m c, ?_, ?_⟩
  · refine (θ_run _ _ _).mono (fun r h c => ?_) (θ_run_and (Cert.BonusIdeal.Gen.run_results m g) (Cert.BonusIdeal.Gen.unchanged m g))
    exact ⟨h.1 c, h.2 c⟩
  · refine (θ_run _ _ _).mono (fun r h c => ?_) (θ_run_and (Cert.BonusReferenceIdeal.Gen.run_results m' g') (Cert.BonusReferenceIdeal.Gen.unchanged m' g'))
    obtain ⟨h0, h1, h2⟩ := ha c
    exact ⟨(h.1 c).trans (probs_eq m m' c h0 h1 h2 fun s => Cert.BonusPrecondition.total_ne _ _ _ (hp c).1 (hp c).2.1 (hp c).2.2 s), h.2 c⟩

end Cert.BonusMatch

end
-- ==== Proof.ResidRun.lean ====
/-
The residual kernel's body at one grid point, with the stores into the mass and the two drafted probabilities named.

The body stores four blocks. What it leaves in the mass output (`arg9`) and in the two blocks of drafted probabilities (`arg10`,
`arg11`) is found by running it (`massRun`); the residual distribution is handed back at some contents, of which nothing is said.
-/
module

public import proofs.«01_k».proof.Proof.Gen.ResidIdeal.Frame.Runs

@[expose] public section

-- membership in a rectangle of production extents (`View.cover_of_tiled`): the elaborator's structural look
-- recurses once per coordinate of the long axes
set_option maxRecDepth 16384

noncomputable section

namespace Cert.ResidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The pieces the body stores into the mass output and the drafted probabilities, with the proof that the body runs and leaves them there. -/
noncomputable def massRun (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) :
    Σ' (L7 : List (View.Piece (Elt F) S8x128 .f32)), Σ' (L8 : List (View.Piece (Elt F) S8x128 .f32)), { L9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ tbPt0 c tbM0_0 xt0) -∗ K ⟨⟩))
          ⊢ wp frame (wpE (defs₀ (F := F)) Variants.none c none) E (cc0_resid i tbM0_0 htbM0_0 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_resid_eq_skeleton]; unfold cc0_resid_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]; · iexists _; iexact H7
    isplitl [H8]; · iexists _; iexact H8
    isplitl [H9]; · iexists _; iexact H9
    isplitl [HS0]
    · iexists _, _; isplitr; swap; · iexact HS0
      ipureintro; rfl
    iexact HT0

end Cert.ResidIdeal.Gen

end
-- ==== Proof.ResidFrame.lean ====
/-
The residual kernel's run: the pipeline's proof data with the mass and the drafted probabilities named and the residual distribution
forgotten, the body's
obligation at every point, the run, and the frame.
-/
module

public import proofs.«01_k».proof.Proof.ResidRun
public import Idealize.ShloMosaic.Lib.Claim

@[expose] public section

-- membership in a rectangle of production extents (`View.cover_of_tiled`): the elaborator's structural look
-- recurses once per coordinate of the long axes
set_option maxRecDepth 16384

noncomputable section

namespace Cert.ResidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (1 store of `S8x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) (y : S8x128.Idx) :
    ∃ pc ∈ (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).1, y ∈ pc.1.set :=
  View.cover_of_tiledL (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).1 S8x128.size (by sl_kernel_rfl) y

/-- What the run leaves in output 7's staging buffer: its pieces read back over junk. -/
def out0_A_7 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) : Vec F S8x128 .f32 :=
  VO0_7.read (Elt F) (VO0_7.writes (Elt F) VO0_7.junk (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).1)

/-- The run's pieces for output 8 tile its block (1 store of `S8x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) (y : S8x128.Idx) :
    ∃ pc ∈ (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).2.1, y ∈ pc.1.set :=
  View.cover_of_tiledL (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).2.1 S8x128.size (by sl_kernel_rfl) y

/-- What the run leaves in output 8's staging buffer: its pieces read back over junk. -/
def out0_A_8 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) : Vec F S8x128 .f32 :=
  VO0_8.read (Elt F) (VO0_8.writes (Elt F) VO0_8.junk (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).2.1)

/-- The run's pieces for output 9 tile its block (1 store of `S8x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) (y : S8x128.Idx) :
    ∃ pc ∈ (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).2.2.1, y ∈ pc.1.set :=
  View.cover_of_tiledL (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).2.2.1 S8x128.size (by sl_kernel_rfl) y

/-- What the run leaves in output 9's staging buffer: its pieces read back over junk. -/
def out0_A_9 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) : Vec F S8x128 .f32 :=
  VO0_9.read (Elt F) (VO0_9.writes (Elt F) VO0_9.junk (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).2.2.1)

/-- What the body leaves in the mass output at point `t`. -/
def massAt (hO : Ok m) (hH : Hyps m hO) (c : Dev nD) (t : Fin (cfgM m hO).N) : Vec F S8x128 .f32 :=
  out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t)

/-- What the body leaves in the target's drafted probabilities at point `t`. -/
def targetAt (hO : Ok m) (hH : Hyps m hO) (c : Dev nD) (t : Fin (cfgM m hO).N) : Vec F S8x128 .f32 :=
  out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t)

/-- What the body leaves in the draft's drafted probabilities at point `t`. -/
def draftAt (hO : Ok m) (hH : Hyps m hO) (c : Dev nD) (t : Fin (cfgM m hO).N) : Vec F S8x128 .f32 :=
  out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t)

/-! ## The pipeline's proof data -/

/-- The output windows this certificate FORGETS (6): nothing reads what the kernel leaves in them, so nothing
    of it is named (Lib/Pipeline/Dat.lean `Dat.toRForget`). -/
def forgets0 : Fin 10 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, _⟩ => massAt m hO hH c t
    | ⟨8, _⟩ => targetAt m hO hH c t
    | ⟨9, _⟩ => draftAt m hO hH c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_7 (hO : Ok m) (hH : Hyps m hO) (c : Dev nD) (t : Fin (cfgM m hO).N) : (dats m hO hH 0 c).after 7 t = massAt m hO hH c t := by dsimp only [dats]; try rfl
theorem after0_8 (hO : Ok m) (hH : Hyps m hO) (c : Dev nD) (t : Fin (cfgM m hO).N) : (dats m hO hH 0 c).after 8 t = targetAt m hO hH c t := by dsimp only [dats]; try rfl
theorem after0_9 (hO : Ok m) (hH : Hyps m hO) (c : Dev nD) (t : Fin (cfgM m hO).N) : (dats m hO hH 0 c).after 9 t = draftAt m hO hH c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d)
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_7, after0_8, after0_9]
  rw [show (dats m hO hH 0 c).Φ t.castSucc = iprop(Pipeline.ΦA spec0 c ∗ Pipeline.ΦT pre0 (tbl m) c) from rfl, PhiT0_eq, PhiA0_eq]
  unfold massAt out0_A_7 targetAt out0_A_8 draftAt out0_A_9; (try dsimp only)
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((massRun c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HT0]; · iexact HT0
  iintro ⟨H0, H1, H2, H3, H4, H5, H6, ⟨%e7, H7⟩, ⟨%e8, H8⟩, ⟨%e9, H9⟩, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_ResidIdeal`, Defs.lean, at any `F`). -/
theorem frame_of_forgetting (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forgetting m ρ hO (fun c => (dats m hO hH 0 c).toRForget forgets0) (A_eq m hO hH) (run_main m ρ hO hH)

/-- THE FRAME: `Cert.quiescent_ResidIdeal`'s statement (Defs.lean) at any `F` — Proof.lean cites it at `Bits`:
    `theorem Cert.Proof.claim : Cert.Claim := ⟨Cert.ResidIdeal.Gen.facts, fun m ρ _ => Cert.ResidIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.ResidIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.ResidIdeal.Gen

end
-- ==== Proof.ResidTokens.lean ====
module

public import proofs.«01_k».proof.Proof.Gen.Resid.Frame.Runs
public import proofs.«01_k».proof.Defs
public import proofs.«01_k».proof.Proof.Gen.ResidIdeal.Frame.Runs

@[expose] public section

set_option maxRecDepth 16384

noncomputable section

/-! # A token inside the vocabulary names a group of 128 columns inside a row -/

namespace Cert.ResidTokens

open Idealize.ShloMosaic Idealize.ShloMosaic.TcCoe

/-- A word between 0 and 49151. -/
def InVocab (w : BitVec 32) : Prop := IntOp.cmpi .sge w 0#32 = 1#1 ∧ IntOp.cmpi .slt w 49152#32 = 1#1

theorem word_ok (w : BitVec 32) (h : InVocab w) : 128 ∣ (Scalar.shli (Scalar.shrsi w 7#32) 7#32).toNat
    ∧ (Scalar.shli (Scalar.shrsi w 7#32) 7#32).toNat + 128 ≤ 49152 := by
  have ofBool_eq_one (p : Bool) : (BitVec.ofBool p = 1#1) ↔ p = true := by cases p <;> decide
  obtain ⟨h0, h1⟩ := h
  simp only [ofBool_eq_one, IntOp.cmpi, BitVec.sle, BitVec.slt, decide_eq_true_eq, BitVec.toInt, BitVec.toNat_ofNat] at h0 h1
  have hw : w.toNat < 49152 := by have := w.isLt; split at h0 <;> split at h1 <;> simp at h0 h1 <;> omega
  have hm : w.msb = false := by rw [BitVec.msb_eq_false_iff_two_mul_lt]; omega
  have e : (Scalar.shli (Scalar.shrsi w 7#32) 7#32).toNat = w.toNat / 128 * 128 := by
    have e1 : Scalar.shrsi w 7#32 = w.sshiftRight 7 := rfl
    have e2 : Scalar.shli (w.sshiftRight 7) 7#32 = (w.sshiftRight 7) <<< 7 := rfl
    rw [e1, e2, BitVec.sshiftRight_eq_of_msb_false hm, BitVec.toNat_shiftLeft, BitVec.toNat_ushiftRight, Nat.shiftRight_eq_div_pow, Nat.shiftLeft_eq]
    omega
  rw [e]
  exact ⟨⟨w.toNat / 128, by omega⟩, by omega⟩

end Cert.ResidTokens

namespace Cert.Resid.Gen

open Idealize.ShloMosaic Idealize.ShloMosaic.TcCoe Cert.ResidTokens

theorem chk1_of (v : BitVec 32) (h : InVocab v) : k0_chk1 v :=
  ⟨(word_ok v h).1, fun a => match a with
    | ⟨0, _⟩ => (by decide : 0 + 8 ≤ 8)
    | ⟨1, _⟩ => (word_ok v h).2⟩
theorem chk2_of (v : BitVec 32) (h : InVocab v) : k0_chk2 v :=
  ⟨(word_ok v h).1, fun a => match a with
    | ⟨0, _⟩ => (by decide : 0 + 8 ≤ 8)
    | ⟨1, _⟩ => (word_ok v h).2⟩
theorem chk3_of (v : BitVec 32) (h : InVocab v) : k0_chk3 v :=
  ⟨(word_ok v h).1, fun a => match a with
    | ⟨0, _⟩ => (by decide : 0 + 8 ≤ 8)
    | ⟨1, _⟩ => (word_ok v h).2⟩
theorem chk4_of (v : BitVec 32) (h : InVocab v) : k0_chk4 v :=
  ⟨(word_ok v h).1, fun a => match a with
    | ⟨0, _⟩ => (by decide : 0 + 8 ≤ 8)
    | ⟨1, _⟩ => (word_ok v h).2⟩
theorem chk5_of (v : BitVec 32) (h : InVocab v) : k0_chk5 v :=
  ⟨(word_ok v h).1, fun a => match a with
    | ⟨0, _⟩ => (by decide : 0 + 8 ≤ 8)
    | ⟨1, _⟩ => (word_ok v h).2⟩
theorem chk6_of (v : BitVec 32) (h : InVocab v) : k0_chk6 v :=
  ⟨(word_ok v h).1, fun a => match a with
    | ⟨0, _⟩ => (by decide : 0 + 8 ≤ 8)
    | ⟨1, _⟩ => (word_ok v h).2⟩
theorem chk7_of (v : BitVec 32) (h : InVocab v) : k0_chk7 v :=
  ⟨(word_ok v h).1, fun a => match a with
    | ⟨0, _⟩ => (by decide : 0 + 8 ≤ 8)
    | ⟨1, _⟩ => (word_ok v h).2⟩
theorem chk8_of (v : BitVec 32) (h : InVocab v) : k0_chk8 v :=
  ⟨(word_ok v h).1, fun a => match a with
    | ⟨0, _⟩ => (by decide : 0 + 8 ≤ 8)
    | ⟨1, _⟩ => (word_ok v h).2⟩

section
attribute [local irreducible] k0_chk1 k0_chk2 k0_chk3 k0_chk4 k0_chk5 k0_chk6 k0_chk7 k0_chk8

private theorem hyps_p0 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p0 m hO c t := by
  obtain rfl : c = 0 := Subsingleton.elim _ _
  unfold Hyps.p0
  show k0_chk1 (m (((0 : Dev nD) : Thread nD τ).loc main_arg0) ?w)
  exact chk1_of _ (hw _)

private theorem hyps_p1 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p1 m hO c t := by
  obtain rfl : c = 0 := Subsingleton.elim _ _
  unfold Hyps.p1
  show k0_chk2 (m (((0 : Dev nD) : Thread nD τ).loc main_arg0) ?w)
  exact chk2_of _ (hw _)

private theorem hyps_p2 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p2 m hO c t := by
  obtain rfl : c = 0 := Subsingleton.elim _ _
  unfold Hyps.p2
  show k0_chk3 (m (((0 : Dev nD) : Thread nD τ).loc main_arg0) ?w)
  exact chk3_of _ (hw _)

private theorem hyps_p3 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p3 m hO c t := by
  obtain rfl : c = 0 := Subsingleton.elim _ _
  unfold Hyps.p3
  show k0_chk4 (m (((0 : Dev nD) : Thread nD τ).loc main_arg0) ?w)
  exact chk4_of _ (hw _)

private theorem hyps_p4 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p4 m hO c t := by
  obtain rfl : c = 0 := Subsingleton.elim _ _
  unfold Hyps.p4
  show k0_chk5 (m (((0 : Dev nD) : Thread nD τ).loc main_arg0) ?w)
  exact chk5_of _ (hw _)

private theorem hyps_p5 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p5 m hO c t := by
  obtain rfl : c = 0 := Subsingleton.elim _ _
  unfold Hyps.p5
  show k0_chk6 (m (((0 : Dev nD) : Thread nD τ).loc main_arg0) ?w)
  exact chk6_of _ (hw _)

private theorem hyps_p6 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p6 m hO c t := by
  obtain rfl : c = 0 := Subsingleton.elim _ _
  unfold Hyps.p6
  show k0_chk7 (m (((0 : Dev nD) : Thread nD τ).loc main_arg0) ?w)
  exact chk7_of _ (hw _)

private theorem hyps_p7 (m : (ℓ : Loc nD τ sig) → Buf (Elt Bits) ℓ)
    (hw : ∀ w : S72x4.Idx, InVocab (m (((0 : Dev nD) : Thread nD τ).loc main_arg0) w)) (hO : Ok m) (c : Dev nD) (t : Fin (cfgM m hO).N) : Hyps.p7 m hO c t := by
  obtain rfl : c = 0 := Subsingleton.elim _ _
  unfold Hyps.p7
  show k0_chk8 (m (((0 : Dev nD) : Thread nD τ).loc main_arg0) ?w)
  exact chk8_of _ (hw _)

/-- Tokens inside the vocabulary make every gather in bounds. -/
theorem hyps_of_tokens (m : (ℓ : Loc nD τ sig) → Buf (Elt Bits) ℓ)
    (hw : ∀ w : S72x4.Idx, InVocab (m (((0 : Dev nD) : Thread nD τ).loc main_arg0) w)) (hO : Ok m) : Hyps m hO :=
  Hyps.of (hyps_p0 m hw hO) (hyps_p1 m hw hO) (hyps_p2 m hw hO) (hyps_p3 m hw hO) (hyps_p4 m hw hO) (hyps_p5 m hw hO) (hyps_p6 m hw hO) (hyps_p7 m hw hO)
end

end Cert.Resid.Gen

namespace Cert.ResidIdeal.Gen

open Idealize.ShloMosaic Idealize.ShloMosaic.TcCoe Cert.ResidTokens

theorem chk1_of (v : BitVec 32) (h : InVocab v) : k0_chk1 v :=
  ⟨(word_ok v h).1, fun a => match a with
    | ⟨0, _⟩ => (by decide : 0 + 8 ≤ 8)
    | ⟨1, _⟩ => (word_ok v h).2⟩
theorem chk2_of (v : BitVec 32) (h : InVocab v) : k0_chk2 v :=
  ⟨(word_ok v h).1, fun a => match a with
    | ⟨0, _⟩ => (by decide : 0 + 8 ≤ 8)
    | ⟨1, _⟩ => (word_ok v h).2⟩
theorem chk3_of (v : BitVec 32) (h : InVocab v) : k0_chk3 v :=
  ⟨(word_ok v h).1, fun a => match a with
    | ⟨0, _⟩ => (by decide : 0 + 8 ≤ 8)
    | ⟨1, _⟩ => (word_ok v h).2⟩
theorem chk4_of (v : BitVec 32) (h : InVocab v) : k0_chk4 v :=
  ⟨(word_ok v h).1, fun a => match a with
    | ⟨0, _⟩ => (by decide : 0 + 8 ≤ 8)
    | ⟨1, _⟩ => (word_ok v h).2⟩
theorem chk5_of (v : BitVec 32) (h : InVocab v) : k0_chk5 v :=
  ⟨(word_ok v h).1, fun a => match a with
    | ⟨0, _⟩ => (by decide : 0 + 8 ≤ 8)
    | ⟨1, _⟩ => (word_ok v h).2⟩
theorem chk6_of (v : BitVec 32) (h : InVocab v) : k0_chk6 v :=
  ⟨(word_ok v h).1, fun a => match a with
    | ⟨0, _⟩ => (by decide : 0 + 8 ≤ 8)
    | ⟨1, _⟩ => (word_ok v h).2⟩
theorem chk7_of (v : BitVec 32) (h : InVocab v) : k0_chk7 v :=
  ⟨(word_ok v h).1, fun a => match a with
    | ⟨0, _⟩ => (by decide : 0 + 8 ≤ 8)
    | ⟨1, _⟩ => (word_ok v h).2⟩
theorem chk8_of (v : BitVec 32) (h : InVocab v) : k0_chk8 v :=
  ⟨(word_ok v h).1, fun a => match a with
    | ⟨0, _⟩ => (by decide : 0 + 8 ≤ 8)
    | ⟨1, _⟩ => (word_ok v h).2⟩

section
attribute [local irreducible] k0_chk1 k0_chk2 k0_chk3 k0_chk4 k0_chk5 k0_chk6 k0_chk7 k0_chk8

private theorem hyps_p0 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p0 m hO c t := by
  obtain rfl : c = 0 := Subsingleton.elim _ _
  unfold Hyps.p0
  show k0_chk1 (m (((0 : Dev nD) : Thread nD τ).loc main_arg0) ?w)
  exact chk1_of _ (hw _)

private theorem hyps_p1 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p1 m hO c t := by
  obtain rfl : c = 0 := Subsingleton.elim _ _
  unfold Hyps.p1
  show k0_chk2 (m (((0 : Dev nD) : Thread nD τ).loc main_arg0) ?w)
  exact chk2_of _ (hw _)

private theorem hyps_p2 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p2 m hO c t := by
  obtain rfl : c = 0 := Subsingleton.elim _ _
  unfold Hyps.p2
  show k0_chk3 (m (((0 : Dev nD) : Thread nD τ).loc main_arg0) ?w)
  exact chk3_of _ (hw _)

private theorem hyps_p3 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p3 m hO c t := by
  obtain rfl : c = 0 := Subsingleton.elim _ _
  unfold Hyps.p3
  show k0_chk4 (m (((0 : Dev nD) : Thread nD τ).loc main_arg0) ?w)
  exact chk4_of _ (hw _)

private theorem hyps_p4 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p4 m hO c t := by
  obtain rfl : c = 0 := Subsingleton.elim _ _
  unfold Hyps.p4
  show k0_chk5 (m (((0 : Dev nD) : Thread nD τ).loc main_arg0) ?w)
  exact chk5_of _ (hw _)

private theorem hyps_p5 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p5 m hO c t := by
  obtain rfl : c = 0 := Subsingleton.elim _ _
  unfold Hyps.p5
  show k0_chk6 (m (((0 : Dev nD) : Thread nD τ).loc main_arg0) ?w)
  exact chk6_of _ (hw _)

private theorem hyps_p6 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p6 m hO c t := by
  obtain rfl : c = 0 := Subsingleton.elim _ _
  unfold Hyps.p6
  show k0_chk7 (m (((0 : Dev nD) : Thread nD τ).loc main_arg0) ?w)
  exact chk7_of _ (hw _)

private theorem hyps_p7 (m : (ℓ : Loc nD τ sig) → Buf (Elt Ideal) ℓ)
    (hw : ∀ w : S72x4.Idx, InVocab (m (((0 : Dev nD) : Thread nD τ).loc main_arg0) w)) (hO : Ok m) (c : Dev nD) (t : Fin (cfgM m hO).N) : Hyps.p7 m hO c t := by
  obtain rfl : c = 0 := Subsingleton.elim _ _
  unfold Hyps.p7
  show k0_chk8 (m (((0 : Dev nD) : Thread nD τ).loc main_arg0) ?w)
  exact chk8_of _ (hw _)

/-- Tokens inside the vocabulary make every gather in bounds. -/
theorem hyps_of_tokens (m : (ℓ : Loc nD τ sig) → Buf (Elt Ideal) ℓ)
    (hw : ∀ w : S72x4.Idx, InVocab (m (((0 : Dev nD) : Thread nD τ).loc main_arg0) w)) (hO : Ok m) : Hyps m hO :=
  Hyps.of (hyps_p0 m hw hO) (hyps_p1 m hw hO) (hyps_p2 m hw hO) (hyps_p3 m hw hO) (hyps_p4 m hw hO) (hyps_p5 m hw hO) (hyps_p6 m hw hO) (hyps_p7 m hw hO)
end

end Cert.ResidIdeal.Gen

end
-- ==== Proof.ResidSpec.lean ====
module

public import proofs.«01_k».proof.Proof.BonusSpec

@[expose] public section

set_option maxRecDepth 16384

noncomputable section

/-! # A row's residual and its mass -/

namespace Cert.ResidSpec

open Idealize.ShloMosaic Cert.BonusSpec

/-- A drafted position among all positions. -/
def rowF (s : Fin 288) : Fin 360 := ⟨s.val, by omega⟩

/-- One entry of the residual: what is left of the target's probability over the draft's, the probabilities by inverse normalisers. -/
def left (lt : EReal) (mt st : Fin 128 → EReal) (ld : EReal) (md sd : Fin 128 → EReal) : EReal :=
  max (Ideal.exp2 (lt - rowTop mt) * Ideal.div 1 (rowTotal mt st) - Ideal.exp2 (ld - rowTop md) * Ideal.div 1 (rowTotal md sd)) 0

/-- The same entry, the probabilities by division. -/
def leftDiv (lt : EReal) (mt st : Fin 128 → EReal) (ld : EReal) (md sd : Fin 128 → EReal) : EReal :=
  max (Ideal.div (Ideal.exp2 (lt - rowTop mt)) (rowTotal mt st) - Ideal.div (Ideal.exp2 (ld - rowTop md)) (rowTotal md sd)) 0

theorem left_eq (lt : EReal) (mt st : Fin 128 → EReal) (ld : EReal) (md sd : Fin 128 → EReal) (h : rowTotal mt st ≠ 0) (h' : rowTotal md sd ≠ 0) :
    left lt mt st ld md sd = leftDiv lt mt st ld md sd := by
  unfold left leftDiv
  rw [mul_inv _ _ h, mul_inv _ _ h']

/-- A row's entries by their column number. -/
def colAt (f : Fin 49152 → EReal) (n : ℕ) : EReal := if h : n < 49152 then f ⟨n, h⟩ else 0

theorem colAt_lt (f : Fin 49152 → EReal) (n : ℕ) (h : n < 49152) : colAt f n = f ⟨n, h⟩ := dif_pos h

/-- Groups of 128 columns, group by group. -/
theorem sum_groups (g : ℕ → EReal) (Q : ℕ) : ∑ n ∈ Finset.range (128 * Q), g n = ∑ q ∈ Finset.range Q, ∑ l ∈ Finset.range 128, g (128 * q + l) := by
  induction Q with
  | zero => rfl
  | succ Q ih => rw [Nat.mul_succ, Finset.sum_range_add, ih, Finset.sum_range_succ (fun q => ∑ l ∈ Finset.range 128, g (128 * q + l)) Q]

/-- Summing each lane's columns, then the lanes, is summing all columns. -/
theorem lanes_sum (f : Fin 49152 → EReal) : ∑ l : Fin 128, ∑ q ∈ Finset.range 384, colAt f (128 * q + l.val) = ∑ v : Fin 49152, f v := by
  have h1 : ∑ v : Fin 49152, f v = ∑ n ∈ Finset.range (128 * 384), colAt f n := by
    rw [show 128 * 384 = 49152 from rfl, ← Fin.sum_univ_eq_sum_range (fun n => colAt f n) 49152]
    exact Finset.sum_congr rfl fun v _ => (colAt_lt f v.val v.isLt).symm
  rw [h1, sum_groups, Finset.sum_comm]
  exact Finset.sum_congr rfl fun q _ => Fin.sum_univ_eq_sum_range (fun n => colAt f (128 * q + n)) 128

end Cert.ResidSpec

end
-- ==== Proof.ResidPick.lean ====
module

public import proofs.«01_k».proof.Proof.ResidFrame
public import proofs.«01_k».proof.Proof.ResidTokens
public import proofs.«01_k».proof.Proof.ResidSpec
public import Idealize.ShloMosaic.Lib.Pointwise
public import Idealize.ShloMosaic.PureOps.Ideal

@[expose] public section

set_option maxRecDepth 16384

noncomputable section

/-! # How the kernel picks a row's logit at its drafted token

A block of eight rows is filled row by row: row `r` keeps, from the group of 128 columns around its token, the token's own lane, and
is zero elsewhere. The lanes' sum is the logit at the token. -/

namespace Cert.ResidIdeal.Gen

open Idealize.ShloMosaic Cert.BonusSpec Cert.ResidSpec Cert.ResidTokens

set_option maxHeartbeats 4000000

/-- A word's column. -/
theorem toNat_lt (w : BitVec 32) (h : InVocab w) : w.toNat < 49152 := by
  have ofBool_eq_one (p : Bool) : (BitVec.ofBool p = 1#1) ↔ p = true := by cases p <;> decide
  obtain ⟨h0, h1⟩ := h
  simp only [ofBool_eq_one, IntOp.cmpi, BitVec.sle, BitVec.slt, decide_eq_true_eq, BitVec.toInt, BitVec.toNat_ofNat] at h0 h1
  have := w.isLt; split at h0 <;> split at h1 <;> simp at h0 h1 <;> omega

/-- The first column of a word's group. -/
theorem off_at (w : BitVec 32) (h : InVocab w) : k0_off5 w = ![0, w.toNat / 128 * 128] := by
  have hw := toNat_lt w h
  have hm : w.msb = false := by rw [BitVec.msb_eq_false_iff_two_mul_lt]; omega
  have e : (Scalar.shli (Scalar.shrsi w 7#32) 7#32).toNat = w.toNat / 128 * 128 := by
    have e1 : Scalar.shrsi w 7#32 = w.sshiftRight 7 := rfl
    have e2 : Scalar.shli (w.sshiftRight 7) 7#32 = (w.sshiftRight 7) <<< 7 := rfl
    rw [e1, e2, BitVec.sshiftRight_eq_of_msb_false hm, BitVec.toNat_shiftLeft, BitVec.toNat_ushiftRight, Nat.shiftRight_eq_div_pow, Nat.shiftLeft_eq]
    omega
  rw [← e]; rfl

/-- The bit of a lane is set where the lane is the word's own. -/
theorem lane_bit (w : BitVec 32) (j : Fin 128) : IntOp.cmpi .eq (BitVec.ofNat 32 j.val) (IntOp.andi w 127#32) = BitVec.ofBool (decide (j.val = w.toNat % 128)) := by
  have e : (IntOp.andi w 127#32).toNat = w.toNat % 128 := by
    show (w &&& 127#32).toNat = _
    rw [BitVec.toNat_and]
    exact Nat.and_two_pow_sub_one_eq_mod w.toNat 7
  have hj := j.isLt
  show BitVec.ofBool (BitVec.ofNat 32 j.val == IntOp.andi w 127#32) = _
  congr 1
  rw [Bool.eq_iff_iff, beq_iff_eq, decide_eq_true_eq, ← BitVec.toNat_inj, e, BitVec.toNat_ofNat, Nat.mod_eq_of_lt (by omega)]

/-- A row that is zero but in the word's lane sums to that lane. -/
theorem lane_sum (w : BitVec 32) (g : Fin 128 → EReal) :
    ∑ j : Fin 128, Scalar.select (IntOp.cmpi .eq (BitVec.ofNat 32 j.val) (IntOp.andi w 127#32)) (g j) (0 : EReal) = g ⟨w.toNat % 128, Nat.mod_lt _ (by decide)⟩ := by
  refine (Finset.sum_eq_single (⟨w.toNat % 128, Nat.mod_lt _ (by decide)⟩ : Fin 128) (fun j _ hj => ?_) (fun h => absurd (Finset.mem_univ _) h)).trans ?_
  · rw [lane_bit, decide_eq_false fun h => hj (Fin.ext h)]; rfl
  · rw [lane_bit, decide_eq_true rfl]; rfl

variable (w0 w1 w2 w3 w4 w5 w6 w7 : BitVec 32) (g0 g1 g2 g3 g4 g5 g6 g7 : Vec Ideal S8x128 .f32)

/-- The row numbers and the lane numbers of a block. -/
abbrev rowNo : IVec S8x128 32 := iota .tc S8x128 32 [0] iota_S8x128_d0_w32
abbrev laneNo : IVec S8x128 32 := iota .tc S8x128 32 [1] iota_S8x128_d1_w32

/-- The eight selections of a block leave its row's own. -/
theorem pick_row (z : EReal) (w0 w1 w2 w3 w4 w5 w6 w7 : BitVec 32) (g0 g1 g2 g3 g4 g5 g6 g7 : Vec Ideal S8x128 .f32) (r : Fin 8) (l : Fin 128) :
    Scalar.select (IntOp.andi (IntOp.cmpi .eq (BitVec.ofNat 32 r.val) 7#32) (IntOp.cmpi .eq (BitVec.ofNat 32 l.val) (IntOp.andi w7 127#32))) (g7 (ix2 r l))
    (Scalar.select (IntOp.andi (IntOp.cmpi .eq (BitVec.ofNat 32 r.val) 6#32) (IntOp.cmpi .eq (BitVec.ofNat 32 l.val) (IntOp.andi w6 127#32))) (g6 (ix2 r l))
    (Scalar.select (IntOp.andi (IntOp.cmpi .eq (BitVec.ofNat 32 r.val) 5#32) (IntOp.cmpi .eq (BitVec.ofNat 32 l.val) (IntOp.andi w5 127#32))) (g5 (ix2 r l))
    (Scalar.select (IntOp.andi (IntOp.cmpi .eq (BitVec.ofNat 32 r.val) 4#32) (IntOp.cmpi .eq (BitVec.ofNat 32 l.val) (IntOp.andi w4 127#32))) (g4 (ix2 r l))
    (Scalar.select (IntOp.andi (IntOp.cmpi .eq (BitVec.ofNat 32 r.val) 3#32) (IntOp.cmpi .eq (BitVec.ofNat 32 l.val) (IntOp.andi w3 127#32))) (g3 (ix2 r l))
    (Scalar.select (IntOp.andi (IntOp.cmpi .eq (BitVec.ofNat 32 r.val) 2#32) (IntOp.cmpi .eq (BitVec.ofNat 32 l.val) (IntOp.andi w2 127#32))) (g2 (ix2 r l))
    (Scalar.select (IntOp.andi (IntOp.cmpi .eq (BitVec.ofNat 32 r.val) 1#32) (IntOp.cmpi .eq (BitVec.ofNat 32 l.val) (IntOp.andi w1 127#32))) (g1 (ix2 r l))
    (Scalar.select (IntOp.andi (IntOp.cmpi .eq (BitVec.ofNat 32 r.val) 0#32) (IntOp.cmpi .eq (BitVec.ofNat 32 l.val) (IntOp.andi w0 127#32))) (g0 (ix2 r l)) z)))))))
      = Scalar.select (IntOp.cmpi .eq (BitVec.ofNat 32 l.val) (IntOp.andi (![w0, w1, w2, w3, w4, w5, w6, w7] r) 127#32)) (![g0, g1, g2, g3, g4, g5, g6, g7] r (ix2 r l)) z := by
  have no (b : BitVec 1) : IntOp.andi 0#1 b = 0#1 := by show 0#1 &&& b = 0#1; exact BitVec.zero_and
  have yes (b : BitVec 1) : IntOp.andi 1#1 b = b := by revert b; decide
  have s0 (x y : EReal) : Scalar.select 0#1 x y = y := rfl
  have off (a k : Fin 8) (h : a ≠ k) : IntOp.cmpi .eq (BitVec.ofNat 32 a.val) (BitVec.ofNat 32 k.val) = 0#1 := by revert a k; decide
  have on (a : Fin 8) : IntOp.cmpi .eq (BitVec.ofNat 32 a.val) (BitVec.ofNat 32 a.val) = 1#1 := by revert a; decide
  have b (k : Fin 8) : IntOp.cmpi .eq (BitVec.ofNat 32 r.val) (BitVec.ofNat 32 k.val) = if r = k then 1#1 else 0#1 := by
    split
    · rename_i h; rw [h]; exact on k
    · rename_i h; exact off r k h
  rw [show IntOp.cmpi .eq (BitVec.ofNat 32 r.val) 7#32 = _ from b 7, show IntOp.cmpi .eq (BitVec.ofNat 32 r.val) 6#32 = _ from b 6, show IntOp.cmpi .eq (BitVec.ofNat 32 r.val) 5#32 = _ from b 5, show IntOp.cmpi .eq (BitVec.ofNat 32 r.val) 4#32 = _ from b 4, show IntOp.cmpi .eq (BitVec.ofNat 32 r.val) 3#32 = _ from b 3, show IntOp.cmpi .eq (BitVec.ofNat 32 r.val) 2#32 = _ from b 2, show IntOp.cmpi .eq (BitVec.ofNat 32 r.val) 1#32 = _ from b 1, show IntOp.cmpi .eq (BitVec.ofNat 32 r.val) 0#32 = _ from b 0]
  clear b
  match r with
  | ⟨0, _⟩ =>
    show _ = Scalar.select (IntOp.cmpi .eq (BitVec.ofNat 32 l.val) (IntOp.andi w0 127#32)) (g0 (ix2 (0 : Fin 8) l)) z
    rw [show (⟨0, by decide⟩ : Fin 8) = 0 from rfl]
    simp only [Fin.reduceEq, ↓reduceIte, no, yes, s0]
  | ⟨1, _⟩ =>
    show _ = Scalar.select (IntOp.cmpi .eq (BitVec.ofNat 32 l.val) (IntOp.andi w1 127#32)) (g1 (ix2 (1 : Fin 8) l)) z
    rw [show (⟨1, by decide⟩ : Fin 8) = 1 from rfl]
    simp only [Fin.reduceEq, ↓reduceIte, no, yes, s0]
  | ⟨2, _⟩ =>
    show _ = Scalar.select (IntOp.cmpi .eq (BitVec.ofNat 32 l.val) (IntOp.andi w2 127#32)) (g2 (ix2 (2 : Fin 8) l)) z
    rw [show (⟨2, by decide⟩ : Fin 8) = 2 from rfl]
    simp only [Fin.reduceEq, ↓reduceIte, no, yes, s0]
  | ⟨3, _⟩ =>
    show _ = Scalar.select (IntOp.cmpi .eq (BitVec.ofNat 32 l.val) (IntOp.andi w3 127#32)) (g3 (ix2 (3 : Fin 8) l)) z
    rw [show (⟨3, by decide⟩ : Fin 8) = 3 from rfl]
    simp only [Fin.reduceEq, ↓reduceIte, no, yes, s0]
  | ⟨4, _⟩ =>
    show _ = Scalar.select (IntOp.cmpi .eq (BitVec.ofNat 32 l.val) (IntOp.andi w4 127#32)) (g4 (ix2 (4 : Fin 8) l)) z
    rw [show (⟨4, by decide⟩ : Fin 8) = 4 from rfl]
    simp only [Fin.reduceEq, ↓reduceIte, no, yes, s0]
  | ⟨5, _⟩ =>
    show _ = Scalar.select (IntOp.cmpi .eq (BitVec.ofNat 32 l.val) (IntOp.andi w5 127#32)) (g5 (ix2 (5 : Fin 8) l)) z
    rw [show (⟨5, by decide⟩ : Fin 8) = 5 from rfl]
    simp only [Fin.reduceEq, ↓reduceIte, no, yes, s0]
  | ⟨6, _⟩ =>
    show _ = Scalar.select (IntOp.cmpi .eq (BitVec.ofNat 32 l.val) (IntOp.andi w6 127#32)) (g6 (ix2 (6 : Fin 8) l)) z
    rw [show (⟨6, by decide⟩ : Fin 8) = 6 from rfl]
    simp only [Fin.reduceEq, ↓reduceIte, no, yes, s0]
  | ⟨7, _⟩ =>
    show _ = Scalar.select (IntOp.cmpi .eq (BitVec.ofNat 32 l.val) (IntOp.andi w7 127#32)) (g7 (ix2 (7 : Fin 8) l)) z
    rw [show (⟨7, by decide⟩ : Fin 8) = 7 from rfl]
    simp only [Fin.reduceEq, ↓reduceIte, no, yes, s0]

/-- The target's picked block. -/
theorem pick_at (r : Fin 8) (l : Fin 128) :
    k0_pay33 (F := Ideal) laneNo rowNo (k0_pay27 laneNo rowNo (k0_pay23 laneNo rowNo (k0_pay17 w0 g0) k0_pay19 (k0_pay20 (F := Ideal) w1) g1 w2 g2) (k0_pay25 (F := Ideal) laneNo rowNo w3) g3 w4 g4) (k0_pay29 (F := Ideal) laneNo rowNo w5) g5 w6 g6 w7 g7 (ix2 r l)
      = Scalar.select (IntOp.cmpi .eq (BitVec.ofNat 32 l.val) (IntOp.andi (![w0, w1, w2, w3, w4, w5, w6, w7] r) 127#32)) (![g0, g1, g2, g3, g4, g5, g6, g7] r (ix2 r l)) (0 : EReal) := by
  pointwise [k0_pay33, k0_pay32, k0_pay30, k0_pay29, k0_pay27, k0_pay26, k0_pay25, k0_pay23, k0_pay22, k0_pay21, k0_pay20, k0_pay19, k0_pay17, k0_pay16]
  exact pick_row _ _ _ _ _ _ _ _ _ _ _ _ _ _ _ _ _ r l

/-- The draft's picked block: its last selection is made where the lanes are summed. -/
theorem pick2_at (r : Fin 8) (l : Fin 128) :
    Scalar.select (k0_pay32 (F := Ideal) laneNo rowNo w7 (ix2 r l)) (g7 (ix2 r l)) (k0_pay31 (F := Ideal) laneNo rowNo (k0_pay28 laneNo rowNo (k0_pay24 laneNo rowNo (k0_pay18 w0 g0) k0_pay19 (k0_pay20 (F := Ideal) w1) g1 w2 g2) (k0_pay25 (F := Ideal) laneNo rowNo w3) g3 w4 g4) (k0_pay29 (F := Ideal) laneNo rowNo w5) g5 w6 g6 (ix2 r l))
      = Scalar.select (IntOp.cmpi .eq (BitVec.ofNat 32 l.val) (IntOp.andi (![w0, w1, w2, w3, w4, w5, w6, w7] r) 127#32)) (![g0, g1, g2, g3, g4, g5, g6, g7] r (ix2 r l)) (0 : EReal) := by
  pointwise [k0_pay31, k0_pay32, k0_pay30, k0_pay29, k0_pay28, k0_pay26, k0_pay25, k0_pay24, k0_pay22, k0_pay21, k0_pay20, k0_pay19, k0_pay18, k0_pay16]
  exact pick_row _ _ _ _ _ _ _ _ _ _ _ _ _ _ _ _ _ r l

theorem pay1_at (v0 v1 x : Vec Ideal S8x128 .f32) (r : Fin 8) (l : Fin 128) :
    k0_pay1 (F := Ideal) (k0_pay6 v0) (k0_pay8 v0 v1) x (ix2 r l)
      = Ideal.exp2 ((∑ j : Fin 128, x (ix2 r j)) - rowTop fun j => v0 (ix2 r j)) * Ideal.div 1 (rowTotal (fun j => v0 (ix2 r j)) fun j => v1 (ix2 r j)) := by
  unfold rowTotal rowTop
  pointwise [k0_pay1, k0_pay6, k0_pay8]
  rfl

theorem pay2_at (v0 v1 x y : Vec Ideal S8x128 .f32) (b : IVec S8x128 1) (r : Fin 8) (l : Fin 128) :
    k0_pay2 (F := Ideal) (k0_pay7 v0) (k0_pay9 v0 v1) x b y (ix2 r l)
      = Ideal.exp2 ((∑ j : Fin 128, Scalar.select (b (ix2 r j)) (y (ix2 r j)) (x (ix2 r j))) - rowTop fun j => v0 (ix2 r j)) * Ideal.div 1 (rowTotal (fun j => v0 (ix2 r j)) fun j => v1 (ix2 r j)) := by
  unfold rowTotal rowTop
  pointwise [k0_pay2, k0_pay7, k0_pay9]
  rfl

end Cert.ResidIdeal.Gen

end
-- ==== Proof.ResidPicked.lean ====
module

public import proofs.«01_k».proof.Proof.ResidPick

@[expose] public section

set_option maxRecDepth 16384

noncomputable section

/-! # What the kernel leaves for the two probabilities of a block -/

namespace Cert.ResidIdeal.Gen

open Idealize.ShloMosaic Cert.BonusSpec Cert.ResidSpec Cert.ResidTokens

set_option maxHeartbeats 4000000

/-- A block's entry at a row and a column number. -/
def cell (x : Vec Ideal S8x49152 .f32) (r : Fin 8) (n : ℕ) : EReal := if h : n < 49152 then x (ix2 r ⟨n, h⟩) else 0

theorem cell_lt (x : Vec Ideal S8x49152 .f32) (r : Fin 8) (n : ℕ) (h : n < 49152) : cell x r n = x (ix2 r ⟨n, h⟩) := dif_pos h

/-- The group of columns around a token. -/
theorem load_at (x : Vec Ideal S8x49152 .f32) (w : BitVec 32) (hw : InVocab w) (off : Fin 2 → ℕ) (ho : off = k0_off5 w) (inb) (r : Fin 8) (j : Fin 128) :
    View.ld x (Rect.unit (s := S8x49152) off S8x128.size inb) (ix2 r j) = cell x r (w.toNat / 128 * 128 + j.val) := by
  have hn := toNat_lt w hw
  have hj := j.isLt
  unfold cell
  rw [dif_pos (by omega : w.toNat / 128 * 128 + j.val < 49152)]
  show x _ = _
  refine congrArg x (funext fun a => Fin.ext ?_)
  subst ho
  match a with
  | ⟨0, _⟩ =>
    show k0_off5 w 0 + 1 * r.val = r.val
    rw [off_at w hw]; show 0 + 1 * r.val = r.val; omega
  | ⟨1, _⟩ =>
    show k0_off5 w 1 + 1 * j.val = w.toNat / 128 * 128 + j.val
    rw [off_at w hw]; show w.toNat / 128 * 128 + 1 * j.val = w.toNat / 128 * 128 + j.val; omega

/-- The lanes' sum of a picked row is the entry at the token. -/
theorem picked (x : Vec Ideal S8x49152 .f32) (w : BitVec 32) (g : Vec Ideal S8x128 .f32) (r : Fin 8) (hg : ∀ k, g (ix2 r k) = cell x r (w.toNat / 128 * 128 + k.val)) :
    ∑ j : Fin 128, Scalar.select (IntOp.cmpi .eq (BitVec.ofNat 32 j.val) (IntOp.andi w 127#32)) (g (ix2 r j)) (0 : EReal) = cell x r w.toNat := by
  refine (lane_sum w fun j => g (ix2 r j)).trans ?_
  rw [hg, Nat.div_add_mod']

/-- The eight tokens of a block. -/
def words (c : Dev nD) (i : grid0.Coords) (xt0 : TbBuf0 (F := Ideal) c tbM0_0) : Fin 8 → BitVec 32 := ![(tbM0_0.view.readAt (Elt Ideal) (Rect.unit (s := S72x4) (k0_off4 i) S1x1.size (k0_off4_inb i)).toLoadRect xt0 (Shape.Idx.first (numel1_S1x1.symm ▸ Nat.one_pos))),
  (tbM0_0.view.readAt (Elt Ideal) (Rect.unit (s := S72x4) (k0_off6 i) S1x1.size (k0_off6_inb i)).toLoadRect xt0 (Shape.Idx.first (numel1_S1x1.symm ▸ Nat.one_pos))),
  (tbM0_0.view.readAt (Elt Ideal) (Rect.unit (s := S72x4) (k0_off8 i) S1x1.size (k0_off8_inb i)).toLoadRect xt0 (Shape.Idx.first (numel1_S1x1.symm ▸ Nat.one_pos))),
  (tbM0_0.view.readAt (Elt Ideal) (Rect.unit (s := S72x4) (k0_off10 i) S1x1.size (k0_off10_inb i)).toLoadRect xt0 (Shape.Idx.first (numel1_S1x1.symm ▸ Nat.one_pos))),
  (tbM0_0.view.readAt (Elt Ideal) (Rect.unit (s := S72x4) (k0_off12 i) S1x1.size (k0_off12_inb i)).toLoadRect xt0 (Shape.Idx.first (numel1_S1x1.symm ▸ Nat.one_pos))),
  (tbM0_0.view.readAt (Elt Ideal) (Rect.unit (s := S72x4) (k0_off14 i) S1x1.size (k0_off14_inb i)).toLoadRect xt0 (Shape.Idx.first (numel1_S1x1.symm ▸ Nat.one_pos))),
  (tbM0_0.view.readAt (Elt Ideal) (Rect.unit (s := S72x4) (k0_off16 i) S1x1.size (k0_off16_inb i)).toLoadRect xt0 (Shape.Idx.first (numel1_S1x1.symm ▸ Nat.one_pos))),
  (tbM0_0.view.readAt (Elt Ideal) (Rect.unit (s := S72x4) (k0_off18 i) S1x1.size (k0_off18_inb i)).toLoadRect xt0 (Shape.Idx.first (numel1_S1x1.symm ▸ Nat.one_pos)))]

/-- The target's probability output of a block at an index. -/
theorem target_out_at  (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec Ideal S8x49152 .f32) (x1 : Vec Ideal S8x49152 .f32) (x2 : Vec Ideal S8x128 .f32) (x3 : Vec Ideal S8x128 .f32) (x4 : Vec Ideal S8x128 .f32) (x5 : Vec Ideal S8x128 .f32) (xt0 : TbBuf0 (F := Ideal) c tbM0_0) (k0_hw1 : k0_chk1 (tbM0_0.view.readAt (Elt Ideal) (Rect.unit (s := S72x4) (k0_off4 i) S1x1.size (k0_off4_inb i)).toLoadRect xt0 (Shape.Idx.first (numel1_S1x1.symm ▸ Nat.one_pos)))) (k0_hw2 : k0_chk2 (tbM0_0.view.readAt (Elt Ideal) (Rect.unit (s := S72x4) (k0_off6 i) S1x1.size (k0_off6_inb i)).toLoadRect xt0 (Shape.Idx.first (numel1_S1x1.symm ▸ Nat.one_pos)))) (k0_hw3 : k0_chk3 (tbM0_0.view.readAt (Elt Ideal) (Rect.unit (s := S72x4) (k0_off8 i) S1x1.size (k0_off8_inb i)).toLoadRect xt0 (Shape.Idx.first (numel1_S1x1.symm ▸ Nat.one_pos)))) (k0_hw4 : k0_chk4 (tbM0_0.view.readAt (Elt Ideal) (Rect.unit (s := S72x4) (k0_off10 i) S1x1.size (k0_off10_inb i)).toLoadRect xt0 (Shape.Idx.first (numel1_S1x1.symm ▸ Nat.one_pos)))) (k0_hw5 : k0_chk5 (tbM0_0.view.readAt (Elt Ideal) (Rect.unit (s := S72x4) (k0_off12 i) S1x1.size (k0_off12_inb i)).toLoadRect xt0 (Shape.Idx.first (numel1_S1x1.symm ▸ Nat.one_pos)))) (k0_hw6 : k0_chk6 (tbM0_0.view.readAt (Elt Ideal) (Rect.unit (s := S72x4) (k0_off14 i) S1x1.size (k0_off14_inb i)).toLoadRect xt0 (Shape.Idx.first (numel1_S1x1.symm ▸ Nat.one_pos)))) (k0_hw7 : k0_chk7 (tbM0_0.view.readAt (Elt Ideal) (Rect.unit (s := S72x4) (k0_off16 i) S1x1.size (k0_off16_inb i)).toLoadRect xt0 (Shape.Idx.first (numel1_S1x1.symm ▸ Nat.one_pos)))) (k0_hw8 : k0_chk8 (tbM0_0.view.readAt (Elt Ideal) (Rect.unit (s := S72x4) (k0_off18 i) S1x1.size (k0_off18_inb i)).toLoadRect xt0 (Shape.Idx.first (numel1_S1x1.symm ▸ Nat.one_pos)))) (hW : ∀ r, InVocab (words c i xt0 r)) (r : Fin 8) (l : Fin 128) :
    out0_A_8 c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8 (ix2 r l)
      = Ideal.exp2 (cell x0 r (words c i xt0 r).toNat - rowTop fun j => x2 (ix2 r j)) * Ideal.div 1 (rowTotal (fun j => x2 (ix2 r j)) fun j => x3 (ix2 r j)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8)]
  unfold massRun
  dsimp only
  rw [View.canon_cons_unit_zero (by sl_unfold_words; funext a; fin_cases a <;> rfl)]
  sl_unfold_words
  simp only [View.readAt_eq_ld]
  have e : (![0, 0] : Fin 2 → ℕ) = fun _ => 0 := by funext a; fin_cases a <;> rfl
  rw [View.ld_unit_zero e, View.ld_unit_zero e]
  simp only [harg2.read_unread, harg3.read_unread, harg4.read_unread, harg5.read_unread, harg6.read_unread, harg7.read_unread]
  refine (pay1_at _ _ _ r l).trans ?_
  refine congrArg (fun S => Ideal.exp2 (S - rowTop fun j => x2 (ix2 r j)) * Ideal.div 1 (rowTotal (fun j => x2 (ix2 r j)) fun j => x3 (ix2 r j))) ?_
  refine (Finset.sum_congr rfl fun j _ => pick_at _ _ _ _ _ _ _ _ _ _ _ _ _ _ _ _ r j).trans ?_
  refine picked x0 (words c i xt0 r) _ r fun k => ?_
  match r with
  | ⟨0, _⟩ => exact load_at x0 _ (hW 0) _ rfl _ 0 k
  | ⟨1, _⟩ => exact load_at x0 _ (hW 1) _ rfl _ 1 k
  | ⟨2, _⟩ => exact load_at x0 _ (hW 2) _ rfl _ 2 k
  | ⟨3, _⟩ => exact load_at x0 _ (hW 3) _ rfl _ 3 k
  | ⟨4, _⟩ => exact load_at x0 _ (hW 4) _ rfl _ 4 k
  | ⟨5, _⟩ => exact load_at x0 _ (hW 5) _ rfl _ 5 k
  | ⟨6, _⟩ => exact load_at x0 _ (hW 6) _ rfl _ 6 k
  | ⟨7, _⟩ => exact load_at x0 _ (hW 7) _ rfl _ 7 k

/-- The draft's probability output of a block at an index. -/
theorem draft_out_at  (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec Ideal S8x49152 .f32) (x1 : Vec Ideal S8x49152 .f32) (x2 : Vec Ideal S8x128 .f32) (x3 : Vec Ideal S8x128 .f32) (x4 : Vec Ideal S8x128 .f32) (x5 : Vec Ideal S8x128 .f32) (xt0 : TbBuf0 (F := Ideal) c tbM0_0) (k0_hw1 : k0_chk1 (tbM0_0.view.readAt (Elt Ideal) (Rect.unit (s := S72x4) (k0_off4 i) S1x1.size (k0_off4_inb i)).toLoadRect xt0 (Shape.Idx.first (numel1_S1x1.symm ▸ Nat.one_pos)))) (k0_hw2 : k0_chk2 (tbM0_0.view.readAt (Elt Ideal) (Rect.unit (s := S72x4) (k0_off6 i) S1x1.size (k0_off6_inb i)).toLoadRect xt0 (Shape.Idx.first (numel1_S1x1.symm ▸ Nat.one_pos)))) (k0_hw3 : k0_chk3 (tbM0_0.view.readAt (Elt Ideal) (Rect.unit (s := S72x4) (k0_off8 i) S1x1.size (k0_off8_inb i)).toLoadRect xt0 (Shape.Idx.first (numel1_S1x1.symm ▸ Nat.one_pos)))) (k0_hw4 : k0_chk4 (tbM0_0.view.readAt (Elt Ideal) (Rect.unit (s := S72x4) (k0_off10 i) S1x1.size (k0_off10_inb i)).toLoadRect xt0 (Shape.Idx.first (numel1_S1x1.symm ▸ Nat.one_pos)))) (k0_hw5 : k0_chk5 (tbM0_0.view.readAt (Elt Ideal) (Rect.unit (s := S72x4) (k0_off12 i) S1x1.size (k0_off12_inb i)).toLoadRect xt0 (Shape.Idx.first (numel1_S1x1.symm ▸ Nat.one_pos)))) (k0_hw6 : k0_chk6 (tbM0_0.view.readAt (Elt Ideal) (Rect.unit (s := S72x4) (k0_off14 i) S1x1.size (k0_off14_inb i)).toLoadRect xt0 (Shape.Idx.first (numel1_S1x1.symm ▸ Nat.one_pos)))) (k0_hw7 : k0_chk7 (tbM0_0.view.readAt (Elt Ideal) (Rect.unit (s := S72x4) (k0_off16 i) S1x1.size (k0_off16_inb i)).toLoadRect xt0 (Shape.Idx.first (numel1_S1x1.symm ▸ Nat.one_pos)))) (k0_hw8 : k0_chk8 (tbM0_0.view.readAt (Elt Ideal) (Rect.unit (s := S72x4) (k0_off18 i) S1x1.size (k0_off18_inb i)).toLoadRect xt0 (Shape.Idx.first (numel1_S1x1.symm ▸ Nat.one_pos)))) (hW : ∀ r, InVocab (words c i xt0 r)) (r : Fin 8) (l : Fin 128) :
    out0_A_9 c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8 (ix2 r l)
      = Ideal.exp2 (cell x1 r (words c i xt0 r).toNat - rowTop fun j => x4 (ix2 r j)) * Ideal.div 1 (rowTotal (fun j => x4 (ix2 r j)) fun j => x5 (ix2 r j)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8)]
  unfold massRun
  dsimp only
  rw [View.canon_cons_unit_zero (by sl_unfold_words; funext a; fin_cases a <;> rfl)]
  sl_unfold_words
  simp only [View.readAt_eq_ld]
  have e : (![0, 0] : Fin 2 → ℕ) = fun _ => 0 := by funext a; fin_cases a <;> rfl
  rw [View.ld_unit_zero e, View.ld_unit_zero e]
  simp only [harg2.read_unread, harg3.read_unread, harg4.read_unread, harg5.read_unread, harg6.read_unread, harg7.read_unread]
  refine (pay2_at _ _ _ _ _ r l).trans ?_
  refine congrArg (fun S => Ideal.exp2 (S - rowTop fun j => x4 (ix2 r j)) * Ideal.div 1 (rowTotal (fun j => x4 (ix2 r j)) fun j => x5 (ix2 r j))) ?_
  refine (Finset.sum_congr rfl fun j _ => pick2_at _ _ _ _ _ _ _ _ _ _ _ _ _ _ _ _ r j).trans ?_
  refine picked x1 (words c i xt0 r) _ r fun k => ?_
  match r with
  | ⟨0, _⟩ => exact load_at x1 _ (hW 0) _ rfl _ 0 k
  | ⟨1, _⟩ => exact load_at x1 _ (hW 1) _ rfl _ 1 k
  | ⟨2, _⟩ => exact load_at x1 _ (hW 2) _ rfl _ 2 k
  | ⟨3, _⟩ => exact load_at x1 _ (hW 3) _ rfl _ 3 k
  | ⟨4, _⟩ => exact load_at x1 _ (hW 4) _ rfl _ 4 k
  | ⟨5, _⟩ => exact load_at x1 _ (hW 5) _ rfl _ 5 k
  | ⟨6, _⟩ => exact load_at x1 _ (hW 6) _ rfl _ 6 k
  | ⟨7, _⟩ => exact load_at x1 _ (hW 7) _ rfl _ 7 k

end Cert.ResidIdeal.Gen

end
-- ==== Proof.ResidAt.lean ====
module

public import proofs.«01_k».proof.Proof.Gen.ResidIdeal.Frame.Runs
public import proofs.«01_k».proof.Proof.ResidSpec
public import Idealize.ShloMosaic.Lib.Pointwise
public import Idealize.ShloMosaic.PureOps.Ideal

@[expose] public section

set_option maxRecDepth 16384

noncomputable section

/-! # The residual kernel's blocks at an index -/

namespace Cert.ResidIdeal.Gen

open Idealize.ShloMosaic Cert.BonusSpec Cert.ResidSpec

set_option maxHeartbeats 4000000

/-- A slice of the residual. -/
theorem pay3_at (v0 v1 v10 v11 : Vec Ideal S8x128 .f32) (x y : Vec Ideal S8x2048 .f32) (r : Fin 8) (j : Fin 2048) :
    k0_pay3 (F := Ideal) (k0_pay6 v0) (k0_pay7 v10) (k0_pay8 v0 v1) (k0_pay9 v10 v11) x y (ix2 r j)
      = left (x (ix2 r j)) (fun l => v0 (ix2 r l)) (fun l => v1 (ix2 r l)) (y (ix2 r j)) (fun l => v10 (ix2 r l)) (fun l => v11 (ix2 r l)) := by
  unfold left rowTotal rowTop
  pointwise [k0_pay3, k0_pay6, k0_pay7, k0_pay8, k0_pay9]
  rfl

/-- A trip adds its sixteen groups of 128 columns to the lanes. -/
theorem pay11_at (a b c d : FVec Ideal S8x1 .f32) (acc : FVec Ideal S8x128 .f32) (x y : Vec Ideal S8x2048 .f32) (r : Fin 8) (l : Fin 128) (g : ℕ → EReal)
    (hg : ∀ j : Fin 2048, k0_pay3 (F := Ideal) a b c d x y (ix2 r j) = g j.val) :
    k0_pay11 (F := Ideal) (k0_pay3 a b c d x y) (k0_pay5 a b c d acc x y) (ix2 r l) = acc (ix2 r l) + ∑ q ∈ Finset.range 16, g (128 * q + l.val) := by
  unfold k0_pay5
  generalize k0_pay3 (F := Ideal) a b c d x y = P at hg ⊢
  pointwise [k0_pay11]
  simp only [hg]
  simp [Finset.sum_range_succ, add_assoc]

/-- The mass: the lanes' sum, in every lane. -/
theorem pay13_at (v : FVec Ideal S8x128 .f32) (r : Fin 8) (l : Fin 128) :
    k0_pay13 (F := Ideal) v (ix2 r l) = ∑ j : Fin 128, v (ix2 r j) := by
  pointwise [k0_pay13, k0_pay12]

end Cert.ResidIdeal.Gen

end
-- ==== Proof.ResidLoop.lean ====
module

public import proofs.«01_k».proof.Proof.ResidFrame
public import proofs.«01_k».proof.Proof.ResidAt
public import Idealize.ShloMosaic.Lib.Pipeline.Value
public import Idealize.ShloMosaic.Lib.Pipeline.ValueKit

@[expose] public section

set_option maxRecDepth 16384

noncomputable section

/-! # The loop that accumulates a block's masses, and what it leaves -/

namespace Cert.ResidIdeal.Gen

open Idealize.ShloMosaic Idealize.ShloMosaic.TcCoe Idealize.SL.Sem Cert.BonusSpec Cert.ResidSpec

theorem trips_eq : k0_t1_loop.trips = 24 := by decide +kernel

/-- The columns of one trip. -/
abbrev cols (x : Vec Ideal S8x49152 .f32) (k : Fin k0_t1_loop.trips) : Vec Ideal S8x2048 .f32 :=
  View.ld x (Rect.unit (s := S8x49152) (k0_off1 k) S8x2048.size (k0_off1_inb k))

theorem cols_at (x : Vec Ideal S8x49152 .f32) (k : Fin k0_t1_loop.trips) (r : Fin 8) (j : Fin 2048) (h : 2048 * k.val + j.val < 49152) :
    cols x k (ix2 r j) = x (ix2 r ⟨2048 * k.val + j.val, h⟩) := by
  show x _ = _
  refine congrArg x (funext fun a => Fin.ext ?_)
  match a with
  | ⟨0, _⟩ =>
    show k0_off1 k 0 + 1 * r.val = r.val
    rw [k0_off1_eq]; show 0 + 1 * r.val = r.val; omega
  | ⟨1, _⟩ =>
    show k0_off1 k 1 + 1 * j.val = 2048 * k.val + j.val
    rw [k0_off1_eq]; show 2048 * k.val + 1 * j.val = 2048 * k.val + j.val; omega

/-- A row of a block: what is left in each of its columns. -/
def leftRow (x0 x1 : Vec Ideal S8x49152 .f32) (v0 v1 v10 v11 : Vec Ideal S8x128 .f32) (r : Fin 8) (v : Fin 49152) : EReal :=
  left (x0 (ix2 r v)) (fun l => v0 (ix2 r l)) (fun l => v1 (ix2 r l)) (x1 (ix2 r v)) (fun l => v10 (ix2 r l)) (fun l => v11 (ix2 r l))

section
variable (c : Dev nD) (i : grid0.Coords) (arg1 : Memref sig .tc .smem S72x4 .i32) (harg1 : arg1.IsWhole) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
variable (v0 v1 v10 v11 : Vec Ideal S8x128 .f32) (x0 x1 : Vec Ideal S8x49152 .f32)

/-- What one trip carries on. -/
theorem trip_eq (k : Fin k0_t1_loop.trips) (acc : FVec Ideal S8x128 .f32) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 v0 v1 v10 v11 (harg2.unread x0) (harg3.unread x1) k acc
      = k0_pay11 (k0_pay3 (k0_pay6 v0) (k0_pay7 v10) (k0_pay8 v0 v1) (k0_pay9 v10 v11) (cols x0 k) (cols x1 k))
          (k0_pay5 (k0_pay6 v0) (k0_pay7 v10) (k0_pay8 v0 v1) (k0_pay9 v10 v11) acc (cols x0 k) (cols x1 k)) := by
  unfold tripR_k0_t1 trip_k0_t1
  dsimp only
  unfold trip_k0_t1.sl.r trip_k0_t1.sl.r_1
  simp only [View.readAt_eq_ld, harg2.read_unread, harg3.read_unread]

/-- What one trip adds to a lane. -/
theorem trip_at (k : Fin k0_t1_loop.trips) (acc : FVec Ideal S8x128 .f32) (r : Fin 8) (l : Fin 128) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 v0 v1 v10 v11 (harg2.unread x0) (harg3.unread x1) k acc (ix2 r l)
      = acc (ix2 r l) + ∑ q ∈ Finset.range 16, colAt (leftRow x0 x1 v0 v1 v10 v11 r) (2048 * k.val + (128 * q + l.val)) := by
  have hk : k.val < 24 := lt_of_lt_of_eq k.isLt trips_eq
  rw [trip_eq]
  refine pay11_at _ _ _ _ acc (cols x0 k) (cols x1 k) r l (fun n => colAt (leftRow x0 x1 v0 v1 v10 v11 r) (2048 * k.val + n)) fun j => ?_
  have hj : 2048 * k.val + j.val < 49152 := by have := j.isLt; omega
  refine (pay3_at v0 v1 v10 v11 (cols x0 k) (cols x1 k) r j).trans ?_
  rw [colAt_lt _ _ hj, cols_at x0 k r j hj, cols_at x1 k r j hj]
  rfl

/-- A lane after some trips. -/
theorem st_at (r : Fin 8) (l : Fin 128) (n : ℕ) (hn : n ≤ k0_t1_loop.trips) :
    (st_k0_t1 (F := Ideal) Variants.none c none i arg1 harg1 arg2 harg2 arg3 harg3 arg4 harg4 arg5 harg5 arg6 harg6 arg7 harg7 arg8 harg8 arg9 harg9 arg10 harg10 arg11 harg11 arg12 harg12 v0 v1 v10 v11 (harg2.unread x0) (harg3.unread x1) (k0_pay10 (F := Ideal)) n).1 (ix2 r l)
      = ∑ q ∈ Finset.range (16 * n), colAt (leftRow x0 x1 v0 v1 v10 v11 r) (128 * q + l.val) := by
  induction n with
  | zero =>
    rw [st_k0_t1_zero]
    exact Ideal.ofBits_zero_f32
  | succ n ih =>
    rw [st_k0_t1_succ Variants.none c none i arg1 harg1 arg2 harg2 arg3 harg3 arg4 harg4 arg5 harg5 arg6 harg6 arg7 harg7 arg8 harg8 arg9 harg9 arg10 harg10 arg11 harg11 arg12 harg12 v0 v1 v10 v11 (harg2.unread x0) (harg3.unread x1) (k0_pay10 (F := Ideal)) ⟨n, hn⟩]
    refine (trip_at c i arg1 harg1 arg2 harg2 arg3 harg3 arg4 harg4 arg5 harg5 arg6 harg6 arg7 harg7 arg8 harg8 arg9 harg9 arg10 harg10 arg11 harg11 arg12 harg12 v0 v1 v10 v11 x0 x1 ⟨n, hn⟩ _ r l).trans ?_
    rw [ih (Nat.le_of_succ_le hn), Nat.mul_succ, Finset.sum_range_add]
    refine congrArg _ (Finset.sum_congr rfl fun q _ => congrArg _ ?_)
    show 2048 * n + (128 * q + l.val) = 128 * (16 * n + q) + l.val
    omega
end

/-- What the body leaves in the mass output is the sum over the lanes of what the loop leaves. -/
theorem out_eq (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec Ideal S8x49152 .f32) (x1 : Vec Ideal S8x49152 .f32) (x2 : Vec Ideal S8x128 .f32) (x3 : Vec Ideal S8x128 .f32) (x4 : Vec Ideal S8x128 .f32) (x5 : Vec Ideal S8x128 .f32) (xt0 : TbBuf0 (F := Ideal) c tbM0_0) (k0_hw1 : k0_chk1 (tbM0_0.view.readAt (Elt Ideal) (Rect.unit (s := S72x4) (k0_off4 i) S1x1.size (k0_off4_inb i)).toLoadRect xt0 (Shape.Idx.first (numel1_S1x1.symm ▸ Nat.one_pos)))) (k0_hw2 : k0_chk2 (tbM0_0.view.readAt (Elt Ideal) (Rect.unit (s := S72x4) (k0_off6 i) S1x1.size (k0_off6_inb i)).toLoadRect xt0 (Shape.Idx.first (numel1_S1x1.symm ▸ Nat.one_pos)))) (k0_hw3 : k0_chk3 (tbM0_0.view.readAt (Elt Ideal) (Rect.unit (s := S72x4) (k0_off8 i) S1x1.size (k0_off8_inb i)).toLoadRect xt0 (Shape.Idx.first (numel1_S1x1.symm ▸ Nat.one_pos)))) (k0_hw4 : k0_chk4 (tbM0_0.view.readAt (Elt Ideal) (Rect.unit (s := S72x4) (k0_off10 i) S1x1.size (k0_off10_inb i)).toLoadRect xt0 (Shape.Idx.first (numel1_S1x1.symm ▸ Nat.one_pos)))) (k0_hw5 : k0_chk5 (tbM0_0.view.readAt (Elt Ideal) (Rect.unit (s := S72x4) (k0_off12 i) S1x1.size (k0_off12_inb i)).toLoadRect xt0 (Shape.Idx.first (numel1_S1x1.symm ▸ Nat.one_pos)))) (k0_hw6 : k0_chk6 (tbM0_0.view.readAt (Elt Ideal) (Rect.unit (s := S72x4) (k0_off14 i) S1x1.size (k0_off14_inb i)).toLoadRect xt0 (Shape.Idx.first (numel1_S1x1.symm ▸ Nat.one_pos)))) (k0_hw7 : k0_chk7 (tbM0_0.view.readAt (Elt Ideal) (Rect.unit (s := S72x4) (k0_off16 i) S1x1.size (k0_off16_inb i)).toLoadRect xt0 (Shape.Idx.first (numel1_S1x1.symm ▸ Nat.one_pos)))) (k0_hw8 : k0_chk8 (tbM0_0.view.readAt (Elt Ideal) (Rect.unit (s := S72x4) (k0_off18 i) S1x1.size (k0_off18_inb i)).toLoadRect xt0 (Shape.Idx.first (numel1_S1x1.symm ▸ Nat.one_pos)))) :
    out0_A_7 c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8 = k0_pay13 (F := Ideal) (st_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 x2 x3 x4 x5 (harg2.unread x0) (harg3.unread x1) (k0_pay10 (F := Ideal)) k0_t1_loop.trips).1 := by
  unfold out0_A_7
  refine (View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8)).trans ?_
  unfold massRun
  dsimp only
  refine (View.canon_cons_unit_zero (by sl_unfold_words; funext a; fin_cases a <;> rfl) _ _ _).trans ?_
  simp only [View.readAt_eq_ld]
  have e : (![0, 0] : Fin 2 → ℕ) = fun _ => 0 := by funext a; fin_cases a <;> rfl
  rw [View.ld_unit_zero e, View.ld_unit_zero e, View.ld_unit_zero e, View.ld_unit_zero e]
  rw [harg4.read_unread, harg5.read_unread, harg6.read_unread, harg7.read_unread]

/-- The mass output at an index: the sum of what is left in the row. -/
theorem out_at (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec Ideal S8x49152 .f32) (x1 : Vec Ideal S8x49152 .f32) (x2 : Vec Ideal S8x128 .f32) (x3 : Vec Ideal S8x128 .f32) (x4 : Vec Ideal S8x128 .f32) (x5 : Vec Ideal S8x128 .f32) (xt0 : TbBuf0 (F := Ideal) c tbM0_0) (k0_hw1 : k0_chk1 (tbM0_0.view.readAt (Elt Ideal) (Rect.unit (s := S72x4) (k0_off4 i) S1x1.size (k0_off4_inb i)).toLoadRect xt0 (Shape.Idx.first (numel1_S1x1.symm ▸ Nat.one_pos)))) (k0_hw2 : k0_chk2 (tbM0_0.view.readAt (Elt Ideal) (Rect.unit (s := S72x4) (k0_off6 i) S1x1.size (k0_off6_inb i)).toLoadRect xt0 (Shape.Idx.first (numel1_S1x1.symm ▸ Nat.one_pos)))) (k0_hw3 : k0_chk3 (tbM0_0.view.readAt (Elt Ideal) (Rect.unit (s := S72x4) (k0_off8 i) S1x1.size (k0_off8_inb i)).toLoadRect xt0 (Shape.Idx.first (numel1_S1x1.symm ▸ Nat.one_pos)))) (k0_hw4 : k0_chk4 (tbM0_0.view.readAt (Elt Ideal) (Rect.unit (s := S72x4) (k0_off10 i) S1x1.size (k0_off10_inb i)).toLoadRect xt0 (Shape.Idx.first (numel1_S1x1.symm ▸ Nat.one_pos)))) (k0_hw5 : k0_chk5 (tbM0_0.view.readAt (Elt Ideal) (Rect.unit (s := S72x4) (k0_off12 i) S1x1.size (k0_off12_inb i)).toLoadRect xt0 (Shape.Idx.first (numel1_S1x1.symm ▸ Nat.one_pos)))) (k0_hw6 : k0_chk6 (tbM0_0.view.readAt (Elt Ideal) (Rect.unit (s := S72x4) (k0_off14 i) S1x1.size (k0_off14_inb i)).toLoadRect xt0 (Shape.Idx.first (numel1_S1x1.symm ▸ Nat.one_pos)))) (k0_hw7 : k0_chk7 (tbM0_0.view.readAt (Elt Ideal) (Rect.unit (s := S72x4) (k0_off16 i) S1x1.size (k0_off16_inb i)).toLoadRect xt0 (Shape.Idx.first (numel1_S1x1.symm ▸ Nat.one_pos)))) (k0_hw8 : k0_chk8 (tbM0_0.view.readAt (Elt Ideal) (Rect.unit (s := S72x4) (k0_off18 i) S1x1.size (k0_off18_inb i)).toLoadRect xt0 (Shape.Idx.first (numel1_S1x1.symm ▸ Nat.one_pos)))) (r : Fin 8) (l : Fin 128) :
    out0_A_7 c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8 (ix2 r l) = ∑ v : Fin 49152, leftRow x0 x1 x2 x3 x4 x5 r v := by
  refine (congrFun (out_eq c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8) (ix2 r l)).trans ?_
  refine (pay13_at _ r l).trans ?_
  rw [← lanes_sum]
  refine Finset.sum_congr rfl fun j _ => (st_at c i tbM0_0 htbM0_0 arg2 harg2 arg3 harg3 arg4 harg4 arg5 harg5 arg6 harg6 arg7 harg7 arg8 harg8 arg9 harg9 arg10 harg10 arg11 harg11 arg12 harg12 x2 x3 x4 x5 x0 x1 r j k0_t1_loop.trips le_rfl).trans ?_
  rw [trips_eq]

end Cert.ResidIdeal.Gen

end
-- ==== Proof.ResidArray.lean ====
module

public import proofs.«01_k».proof.Proof.ResidLoop
public import Idealize.ShloMosaic.Lib.Pipeline.Value
public import Idealize.ShloMosaic.Lib.Pipeline.ValueKit

@[expose] public section

set_option maxRecDepth 16384

noncomputable section

/-! # The array of masses -/

namespace Cert.ResidIdeal.Gen

open Idealize.ShloMosaic Idealize.ShloMosaic.TcCoe Cert.BonusSpec Cert.ResidSpec Idealize.SL.Sem

open Idealize.ShloMosaic.Pipeline (Dat)

variable (m : (ℓ : Loc nD τ sig) → Buf (Elt Ideal) ℓ) (ρ : Dev nD → PrngReg) (hO : Ok m) (hH : Hyps m hO)

/-- The position at a row of a step's block. -/
def rowOf (t : Fin (cfgM m hO).N) (r : Fin 8) : Fin 288 := ⟨t.val * 8 + r.val, by have : t.val < 36 := lt_of_lt_of_eq t.isLt (show grid0.N = 36 from N_0); omega⟩

theorem index_0 (t : Fin (cfgM m hO).N) : ((cfgM m hO).win 0).index t = ![t.val, 0] := (by decide +kernel : ∀ t : Fin grid0.N, cc0_transform_0 (grid0.coords t) = ![t.val, 0]) t
/-- Window 0's block holds the rows of eight positions. -/
theorem iblk_0 (c : Dev nD) (t : Fin (cfgM m hO).N) (r : Fin 8) (l : Fin 49152) :
    (iblk m hO c 0 t : Vec Ideal S8x49152 .f32) (ix2 r l) = (m (c, Proc.tc.devRef main_arg1) : Vec Ideal S360x49152 .f32) (ix2 (rowF (rowOf m hO t r)) l) := by
  show V m c main_arg1 ((((cfgM m hO).win 0).blk t).view.emb (ix2 r l)) = _
  rw [V_main_arg1]
  refine congrArg (m (c, Proc.tc.devRef main_arg1) : Vec Ideal S360x49152 .f32) (funext fun a => Fin.ext ?_)
  match a with
  | ⟨0, _⟩ =>
    show ((cfgM m hO).win 0).index t (0 : Fin 2) * 8 + 1 * r.val = t.val * 8 + r.val
    rw [index_0]; show t.val * 8 + 1 * r.val = t.val * 8 + r.val; omega
  | ⟨1, _⟩ =>
    show ((cfgM m hO).win 0).index t (1 : Fin 2) * 49152 + 1 * l.val = l.val
    rw [index_0]; show 0 * 49152 + 1 * l.val = l.val; omega

theorem index_1 (t : Fin (cfgM m hO).N) : ((cfgM m hO).win 1).index t = ![t.val, 0] := (by decide +kernel : ∀ t : Fin grid0.N, cc0_transform_1 (grid0.coords t) = ![t.val, 0]) t
/-- Window 1's block holds the rows of eight positions. -/
theorem iblk_1 (c : Dev nD) (t : Fin (cfgM m hO).N) (r : Fin 8) (l : Fin 49152) :
    (iblk m hO c 1 t : Vec Ideal S8x49152 .f32) (ix2 r l) = (m (c, Proc.tc.devRef main_arg2) : Vec Ideal S288x49152 .f32) (ix2 (rowOf m hO t r) l) := by
  show V m c main_arg2 ((((cfgM m hO).win 1).blk t).view.emb (ix2 r l)) = _
  rw [V_main_arg2]
  refine congrArg (m (c, Proc.tc.devRef main_arg2) : Vec Ideal S288x49152 .f32) (funext fun a => Fin.ext ?_)
  match a with
  | ⟨0, _⟩ =>
    show ((cfgM m hO).win 1).index t (0 : Fin 2) * 8 + 1 * r.val = t.val * 8 + r.val
    rw [index_1]; show t.val * 8 + 1 * r.val = t.val * 8 + r.val; omega
  | ⟨1, _⟩ =>
    show ((cfgM m hO).win 1).index t (1 : Fin 2) * 49152 + 1 * l.val = l.val
    rw [index_1]; show 0 * 49152 + 1 * l.val = l.val; omega

theorem index_2 (t : Fin (cfgM m hO).N) : ((cfgM m hO).win 2).index t = ![t.val, 0] := (by decide +kernel : ∀ t : Fin grid0.N, cc0_transform_2 (grid0.coords t) = ![t.val, 0]) t
/-- Window 2's block holds the rows of eight positions. -/
theorem iblk_2 (c : Dev nD) (t : Fin (cfgM m hO).N) (r : Fin 8) (l : Fin 128) :
    (iblk m hO c 2 t : Vec Ideal S8x128 .f32) (ix2 r l) = (m (c, Proc.tc.devRef main_arg3) : Vec Ideal S360x128 .f32) (ix2 (rowF (rowOf m hO t r)) l) := by
  show V m c main_arg3 ((((cfgM m hO).win 2).blk t).view.emb (ix2 r l)) = _
  rw [V_main_arg3]
  refine congrArg (m (c, Proc.tc.devRef main_arg3) : Vec Ideal S360x128 .f32) (funext fun a => Fin.ext ?_)
  match a with
  | ⟨0, _⟩ =>
    show ((cfgM m hO).win 2).index t (0 : Fin 2) * 8 + 1 * r.val = t.val * 8 + r.val
    rw [index_2]; show t.val * 8 + 1 * r.val = t.val * 8 + r.val; omega
  | ⟨1, _⟩ =>
    show ((cfgM m hO).win 2).index t (1 : Fin 2) * 128 + 1 * l.val = l.val
    rw [index_2]; show 0 * 128 + 1 * l.val = l.val; omega

theorem index_3 (t : Fin (cfgM m hO).N) : ((cfgM m hO).win 3).index t = ![t.val, 0] := (by decide +kernel : ∀ t : Fin grid0.N, cc0_transform_3 (grid0.coords t) = ![t.val, 0]) t
/-- Window 3's block holds the rows of eight positions. -/
theorem iblk_3 (c : Dev nD) (t : Fin (cfgM m hO).N) (r : Fin 8) (l : Fin 128) :
    (iblk m hO c 3 t : Vec Ideal S8x128 .f32) (ix2 r l) = (m (c, Proc.tc.devRef main_arg4) : Vec Ideal S360x128 .f32) (ix2 (rowF (rowOf m hO t r)) l) := by
  show V m c main_arg4 ((((cfgM m hO).win 3).blk t).view.emb (ix2 r l)) = _
  rw [V_main_arg4]
  refine congrArg (m (c, Proc.tc.devRef main_arg4) : Vec Ideal S360x128 .f32) (funext fun a => Fin.ext ?_)
  match a with
  | ⟨0, _⟩ =>
    show ((cfgM m hO).win 3).index t (0 : Fin 2) * 8 + 1 * r.val = t.val * 8 + r.val
    rw [index_3]; show t.val * 8 + 1 * r.val = t.val * 8 + r.val; omega
  | ⟨1, _⟩ =>
    show ((cfgM m hO).win 3).index t (1 : Fin 2) * 128 + 1 * l.val = l.val
    rw [index_3]; show 0 * 128 + 1 * l.val = l.val; omega

theorem index_4 (t : Fin (cfgM m hO).N) : ((cfgM m hO).win 4).index t = ![t.val, 0] := (by decide +kernel : ∀ t : Fin grid0.N, cc0_transform_4 (grid0.coords t) = ![t.val, 0]) t
/-- Window 4's block holds the rows of eight positions. -/
theorem iblk_4 (c : Dev nD) (t : Fin (cfgM m hO).N) (r : Fin 8) (l : Fin 128) :
    (iblk m hO c 4 t : Vec Ideal S8x128 .f32) (ix2 r l) = (m (c, Proc.tc.devRef main_arg5) : Vec Ideal S288x128 .f32) (ix2 (rowOf m hO t r) l) := by
  show V m c main_arg5 ((((cfgM m hO).win 4).blk t).view.emb (ix2 r l)) = _
  rw [V_main_arg5]
  refine congrArg (m (c, Proc.tc.devRef main_arg5) : Vec Ideal S288x128 .f32) (funext fun a => Fin.ext ?_)
  match a with
  | ⟨0, _⟩ =>
    show ((cfgM m hO).win 4).index t (0 : Fin 2) * 8 + 1 * r.val = t.val * 8 + r.val
    rw [index_4]; show t.val * 8 + 1 * r.val = t.val * 8 + r.val; omega
  | ⟨1, _⟩ =>
    show ((cfgM m hO).win 4).index t (1 : Fin 2) * 128 + 1 * l.val = l.val
    rw [index_4]; show 0 * 128 + 1 * l.val = l.val; omega

theorem index_5 (t : Fin (cfgM m hO).N) : ((cfgM m hO).win 5).index t = ![t.val, 0] := (by decide +kernel : ∀ t : Fin grid0.N, cc0_transform_5 (grid0.coords t) = ![t.val, 0]) t
/-- Window 5's block holds the rows of eight positions. -/
theorem iblk_5 (c : Dev nD) (t : Fin (cfgM m hO).N) (r : Fin 8) (l : Fin 128) :
    (iblk m hO c 5 t : Vec Ideal S8x128 .f32) (ix2 r l) = (m (c, Proc.tc.devRef main_arg6) : Vec Ideal S288x128 .f32) (ix2 (rowOf m hO t r) l) := by
  show V m c main_arg6 ((((cfgM m hO).win 5).blk t).view.emb (ix2 r l)) = _
  rw [V_main_arg6]
  refine congrArg (m (c, Proc.tc.devRef main_arg6) : Vec Ideal S288x128 .f32) (funext fun a => Fin.ext ?_)
  match a with
  | ⟨0, _⟩ =>
    show ((cfgM m hO).win 5).index t (0 : Fin 2) * 8 + 1 * r.val = t.val * 8 + r.val
    rw [index_5]; show t.val * 8 + 1 * r.val = t.val * 8 + r.val; omega
  | ⟨1, _⟩ =>
    show ((cfgM m hO).win 5).index t (1 : Fin 2) * 128 + 1 * l.val = l.val
    rw [index_5]; show 0 * 128 + 1 * l.val = l.val; omega

theorem index_7 (t : Fin (cfgM m hO).N) : ((cfgM m hO).win 7).index t = ![t.val, 0] := (by decide +kernel : ∀ t : Fin grid0.N, cc0_transform_7 (grid0.coords t) = ![t.val, 0]) t
theorem emb_7 (t : Fin (cfgM m hO).N) (r : Fin 8) (l : Fin 128) : (((cfgM m hO).win 7).blk t).view.emb (ix2 r l) = (ix2 (rowOf m hO t r) l : S288x128.Idx) := by
  refine funext fun a => Fin.ext ?_
  match a with
  | ⟨0, _⟩ =>
    show ((cfgM m hO).win 7).index t (0 : Fin 2) * 8 + 1 * r.val = t.val * 8 + r.val
    rw [index_7]; show t.val * 8 + 1 * r.val = t.val * 8 + r.val; omega
  | ⟨1, _⟩ =>
    show ((cfgM m hO).win 7).index t (1 : Fin 2) * 128 + 1 * l.val = l.val
    rw [index_7]; show 0 * 128 + 1 * l.val = l.val; omega

/-- A position's target logits. -/
def lt (c : Dev nD) (s : Fin 288) (v : Fin 49152) : EReal := (m (c, Proc.tc.devRef main_arg1) : Vec Ideal S360x49152 .f32) (ix2 (rowF s) v)
/-- A position's draft logits. -/
def ld (c : Dev nD) (s : Fin 288) (v : Fin 49152) : EReal := (m (c, Proc.tc.devRef main_arg2) : Vec Ideal S288x49152 .f32) (ix2 s v)
/-- A position's target lane maxima. -/
def mt (c : Dev nD) (s : Fin 288) (v : Fin 128) : EReal := (m (c, Proc.tc.devRef main_arg3) : Vec Ideal S360x128 .f32) (ix2 (rowF s) v)
/-- A position's target lane sums. -/
def st (c : Dev nD) (s : Fin 288) (v : Fin 128) : EReal := (m (c, Proc.tc.devRef main_arg4) : Vec Ideal S360x128 .f32) (ix2 (rowF s) v)
/-- A position's draft lane maxima. -/
def md (c : Dev nD) (s : Fin 288) (v : Fin 128) : EReal := (m (c, Proc.tc.devRef main_arg5) : Vec Ideal S288x128 .f32) (ix2 s v)
/-- A position's draft lane sums. -/
def sd (c : Dev nD) (s : Fin 288) (v : Fin 128) : EReal := (m (c, Proc.tc.devRef main_arg6) : Vec Ideal S288x128 .f32) (ix2 s v)

/-- The masses as the kernel computes them: one number per position, in every lane. -/
def massA (c : Dev nD) : Vec Ideal S288x128 .f32 := fun i =>
  ∑ v : Fin 49152, left (lt m c (i 0) v) (mt m c (i 0)) (st m c (i 0)) (ld m c (i 0) v) (md m c (i 0)) (sd m c (i 0))

theorem massAt_at (c : Dev nD) (t : Fin (cfgM m hO).N) (r : Fin 8) (l : Fin 128) :
    massAt m hO hH c t (ix2 r l) = massA m c (ix2 (rowOf m hO t r) l) := by
  unfold massAt
  refine (out_at _ _ _ _ _ _ _ _ _ _ _ _ _ _ _ _ _ _ _ _ _ _ _ _ _ _ _ _ _ _ _ _ _ _ _ _ _ _ _ r l).trans ?_
  refine Finset.sum_congr rfl fun v _ => ?_
  unfold leftRow
  rw [iblk_0 m hO c t r v, iblk_1 m hO c t r v,
    show (fun j => (iblk m hO c 2 t : Vec Ideal S8x128 .f32) (ix2 r j)) = mt m c (rowOf m hO t r) from funext fun j => iblk_2 m hO c t r j,
    show (fun j => (iblk m hO c 3 t : Vec Ideal S8x128 .f32) (ix2 r j)) = st m c (rowOf m hO t r) from funext fun j => iblk_3 m hO c t r j,
    show (fun j => (iblk m hO c 4 t : Vec Ideal S8x128 .f32) (ix2 r j)) = md m c (rowOf m hO t r) from funext fun j => iblk_4 m hO c t r j,
    show (fun j => (iblk m hO c 5 t : Vec Ideal S8x128 .f32) (ix2 r j)) = sd m c (rowOf m hO t r) from funext fun j => iblk_5 m hO c t r j]
  rfl

theorem covers_7 : ((cfgM m hO).win 7).Covers := by
  refine ⟨fun a => (by decide : ∀ a : Fin 2, 0 < S8x128.size a) a, fun β => ?_⟩
  have hb : ∀ a : Fin 2, ((cfgM m hO).win 7).nblk a = (S288x128.size a + S8x128.size a - 1) / S8x128.size a := fun a => rfl
  have h0 := lt_of_lt_of_eq (β (0 : Fin 2)).isLt (hb 0)
  have h1 := lt_of_lt_of_eq (β (1 : Fin 2)).isLt (hb 1)
  have h0' : (β (0 : Fin 2)).val < 36 := h0
  have h1' : (β (1 : Fin 2)).val < 1 := h1
  refine ⟨⟨(β (0 : Fin 2)).val, lt_of_lt_of_eq h0' N_0.symm⟩, flush0_7 _ _, fun a => ⟨?_, Or.inl rfl⟩⟩
  rw [index_7]
  match a with
  | ⟨0, _⟩ => rfl
  | ⟨1, _⟩ => exact (Nat.lt_one_iff.1 h1').symm

theorem final7 (c : Dev nD) : (dats m hO hH 0 c).arrAt 7 (cfgM m hO).N = (massA m c : Vec Ideal S288x128 .f32) := by
  refine (dats m hO hH 0 c).arrAt_eq_of_covers 7 _ (covers_7 m hO) fun t hf y => ?_
  blk_simp
  rw [after0_7]
  obtain ⟨r, l, hy⟩ : ∃ (r : Fin 8) (l : Fin 128), (y : S8x128.Idx) = ix2 r l := ⟨(show S8x128.Idx from y) 0, (show S8x128.Idx from y) 1, eq_ix2 (n0 := 8) (n1 := 128) y⟩
  rw [hy]
  exact (massAt_at m hO hH c t r l).trans (congrArg (massA m c) (emb_7 m hO t r l)).symm

include hH in
/-- What the kernel's run leaves in the mass output. -/
theorem run_results : θ_run defs (onTc (τ := τ) (main (F := Ideal))) ⟨m, fun _ => 0, ρ⟩ fun r => ∀ c : Dev nD,
      r.2.mem ((c : Thread nD τ).loc main_v0_1) = (massA m c : Vec Ideal S288x128 .f32) :=
  (θ_run defs _ _).mono (fun r h c => (((dats m hO hH 0 c).toRForget_arrAt_iff (fgt := forgets0) (w := 7) rfl _ _).mp ((h c).1 7)).trans (final7 m hO hH c)) (run_main m ρ hO hH)

end Cert.ResidIdeal.Gen

end
-- ==== Proof.ResidPickedArray.lean ====
module

public import proofs.«01_k».proof.Proof.ResidPicked
public import proofs.«01_k».proof.Proof.ResidArray

@[expose] public section

set_option maxRecDepth 16384

noncomputable section

/-! # The arrays of the two probabilities -/

namespace Cert.ResidIdeal.Gen

open Idealize.ShloMosaic Idealize.ShloMosaic.TcCoe Cert.BonusSpec Cert.ResidSpec Cert.ResidTokens Idealize.SL.Sem

open Idealize.ShloMosaic.Pipeline (Dat)

variable (m : (ℓ : Loc nD τ sig) → Buf (Elt Ideal) ℓ) (ρ : Dev nD → PrngReg) (hO : Ok m) (hH : Hyps m hO)

/-- The token drafted at a position. -/
def token (c : Dev nD) (s : Fin 288) : BitVec 32 :=
  (m (c, Proc.tc.devRef main_arg0) : IVec S72x4 32) (ix2 ⟨s.val / 4, by have := s.isLt; omega⟩ ⟨s.val % 4, Nat.mod_lt _ (by decide)⟩)

theorem coord_at (t : Fin (cfgM m hO).N) : (grid0.coords t 0).val = t.val := (by decide +kernel : ∀ t : Fin grid0.N, (grid0.coords t 0).val = t.val) t

/-- The words read in a step are the tokens of its positions. -/
theorem words_at (c : Dev nD) (t : Fin (cfgM m hO).N) (r : Fin 8) : words c (grid0.coords t) (tbl m 0) r = token m c (rowOf m hO t r) := by
  obtain rfl : c = 0 := Subsingleton.elim _ _
  have ht := coord_at m hO t
  unfold token
  match r with
  | ⟨0, _⟩ =>
    refine congrArg (m (0, Proc.tc.devRef main_arg0) : IVec S72x4 32) (funext fun a => Fin.ext ?_)
    match a with
    | ⟨0, _⟩ =>
      show k0_off4 (grid0.coords t) 0 + 1 * 0 = (t.val * 8 + 0) / 4
      rw [k0_off4_eq]; show 2 * (grid0.coords t 0).val + 1 * 0 = _; rw [ht]; omega
    | ⟨1, _⟩ =>
      show k0_off4 (grid0.coords t) 1 + 1 * 0 = (t.val * 8 + 0) % 4
      rw [k0_off4_eq]; show 0 + 1 * 0 = _; omega
  | ⟨1, _⟩ =>
    refine congrArg (m (0, Proc.tc.devRef main_arg0) : IVec S72x4 32) (funext fun a => Fin.ext ?_)
    match a with
    | ⟨0, _⟩ =>
      show k0_off6 (grid0.coords t) 0 + 1 * 0 = (t.val * 8 + 1) / 4
      rw [k0_off6_eq]; show 2 * (grid0.coords t 0).val + 1 * 0 = _; rw [ht]; omega
    | ⟨1, _⟩ =>
      show k0_off6 (grid0.coords t) 1 + 1 * 0 = (t.val * 8 + 1) % 4
      rw [k0_off6_eq]; show 1 + 1 * 0 = _; omega
  | ⟨2, _⟩ =>
    refine congrArg (m (0, Proc.tc.devRef main_arg0) : IVec S72x4 32) (funext fun a => Fin.ext ?_)
    match a with
    | ⟨0, _⟩ =>
      show k0_off8 (grid0.coords t) 0 + 1 * 0 = (t.val * 8 + 2) / 4
      rw [k0_off8_eq]; show 2 * (grid0.coords t 0).val + 1 * 0 = _; rw [ht]; omega
    | ⟨1, _⟩ =>
      show k0_off8 (grid0.coords t) 1 + 1 * 0 = (t.val * 8 + 2) % 4
      rw [k0_off8_eq]; show 2 + 1 * 0 = _; omega
  | ⟨3, _⟩ =>
    refine congrArg (m (0, Proc.tc.devRef main_arg0) : IVec S72x4 32) (funext fun a => Fin.ext ?_)
    match a with
    | ⟨0, _⟩ =>
      show k0_off10 (grid0.coords t) 0 + 1 * 0 = (t.val * 8 + 3) / 4
      rw [k0_off10_eq]; show 2 * (grid0.coords t 0).val + 1 * 0 = _; rw [ht]; omega
    | ⟨1, _⟩ =>
      show k0_off10 (grid0.coords t) 1 + 1 * 0 = (t.val * 8 + 3) % 4
      rw [k0_off10_eq]; show 3 + 1 * 0 = _; omega
  | ⟨4, _⟩ =>
    refine congrArg (m (0, Proc.tc.devRef main_arg0) : IVec S72x4 32) (funext fun a => Fin.ext ?_)
    match a with
    | ⟨0, _⟩ =>
      show k0_off12 (grid0.coords t) 0 + 1 * 0 = (t.val * 8 + 4) / 4
      rw [k0_off12_eq]; show 2 * (grid0.coords t 0).val + 1 + 1 * 0 = _; rw [ht]; omega
    | ⟨1, _⟩ =>
      show k0_off12 (grid0.coords t) 1 + 1 * 0 = (t.val * 8 + 4) % 4
      rw [k0_off12_eq]; show 0 + 1 * 0 = _; omega
  | ⟨5, _⟩ =>
    refine congrArg (m (0, Proc.tc.devRef main_arg0) : IVec S72x4 32) (funext fun a => Fin.ext ?_)
    match a with
    | ⟨0, _⟩ =>
      show k0_off14 (grid0.coords t) 0 + 1 * 0 = (t.val * 8 + 5) / 4
      rw [k0_off14_eq]; show 2 * (grid0.coords t 0).val + 1 + 1 * 0 = _; rw [ht]; omega
    | ⟨1, _⟩ =>
      show k0_off14 (grid0.coords t) 1 + 1 * 0 = (t.val * 8 + 5) % 4
      rw [k0_off14_eq]; show 1 + 1 * 0 = _; omega
  | ⟨6, _⟩ =>
    refine congrArg (m (0, Proc.tc.devRef main_arg0) : IVec S72x4 32) (funext fun a => Fin.ext ?_)
    match a with
    | ⟨0, _⟩ =>
      show k0_off16 (grid0.coords t) 0 + 1 * 0 = (t.val * 8 + 6) / 4
      rw [k0_off16_eq]; show 2 * (grid0.coords t 0).val + 1 + 1 * 0 = _; rw [ht]; omega
    | ⟨1, _⟩ =>
      show k0_off16 (grid0.coords t) 1 + 1 * 0 = (t.val * 8 + 6) % 4
      rw [k0_off16_eq]; show 2 + 1 * 0 = _; omega
  | ⟨7, _⟩ =>
    refine congrArg (m (0, Proc.tc.devRef main_arg0) : IVec S72x4 32) (funext fun a => Fin.ext ?_)
    match a with
    | ⟨0, _⟩ =>
      show k0_off18 (grid0.coords t) 0 + 1 * 0 = (t.val * 8 + 7) / 4
      rw [k0_off18_eq]; show 2 * (grid0.coords t 0).val + 1 + 1 * 0 = _; rw [ht]; omega
    | ⟨1, _⟩ =>
      show k0_off18 (grid0.coords t) 1 + 1 * 0 = (t.val * 8 + 7) % 4
      rw [k0_off18_eq]; show 3 + 1 * 0 = _; omega

variable (hw : ∀ w : S72x4.Idx, InVocab (m (((0 : Dev nD) : Thread nD τ).loc main_arg0) w))

include hw in
theorem token_ok (c : Dev nD) (s : Fin 288) : InVocab (token m c s) := by
  obtain rfl : c = 0 := Subsingleton.elim _ _
  exact hw _

include hw in
theorem token_lt (c : Dev nD) (s : Fin 288) : (token m c s).toNat < 49152 := toNat_lt _ (token_ok m hw c s)

theorem index_8 (t : Fin (cfgM m hO).N) : ((cfgM m hO).win 8).index t = ![t.val, 0] := (by decide +kernel : ∀ t : Fin grid0.N, cc0_transform_8 (grid0.coords t) = ![t.val, 0]) t
theorem emb_8 (t : Fin (cfgM m hO).N) (r : Fin 8) (l : Fin 128) : (((cfgM m hO).win 8).blk t).view.emb (ix2 r l) = (ix2 (rowOf m hO t r) l : S288x128.Idx) := by
  refine funext fun a => Fin.ext ?_
  match a with
  | ⟨0, _⟩ =>
    show ((cfgM m hO).win 8).index t (0 : Fin 2) * 8 + 1 * r.val = t.val * 8 + r.val
    rw [index_8]; show t.val * 8 + 1 * r.val = t.val * 8 + r.val; omega
  | ⟨1, _⟩ =>
    show ((cfgM m hO).win 8).index t (1 : Fin 2) * 128 + 1 * l.val = l.val
    rw [index_8]; show 0 * 128 + 1 * l.val = l.val; omega

/-- The target's probabilities of the drafted tokens as the kernel computes them, in every lane. -/
def targetA (c : Dev nD) : Vec Ideal S288x128 .f32 := fun i =>
  Ideal.exp2 ((if h : (token m c (i 0)).toNat < 49152 then lt m c (i 0) ⟨_, h⟩ else 0) - rowTop (mt m c (i 0))) * Ideal.div 1 (rowTotal (mt m c (i 0)) (st m c (i 0)))

include hw in
theorem targetAt_at (c : Dev nD) (t : Fin (cfgM m hO).N) (r : Fin 8) (l : Fin 128) :
    targetAt m hO hH c t (ix2 r l) = targetA m c (ix2 (rowOf m hO t r) l) := by
  unfold targetAt
  refine (target_out_at _ _ _ _ _ _ _ _ _ _ _ _ _ _ _ _ _ _ _ _ _ _ _ _ _ _ _ _ _ _ _ _ _ _ _ _ _ _ _ (fun r => by rw [words_at]; exact token_ok m hw c _) r l).trans ?_
  rw [words_at,
    show (fun j => (iblk m hO c 2 t : Vec Ideal S8x128 .f32) (ix2 r j)) = mt m c (rowOf m hO t r) from funext fun j => iblk_2 m hO c t r j,
    show (fun j => (iblk m hO c 3 t : Vec Ideal S8x128 .f32) (ix2 r j)) = st m c (rowOf m hO t r) from funext fun j => iblk_3 m hO c t r j]
  have hn := token_lt m hw c (rowOf m hO t r)
  have hc : cell (iblk m hO c 0 t : Vec Ideal S8x49152 .f32) r (token m c (rowOf m hO t r)).toNat = lt m c (rowOf m hO t r) ⟨_, hn⟩ := (cell_lt _ _ _ hn).trans (iblk_0 m hO c t r _)
  refine (congrArg (fun S => Ideal.exp2 (S - rowTop (mt m c (rowOf m hO t r))) * Ideal.div 1 (rowTotal (mt m c (rowOf m hO t r)) (st m c (rowOf m hO t r)))) hc).trans ?_
  show _ = Ideal.exp2 ((if h : (token m c (rowOf m hO t r)).toNat < 49152 then lt m c (rowOf m hO t r) ⟨_, h⟩ else 0) - rowTop (mt m c (rowOf m hO t r))) * Ideal.div 1 (rowTotal (mt m c (rowOf m hO t r)) (st m c (rowOf m hO t r)))
  rw [dif_pos hn]

theorem covers_8 : ((cfgM m hO).win 8).Covers := by
  refine ⟨fun a => (by decide : ∀ a : Fin 2, 0 < S8x128.size a) a, fun β => ?_⟩
  have hb : ∀ a : Fin 2, ((cfgM m hO).win 8).nblk a = (S288x128.size a + S8x128.size a - 1) / S8x128.size a := fun a => rfl
  have h0 := lt_of_lt_of_eq (β (0 : Fin 2)).isLt (hb 0)
  have h1 := lt_of_lt_of_eq (β (1 : Fin 2)).isLt (hb 1)
  have h0' : (β (0 : Fin 2)).val < 36 := h0
  have h1' : (β (1 : Fin 2)).val < 1 := h1
  refine ⟨⟨(β (0 : Fin 2)).val, lt_of_lt_of_eq h0' N_0.symm⟩, flush0_8 _ _, fun a => ⟨?_, Or.inl rfl⟩⟩
  rw [index_8]
  match a with
  | ⟨0, _⟩ => rfl
  | ⟨1, _⟩ => exact (Nat.lt_one_iff.1 h1').symm

include hw in
theorem final8 (c : Dev nD) : (dats m hO hH 0 c).arrAt 8 (cfgM m hO).N = (targetA m c : Vec Ideal S288x128 .f32) := by
  refine (dats m hO hH 0 c).arrAt_eq_of_covers 8 _ (covers_8 m hO) fun t hf y => ?_
  blk_simp
  rw [after0_8]
  obtain ⟨r, l, hy⟩ : ∃ (r : Fin 8) (l : Fin 128), (y : S8x128.Idx) = ix2 r l := ⟨(show S8x128.Idx from y) 0, (show S8x128.Idx from y) 1, eq_ix2 (n0 := 8) (n1 := 128) y⟩
  rw [hy]
  exact (targetAt_at m hO hH hw c t r l).trans (congrArg (targetA m c) (emb_8 m hO t r l)).symm

theorem index_9 (t : Fin (cfgM m hO).N) : ((cfgM m hO).win 9).index t = ![t.val, 0] := (by decide +kernel : ∀ t : Fin grid0.N, cc0_transform_9 (grid0.coords t) = ![t.val, 0]) t
theorem emb_9 (t : Fin (cfgM m hO).N) (r : Fin 8) (l : Fin 128) : (((cfgM m hO).win 9).blk t).view.emb (ix2 r l) = (ix2 (rowOf m hO t r) l : S288x128.Idx) := by
  refine funext fun a => Fin.ext ?_
  match a with
  | ⟨0, _⟩ =>
    show ((cfgM m hO).win 9).index t (0 : Fin 2) * 8 + 1 * r.val = t.val * 8 + r.val
    rw [index_9]; show t.val * 8 + 1 * r.val = t.val * 8 + r.val; omega
  | ⟨1, _⟩ =>
    show ((cfgM m hO).win 9).index t (1 : Fin 2) * 128 + 1 * l.val = l.val
    rw [index_9]; show 0 * 128 + 1 * l.val = l.val; omega

/-- The draft's probabilities of the drafted tokens as the kernel computes them, in every lane. -/
def draftA (c : Dev nD) : Vec Ideal S288x128 .f32 := fun i =>
  Ideal.exp2 ((if h : (token m c (i 0)).toNat < 49152 then ld m c (i 0) ⟨_, h⟩ else 0) - rowTop (md m c (i 0))) * Ideal.div 1 (rowTotal (md m c (i 0)) (sd m c (i 0)))

include hw in
theorem draftAt_at (c : Dev nD) (t : Fin (cfgM m hO).N) (r : Fin 8) (l : Fin 128) :
    draftAt m hO hH c t (ix2 r l) = draftA m c (ix2 (rowOf m hO t r) l) := by
  unfold draftAt
  refine (draft_out_at _ _ _ _ _ _ _ _ _ _ _ _ _ _ _ _ _ _ _ _ _ _ _ _ _ _ _ _ _ _ _ _ _ _ _ _ _ _ _ (fun r => by rw [words_at]; exact token_ok m hw c _) r l).trans ?_
  rw [words_at,
    show (fun j => (iblk m hO c 4 t : Vec Ideal S8x128 .f32) (ix2 r j)) = md m c (rowOf m hO t r) from funext fun j => iblk_4 m hO c t r j,
    show (fun j => (iblk m hO c 5 t : Vec Ideal S8x128 .f32) (ix2 r j)) = sd m c (rowOf m hO t r) from funext fun j => iblk_5 m hO c t r j]
  have hn := token_lt m hw c (rowOf m hO t r)
  have hc : cell (iblk m hO c 1 t : Vec Ideal S8x49152 .f32) r (token m c (rowOf m hO t r)).toNat = ld m c (rowOf m hO t r) ⟨_, hn⟩ := (cell_lt _ _ _ hn).trans (iblk_1 m hO c t r _)
  refine (congrArg (fun S => Ideal.exp2 (S - rowTop (md m c (rowOf m hO t r))) * Ideal.div 1 (rowTotal (md m c (rowOf m hO t r)) (sd m c (rowOf m hO t r)))) hc).trans ?_
  show _ = Ideal.exp2 ((if h : (token m c (rowOf m hO t r)).toNat < 49152 then ld m c (rowOf m hO t r) ⟨_, h⟩ else 0) - rowTop (md m c (rowOf m hO t r))) * Ideal.div 1 (rowTotal (md m c (rowOf m hO t r)) (sd m c (rowOf m hO t r)))
  rw [dif_pos hn]

theorem covers_9 : ((cfgM m hO).win 9).Covers := by
  refine ⟨fun a => (by decide : ∀ a : Fin 2, 0 < S8x128.size a) a, fun β => ?_⟩
  have hb : ∀ a : Fin 2, ((cfgM m hO).win 9).nblk a = (S288x128.size a + S8x128.size a - 1) / S8x128.size a := fun a => rfl
  have h0 := lt_of_lt_of_eq (β (0 : Fin 2)).isLt (hb 0)
  have h1 := lt_of_lt_of_eq (β (1 : Fin 2)).isLt (hb 1)
  have h0' : (β (0 : Fin 2)).val < 36 := h0
  have h1' : (β (1 : Fin 2)).val < 1 := h1
  refine ⟨⟨(β (0 : Fin 2)).val, lt_of_lt_of_eq h0' N_0.symm⟩, flush0_9 _ _, fun a => ⟨?_, Or.inl rfl⟩⟩
  rw [index_9]
  match a with
  | ⟨0, _⟩ => rfl
  | ⟨1, _⟩ => exact (Nat.lt_one_iff.1 h1').symm

include hw in
theorem final9 (c : Dev nD) : (dats m hO hH 0 c).arrAt 9 (cfgM m hO).N = (draftA m c : Vec Ideal S288x128 .f32) := by
  refine (dats m hO hH 0 c).arrAt_eq_of_covers 9 _ (covers_9 m hO) fun t hf y => ?_
  blk_simp
  rw [after0_9]
  obtain ⟨r, l, hy⟩ : ∃ (r : Fin 8) (l : Fin 128), (y : S8x128.Idx) = ix2 r l := ⟨(show S8x128.Idx from y) 0, (show S8x128.Idx from y) 1, eq_ix2 (n0 := 8) (n1 := 128) y⟩
  rw [hy]
  exact (draftAt_at m hO hH hw c t r l).trans (congrArg (draftA m c) (emb_9 m hO t r l)).symm

include hH hw in
/-- What the kernel's run leaves in its three named outputs. -/
theorem run_three : θ_run defs (onTc (τ := τ) (main (F := Ideal))) ⟨m, fun _ => 0, ρ⟩ fun r => ∀ c : Dev nD,
      r.2.mem ((c : Thread nD τ).loc main_v0_1) = (massA m c : Vec Ideal S288x128 .f32)
      ∧ r.2.mem ((c : Thread nD τ).loc main_v0_2) = (targetA m c : Vec Ideal S288x128 .f32)
      ∧ r.2.mem ((c : Thread nD τ).loc main_v0_3) = (draftA m c : Vec Ideal S288x128 .f32) :=
  (θ_run defs _ _).mono (fun r h c =>
    ⟨(((dats m hO hH 0 c).toRForget_arrAt_iff (fgt := forgets0) (w := 7) rfl _ _).mp ((h c).1 7)).trans (final7 m hO hH c),
      (((dats m hO hH 0 c).toRForget_arrAt_iff (fgt := forgets0) (w := 8) rfl _ _).mp ((h c).1 8)).trans (final8 m hO hH hw c),
      (((dats m hO hH 0 c).toRForget_arrAt_iff (fgt := forgets0) (w := 9) rfl _ _).mp ((h c).1 9)).trans (final9 m hO hH hw c)⟩) (run_main m ρ hO hH)

end Cert.ResidIdeal.Gen

end
-- ==== Proof.ResidReferenceAt.lean ====
module

public import proofs.«01_k».proof.Proof.Gen.ResidReferenceIdeal.Frame
public import proofs.«01_k».proof.Proof.ResidSpec
public import Idealize.ShloMosaic.Lib.Pointwise
public import Idealize.ShloMosaic.PureOps.Ideal
public import Idealize.ShloMosaic.Lib.StableHlo.ReadAt

@[expose] public section

set_option maxRecDepth 16384

noncomputable section

/-! # The reference's masses at an index -/

namespace Cert.ResidReferenceIdeal.Gen

open Idealize.ShloMosaic Idealize.ShloMosaic.TcCoe Cert.BonusSpec Cert.ResidSpec

set_option maxHeartbeats 4000000

theorem mass_at (L : Vec Ideal S288x49152 .f32) (M S : Vec Ideal S288x128 .f32) (L' : Vec Ideal S288x49152 .f32) (M' S' : Vec Ideal S288x128 .f32) (r : Fin 288) (l : Fin 128) :
    k0_pay3 (F := Ideal) L M S L' M' S' (ix2 r l)
      = ∑ v : Fin 49152, leftDiv (L (ix2 r v)) (fun j => M (ix2 r j)) (fun j => S (ix2 r j)) (L' (ix2 r v)) (fun j => M' (ix2 r j)) (fun j => S' (ix2 r j)) := by
  unfold leftDiv rowTotal rowTop
  pointwise [k0_pay3, k0_pay2, k0_pay1]
  rfl

/-- The target's probability of a token at a position. -/
theorem target_at (L : Vec Ideal S288x49152 .f32) (M S : Vec Ideal S288x128 .f32) (r : Fin 288) (v : Fin 49152) :
    k0_pay1 (F := Ideal) L M S (ix2 r v) = Ideal.div (Ideal.exp2 (L (ix2 r v) - rowTop fun j => M (ix2 r j))) (rowTotal (fun j => M (ix2 r j)) fun j => S (ix2 r j)) := by
  unfold rowTotal rowTop
  pointwise [k0_pay1]
  rfl

/-- The draft's probability of a token at a position. -/
theorem draft_at (L : Vec Ideal S288x49152 .f32) (M S : Vec Ideal S288x128 .f32) (r : Fin 288) (v : Fin 49152) :
    k0_pay2 (F := Ideal) L M S (ix2 r v) = Ideal.div (Ideal.exp2 (L (ix2 r v) - rowTop fun j => M (ix2 r j))) (rowTotal (fun j => M (ix2 r j)) fun j => S (ix2 r j)) := by
  unfold rowTotal rowTop
  pointwise [k0_pay2]
  rfl

variable (m : (ℓ : Loc nD τ sig) → Buf (Elt Ideal) ℓ)

theorem V_0_at (c : Dev nD) (r : Fin 288) (v : Fin 49152) : (V m c main_v0 : Vec Ideal S288x49152 .f32) (ix2 r v)
    = (m (c, Proc.tc.devRef main_arg1) : Vec Ideal S360x49152 .f32) (ix2 (rowF r) v) := by
  unfold V rowF
  after_reads_at

theorem V_1_at (c : Dev nD) (r : Fin 288) (l : Fin 128) : (V m c main_v1 : Vec Ideal S288x128 .f32) (ix2 r l)
    = (m (c, Proc.tc.devRef main_arg3) : Vec Ideal S360x128 .f32) (ix2 (rowF r) l) := by
  unfold V rowF
  after_reads_at

theorem V_2_at (c : Dev nD) (r : Fin 288) (l : Fin 128) : (V m c main_v2 : Vec Ideal S288x128 .f32) (ix2 r l)
    = (m (c, Proc.tc.devRef main_arg4) : Vec Ideal S360x128 .f32) (ix2 (rowF r) l) := by
  unfold V rowF
  after_reads_at

end Cert.ResidReferenceIdeal.Gen

end
-- ==== Proof.ResidReferenceArray.lean ====
module

public import proofs.«01_k».proof.Proof.ResidReferenceAt
public import Idealize.ShloMosaic.Lib.Pipeline.Value
public import Idealize.ShloMosaic.Lib.Pipeline.ValueKit

@[expose] public section

set_option maxRecDepth 16384

noncomputable section

/-! # The array of masses the reference leaves -/

namespace Cert.ResidReferenceIdeal.Gen

open Idealize.ShloMosaic Idealize.ShloMosaic.TcCoe Cert.BonusSpec Cert.ResidSpec Idealize.SL.Sem

open Idealize.ShloMosaic.Pipeline (Dat)

variable (m : (ℓ : Loc nD τ sig) → Buf (Elt Ideal) ℓ) (ρ : Dev nD → PrngReg)

theorem index_0 : ∀ t : Fin cfg0.N, win0_0.index t = ![0, 0] := (by decide +kernel : ∀ t : Fin grid0.N, win0_0.index t = ![0, 0])
theorem emb_0 (t : Fin cfg0.N) (y : S288x49152.Idx) : ((cfg0.win 0).blk t).view.emb y = y := by
  refine funext fun a => Fin.ext ?_
  have h : win0_0.index t a = 0 := by
    rw [index_0]
    exact (by decide : ∀ a : Fin 2, (![0, 0] : Fin 2 → ℕ) a = 0) a
  show win0_0.index t a * S288x49152.size a + 1 * (y a).val = (y a).val
  rw [h]; omega
theorem iblk_0 (c : Dev nD) (t : Fin cfg0.N) : (iblk m c 0 t : Vec Ideal S288x49152 .f32) = (V m c main_v0 : Vec Ideal S288x49152 .f32) := by
  funext y
  show V m c main_v0 (((cfg0.win 0).blk t).view.emb y) = _
  exact congrArg (V m c main_v0 : Vec Ideal S288x49152 .f32) (emb_0 t y)

theorem index_1 : ∀ t : Fin cfg0.N, win0_1.index t = ![0, 0] := (by decide +kernel : ∀ t : Fin grid0.N, win0_1.index t = ![0, 0])
theorem emb_1 (t : Fin cfg0.N) (y : S288x49152.Idx) : ((cfg0.win 1).blk t).view.emb y = y := by
  refine funext fun a => Fin.ext ?_
  have h : win0_1.index t a = 0 := by
    rw [index_1]
    exact (by decide : ∀ a : Fin 2, (![0, 0] : Fin 2 → ℕ) a = 0) a
  show win0_1.index t a * S288x49152.size a + 1 * (y a).val = (y a).val
  rw [h]; omega
theorem iblk_1 (c : Dev nD) (t : Fin cfg0.N) : (iblk m c 1 t : Vec Ideal S288x49152 .f32) = (V m c main_arg2 : Vec Ideal S288x49152 .f32) := by
  funext y
  show V m c main_arg2 (((cfg0.win 1).blk t).view.emb y) = _
  exact congrArg (V m c main_arg2 : Vec Ideal S288x49152 .f32) (emb_1 t y)

theorem index_2 : ∀ t : Fin cfg0.N, win0_2.index t = ![0, 0] := (by decide +kernel : ∀ t : Fin grid0.N, win0_2.index t = ![0, 0])
theorem emb_2 (t : Fin cfg0.N) (y : S288x128.Idx) : ((cfg0.win 2).blk t).view.emb y = y := by
  refine funext fun a => Fin.ext ?_
  have h : win0_2.index t a = 0 := by
    rw [index_2]
    exact (by decide : ∀ a : Fin 2, (![0, 0] : Fin 2 → ℕ) a = 0) a
  show win0_2.index t a * S288x128.size a + 1 * (y a).val = (y a).val
  rw [h]; omega
theorem iblk_2 (c : Dev nD) (t : Fin cfg0.N) : (iblk m c 2 t : Vec Ideal S288x128 .f32) = (V m c main_v1 : Vec Ideal S288x128 .f32) := by
  funext y
  show V m c main_v1 (((cfg0.win 2).blk t).view.emb y) = _
  exact congrArg (V m c main_v1 : Vec Ideal S288x128 .f32) (emb_2 t y)

theorem index_3 : ∀ t : Fin cfg0.N, win0_3.index t = ![0, 0] := (by decide +kernel : ∀ t : Fin grid0.N, win0_3.index t = ![0, 0])
theorem emb_3 (t : Fin cfg0.N) (y : S288x128.Idx) : ((cfg0.win 3).blk t).view.emb y = y := by
  refine funext fun a => Fin.ext ?_
  have h : win0_3.index t a = 0 := by
    rw [index_3]
    exact (by decide : ∀ a : Fin 2, (![0, 0] : Fin 2 → ℕ) a = 0) a
  show win0_3.index t a * S288x128.size a + 1 * (y a).val = (y a).val
  rw [h]; omega
theorem iblk_3 (c : Dev nD) (t : Fin cfg0.N) : (iblk m c 3 t : Vec Ideal S288x128 .f32) = (V m c main_v2 : Vec Ideal S288x128 .f32) := by
  funext y
  show V m c main_v2 (((cfg0.win 3).blk t).view.emb y) = _
  exact congrArg (V m c main_v2 : Vec Ideal S288x128 .f32) (emb_3 t y)

theorem index_4 : ∀ t : Fin cfg0.N, win0_4.index t = ![0, 0] := (by decide +kernel : ∀ t : Fin grid0.N, win0_4.index t = ![0, 0])
theorem emb_4 (t : Fin cfg0.N) (y : S288x128.Idx) : ((cfg0.win 4).blk t).view.emb y = y := by
  refine funext fun a => Fin.ext ?_
  have h : win0_4.index t a = 0 := by
    rw [index_4]
    exact (by decide : ∀ a : Fin 2, (![0, 0] : Fin 2 → ℕ) a = 0) a
  show win0_4.index t a * S288x128.size a + 1 * (y a).val = (y a).val
  rw [h]; omega
theorem iblk_4 (c : Dev nD) (t : Fin cfg0.N) : (iblk m c 4 t : Vec Ideal S288x128 .f32) = (V m c main_arg5 : Vec Ideal S288x128 .f32) := by
  funext y
  show V m c main_arg5 (((cfg0.win 4).blk t).view.emb y) = _
  exact congrArg (V m c main_arg5 : Vec Ideal S288x128 .f32) (emb_4 t y)

theorem index_5 : ∀ t : Fin cfg0.N, win0_5.index t = ![0, 0] := (by decide +kernel : ∀ t : Fin grid0.N, win0_5.index t = ![0, 0])
theorem emb_5 (t : Fin cfg0.N) (y : S288x128.Idx) : ((cfg0.win 5).blk t).view.emb y = y := by
  refine funext fun a => Fin.ext ?_
  have h : win0_5.index t a = 0 := by
    rw [index_5]
    exact (by decide : ∀ a : Fin 2, (![0, 0] : Fin 2 → ℕ) a = 0) a
  show win0_5.index t a * S288x128.size a + 1 * (y a).val = (y a).val
  rw [h]; omega
theorem iblk_5 (c : Dev nD) (t : Fin cfg0.N) : (iblk m c 5 t : Vec Ideal S288x128 .f32) = (V m c main_arg6 : Vec Ideal S288x128 .f32) := by
  funext y
  show V m c main_arg6 (((cfg0.win 5).blk t).view.emb y) = _
  exact congrArg (V m c main_arg6 : Vec Ideal S288x128 .f32) (emb_5 t y)

theorem index_6 : ∀ t : Fin cfg0.N, win0_6.index t = ![0, 0] := (by decide +kernel : ∀ t : Fin grid0.N, win0_6.index t = ![0, 0])
theorem emb_6 (t : Fin cfg0.N) (y : S288x128.Idx) : ((cfg0.win 6).blk t).view.emb y = y := by
  refine funext fun a => Fin.ext ?_
  have h : win0_6.index t a = 0 := by
    rw [index_6]
    exact (by decide : ∀ a : Fin 2, (![0, 0] : Fin 2 → ℕ) a = 0) a
  show win0_6.index t a * S288x128.size a + 1 * (y a).val = (y a).val
  rw [h]; omega

/-- The masses, from the drafted positions' rows. -/
def mass (c : Dev nD) : Vec Ideal S288x128 .f32 := k0_pay3 (F := Ideal) (V m c main_v0) (V m c main_v1) (V m c main_v2) (V m c main_arg2) (V m c main_arg5) (V m c main_arg6)

theorem final6 (c : Dev nD) : (dats m 0 c).arrAt 6 cfg0.N = (mass m c : Vec Ideal S288x128 .f32) := by
  refine (dats m 0 c).arrAt_eq_of_covers 6 _ (by decide +kernel) fun t hf y => ?_
  blk_simp
  rw [after0_6]
  frame_out
  simp only [iblk_0, iblk_1, iblk_2, iblk_3, iblk_4, iblk_5]
  exact (congrArg (mass m c) (emb_6 t y)).symm

theorem index_7 : ∀ t : Fin cfg0.N, win0_7.index t = ![0, 0] := (by decide +kernel : ∀ t : Fin grid0.N, win0_7.index t = ![0, 0])
theorem emb_7 (t : Fin cfg0.N) (y : S288x49152.Idx) : ((cfg0.win 7).blk t).view.emb y = y := by
  refine funext fun a => Fin.ext ?_
  have h : win0_7.index t a = 0 := by
    rw [index_7]
    exact (by decide : ∀ a : Fin 2, (![0, 0] : Fin 2 → ℕ) a = 0) a
  show win0_7.index t a * S288x49152.size a + 1 * (y a).val = (y a).val
  rw [h]; omega

/-- The target's probabilities of all tokens at the drafted positions. -/
def target (c : Dev nD) : Vec Ideal S288x49152 .f32 := k0_pay1 (F := Ideal) (V m c main_v0) (V m c main_v1) (V m c main_v2)

theorem final7 (c : Dev nD) : (dats m 0 c).arrAt 7 cfg0.N = (target m c : Vec Ideal S288x49152 .f32) := by
  refine (dats m 0 c).arrAt_eq_of_covers 7 _ (by decide +kernel) fun t hf y => ?_
  blk_simp
  rw [after0_7]
  frame_out
  simp only [iblk_0, iblk_1, iblk_2, iblk_3, iblk_4, iblk_5]
  exact (congrArg (target m c) (emb_7 t y)).symm

theorem index_8 : ∀ t : Fin cfg0.N, win0_8.index t = ![0, 0] := (by decide +kernel : ∀ t : Fin grid0.N, win0_8.index t = ![0, 0])
theorem emb_8 (t : Fin cfg0.N) (y : S288x49152.Idx) : ((cfg0.win 8).blk t).view.emb y = y := by
  refine funext fun a => Fin.ext ?_
  have h : win0_8.index t a = 0 := by
    rw [index_8]
    exact (by decide : ∀ a : Fin 2, (![0, 0] : Fin 2 → ℕ) a = 0) a
  show win0_8.index t a * S288x49152.size a + 1 * (y a).val = (y a).val
  rw [h]; omega

/-- The draft's probabilities of all tokens at the drafted positions. -/
def draft (c : Dev nD) : Vec Ideal S288x49152 .f32 := k0_pay2 (F := Ideal) (V m c main_arg2) (V m c main_arg5) (V m c main_arg6)

theorem final8 (c : Dev nD) : (dats m 0 c).arrAt 8 cfg0.N = (draft m c : Vec Ideal S288x49152 .f32) := by
  refine (dats m 0 c).arrAt_eq_of_covers 8 _ (by decide +kernel) fun t hf y => ?_
  blk_simp
  rw [after0_8]
  frame_out
  simp only [iblk_0, iblk_1, iblk_2, iblk_3, iblk_4, iblk_5]
  exact (congrArg (draft m c) (emb_8 t y)).symm

/-- A position's target logits. -/
def lt (c : Dev nD) (s : Fin 288) (v : Fin 49152) : EReal := (m (c, Proc.tc.devRef main_arg1) : Vec Ideal S360x49152 .f32) (ix2 (rowF s) v)
/-- A position's draft logits. -/
def ld (c : Dev nD) (s : Fin 288) (v : Fin 49152) : EReal := (m (c, Proc.tc.devRef main_arg2) : Vec Ideal S288x49152 .f32) (ix2 s v)
/-- A position's target lane maxima. -/
def mt (c : Dev nD) (s : Fin 288) (v : Fin 128) : EReal := (m (c, Proc.tc.devRef main_arg3) : Vec Ideal S360x128 .f32) (ix2 (rowF s) v)
/-- A position's target lane sums. -/
def st (c : Dev nD) (s : Fin 288) (v : Fin 128) : EReal := (m (c, Proc.tc.devRef main_arg4) : Vec Ideal S360x128 .f32) (ix2 (rowF s) v)
/-- A position's draft lane maxima. -/
def md (c : Dev nD) (s : Fin 288) (v : Fin 128) : EReal := (m (c, Proc.tc.devRef main_arg5) : Vec Ideal S288x128 .f32) (ix2 s v)
/-- A position's draft lane sums. -/
def sd (c : Dev nD) (s : Fin 288) (v : Fin 128) : EReal := (m (c, Proc.tc.devRef main_arg6) : Vec Ideal S288x128 .f32) (ix2 s v)

/-- One position's mass. -/
theorem mass_eq (c : Dev nD) (s : Fin 288) (l : Fin 128) :
    mass m c (ix2 s l) = ∑ v : Fin 49152, leftDiv (lt m c s v) (mt m c s) (st m c s) (ld m c s v) (md m c s) (sd m c s) := by
  refine (mass_at (V m c main_v0) (V m c main_v1) (V m c main_v2) (V m c main_arg2) (V m c main_arg5) (V m c main_arg6) s l).trans ?_
  rw [show (fun j => (V m c main_v1 : Vec Ideal S288x128 .f32) (ix2 s j)) = mt m c s from funext fun j => V_1_at m c s j,
    show (fun j => (V m c main_v2 : Vec Ideal S288x128 .f32) (ix2 s j)) = st m c s from funext fun j => V_2_at m c s j, V_main_arg2, V_main_arg5, V_main_arg6]
  exact Finset.sum_congr rfl fun v _ => by rw [V_0_at]; rfl

theorem target_eq (c : Dev nD) (s : Fin 288) (v : Fin 49152) :
    target m c (ix2 s v) = Ideal.div (Ideal.exp2 (lt m c s v - rowTop (mt m c s))) (rowTotal (mt m c s) (st m c s)) := by
  refine (target_at (V m c main_v0) (V m c main_v1) (V m c main_v2) s v).trans ?_
  rw [show (fun j => (V m c main_v1 : Vec Ideal S288x128 .f32) (ix2 s j)) = mt m c s from funext fun j => V_1_at m c s j,
    show (fun j => (V m c main_v2 : Vec Ideal S288x128 .f32) (ix2 s j)) = st m c s from funext fun j => V_2_at m c s j, V_0_at]
  rfl

theorem draft_eq (c : Dev nD) (s : Fin 288) (v : Fin 49152) :
    draft m c (ix2 s v) = Ideal.div (Ideal.exp2 (ld m c s v - rowTop (md m c s))) (rowTotal (md m c s) (sd m c s)) := by
  refine (draft_at (V m c main_arg2) (V m c main_arg5) (V m c main_arg6) s v).trans ?_
  rw [V_main_arg2, V_main_arg5, V_main_arg6]
  rfl

end Cert.ResidReferenceIdeal.Gen

end
-- ==== Proof.ResidReferencePick.lean ====
module

public import proofs.«01_k».proof.Proof.ResidReferenceArray
public import proofs.«01_k».proof.Proof.Gen.ResidReferenceIdeal.Run
public import proofs.«01_k».proof.Proof.Gen.ResidReferenceIdeal.Read
public import Idealize.ShloMosaic.Lib.ValueIdx
public import Idealize.ShloMosaic.Lib.ReduceAll

@[expose] public section

set_option maxRecDepth 16384

noncomputable section

/-! # The probabilities at the drafted tokens -/

namespace Cert.ResidReferenceIdeal.Read

open Cert.ResidReferenceIdeal Cert.ResidReferenceIdeal.Gen Idealize.ShloMosaic Idealize.ShloMosaic.TcCoe Cert.BonusSpec Cert.ResidSpec Idealize.SL.Sem
open Idealize.ShloMosaic.ValueIdx (takeIdx idx2_lt0 idx2_lt1 select_one)

set_option maxHeartbeats 4000000

/-- One column per row: the column a row's start index names, clamped. -/
theorem gather_at (x : Vec Ideal S288x49152 .f32) (idx : IVec S288x1x1 32) (y : S288x1.Idx) :
    Host.gather gather_S288x49152_S288x1x1_S288x1_n_1_0_0_1_2_11 x idx y
      = x (ix2 ⟨(y 0).val, idx2_lt0 y⟩ ⟨min (idx (takeIdx y)).toInt.toNat (49152 - 1), by omega⟩) := by
  unfold Host.gather
  congr 1
  funext a
  refine Fin.ext ?_
  show gather_S288x49152_S288x1x1_S288x1_n_1_0_0_1_2_11.start y idx a + gather_S288x49152_S288x1x1_S288x1_n_1_0_0_1_2_11.batchCoord y a
      + gather_S288x49152_S288x1x1_S288x1_n_1_0_0_1_2_11.offCoord y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S288x49152_S288x1x1_S288x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S288x49152_S288x1x1_S288x1_n_1_0_0_1_2_11.startIndexMap from List.mem_singleton.mpr rfl)]
    have hsi : gather_S288x49152_S288x1x1_S288x1_n_1_0_0_1_2_11.siIdx y ⟨List.idxOf (1 : Fin 2) gather_S288x49152_S288x1x1_S288x1_n_1_0_0_1_2_11.startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

/-- A token of the vocabulary, as its bits say it. -/
def Token (w : BitVec 32) : Prop := IntOp.cmpi .sge w 0#32 = 1#1 ∧ IntOp.cmpi .slt w 49152#32 = 1#1

theorem token_int (w : BitVec 32) (h : Token w) : w.toInt.toNat = w.toNat ∧ w.toNat < 49152 ∧ IntOp.cmpi .slt w 0#32 = 0#1 ∧ IntOp.cmpi .sle w 49151#32 = 1#1 := by
  have one (p : Bool) : (BitVec.ofBool p = 1#1) ↔ p = true := by cases p <;> decide
  have zero (p : Bool) : (BitVec.ofBool p = 0#1) ↔ p = false := by cases p <;> decide
  obtain ⟨h0, h1⟩ := h
  have := w.isLt
  simp only [one, IntOp.cmpi, BitVec.sle, BitVec.slt, decide_eq_true_eq, BitVec.toInt, BitVec.toNat_ofNat] at h0 h1
  have hn : w.toNat < 49152 := by split at h0 <;> split at h1 <;> simp at h0 h1 <;> omega
  simp only [one, zero, IntOp.cmpi, BitVec.sle, BitVec.slt, decide_eq_true_eq, decide_eq_false_iff_not, BitVec.toInt, BitVec.toNat_ofNat]
  refine ⟨?_, hn, ?_, ?_⟩
  · split <;> omega
  · split <;> simp <;> omega
  · split <;> simp <;> omega

variable (x0 : IVec S72x4 32) (hx : ∀ w, Token (x0 w))

/-- The token drafted at a position. -/
def tokenOf (s : Fin 288) : BitVec 32 := x0 (ix2 ⟨s.val / 4, by have := s.isLt; omega⟩ ⟨s.val % 4, Nat.mod_lt _ (by decide)⟩)

include hx

theorem val_main_call0_v4_eq (i : S288x1.Idx) : val_main_call0_v4 (F := Ideal) x0 i = x0 (idx_main_v4 i) := by
  rw [val_main_call0_v4_apply, val_main_call0_v1_apply, val_main_call0_v0_apply, val_main_call0_c_apply, val_main_v4_apply, (token_int _ (hx _)).2.2.1]
  rfl

theorem val_main_call0_v12_eq (i : S288x1.Idx) : val_main_call0_v12 (F := Ideal) x0 i = 1#1 := by
  unfold val_main_call0_v12
  refine Host.reduce_andi_one _ _ _ _ _ rfl fun j => ?_
  rw [val_main_call0_v11_apply, val_main_call0_v7_apply, val_main_call0_v10_apply, val_main_call0_v6_apply, val_main_call0_v9_apply, val_main_call0_v8_apply, val_main_call0_c_1_apply, val_main_call0_c_2_apply, val_main_call0_v5_apply, val_main_call0_v4_eq x0 hx,
    (hx _).1, (token_int _ (hx _)).2.2.2]
  rfl

/-- A position's target probability of its drafted token. -/
theorem target_pick (p : Vec Ideal S288x49152 .f32) (s : Fin 288) (l : Fin 128) :
    val_main_v7 (F := Ideal) x0 p (ix2 s l) = p (ix2 s ⟨(tokenOf x0 s).toNat, (token_int _ (hx _)).2.1⟩) := by
  rw [val_main_v7_apply, val_main_v5_apply, val_main_call0_v12_eq x0 hx]
  refine (select_one _ _).trans ?_
  unfold val_main_call0_v13
  rw [gather_at]
  refine congrArg p (congrArg₂ ix2 (Fin.ext rfl) (Fin.ext ?_))
  show min (val_main_call0_v5 (F := Ideal) x0 _).toInt.toNat (49152 - 1) = (tokenOf x0 s).toNat
  have e : val_main_call0_v5 (F := Ideal) x0 (takeIdx (idx_main_v7 (ix2 s l))) = tokenOf x0 s := by
    rw [val_main_call0_v5_apply, val_main_call0_v4_eq x0 hx]
    refine congrArg x0 (funext fun a => Fin.ext ?_)
    match a with
    | ⟨0, _⟩ => show (((s.val * 1 + 0) * 1 + 0) / 1 * 1 + 0) / 4 = s.val / 4; omega
    | ⟨1, _⟩ => show (((s.val * 1 + 0) * 1 + 0) / 1 * 1 + 0) % 4 = s.val % 4; omega
  have hb : tokenOf x0 s = tokenOf x0 s := rfl
  rw [e, (token_int (tokenOf x0 s) (hx _)).1]
  have := (token_int (tokenOf x0 s) (hx _)).2.1
  omega

theorem val_main_call1_v4_eq (i : S288x1.Idx) : val_main_call1_v4 (F := Ideal) x0 i = x0 (idx_main_v4 i) := by
  rw [val_main_call1_v4_apply, val_main_call1_v1_apply, val_main_call1_v0_apply, val_main_call1_c_apply, val_main_v4_apply, (token_int _ (hx _)).2.2.1]
  rfl

theorem val_main_call1_v12_eq (i : S288x1.Idx) : val_main_call1_v12 (F := Ideal) x0 i = 1#1 := by
  unfold val_main_call1_v12
  refine Host.reduce_andi_one _ _ _ _ _ rfl fun j => ?_
  rw [val_main_call1_v11_apply, val_main_call1_v7_apply, val_main_call1_v10_apply, val_main_call1_v6_apply, val_main_call1_v9_apply, val_main_call1_v8_apply, val_main_call1_c_1_apply, val_main_call1_c_2_apply, val_main_call1_v5_apply, val_main_call1_v4_eq x0 hx,
    (hx _).1, (token_int _ (hx _)).2.2.2]
  rfl

/-- A position's draft probability of its drafted token. -/
theorem draft_pick (p : Vec Ideal S288x49152 .f32) (s : Fin 288) (l : Fin 128) :
    val_main_v8 (F := Ideal) x0 p (ix2 s l) = p (ix2 s ⟨(tokenOf x0 s).toNat, (token_int _ (hx _)).2.1⟩) := by
  rw [val_main_v8_apply, val_main_v6_apply, val_main_call1_v12_eq x0 hx]
  refine (select_one _ _).trans ?_
  unfold val_main_call1_v13
  rw [gather_at]
  refine congrArg p (congrArg₂ ix2 (Fin.ext rfl) (Fin.ext ?_))
  show min (val_main_call1_v5 (F := Ideal) x0 _).toInt.toNat (49152 - 1) = (tokenOf x0 s).toNat
  have e : val_main_call1_v5 (F := Ideal) x0 (takeIdx (idx_main_v8 (ix2 s l))) = tokenOf x0 s := by
    rw [val_main_call1_v5_apply, val_main_call1_v4_eq x0 hx]
    refine congrArg x0 (funext fun a => Fin.ext ?_)
    match a with
    | ⟨0, _⟩ => show (((s.val * 1 + 0) * 1 + 0) / 1 * 1 + 0) / 4 = s.val / 4; omega
    | ⟨1, _⟩ => show (((s.val * 1 + 0) * 1 + 0) / 1 * 1 + 0) % 4 = s.val % 4; omega
  have hb : tokenOf x0 s = tokenOf x0 s := rfl
  rw [e, (token_int (tokenOf x0 s) (hx _)).1]
  have := (token_int (tokenOf x0 s) (hx _)).2.1
  omega

omit hx
variable (m : (ℓ : Loc nD τ sig) → Buf (Elt Ideal) ℓ) (ρ : Dev nD → PrngReg)

/-- What the reference's run leaves: the masses, and the two probabilities of the drafted tokens. -/
theorem run_three : θ_run defs (onTc (τ := τ) (main (F := Ideal))) ⟨m, fun _ => 0, ρ⟩ fun r => ∀ c : Dev nD,
      r.2.mem ((c : Thread nD τ).loc main_v3_0) = (mass m c : Vec Ideal S288x128 .f32)
      ∧ r.2.mem ((c : Thread nD τ).loc main_v7) = val_main_v7 (F := Ideal) (m (c, Proc.tc.devRef main_arg0)) (target m c)
      ∧ r.2.mem ((c : Thread nD τ).loc main_v8) = val_main_v8 (F := Ideal) (m (c, Proc.tc.devRef main_arg0)) (draft m c) := by
  refine (θ_run defs _ _).mono (fun r h c => ?_) (Value.run m ρ)
  obtain ⟨h0, h1, h2, _⟩ := h c
  refine ⟨h0.trans (final6 m c), h1.trans ?_, h2.trans ?_⟩
  · rw [show Value.reg_main_v3_1 m c = (target m c : Vec Ideal S288x49152 .f32) from final7 m c]
    rfl
  · rw [show Value.reg_main_v3_2 m c = (draft m c : Vec Ideal S288x49152 .f32) from final8 m c]
    rfl

end Cert.ResidReferenceIdeal.Read

end
-- ==== Proof.ResidPrecondition.lean ====
module

public import proofs.«01_k».proof.Defs
public import proofs.«01_k».proof.Proof.Gen.Pre_residual
public import proofs.«01_k».proof.Proof.Gen.Pre_drafted
public import proofs.«01_k».proof.Proof.ResidSpec
public import proofs.«01_k».proof.Proof.ResidTokens
public import Idealize.ShloMosaic.Lib.Pointwise

@[expose] public section

set_option maxRecDepth 16384

noncomputable section

/-! # What the preconditions say of the tokens and of the lanes -/

namespace Cert.ResidPrecondition

open Idealize.ShloMosaic Cert.Pre_residual Cert.BonusSpec Cert.ResidSpec Cert.ResidTokens

local instance : Cert.Pre_residual.Facts := Cert.Pre_residual.Gen.facts

/-- A comparison's bit that is set holds. -/
theorem of_bit {P : Prop} [Decidable P] (h : BitVec.ofBool (decide P) = 1#1) : P := by
  by_contra hp
  rw [decide_eq_false hp] at h
  exact absurd h (by decide)

theorem inf_eq : Ideal.ofBits FTy.f32 2139095040#32 = (⊤ : EReal) := by
  simp [Ideal.ofBits, Ideal.ieee]

/-- A row of lanes whose sums are not negative, whose largest maximum is finite and has a positive sum: its normaliser is not zero. -/
theorem row_ne (M S : Fin 128 → EReal)
    (b1 : FloatOps.cmpf (F := Ideal) (φ := .f32) .oge (Finset.fold min (Ideal.ofBits FTy.f32 2139095040#32) (fun j : Fin 128 => S j) Finset.univ) (Ideal.ofBits .f32 0#32) = 1#1)
    (b2 : FloatOps.cmpf (F := Ideal) (φ := .f32) .ogt (Finset.fold max (Ideal.ofBits FTy.f32 4286578688#32)
        (fun j : Fin 128 => Scalar.select (FloatOps.cmpf (F := Ideal) (φ := .f32) .oeq (M j) (rowTop M)) (S j) (Ideal.ofBits .f32 0#32)) Finset.univ) (Ideal.ofBits .f32 0#32) = 1#1)
    (b3 : FloatOps.cmpf (F := Ideal) (φ := .f32) .olt (max (rowTop M) (-(rowTop M))) (Ideal.ofBits .f32 2139095040#32) = 1#1) :
    rowTotal M S ≠ 0 := by
  have e1 := of_bit (P := (0 : EReal) ≤ Finset.fold min (⊤ : EReal) (fun j : Fin 128 => S j) Finset.univ) (by
    rw [Ideal.ofBits_zero_f32, inf_eq] at b1
    exact b1)
  have e3 := of_bit (P := max (rowTop M) (-(rowTop M)) < (⊤ : EReal)) (by
    rw [inf_eq] at b3
    exact b3)
  have e2 := of_bit (P := (0 : EReal) < Finset.fold max (⊥ : EReal)
      (fun j : Fin 128 => Scalar.select (FloatOps.cmpf (F := Ideal) (φ := .f32) .oeq (M j) (rowTop M)) (S j) 0) Finset.univ) (by
    rw [Ideal.ofBits_zero_f32, Cert.Lanes.minf_eq] at b2
    exact b2)
  have hS : ∀ j : Fin 128, (0 : EReal) ≤ S j := fun j => ((Finset.le_fold_min _).1 e1).2 j (Finset.mem_univ j)
  have htop : rowTop M ≠ ⊤ := fun h => by
    rw [h] at e3; exact absurd (lt_of_le_of_lt (le_max_left _ _) e3) (lt_irrefl _)
  have hbot : rowTop M ≠ ⊥ := fun h => by
    rw [h, EReal.neg_bot] at e3; exact absurd (lt_of_le_of_lt (le_max_right _ _) e3) (lt_irrefl _)
  obtain hb | ⟨j, _, hj⟩ := (Finset.lt_fold_max _).1 e2
  · exact absurd hb (not_lt.2 bot_le)
  · by_cases he : M j = rowTop M
    · have hc : FloatOps.cmpf (F := Ideal) (φ := .f32) .oeq (M j) (rowTop M) = 1#1 := by
        show BitVec.ofBool (decide _) = 1#1
        rw [decide_eq_true he]; rfl
      rw [hc] at hj
      exact ne_of_gt (rowTotal_pos _ _ hS j he hj hbot htop)
    · have hc : FloatOps.cmpf (F := Ideal) (φ := .f32) .oeq (M j) (rowTop M) = 0#1 := by
        show BitVec.ofBool (decide _) = 0#1
        rw [decide_eq_false he]; rfl
      rw [hc] at hj
      exact absurd hj (lt_irrefl _)

variable (x0 : IVec S72x4 32) (x1 : FVec Ideal S360x49152 .f32) (x2 : FVec Ideal S288x49152 .f32) (x3 x4 : FVec Ideal S360x128 .f32) (x5 x6 : FVec Ideal S288x128 .f32)

theorem tokens (h1 : (fn (F := Ideal) x0 x1 x2 x3 x4 x5 x6).1 = fun _ => 1#1) (h2 : (fn (F := Ideal) x0 x1 x2 x3 x4 x5 x6).2.1 = fun _ => 1#1) (w : S72x4.Idx) :
    InVocab (x0 w) := ⟨congrFun h1 w, congrFun h2 w⟩

theorem t1_at (s : Fin 288) : (fn (F := Ideal) x0 x1 x2 x3 x4 x5 x6).2.2.1 (ix1 s)
    = FloatOps.cmpf (F := Ideal) (φ := .f32) .oge (Finset.fold min (Ideal.ofBits FTy.f32 2139095040#32) (fun j : Fin 128 => x4 (ix2 (rowF s) j)) Finset.univ) (Ideal.ofBits .f32 0#32) := by
  unfold rowF
  pointwise [fn, fn_part1, fn_part2]

theorem t2_at (s : Fin 288) : (fn (F := Ideal) x0 x1 x2 x3 x4 x5 x6).2.2.2.1 (ix1 s)
    = FloatOps.cmpf (F := Ideal) (φ := .f32) .ogt (Finset.fold max (Ideal.ofBits FTy.f32 4286578688#32)
        (fun j : Fin 128 => Scalar.select (FloatOps.cmpf (F := Ideal) (φ := .f32) .oeq (x3 (ix2 (rowF s) j)) (rowTop fun j => x3 (ix2 (rowF s) j))) (x4 (ix2 (rowF s) j)) (Ideal.ofBits .f32 0#32))
        Finset.univ) (Ideal.ofBits .f32 0#32) := by
  unfold rowF rowTop
  pointwise [fn, fn_part1, fn_part2, fn_where]
  have hz : (id (constant (F := Ideal) S_ FTy.f32 0#32) : FVec Ideal S_ .f32) ix0 = (0 : EReal) := Ideal.ofBits_zero_f32
  simp only [hz]

theorem t3_at (s : Fin 288) : (fn (F := Ideal) x0 x1 x2 x3 x4 x5 x6).2.2.2.2.1 (ix1 s)
    = FloatOps.cmpf (F := Ideal) (φ := .f32) .olt (max (rowTop fun j => x3 (ix2 (rowF s) j)) (-(rowTop fun j => x3 (ix2 (rowF s) j)))) (Ideal.ofBits .f32 2139095040#32) := by
  unfold rowF rowTop
  pointwise [fn, fn_part1, fn_part2]
  rfl

/-- The target's normaliser is not zero at any drafted position. -/
theorem t_ne (h1 : (fn (F := Ideal) x0 x1 x2 x3 x4 x5 x6).2.2.1 = fun _ => 1#1) (h2 : (fn (F := Ideal) x0 x1 x2 x3 x4 x5 x6).2.2.2.1 = fun _ => 1#1) (h3 : (fn (F := Ideal) x0 x1 x2 x3 x4 x5 x6).2.2.2.2.1 = fun _ => 1#1) (s : Fin 288) :
    rowTotal (fun j => x3 (ix2 (rowF s) j)) (fun j => x4 (ix2 (rowF s) j)) ≠ 0 :=
  row_ne _ _ ((t1_at x0 x1 x2 x3 x4 x5 x6 s).symm.trans (congrFun h1 (ix1 s))) ((t2_at x0 x1 x2 x3 x4 x5 x6 s).symm.trans (congrFun h2 (ix1 s)))
    ((t3_at x0 x1 x2 x3 x4 x5 x6 s).symm.trans (congrFun h3 (ix1 s)))

theorem d1_at (s : Fin 288) : (fn (F := Ideal) x0 x1 x2 x3 x4 x5 x6).2.2.2.2.2.1 (ix1 s)
    = FloatOps.cmpf (F := Ideal) (φ := .f32) .oge (Finset.fold min (Ideal.ofBits FTy.f32 2139095040#32) (fun j : Fin 128 => x6 (ix2 s j)) Finset.univ) (Ideal.ofBits .f32 0#32) := by
  pointwise [fn, fn_part1, fn_part2]

theorem d2_at (s : Fin 288) : (fn (F := Ideal) x0 x1 x2 x3 x4 x5 x6).2.2.2.2.2.2.1 (ix1 s)
    = FloatOps.cmpf (F := Ideal) (φ := .f32) .ogt (Finset.fold max (Ideal.ofBits FTy.f32 4286578688#32)
        (fun j : Fin 128 => Scalar.select (FloatOps.cmpf (F := Ideal) (φ := .f32) .oeq (x5 (ix2 s j)) (rowTop fun j => x5 (ix2 s j))) (x6 (ix2 s j)) (Ideal.ofBits .f32 0#32))
        Finset.univ) (Ideal.ofBits .f32 0#32) := by
  unfold rowTop
  pointwise [fn, fn_part1, fn_part2, fn_where_0]
  have hz : (id (constant (F := Ideal) S_ FTy.f32 0#32) : FVec Ideal S_ .f32) ix0 = (0 : EReal) := Ideal.ofBits_zero_f32
  simp only [hz]

theorem d3_at (s : Fin 288) : (fn (F := Ideal) x0 x1 x2 x3 x4 x5 x6).2.2.2.2.2.2.2 (ix1 s)
    = FloatOps.cmpf (F := Ideal) (φ := .f32) .olt (max (rowTop fun j => x5 (ix2 s j)) (-(rowTop fun j => x5 (ix2 s j)))) (Ideal.ofBits .f32 2139095040#32) := by
  unfold rowTop
  pointwise [fn, fn_part1, fn_part2]
  rfl

/-- The draft's normaliser is not zero at any drafted position. -/
theorem d_ne (h1 : (fn (F := Ideal) x0 x1 x2 x3 x4 x5 x6).2.2.2.2.2.1 = fun _ => 1#1) (h2 : (fn (F := Ideal) x0 x1 x2 x3 x4 x5 x6).2.2.2.2.2.2.1 = fun _ => 1#1) (h3 : (fn (F := Ideal) x0 x1 x2 x3 x4 x5 x6).2.2.2.2.2.2.2 = fun _ => 1#1) (s : Fin 288) :
    rowTotal (fun j => x5 (ix2 s j)) (fun j => x6 (ix2 s j)) ≠ 0 :=
  row_ne _ _ ((d1_at x0 x1 x2 x3 x4 x5 x6 s).symm.trans (congrFun h1 (ix1 s))) ((d2_at x0 x1 x2 x3 x4 x5 x6 s).symm.trans (congrFun h2 (ix1 s)))
    ((d3_at x0 x1 x2 x3 x4 x5 x6 s).symm.trans (congrFun h3 (ix1 s)))

end Cert.ResidPrecondition

end
-- ==== Proof.ResidBitsRun.lean ====
/-
The residual kernel's body at one grid point, with the mass output's stores named.

The body stores four blocks. What it leaves in the mass output (`arg9`) is found by running it (`massRun`); the residual
distribution and the two blocks of drafted probabilities are handed back at some contents, of which nothing is said.
-/
module

public import proofs.«01_k».proof.Proof.Gen.Resid.Frame.Runs

@[expose] public section

-- membership in a rectangle of production extents (`View.cover_of_tiled`): the elaborator's structural look
-- recurses once per coordinate of the long axes
set_option maxRecDepth 16384

noncomputable section

namespace Cert.Resid.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The pieces the body stores into the mass output, with the proof that the body runs and leaves them there. -/
noncomputable def massRun (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) :
    { L7 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_resid i tbM0_0 htbM0_0 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_resid_eq_skeleton]; unfold cc0_resid_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]; · iexists _; iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexact HT0

end Cert.Resid.Gen

end
-- ==== Proof.ResidBitsFrame.lean ====
/-
The residual kernel's run: the pipeline's proof data with the mass output named and the other outputs forgotten, the body's
obligation at every point, the run, and the frame.
-/
module

public import proofs.«01_k».proof.Proof.ResidBitsRun
public import Idealize.ShloMosaic.Lib.Claim

@[expose] public section

-- membership in a rectangle of production extents (`View.cover_of_tiled`): the elaborator's structural look
-- recurses once per coordinate of the long axes
set_option maxRecDepth 16384

noncomputable section

namespace Cert.Resid.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The mass output's staging buffer, whole. -/
abbrev viewMass : View sig .tc .vmem S8x128 .f32 := (Memref.whole cc0_stg7_0 : Memref sig .tc .vmem S8x128 .f32).view

/-- The run's pieces for output 7 tile its block (1 store of `S8x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) (y : S8x128.Idx) :
    ∃ pc ∈ (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).1, y ∈ pc.1.set :=
  View.cover_of_tiledL (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).1 S8x128.size (by sl_kernel_rfl) y

/-- What the run leaves in output 7's staging buffer: its pieces read back over junk. -/
def out0_A_7 (c : Dev nD) (i : grid0.Coords) (arg2 : Memref sig .tc .vmem S8x49152 .f32) (harg2 : arg2.IsWhole) (arg3 : Memref sig .tc .vmem S8x49152 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S2x4x49152 .bf16) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x49152 .f32) (harg12 : arg12.IsWhole)
    (x0 : Vec F S8x49152 .f32) (x1 : Vec F S8x49152 .f32) (x2 : Vec F S8x128 .f32) (x3 : Vec F S8x128 .f32) (x4 : Vec F S8x128 .f32) (x5 : Vec F S8x128 .f32) (xt0 : TbBuf0 (F := F) c tbM0_0) (k0_hw1 : k0_chk1 (tbM0_0.view.readAt (Elt F) (Rect.unit (s := S72x4) (k0_off4 i) S1x1.size (k0_off4_inb i)).toLoadRect xt0 (Shape.Idx.first (numel1_S1x1.symm ▸ Nat.one_pos)))) (k0_hw2 : k0_chk2 (tbM0_0.view.readAt (Elt F) (Rect.unit (s := S72x4) (k0_off6 i) S1x1.size (k0_off6_inb i)).toLoadRect xt0 (Shape.Idx.first (numel1_S1x1.symm ▸ Nat.one_pos)))) (k0_hw3 : k0_chk3 (tbM0_0.view.readAt (Elt F) (Rect.unit (s := S72x4) (k0_off8 i) S1x1.size (k0_off8_inb i)).toLoadRect xt0 (Shape.Idx.first (numel1_S1x1.symm ▸ Nat.one_pos)))) (k0_hw4 : k0_chk4 (tbM0_0.view.readAt (Elt F) (Rect.unit (s := S72x4) (k0_off10 i) S1x1.size (k0_off10_inb i)).toLoadRect xt0 (Shape.Idx.first (numel1_S1x1.symm ▸ Nat.one_pos)))) (k0_hw5 : k0_chk5 (tbM0_0.view.readAt (Elt F) (Rect.unit (s := S72x4) (k0_off12 i) S1x1.size (k0_off12_inb i)).toLoadRect xt0 (Shape.Idx.first (numel1_S1x1.symm ▸ Nat.one_pos)))) (k0_hw6 : k0_chk6 (tbM0_0.view.readAt (Elt F) (Rect.unit (s := S72x4) (k0_off14 i) S1x1.size (k0_off14_inb i)).toLoadRect xt0 (Shape.Idx.first (numel1_S1x1.symm ▸ Nat.one_pos)))) (k0_hw7 : k0_chk7 (tbM0_0.view.readAt (Elt F) (Rect.unit (s := S72x4) (k0_off16 i) S1x1.size (k0_off16_inb i)).toLoadRect xt0 (Shape.Idx.first (numel1_S1x1.symm ▸ Nat.one_pos)))) (k0_hw8 : k0_chk8 (tbM0_0.view.readAt (Elt F) (Rect.unit (s := S72x4) (k0_off18 i) S1x1.size (k0_off18_inb i)).toLoadRect xt0 (Shape.Idx.first (numel1_S1x1.symm ▸ Nat.one_pos)))) : Vec F S8x128 .f32 :=
  viewMass.read (Elt F) (viewMass.writes (Elt F) viewMass.junk (massRun c i arg2 harg2 arg3 harg3 arg4 harg4 arg5 harg5 arg6 harg6 arg7 harg7 arg8 harg8 arg9 harg9 arg10 harg10 arg11 harg11 arg12 harg12 x0 x1 x2 x3 x4 x5 xt0 k0_hw1 k0_hw2 k0_hw3 k0_hw4 k0_hw5 k0_hw6 k0_hw7 k0_hw8).1)

/-- What the body leaves in the mass output at point `t`. -/
def massAt (hO : Ok m) (hH : Hyps m hO) (c : Dev nD) (t : Fin (cfgM m hO).N) : Vec F S8x128 .f32 :=
  out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t)

/-! ## The pipeline's proof data -/

/-- The output windows this certificate FORGETS (6, 8, 9): nothing reads what the kernel leaves in them, so nothing
    of it is named (Lib/Pipeline/Dat.lean `Dat.toRForget`). -/
def forgets0 : Fin 10 → Bool := fun w => w.val == 6 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, _⟩ => massAt m hO hH c t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_7 (hO : Ok m) (hH : Hyps m hO) (c : Dev nD) (t : Fin (cfgM m hO).N) : (dats m hO hH 0 c).after 7 t = massAt m hO hH c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d)
    ∗ (∃ d, owns (c : Thread nD τ) (ms0_7 m hO t) fullShare ((dats m hO hH 0 c).before 7 t d))
    ∗ (∃ d, owns (c : Thread nD τ) (ms0_8 m hO t) fullShare d)
    ∗ (∃ d, owns (c : Thread nD τ) (ms0_9 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d)
    ∗ owns (c : Thread nD τ) (ms0_7 m hO t) fullShare ((dats m hO hH 0 c).after 7 t)
    ∗ (∃ d, owns (c : Thread nD τ) (ms0_8 m hO t) fullShare d)
    ∗ (∃ d, owns (c : Thread nD τ) (ms0_9 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_7]
  rw [show (dats m hO hH 0 c).Φ t.castSucc = iprop(Pipeline.ΦA spec0 c ∗ Pipeline.ΦT pre0 (tbl m) c) from rfl, PhiT0_eq, PhiA0_eq]
  unfold massAt out0_A_7; (try dsimp only)
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((massRun c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (Hyps.c0 hH c t) (Hyps.c1 hH c t) (Hyps.c2 hH c t) (Hyps.c3 hH c t) (Hyps.c4 hH c t) (Hyps.c5 hH c t) (Hyps.c6 hH c t) (Hyps.c7 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HT0]; · iexact HT0
  iintro ⟨H0, H1, H2, H3, H4, H5, H6, ⟨%e7, H7⟩, H8, H9, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _)
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 8, 9) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Resid`, Defs.lean, at any `F`). -/
theorem frame_of_forgetting (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forgetting m ρ hO (fun c => (dats m hO hH 0 c).toRForget forgets0) (A_eq m hO hH) (run_main m ρ hO hH)

/-- THE FRAME: `Cert.quiescent_Resid`'s statement (Defs.lean) at any `F` — Proof.lean cites it at `Bits`:
    `theorem Cert.Proof.claim : Cert.Claim := ⟨Cert.Resid.Gen.facts, fun m ρ _ => Cert.Resid.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Resid.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Resid.Gen

end
-- ==== Proof.ResidMatch.lean ====
module

public import proofs.«01_k».proof.Defs
public import proofs.«01_k».proof.Proof.ResidPickedArray
public import proofs.«01_k».proof.Proof.ResidReferencePick
public import proofs.«01_k».proof.Proof.ResidPrecondition
public import proofs.«01_k».proof.Proof.ResidBitsFrame

@[expose] public section

set_option maxRecDepth 16384

noncomputable section

/-! # The masses and the two probabilities are the reference's; the runs under the preconditions -/

namespace Cert.ResidMatch

open Idealize.ShloMosaic Idealize.ShloMosaic.TcCoe Cert.BonusSpec Cert.ResidSpec Idealize.SL.Sem

local instance : Cert.Pre_residual.Facts := Cert.Pre_residual.Gen.facts
local instance : Cert.Pre_drafted.Facts := Cert.Pre_drafted.Gen.facts

theorem mass_eq (m : (ℓ : Loc ResidIdeal.nD ResidIdeal.τ ResidIdeal.sig) → Buf (Elt Ideal) ℓ)
    (m' : (ℓ : Loc ResidReferenceIdeal.nD ResidReferenceIdeal.τ ResidReferenceIdeal.sig) → Buf (Elt Ideal) ℓ) (c : Dev ResidIdeal.nD)
    (h1 : (m' (c, Proc.tc.devRef ResidReferenceIdeal.main_arg1) : Vec Ideal ResidIdeal.S360x49152 .f32) = (m (c, Proc.tc.devRef ResidIdeal.main_arg1) : Vec Ideal ResidIdeal.S360x49152 .f32))
    (h2 : (m' (c, Proc.tc.devRef ResidReferenceIdeal.main_arg2) : Vec Ideal ResidIdeal.S288x49152 .f32) = (m (c, Proc.tc.devRef ResidIdeal.main_arg2) : Vec Ideal ResidIdeal.S288x49152 .f32))
    (h3 : (m' (c, Proc.tc.devRef ResidReferenceIdeal.main_arg3) : Vec Ideal ResidIdeal.S360x128 .f32) = (m (c, Proc.tc.devRef ResidIdeal.main_arg3) : Vec Ideal ResidIdeal.S360x128 .f32))
    (h4 : (m' (c, Proc.tc.devRef ResidReferenceIdeal.main_arg4) : Vec Ideal ResidIdeal.S360x128 .f32) = (m (c, Proc.tc.devRef ResidIdeal.main_arg4) : Vec Ideal ResidIdeal.S360x128 .f32))
    (h5 : (m' (c, Proc.tc.devRef ResidReferenceIdeal.main_arg5) : Vec Ideal ResidIdeal.S288x128 .f32) = (m (c, Proc.tc.devRef ResidIdeal.main_arg5) : Vec Ideal ResidIdeal.S288x128 .f32))
    (h6 : (m' (c, Proc.tc.devRef ResidReferenceIdeal.main_arg6) : Vec Ideal ResidIdeal.S288x128 .f32) = (m (c, Proc.tc.devRef ResidIdeal.main_arg6) : Vec Ideal ResidIdeal.S288x128 .f32))
    (hz : ∀ s : Fin 288, rowTotal (ResidIdeal.Gen.mt m c s) (ResidIdeal.Gen.st m c s) ≠ 0) (hz' : ∀ s : Fin 288, rowTotal (ResidIdeal.Gen.md m c s) (ResidIdeal.Gen.sd m c s) ≠ 0) :
    (ResidReferenceIdeal.Gen.mass m' c : Vec Ideal ResidIdeal.S288x128 .f32) = ResidIdeal.Gen.massA m c := by
  funext i
  obtain ⟨s, l, rfl⟩ : ∃ (s : Fin 288) (l : Fin 128), i = (ix2 s l : ResidIdeal.S288x128.Idx) := ⟨i 0, i 1, eq_ix2 (n0 := 288) (n1 := 128) i⟩
  refine (ResidReferenceIdeal.Gen.mass_eq m' c s l).trans ?_
  have e1 : ResidReferenceIdeal.Gen.lt m' c s = ResidIdeal.Gen.lt m c s := funext fun v => congrFun h1 (ix2 (rowF s) v)
  have e2 : ResidReferenceIdeal.Gen.ld m' c s = ResidIdeal.Gen.ld m c s := funext fun v => congrFun h2 (ix2 s v)
  have e3 : ResidReferenceIdeal.Gen.mt m' c s = ResidIdeal.Gen.mt m c s := funext fun j => congrFun h3 (ix2 (rowF s) j)
  have e4 : ResidReferenceIdeal.Gen.st m' c s = ResidIdeal.Gen.st m c s := funext fun j => congrFun h4 (ix2 (rowF s) j)
  have e5 : ResidReferenceIdeal.Gen.md m' c s = ResidIdeal.Gen.md m c s := funext fun j => congrFun h5 (ix2 s j)
  have e6 : ResidReferenceIdeal.Gen.sd m' c s = ResidIdeal.Gen.sd m c s := funext fun j => congrFun h6 (ix2 s j)
  rw [e1, e2, e3, e4, e5, e6]
  exact Finset.sum_congr rfl fun v _ => (left_eq _ _ _ _ _ _ (hz s) (hz' s)).symm

/-- The two programs' target probabilities of the drafted tokens. -/
theorem target_match (m : (ℓ : Loc ResidIdeal.nD ResidIdeal.τ ResidIdeal.sig) → Buf (Elt Ideal) ℓ)
    (m' : (ℓ : Loc ResidReferenceIdeal.nD ResidReferenceIdeal.τ ResidReferenceIdeal.sig) → Buf (Elt Ideal) ℓ) (c : Dev ResidIdeal.nD)
    (h0 : (m' (c, Proc.tc.devRef ResidReferenceIdeal.main_arg0) : IVec ResidIdeal.S72x4 32) = (m (c, Proc.tc.devRef ResidIdeal.main_arg0) : IVec ResidIdeal.S72x4 32))
    (h1 : (m' (c, Proc.tc.devRef ResidReferenceIdeal.main_arg1) : Vec Ideal ResidIdeal.S360x49152 .f32) = (m (c, Proc.tc.devRef ResidIdeal.main_arg1) : Vec Ideal ResidIdeal.S360x49152 .f32))
    (h3 : (m' (c, Proc.tc.devRef ResidReferenceIdeal.main_arg3) : Vec Ideal ResidIdeal.S360x128 .f32) = (m (c, Proc.tc.devRef ResidIdeal.main_arg3) : Vec Ideal ResidIdeal.S360x128 .f32))
    (h4 : (m' (c, Proc.tc.devRef ResidReferenceIdeal.main_arg4) : Vec Ideal ResidIdeal.S360x128 .f32) = (m (c, Proc.tc.devRef ResidIdeal.main_arg4) : Vec Ideal ResidIdeal.S360x128 .f32))
    (hx : ∀ w : ResidIdeal.S72x4.Idx, ResidReferenceIdeal.Read.Token ((m (c, Proc.tc.devRef ResidIdeal.main_arg0) : IVec ResidIdeal.S72x4 32) w))
    (hz : ∀ s : Fin 288, rowTotal (ResidIdeal.Gen.mt m c s) (ResidIdeal.Gen.st m c s) ≠ 0) :
    (ResidReferenceIdeal.Read.val_main_v7 (F := Ideal) (m' (c, Proc.tc.devRef ResidReferenceIdeal.main_arg0)) (ResidReferenceIdeal.Gen.target m' c) : Vec Ideal ResidIdeal.S288x128 .f32) = ResidIdeal.Gen.targetA m c := by
  funext i
  obtain ⟨s, l, rfl⟩ : ∃ (s : Fin 288) (l : Fin 128), i = (ix2 s l : ResidIdeal.S288x128.Idx) := ⟨i 0, i 1, eq_ix2 (n0 := 288) (n1 := 128) i⟩
  have e0 : (m' (c, Proc.tc.devRef ResidReferenceIdeal.main_arg0) : IVec ResidReferenceIdeal.S72x4 32) = (m (c, Proc.tc.devRef ResidIdeal.main_arg0) : IVec ResidIdeal.S72x4 32) := h0
  refine (congrArg (fun x => ResidReferenceIdeal.Read.val_main_v7 (F := Ideal) x (ResidReferenceIdeal.Gen.target m' c) (ix2 s l)) e0).trans ?_
  refine (ResidReferenceIdeal.Read.target_pick _ hx (ResidReferenceIdeal.Gen.target m' c) s l).trans ?_
  refine (ResidReferenceIdeal.Gen.target_eq m' c s _).trans ?_
  have e1 : ResidReferenceIdeal.Gen.lt m' c s = ResidIdeal.Gen.lt m c s := funext fun v => congrFun h1 (ix2 (rowF s) v)
  have e2 : ResidReferenceIdeal.Gen.mt m' c s = ResidIdeal.Gen.mt m c s := funext fun j => congrFun h3 (ix2 (rowF s) j)
  have e3 : ResidReferenceIdeal.Gen.st m' c s = ResidIdeal.Gen.st m c s := funext fun j => congrFun h4 (ix2 (rowF s) j)
  rw [e1, e2, e3, ← mul_inv _ _ (hz s)]
  show _ = Ideal.exp2 ((if h : (ResidIdeal.Gen.token m c s).toNat < 49152 then ResidIdeal.Gen.lt m c s ⟨_, h⟩ else 0) - rowTop (ResidIdeal.Gen.mt m c s)) * Ideal.div 1 (rowTotal (ResidIdeal.Gen.mt m c s) (ResidIdeal.Gen.st m c s))
  have hn : (ResidIdeal.Gen.token m c s).toNat < 49152 := (ResidReferenceIdeal.Read.token_int _ (hx _)).2.1
  rw [dif_pos hn]
  rfl

/-- The two programs' draft probabilities of the drafted tokens. -/
theorem draft_match (m : (ℓ : Loc ResidIdeal.nD ResidIdeal.τ ResidIdeal.sig) → Buf (Elt Ideal) ℓ)
    (m' : (ℓ : Loc ResidReferenceIdeal.nD ResidReferenceIdeal.τ ResidReferenceIdeal.sig) → Buf (Elt Ideal) ℓ) (c : Dev ResidIdeal.nD)
    (h0 : (m' (c, Proc.tc.devRef ResidReferenceIdeal.main_arg0) : IVec ResidIdeal.S72x4 32) = (m (c, Proc.tc.devRef ResidIdeal.main_arg0) : IVec ResidIdeal.S72x4 32))
    (h2 : (m' (c, Proc.tc.devRef ResidReferenceIdeal.main_arg2) : Vec Ideal ResidIdeal.S288x49152 .f32) = (m (c, Proc.tc.devRef ResidIdeal.main_arg2) : Vec Ideal ResidIdeal.S288x49152 .f32))
    (h5 : (m' (c, Proc.tc.devRef ResidReferenceIdeal.main_arg5) : Vec Ideal ResidIdeal.S288x128 .f32) = (m (c, Proc.tc.devRef ResidIdeal.main_arg5) : Vec Ideal ResidIdeal.S288x128 .f32))
    (h6 : (m' (c, Proc.tc.devRef ResidReferenceIdeal.main_arg6) : Vec Ideal ResidIdeal.S288x128 .f32) = (m (c, Proc.tc.devRef ResidIdeal.main_arg6) : Vec Ideal ResidIdeal.S288x128 .f32))
    (hx : ∀ w : ResidIdeal.S72x4.Idx, ResidReferenceIdeal.Read.Token ((m (c, Proc.tc.devRef ResidIdeal.main_arg0) : IVec ResidIdeal.S72x4 32) w))
    (hz : ∀ s : Fin 288, rowTotal (ResidIdeal.Gen.md m c s) (ResidIdeal.Gen.sd m c s) ≠ 0) :
    (ResidReferenceIdeal.Read.val_main_v8 (F := Ideal) (m' (c, Proc.tc.devRef ResidReferenceIdeal.main_arg0)) (ResidReferenceIdeal.Gen.draft m' c) : Vec Ideal ResidIdeal.S288x128 .f32) = ResidIdeal.Gen.draftA m c := by
  funext i
  obtain ⟨s, l, rfl⟩ : ∃ (s : Fin 288) (l : Fin 128), i = (ix2 s l : ResidIdeal.S288x128.Idx) := ⟨i 0, i 1, eq_ix2 (n0 := 288) (n1 := 128) i⟩
  have e0 : (m' (c, Proc.tc.devRef ResidReferenceIdeal.main_arg0) : IVec ResidReferenceIdeal.S72x4 32) = (m (c, Proc.tc.devRef ResidIdeal.main_arg0) : IVec ResidIdeal.S72x4 32) := h0
  refine (congrArg (fun x => ResidReferenceIdeal.Read.val_main_v8 (F := Ideal) x (ResidReferenceIdeal.Gen.draft m' c) (ix2 s l)) e0).trans ?_
  refine (ResidReferenceIdeal.Read.draft_pick _ hx (ResidReferenceIdeal.Gen.draft m' c) s l).trans ?_
  refine (ResidReferenceIdeal.Gen.draft_eq m' c s _).trans ?_
  have e1 : ResidReferenceIdeal.Gen.ld m' c s = ResidIdeal.Gen.ld m c s := funext fun v => congrFun h2 (ix2 s v)
  have e2 : ResidReferenceIdeal.Gen.md m' c s = ResidIdeal.Gen.md m c s := funext fun j => congrFun h5 (ix2 s j)
  have e3 : ResidReferenceIdeal.Gen.sd m' c s = ResidIdeal.Gen.sd m c s := funext fun j => congrFun h6 (ix2 s j)
  rw [e1, e2, e3, ← mul_inv _ _ (hz s)]
  show _ = Ideal.exp2 ((if h : (ResidIdeal.Gen.token m c s).toNat < 49152 then ResidIdeal.Gen.ld m c s ⟨_, h⟩ else 0) - rowTop (ResidIdeal.Gen.md m c s)) * Ideal.div 1 (rowTotal (ResidIdeal.Gen.md m c s) (ResidIdeal.Gen.sd m c s))
  have hn : (ResidIdeal.Gen.token m c s).toNat < 49152 := (ResidReferenceIdeal.Read.token_int _ (hx _)).2.1
  rw [dif_pos hn]
  rfl

theorem hyps_bits (m : (ℓ : Loc Resid.nD Resid.τ Resid.sig) → Buf (Elt Bits) ℓ) (h : Pre_Resid m) (hO : Resid.Gen.Ok m) : Resid.Gen.Hyps m hO :=
  Resid.Gen.hyps_of_tokens m (fun w => ⟨congrFun (h 0).1 w, congrFun (h 0).2 w⟩) hO

theorem hyps_ideal (m : (ℓ : Loc ResidIdeal.nD ResidIdeal.τ ResidIdeal.sig) → Buf (Elt Ideal) ℓ) (h : Pre_ResidIdeal m) (hO : ResidIdeal.Gen.Ok m) : ResidIdeal.Gen.Hyps m hO :=
  ResidIdeal.Gen.hyps_of_tokens m (fun w => ⟨congrFun (h 0).1 w, congrFun (h 0).2 w⟩) hO

theorem hyps_residual (m : (ℓ : Loc ResidIdeal.nD ResidIdeal.τ ResidIdeal.sig) → Buf (Elt Ideal) ℓ) (h : Pre_ResidIdeal_residual m) (hO : ResidIdeal.Gen.Ok m) : ResidIdeal.Gen.Hyps m hO :=
  ResidIdeal.Gen.hyps_of_tokens m (Cert.ResidPrecondition.tokens _ _ _ _ _ _ _ (h 0).1 (h 0).2.1) hO

theorem runs_bits : quiescent_Resid (hResid := Cert.Resid.Gen.facts) (hPre_drafted := Cert.Pre_drafted.Gen.facts) :=
  fun m ρ h => Cert.Resid.Gen.frame m ρ trivial (hyps_bits m h trivial)

theorem runs_ideal : quiescent_ResidIdeal (hResidIdeal := Cert.ResidIdeal.Gen.facts) (hPre_drafted := Cert.Pre_drafted.Gen.facts) :=
  fun m ρ h => Cert.ResidIdeal.Gen.frame m ρ trivial (hyps_ideal m h trivial)

theorem runs_residual : quiescent_ResidIdeal_pre_residual (hResidIdeal := Cert.ResidIdeal.Gen.facts) (hPre_residual := Cert.Pre_residual.Gen.facts) :=
  fun m ρ h => Cert.ResidIdeal.Gen.frame m ρ trivial (hyps_residual m h trivial)

/-- The kernel over the reals and the reference end with the same masses and the same two probabilities. -/
theorem algebraic : algebraic_ResidIdeal_ResidReferenceIdeal_pre_residual (hResidIdeal := Cert.ResidIdeal.Gen.facts)
    (hResidReferenceIdeal := Cert.ResidReferenceIdeal.Gen.facts) (hPre_residual := Cert.Pre_residual.Gen.facts) := by
  intro m g m' g' hp ha
  have hO : Cert.ResidIdeal.Gen.Ok m := trivial
  have hw := fun w => Cert.ResidPrecondition.tokens _ _ _ _ _ _ _ (hp 0).1 (hp 0).2.1 w
  refine ⟨fun c => Cert.ResidIdeal.Gen.massA m c, fun c => Cert.ResidIdeal.Gen.targetA m c, fun c => Cert.ResidIdeal.Gen.draftA m c, ?_, ?_⟩
  · refine (θ_run _ _ _).mono (fun r h c => ?_) (θ_run_and (Cert.ResidIdeal.Gen.run_three m g hO (hyps_residual m hp hO) hw) (Cert.ResidIdeal.Gen.unchanged m g hO (hyps_residual m hp hO)))
    exact ⟨(h.1 c).1, (h.1 c).2.1, (h.1 c).2.2, h.2 c⟩
  · refine (θ_run _ _ _).mono (fun r h c => ?_) (θ_run_and (Cert.ResidReferenceIdeal.Read.run_three m' g') (Cert.ResidReferenceIdeal.Gen.unchanged m' g'))
    obtain ⟨h0, h1, h2, h3, h4, h5, h6⟩ := ha c
    obtain ⟨w1, w2, p1, p2, p3, q1, q2, q3⟩ := hp c
    have hx := fun w => Cert.ResidPrecondition.tokens _ _ _ _ _ _ _ w1 w2 w
    have ht := fun s => Cert.ResidPrecondition.t_ne _ _ _ _ _ _ _ p1 p2 p3 s
    have hd := fun s => Cert.ResidPrecondition.d_ne _ _ _ _ _ _ _ q1 q2 q3 s
    exact ⟨(h.1 c).1.trans (mass_eq m m' c h1 h2 h3 h4 h5 h6 ht hd), (h.1 c).2.1.trans (target_match m m' c h0 h1 h3 h4 hx ht),
      (h.1 c).2.2.trans (draft_match m m' c h0 h2 h5 h6 hx hd), h.2 c⟩

end Cert.ResidMatch

end
-- ==== Proof.lean ====
module

public import proofs.«01_k».proof.Defs
public import proofs.«01_k».proof.Proof.Gen.Kernel
public import proofs.«01_k».proof.Proof.PrintedDats
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_meaningful
public import proofs.«01_k».proof.Proof.Match
public import proofs.«01_k».proof.Proof.Gen.Bonus
public import proofs.«01_k».proof.Proof.Gen.Bonus.Frame
public import proofs.«01_k».proof.Proof.Gen.BonusIdeal
public import proofs.«01_k».proof.Proof.Gen.BonusReferenceIdeal
public import proofs.«01_k».proof.Proof.Gen.Pre_positive
public import proofs.«01_k».proof.Proof.BonusMatch
public import proofs.«01_k».proof.Proof.Gen.Resid
public import proofs.«01_k».proof.Proof.Gen.ResidIdeal
public import proofs.«01_k».proof.Proof.Gen.ResidReferenceIdeal
public import proofs.«01_k».proof.Proof.Gen.ResidReferenceIdeal.Frame
public import proofs.«01_k».proof.Proof.Gen.Pre_drafted
public import proofs.«01_k».proof.Proof.Gen.Pre_residual
public import proofs.«01_k».proof.Proof.ResidMatch
public import Idealize.ShloMosaic.Adequacy
public import Idealize.ShloMosaic.Init

@[expose] public section

set_option maxRecDepth 16384

noncomputable section

namespace Cert.Proof

open Idealize.ShloMosaic Idealize.SL.Sem

/-- The first call over the reals and its reference end with the same eight results. -/
theorem algebraic : algebraic_KernelIdeal_ReferenceIdeal_pre_meaningful (hKernelIdeal := Cert.KernelIdeal.Gen.facts)
    (hReferenceIdeal := Cert.ReferenceIdeal.Gen.facts) (hPre_meaningful := Cert.Pre_meaningful.Gen.facts) := by
  intro m g m' g' hp ha
  have ht := fun c => Cert.Precondition.temp_ne _ _ _ _ _ _ _ _ _ _ (hp c).1
  have hg := fun c => Cert.Precondition.good _ _ _ _ _ _ _ _ _ _ (hp c).2
  refine ⟨fun c => Cert.KernelIdeal.Gen.ltA m c, fun c => Cert.KernelIdeal.Gen.ldA m c, fun c => Cert.KernelIdeal.Gen.maxT m c,
    fun c => Cert.KernelIdeal.Gen.sumT m c, fun c => Cert.KernelIdeal.Gen.maxD m c, fun c => Cert.KernelIdeal.Gen.sumD m c,
    fun c => Cert.KernelIdeal.Gen.codes0 m c, fun c => Cert.KernelIdeal.Gen.hds0 m c, ?_, ?_⟩
  · refine (θ_run _ _ _).mono (fun r h c => ?_) (θ_run_and (Cert.KernelIdeal.Gen.run_all m g) (Cert.KernelIdeal.Gen.unchanged m g))
    obtain ⟨e0, e1, e2, e3, e4, e5, e6, e7⟩ := h.1 c
    exact ⟨e0, e1, e2, e3, e4, e5, e6, e7, h.2 c⟩
  · refine (θ_run _ _ _).mono (fun r h c => ?_) (θ_run_and (Cert.ReferenceIdeal.Gen.run_results m' g') (Cert.ReferenceIdeal.Gen.unchanged m' g'))
    obtain ⟨h0, h1, h2, h3, h4, h5, h6, h7, h8, h9⟩ := ha c
    obtain ⟨e0, e1, e2, e3, e4, e5, e6, e7⟩ := h.1 c
    have hT := Cert.Match.lt_eq m m' c h0 h1 h2 h8 h9 (ht c)
    have hD := Cert.Match.ld_eq m m' c h3 h4 h5 h8 h9 (ht c) (hg c)
    exact ⟨e0.trans hT, e1.trans hD, e2.trans (Cert.Match.maxT_eq m m' c hT), e3.trans (Cert.Match.sumT_eq m m' c hT),
      e4.trans (Cert.Match.maxD_eq m m' c hD), e5.trans (Cert.Match.sumD_eq m m' c hD),
      e6.trans (Cert.Match.codes_eq m m' c h3 (hg c)), e7.trans (Cert.Match.scales_eq m m' c h3 (hg c)), h.2 c⟩

theorem claim : Cert.Claim :=
  ⟨Cert.Kernel.Gen.facts, Cert.KernelIdeal.Gen.facts, Cert.ReferenceIdeal.Gen.facts, Cert.Bonus.Gen.facts, Cert.BonusIdeal.Gen.facts,
    Cert.BonusReferenceIdeal.Gen.facts, Cert.Resid.Gen.facts, Cert.ResidIdeal.Gen.facts, Cert.ResidReferenceIdeal.Gen.facts,
    Cert.Pre_meaningful.Gen.facts, Cert.Pre_positive.Gen.facts, Cert.Pre_drafted.Gen.facts, Cert.Pre_residual.Gen.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g,
    fun m g _ => Cert.Bonus.Gen.frame m g, fun m g _ => Cert.BonusIdeal.Gen.frame m g, fun m g _ => Cert.BonusIdeal.Gen.frame m g,
    fun m g _ => Cert.BonusReferenceIdeal.Gen.frame m g, fun m g _ => Cert.BonusReferenceIdeal.Gen.frame m g,
    Cert.ResidMatch.runs_bits, Cert.ResidMatch.runs_ideal, Cert.ResidMatch.runs_residual,
    fun m g _ => Cert.ResidReferenceIdeal.Gen.frame m g, fun m g _ => Cert.ResidReferenceIdeal.Gen.frame m g,
    trivial, algebraic, trivial, Cert.BonusMatch.algebraic, trivial, Cert.ResidMatch.algebraic⟩

end Cert.Proof

end
